-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.bf16_pair.PackStatement Cert.Kernel2Ideal.S640x512
  ∧ IdealRules.bf16_pair.Statement Cert.Kernel2Ideal.S1280x128 Cert.Kernel2Ideal.S640x128

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)) (v4 : (c : Dev Cert.Kernel2Ideal.nD) → Buf (Elt Ideal) ((c.tc : Thread Cert.Kernel2Ideal.nD Cert.Kernel2Ideal.τ).loc Cert.Kernel2Ideal.main_v29_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_v29_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_v32) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.bf16_pair.Statement Cert.Kernel3Ideal.S2048x128 Cert.Kernel3Ideal.S1024x128
  ∧ IdealRules.bf16_pair.Statement Cert.Kernel3Ideal.S2048x512 Cert.Kernel3Ideal.S1024x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def bitexact_Kernel4_Reference4 [hKernel4 : Cert.Kernel4.Facts] [hReference4 : Cert.Reference4.Facts] : Prop :=
  ∀ (m : (ℓ : Loc Cert.Kernel4.nD Cert.Kernel4.τ Cert.Kernel4.sig) → Buf (Elt Bits) ℓ) (g : Dev Cert.Kernel4.nD → PrngReg)
    (m' : (ℓ : Loc Cert.Reference4.nD Cert.Reference4.τ Cert.Reference4.sig) → Buf (Elt Bits) ℓ) (g' : Dev Cert.Reference4.nD → PrngReg), Pre_Kernel4 m →
    (∀ c : Dev Cert.Kernel4.nD,
      m' ((c.tc : Thread Cert.Reference4.nD Cert.Reference4.τ).loc Cert.Reference4.main_arg0) = m ((c.tc : Thread Cert.Kernel4.nD Cert.Kernel4.τ).loc Cert.Kernel4.main_arg0)
      ∧ m' ((c.tc : Thread Cert.Reference4.nD Cert.Reference4.τ).loc Cert.Reference4.main_arg1) = m ((c.tc : Thread Cert.Kernel4.nD Cert.Kernel4.τ).loc Cert.Kernel4.main_arg1)) →
    ∃ (v0 : (c : Dev Cert.Kernel4.nD) → Buf (Elt Bits) ((c.tc : Thread Cert.Kernel4.nD Cert.Kernel4.τ).loc Cert.Kernel4.main_v11)),
      θ_run (Cert.Kernel4.defs (F := Bits)) (onTc (τ := Cert.Kernel4.τ) (Cert.Kernel4.main (F := Bits))) ⟨m, fun _ => 0, g⟩ (fun r => ∀ c : Dev Cert.Kernel4.nD,
          r.2.mem ((c.tc : Thread Cert.Kernel4.nD Cert.Kernel4.τ).loc Cert.Kernel4.main_v11) = v0 c
          ∧ r.2.mem ((c.tc : Thread Cert.Kernel4.nD Cert.Kernel4.τ).loc Cert.Kernel4.main_arg0) = m ((c.tc : Thread Cert.Kernel4.nD Cert.Kernel4.τ).loc Cert.Kernel4.main_arg0)
          ∧ r.2.mem ((c.tc : Thread Cert.Kernel4.nD Cert.Kernel4.τ).loc Cert.Kernel4.main_arg1) = m ((c.tc : Thread Cert.Kernel4.nD Cert.Kernel4.τ).loc Cert.Kernel4.main_arg1))
      ∧ θ_run (Cert.Reference4.defs (F := Bits)) (onTc (τ := Cert.Reference4.τ) (Cert.Reference4.main (F := Bits))) ⟨m', fun _ => 0, g'⟩ (fun r => ∀ c : Dev Cert.Reference4.nD,
          r.2.mem ((c.tc : Thread Cert.Reference4.nD Cert.Reference4.τ).loc Cert.Reference4.main_v23) = v0 c
          ∧ r.2.mem ((c.tc : Thread Cert.Reference4.nD Cert.Reference4.τ).loc Cert.Reference4.main_arg0) = m' ((c.tc : Thread Cert.Reference4.nD Cert.Reference4.τ).loc Cert.Reference4.main_arg0)
          ∧ r.2.mem ((c.tc : Thread Cert.Reference4.nD Cert.Reference4.τ).loc Cert.Reference4.main_arg1) = m' ((c.tc : Thread Cert.Reference4.nD Cert.Reference4.τ).loc Cert.Reference4.main_arg1))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hReference4 : Cert.Reference4.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ bitexact_Kernel4_Reference4 (hKernel4 := hKernel4) (hReference4 := hReference4)
    ∧ algebraic_Kernel4Ideal_Reference4Ideal (hKernel4Ideal := hKernel4Ideal) (hReference4Ideal := hReference4Ideal)
-- ==== Pre_finite.lean ====
abbrev S4x8320x512 : Shape := ⟨3, ![4, 8320, 512]⟩
abbrev S1x64 : Shape := ⟨2, ![1, 64]⟩
abbrev S1x128 : Shape := ⟨2, ![1, 128]⟩
abbrev S_ : Shape := ⟨0, ![]⟩

class Facts : Prop where
  bcast_S_S4x8320x512 : S_.BroadcastsInDim S4x8320x512 (![] : Fin 0 → Fin S4x8320x512.rank)
  reducesTo_S4x8320x512_S_d0_1_2 : S4x8320x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S4x8320x512 .f32) (main_arg1 : FVec F S4x8320x512 .f32) (main_arg2 : FVec F S4x8320x512 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S4x8320x512 .f32 := Host.absf main_arg0
  let main_cst : FVec F S_ .f32 := constant S_ .f32 0x7F800000#32
  let main_v1 : FVec F S4x8320x512 .f32 := broadcastInDim S4x8320x512 ![] bcast_S_S4x8320x512 main_cst
  let main_v2 : IVec S4x8320x512 1 := cmpf .olt main_v0 main_v1
  let main_c : IVec S_ 1 := constantI S_ 1 1#1
  let main_v3 : IVec S_ 1 := (fun x v => Host.reduce IntOp.andi x v reducesTo_S4x8320x512_S_d0_1_2 h_S_) main_v2 main_c
  let main_v4 : FVec F S4x8320x512 .f32 := Host.absf main_arg1
  let main_cst_0 : FVec F S_ .f32 := constant S_ .f32 0x7F800000#32
  let main_v5 : FVec F S4x8320x512 .f32 := broadcastInDim S4x8320x512 ![] bcast_S_S4x8320x512 main_cst_0
  let main_v6 : IVec S4x8320x512 1 := cmpf .olt main_v4 main_v5
  let main_c_1 : IVec S_ 1 := constantI S_ 1 1#1
  let main_v7 : IVec S_ 1 := (fun x v => Host.reduce IntOp.andi x v reducesTo_S4x8320x512_S_d0_1_2 h_S_) main_v6 main_c_1
  let main_v8 : IVec S_ 1 := andi main_v3 main_v7
  let main_v9 : FVec F S4x8320x512 .f32 := Host.absf main_arg2
  let main_cst_2 : FVec F S_ .f32 := constant S_ .f32 0x7F800000#32
  let main_v10 : FVec F S4x8320x512 .f32 := broadcastInDim S4x8320x512 ![] bcast_S_S4x8320x512 main_cst_2
  let main_v11 : IVec S4x8320x512 1 := cmpf .olt main_v9 main_v10
  let main_c_3 : IVec S_ 1 := constantI S_ 1 1#1
  let main_v12 : IVec S_ 1 := (fun x v => Host.reduce IntOp.andi x v reducesTo_S4x8320x512_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S4x8320x512 : Shape := ⟨3, ![4, 8320, 512]⟩
abbrev S1x64 : Shape := ⟨2, ![1, 64]⟩
abbrev S1x128 : Shape := ⟨2, ![1, 128]⟩
abbrev S33280x512 : Shape := ⟨2, ![33280, 512]⟩
abbrev S64 : Shape := ⟨1, ![64]⟩
abbrev S4x64 : Shape := ⟨2, ![4, 64]⟩
abbrev S128 : Shape := ⟨1, ![128]⟩
abbrev S640x512 : Shape := ⟨2, ![640, 512]⟩
abbrev S8320x512 : Shape := ⟨2, ![8320, 512]⟩
abbrev S5120x128 : Shape := ⟨2, ![5120, 128]⟩
abbrev S640x128 : Shape := ⟨2, ![640, 128]⟩
abbrev S1280x128 : Shape := ⟨2, ![1280, 128]⟩
abbrev S640x1280 : Shape := ⟨2, ![640, 1280]⟩
abbrev S1280x256 : Shape := ⟨2, ![1280, 256]⟩
abbrev S640 : Shape := ⟨1, ![640]⟩
abbrev S640x1 : Shape := ⟨2, ![640, 1]⟩
abbrev S640x256 : Shape := ⟨2, ![640, 256]⟩
abbrev S1024x128 : Shape := ⟨2, ![1024, 128]⟩
abbrev S384x128 : Shape := ⟨2, ![384, 128]⟩
abbrev S384x1024 : Shape := ⟨2, ![384, 1024]⟩
abbrev S256x128 : Shape := ⟨2, ![256, 128]⟩
abbrev S256x1280 : Shape := ⟨2, ![256, 1280]⟩
abbrev S1024x256 : Shape := ⟨2, ![1024, 256]⟩
abbrev S384 : Shape := ⟨1, ![384]⟩
abbrev S384x1 : Shape := ⟨2, ![384, 1]⟩
abbrev S384x256 : Shape := ⟨2, ![384, 256]⟩
abbrev S256 : Shape := ⟨1, ![256]⟩
abbrev S256x1 : Shape := ⟨2, ![256, 1]⟩
abbrev S256x256 : Shape := ⟨2, ![256, 256]⟩
abbrev S1 : Shape := ⟨1, ![1]⟩
abbrev S1x1 : Shape := ⟨2, ![1, 1]⟩
abbrev S384x640 : Shape := ⟨2, ![384, 640]⟩

abbrev nBuf : Space → Nat
  | .hbm => 25
  | .vmem => 14
  | .smem => 0
  | _ => 0

abbrev bufTy : (tb : Table) → Fin (tcTables nBuf tb) → BufTy
  | .hbm, ⟨0, _⟩ => ⟨S4x8320x512, .f32⟩
  | .hbm, ⟨1, _⟩ => ⟨S4x8320x512, .f32⟩
  | .hbm, ⟨2, _⟩ => ⟨S4x8320x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S33280x512, .f32⟩
  | .hbm, ⟨9, _⟩ => ⟨S4x8320x512, .bf16⟩
  | .hbm, ⟨10, _⟩ => ⟨S33280x512, .bf16⟩
  | .hbm, ⟨11, _⟩ => ⟨S4x8320x512, .bf16⟩
  | .hbm, ⟨12, _⟩ => ⟨S33280x512, .bf16⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S4x64, .f32⟩
  | .hbm, ⟨22, _⟩ => ⟨S128, .f32⟩
  | .hbm, ⟨23, _⟩ => ⟨S1x128, .f32⟩
  | .hbm, ⟨24, _⟩ => ⟨S33280x512, .bf16⟩
  | .local _ .vmem, ⟨0, _⟩ => ⟨S640x512, .f32⟩
  | .local _ .vmem, ⟨1, _⟩ => ⟨S640x512, .f32⟩
  | .local _ .vmem, ⟨2, _⟩ => ⟨S8320x512, .bf16⟩
  | .local _ .vmem, ⟨3, _⟩ => ⟨S8320x512, .bf16⟩
  | .local _ .vmem, ⟨4, _⟩ => ⟨S8320x512, .bf16⟩
  | .local _ .vmem, ⟨5, _⟩ => ⟨S8320x512, .bf16⟩
  | .local _ .vmem, ⟨6, _⟩ => ⟨S4x64, .f32⟩
  | .local _ .vmem, ⟨7, _⟩ => ⟨S1x128, .f32⟩
  | .local _ .vmem, ⟨8, _⟩ => ⟨S640x512, .bf16⟩
  | .local _ .vmem, ⟨9, _⟩ => ⟨S640x512, .bf16⟩
  | .local _ .vmem, ⟨10, _⟩ => ⟨S5120x128, .bf16⟩
  | .local _ .vmem, ⟨11, _⟩ => ⟨S5120x128, .f32⟩
  | .local _ .vmem, ⟨12, _⟩ => ⟨S5120x128, .f32⟩
  | .local _ .vmem, ⟨13, _⟩ => ⟨S5120x128, .f32⟩
  | _, _ => ⟨S4x8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 13], ![false, false, false]⟩

@[reducible] def k0_t1_loop (i : grid0.Coords) : Scf.Loop 32 :=
  let c0_i32_32 : BitVec 32 := 0#32
  let arg2 : BitVec 32 := BitVec.ofNat 32 (i 2).val
  let c0_i32 : BitVec 32 := 0#32
  let v74 : BitVec 1 := Scalar.cmpi .sgt arg2 c0_i32
  let v75 : BitVec 32 := Scalar.extui v74
  let c0_i32_27 : BitVec 32 := 0#32
  let v76 : BitVec 1 := Scalar.cmpi .slt arg2 c0_i32_27
  let v77 : BitVec 32 := Scalar.extui v76
  let v78 : BitVec 32 := Scalar.subi v75 v77
  let c2_i32 : BitVec 32 := 2#32
  let c0_i32_28 : BitVec 32 := 0#32
  let v79 : BitVec 1 := Scalar.cmpi .sgt c2_i32 c0_i32_28
  let v80 : BitVec 32 := Scalar.extui v79
  let c0_i32_29 : BitVec 32 := 0#32
  let v81 : BitVec 1 := Scalar.cmpi .slt c2_i32 c0_i32_29
  let v82 : BitVec 32 := Scalar.extui v81
  let v83 : BitVec 32 := Scalar.subi v80 v82
  let v84 : BitVec 1 := Scalar.cmpi .ne v78 v83
  let v85 : BitVec 32 := Scalar.remsi arg2 c2_i32
  let c0_i32_30 : BitVec 32 := 0#32
  let v86 : BitVec 1 := Scalar.cmpi .ne v85 c0_i32_30
  let v87 : BitVec 1 := Scalar.andi v84 v86
  let v73 : BitVec 32 := Scalar.divsi arg2 c2_i32
  let c1_i32 : BitVec 32 := 1#32
  let v88 : BitVec 32 := Scalar.subi v73 c1_i32
  let v89 : BitVec 32 := Scalar.select v87 v88 v73
  let v90 : BitVec 32 := Scalar.subi v89 c0_i32_32
  let c1_i32_33 : BitVec 32 := 1#32
  let v92 : BitVec 32 := Scalar.divsi v90 c1_i32_33
  let v93 : BitVec 32 := Scalar.muli v92 c1_i32_33
  let v94 : BitVec 32 := Scalar.addi c0_i32_32 v93
  let c1_i32_34 : BitVec 32 := 1#32
  ⟨c0_i32_32, v94, c1_i32_34⟩
def k0_mult1 (i : grid0.Coords) (k0_t1 : Fin (k0_t1_loop i).trips) : BitVec 32 :=
  let c0_i32_32 : BitVec 32 := 0#32
  let c1_i32_34 : BitVec 32 := 1#32
  let arg13 : BitVec 32 := Scf.iv c0_i32_32 c1_i32_34 k0_t1
  let c1280_i32 : BitVec 32 := 1280#32
  let v111 : BitVec 32 := Scalar.muli arg13 c1280_i32
  v111
def k0_off1 (i : grid0.Coords) (k0_t1 : Fin (k0_t1_loop i).trips) : Fin 2 → Nat :=
  let c0_i32_32 : BitVec 32 := 0#32
  let c1_i32_34 : BitVec 32 := 1#32
  let arg13 : BitVec 32 := Scf.iv c0_i32_32 c1_i32_34 k0_t1
  let c1280_i32 : BitVec 32 := 1280#32
  let v111 : BitVec 32 := Scalar.muli arg13 c1280_i32
  let v112 : BitVec 32 := v111
  let v114 : Index := Scalar.indexCast v112
  let c0_46 : Index := 0#32
  ![v114.toNat, 0]
def k0_off2 (i : grid0.Coords) (k0_t1 : Fin (k0_t1_loop i).trips) : Fin 2 → Nat :=
  let c0_i32_32 : BitVec 32 := 0#32
  let c1_i32_34 : BitVec 32 := 1#32
  let arg13 : BitVec 32 := Scf.iv c0_i32_32 c1_i32_34 k0_t1
  let c1280_i32 : BitVec 32 := 1280#32
  let v111 : BitVec 32 := Scalar.muli arg13 c1280_i32
  let v112 : BitVec 32 := v111
  let v164 : Index := Scalar.indexCast v112
  let c128_73 : Index := 128#32
  ![v164.toNat, 128]
def k0_off3 (i : grid0.Coords) (k0_t1 : Fin (k0_t1_loop i).trips) : Fin 2 → Nat :=
  let c0_i32_32 : BitVec 32 := 0#32
  let c1_i32_34 : BitVec 32 := 1#32
  let arg13 : BitVec 32 := Scf.iv c0_i32_32 c1_i32_34 k0_t1
  let c1280_i32 : BitVec 32 := 1280#32
  let v111 : BitVec 32 := Scalar.muli arg13 c1280_i32
  let v112 : BitVec 32 := v111
  let v254 : Index := Scalar.indexCast v112
  let c256_119 : Index := 256#32
  ![v254.toNat, 256]
def k0_off4 (i : grid0.Coords) (k0_t1 : Fin (k0_t1_loop i).trips) : Fin 2 → Nat :=
  let c0_i32_32 : BitVec 32 := 0#32
  let c1_i32_34 : BitVec 32 := 1#32
  let arg13 : BitVec 32 := Scf.iv c0_i32_32 c1_i32_34 k0_t1
  let c1280_i32 : BitVec 32 := 1280#32
  let v111 : BitVec 32 := Scalar.muli arg13 c1280_i32
  let v112 : BitVec 32 := v111
  let v344 : Index := Scalar.indexCast v112
  let c384_165 : Index := 384#32
  ![v344.toNat, 384]
@[reducible] def k0_t2_loop (i : grid0.Coords) : Scf.Loop 32 :=
  let c0_i32_32 : BitVec 32 := 0#32
  let arg2 : BitVec 32 := BitVec.ofNat 32 (i 2).val
  let c0_i32 : BitVec 32 := 0#32
  let v74 : BitVec 1 := Scalar.cmpi .sgt arg2 c0_i32
  let v75 : BitVec 32 := Scalar.extui v74
  let c0_i32_27 : BitVec 32 := 0#32
  let v76 : BitVec 1 := Scalar.cmpi .slt arg2 c0_i32_27
  let v77 : BitVec 32 := Scalar.extui v76
  let v78 : BitVec 32 := Scalar.subi v75 v77
  let c2_i32 : BitVec 32 := 2#32
  let c0_i32_28 : BitVec 32 := 0#32
  let v79 : BitVec 1 := Scalar.cmpi .sgt c2_i32 c0_i32_28
  let v80 : BitVec 32 := Scalar.extui v79
  let c0_i32_29 : BitVec 32 := 0#32
  let v81 : BitVec 1 := Scalar.cmpi .slt c2_i32 c0_i32_29
  let v82 : BitVec 32 := Scalar.extui v81
  let v83 : BitVec 32 := Scalar.subi v80 v82
  let v84 : BitVec 1 := Scalar.cmpi .ne v78 v83
  let v85 : BitVec 32 := Scalar.remsi arg2 c2_i32
  let c0_i32_30 : BitVec 32 := 0#32
  let v86 : BitVec 1 := Scalar.cmpi .ne v85 c0_i32_30
  let v87 : BitVec 1 := Scalar.andi v84 v86
  let v73 : BitVec 32 := Scalar.divsi arg2 c2_i32
  let c1_i32 : BitVec 32 := 1#32
  let v88 : BitVec 32 := Scalar.subi v73 c1_i32
  let v89 : BitVec 32 := Scalar.select v87 v88 v73
  let v90 : BitVec 32 := Scalar.subi v89 c0_i32_32
  let c1_i32_33 : BitVec 32 := 1#32
  let v92 : BitVec 32 := Scalar.divsi v90 c1_i32_33
  let v93 : BitVec 32 := Scalar.muli v92 c1_i32_33
  let v94 : BitVec 32 := Scalar.addi c0_i32_32 v93
  let v91 : BitVec 32 := Scalar.addi c0_i32_32 v90
  let c1_i32_35 : BitVec 32 := 1#32
  ⟨v94, v91, c1_i32_35⟩
def k0_mult2 (i : grid0.Coords) (k0_t2 : Fin (k0_t2_loop i).trips) : BitVec 32 :=
  let c0_i32_32 : BitVec 32 := 0#32
  let arg2 : BitVec 32 := BitVec.ofNat 32 (i 2).val
  let c0_i32 : BitVec 32 := 0#32
  let v74 : BitVec 1 := Scalar.cmpi .sgt arg2 c0_i32
  let v75 : BitVec 32 := Scalar.extui v74
  let c0_i32_27 : BitVec 32 := 0#32
  let v76 : BitVec 1 := Scalar.cmpi .slt arg2 c0_i32_27
  let v77 : BitVec 32 := Scalar.extui v76
  let v78 : BitVec 32 := Scalar.subi v75 v77
  let c2_i32 : BitVec 32 := 2#32
  let c0_i32_28 : BitVec 32 := 0#32
  let v79 : BitVec 1 := Scalar.cmpi .sgt c2_i32 c0_i32_28
  let v80 : BitVec 32 := Scalar.extui v79
  let c0_i32_29 : BitVec 32 := 0#32
  let v81 : BitVec 1 := Scalar.cmpi .slt c2_i32 c0_i32_29
  let v82 : BitVec 32 := Scalar.extui v81
  let v83 : BitVec 32 := Scalar.subi v80 v82
  let v84 : BitVec 1 := Scalar.cmpi .ne v78 v83
  let v85 : BitVec 32 := Scalar.remsi arg2 c2_i32
  let c0_i32_30 : BitVec 32 := 0#32
  let v86 : BitVec 1 := Scalar.cmpi .ne v85 c0_i32_30
  let v87 : BitVec 1 := Scalar.andi v84 v86
  let v73 : BitVec 32 := Scalar.divsi arg2 c2_i32
  let c1_i32 : BitVec 32 := 1#32
  let v88 : BitVec 32 := Scalar.subi v73 c1_i32
  let v89 : BitVec 32 := Scalar.select v87 v88 v73
  let v90 : BitVec 32 := Scalar.subi v89 c0_i32_32
  let c1_i32_33 : BitVec 32 := 1#32
  let v92 : BitVec 32 := Scalar.divsi v90 c1_i32_33
  let v93 : BitVec 32 := Scalar.muli v92 c1_i32_33
  let v94 : BitVec 32 := Scalar.addi c0_i32_32 v93
  let c1_i32_35 : BitVec 32 := 1#32
  let arg13 : BitVec 32 := Scf.iv v94 c1_i32_35 k0_t2
  let c1280_i32 : BitVec 32 := 1280#32
  let v111 : BitVec 32 := Scalar.muli arg13 c1280_i32
  v111
def k0_off5 (i : grid0.Coords) (k0_t2 : Fin (k0_t2_loop i).trips) : Fin 2 → Nat :=
  let c0_i32_32 : BitVec 32 := 0#32
  let arg2 : BitVec 32 := BitVec.ofNat 32 (i 2).val
  let c0_i32 : BitVec 32 := 0#32
  let v74 : BitVec 1 := Scalar.cmpi .sgt arg2 c0_i32
  let v75 : BitVec 32 := Scalar.extui v74
  let c0_i32_27 : BitVec 32 := 0#32
  let v76 : BitVec 1 := Scalar.cmpi .slt arg2 c0_i32_27
  let v77 : BitVec 32 := Scalar.extui v76
  let v78 : BitVec 32 := Scalar.subi v75 v77
  let c2_i32 : BitVec 32 := 2#32
  let c0_i32_28 : BitVec 32 := 0#32
  let v79 : BitVec 1 := Scalar.cmpi .sgt c2_i32 c0_i32_28
  let v80 : BitVec 32 := Scalar.extui v79
  let c0_i32_29 : BitVec 32 := 0#32
  let v81 : BitVec 1 := Scalar.cmpi .slt c2_i32 c0_i32_29
  let v82 : BitVec 32 := Scalar.extui v81
  let v83 : BitVec 32 := Scalar.subi v80 v82
  let v84 : BitVec 1 := Scalar.cmpi .ne v78 v83
  let v85 : BitVec 32 := Scalar.remsi arg2 c2_i32
  let c0_i32_30 : BitVec 32 := 0#32
  let v86 : BitVec 1 := Scalar.cmpi .ne v85 c0_i32_30
  let v87 : BitVec 1 := Scalar.andi v84 v86
  let v73 : BitVec 32 := Scalar.divsi arg2 c2_i32
  let c1_i32 : BitVec 32 := 1#32
  let v88 : BitVec 32 := Scalar.subi v73 c1_i32
  let v89 : BitVec 32 := Scalar.select v87 v88 v73
  let v90 : BitVec 32 := Scalar.subi v89 c0_i32_32
  let c1_i32_33 : BitVec 32 := 1#32
  let v92 : BitVec 32 := Scalar.divsi v90 c1_i32_33
  let v93 : BitVec 32 := Scalar.muli v92 c1_i32_33
  let v94 : BitVec 32 := Scalar.addi c0_i32_32 v93
  let c1_i32_35 : BitVec 32 := 1#32
  let arg13 : BitVec 32 := Scf.iv v94 c1_i32_35 k0_t2
  let c1280_i32 : BitVec 32 := 1280#32
  let v111 : BitVec 32 := Scalar.muli arg13 c1280_i32
  let v112 : BitVec 32 := v111
  let v114 : Index := Scalar.indexCast v112
  let c0_46 : Index := 0#32
  ![v114.toNat, 0]
def k0_off6 (i : grid0.Coords) (k0_t2 : Fin (k0_t2_loop i).trips) : Fin 2 → Nat :=
  let c0_i32_32 : BitVec 32 := 0#32
  let arg2 : BitVec 32 := BitVec.ofNat 32 (i 2).val
  let c0_i32 : BitVec 32 := 0#32
  let v74 : BitVec 1 := Scalar.cmpi .sgt arg2 c0_i32
  let v75 : BitVec 32 := Scalar.extui v74
  let c0_i32_27 : BitVec 32 := 0#32
  let v76 : BitVec 1 := Scalar.cmpi .slt arg2 c0_i32_27
  let v77 : BitVec 32 := Scalar.extui v76
  let v78 : BitVec 32 := Scalar.subi v75 v77
  let c2_i32 : BitVec 32 := 2#32
  let c0_i32_28 : BitVec 32 := 0#32
  let v79 : BitVec 1 := Scalar.cmpi .sgt c2_i32 c0_i32_28
  let v80 : BitVec 32 := Scalar.extui v79
  let c0_i32_29 : BitVec 32 := 0#32
  let v81 : BitVec 1 := Scalar.cmpi .slt c2_i32 c0_i32_29
  let v82 : BitVec 32 := Scalar.extui v81
  let v83 : BitVec 32 := Scalar.subi v80 v82
  let v84 : BitVec 1 := Scalar.cmpi .ne v78 v83
  let v85 : BitVec 32 := Scalar.remsi arg2 c2_i32
  let c0_i32_30 : BitVec 32 := 0#32
  let v86 : BitVec 1 := Scalar.cmpi .ne v85 c0_i32_30
  let v87 : BitVec 1 := Scalar.andi v84 v86
  let v73 : BitVec 32 := Scalar.divsi arg2 c2_i32
  let c1_i32 : BitVec 32 := 1#32
  let v88 : BitVec 32 := Scalar.subi v73 c1_i32
  let v89 : BitVec 32 := Scalar.select v87 v88 v73
  let v90 : BitVec 32 := Scalar.subi v89 c0_i32_32
  let c1_i32_33 : BitVec 32 := 1#32
  let v92 : BitVec 32 := Scalar.divsi v90 c1_i32_33
  let v93 : BitVec 32 := Scalar.muli v92 c1_i32_33
  let v94 : BitVec 32 := Scalar.addi c0_i32_32 v93
  let c1_i32_35 : BitVec 32 := 1#32
  let arg13 : BitVec 32 := Scf.iv v94 c1_i32_35 k0_t2
  let c1280_i32 : BitVec 32 := 1280#32
  let v111 : BitVec 32 := Scalar.muli arg13 c1280_i32
  let v112 : BitVec 32 := v111
  let v164 : Index := Scalar.indexCast v112
  let c128_73 : Index := 128#32
  ![v164.toNat, 128]
def k0_off7 (i : grid0.Coords) (k0_t2 : Fin (k0_t2_loop i).trips) : Fin 2 → Nat :=
  let c0_i32_32 : BitVec 32 := 0#32
  let arg2 : BitVec 32 := BitVec.ofNat 32 (i 2).val
  let c0_i32 : BitVec 32 := 0#32
  let v74 : BitVec 1 := Scalar.cmpi .sgt arg2 c0_i32
  let v75 : BitVec 32 := Scalar.extui v74
  let c0_i32_27 : BitVec 32 := 0#32
  let v76 : BitVec 1 := Scalar.cmpi .slt arg2 c0_i32_27
  let v77 : BitVec 32 := Scalar.extui v76
  let v78 : BitVec 32 := Scalar.subi v75 v77
  let c2_i32 : BitVec 32 := 2#32
  let c0_i32_28 : BitVec 32 := 0#32
  let v79 : BitVec 1 := Scalar.cmpi .sgt c2_i32 c0_i32_28
  let v80 : BitVec 32 := Scalar.extui v79
  let c0_i32_29 : BitVec 32 := 0#32
  let v81 : BitVec 1 := Scalar.cmpi .slt c2_i32 c0_i32_29
  let v82 : BitVec 32 := Scalar.extui v81
  let v83 : BitVec 32 := Scalar.subi v80 v82
  let v84 : BitVec 1 := Scalar.cmpi .ne v78 v83
  let v85 : BitVec 32 := Scalar.remsi arg2 c2_i32
  let c0_i32_30 : BitVec 32 := 0#32
  let v86 : BitVec 1 := Scalar.cmpi .ne v85 c0_i32_30
  let v87 : BitVec 1 := Scalar.andi v84 v86
  let v73 : BitVec 32 := Scalar.divsi arg2 c2_i32
  let c1_i32 : BitVec 32 := 1#32
  let v88 : BitVec 32 := Scalar.subi v73 c1_i32
  let v89 : BitVec 32 := Scalar.select v87 v88 v73
  let v90 : BitVec 32 := Scalar.subi v89 c0_i32_32
  let c1_i32_33 : BitVec 32 := 1#32
  let v92 : BitVec 32 := Scalar.divsi v90 c1_i32_33
  let v93 : BitVec 32 := Scalar.muli v92 c1_i32_33
  let v94 : BitVec 32 := Scalar.addi c0_i32_32 v93
  let c1_i32_35 : BitVec 32 := 1#32
  let arg13 : BitVec 32 := Scf.iv v94 c1_i32_35 k0_t2
  let c1280_i32 : BitVec 32 := 1280#32
  let v111 : BitVec 32 := Scalar.muli arg13 c1280_i32
  let v112 : BitVec 32 := v111
  let v254 : Index := Scalar.indexCast v112
  let c256_119 : Index := 256#32
  ![v254.toNat, 256]
def k0_off8 (i : grid0.Coords) (k0_t2 : Fin (k0_t2_loop i).trips) : Fin 2 → Nat :=
  let c0_i32_32 : BitVec 32 := 0#32
  let arg2 : BitVec 32 := BitVec.ofNat 32 (i 2).val
  let c0_i32 : BitVec 32 := 0#32
  let v74 : BitVec 1 := Scalar.cmpi .sgt arg2 c0_i32
  let v75 : BitVec 32 := Scalar.extui v74
  let c0_i32_27 : BitVec 32 := 0#32
  let v76 : BitVec 1 := Scalar.cmpi .slt arg2 c0_i32_27
  let v77 : BitVec 32 := Scalar.extui v76
  let v78 : BitVec 32 := Scalar.subi v75 v77
  let c2_i32 : BitVec 32 := 2#32
  let c0_i32_28 : BitVec 32 := 0#32
  let v79 : BitVec 1 := Scalar.cmpi .sgt c2_i32 c0_i32_28
  let v80 : BitVec 32 := Scalar.extui v79
  let c0_i32_29 : BitVec 32 := 0#32
  let v81 : BitVec 1 := Scalar.cmpi .slt c2_i32 c0_i32_29
  let v82 : BitVec 32 := Scalar.extui v81
  let v83 : BitVec 32 := Scalar.subi v80 v82
  let v84 : BitVec 1 := Scalar.cmpi .ne v78 v83
  let v85 : BitVec 32 := Scalar.remsi arg2 c2_i32
  let c0_i32_30 : BitVec 32 := 0#32
  let v86 : BitVec 1 := Scalar.cmpi .ne v85 c0_i32_30
  let v87 : BitVec 1 := Scalar.andi v84 v86
  let v73 : BitVec 32 := Scalar.divsi arg2 c2_i32
  let c1_i32 : BitVec 32 := 1#32
  let v88 : BitVec 32 := Scalar.subi v73 c1_i32
  let v89 : BitVec 32 := Scalar.select v87 v88 v73
  let v90 : BitVec 32 := Scalar.subi v89 c0_i32_32
  let c1_i32_33 : BitVec 32 := 1#32
  let v92 : BitVec 32 := Scalar.divsi v90 c1_i32_33
  let v93 : BitVec 32 := Scalar.muli v92 c1_i32_33
  let v94 : BitVec 32 := Scalar.addi c0_i32_32 v93
  let c1_i32_35 : BitVec 32 := 1#32
  let arg13 : BitVec 32 := Scf.iv v94 c1_i32_35 k0_t2
  let c1280_i32 : BitVec 32 := 1280#32
  let v111 : BitVec 32 := Scalar.muli arg13 c1280_i32
  let v112 : BitVec 32 := v111
  let v344 : Index := Scalar.indexCast v112
  let c384_165 : Index := 384#32
  ![v344.toNat, 384]
def k0_cond1 (i : grid0.Coords) : BitVec 1 :=
  let arg2 : BitVec 32 := BitVec.ofNat 32 (i 2).val
  let c2_i32_36 : BitVec 32 := 2#32
  let c0_i32_37 : BitVec 32 := 0#32
  let v95 : BitVec 1 := Scalar.cmpi .eq c2_i32_36 c0_i32_37
  let c1_i32_38 : BitVec 32 := 1#32
  let v96 : BitVec 32 := Scalar.select v95 c1_i32_38 c2_i32_36
  let v97 : BitVec 32 := Scalar.remsi arg2 v96
  let c0_i32_40 : BitVec 32 := 0#32
  let v99 : BitVec 1 := Scalar.cmpi .slt v97 c0_i32_40
  let c0_i32_41 : BitVec 32 := 0#32
  let v100 : BitVec 1 := Scalar.cmpi .slt v96 c0_i32_41
  let v101 : BitVec 1 := Scalar.xori v99 v100
  let c0_i32_39 : BitVec 32 := 0#32
  let v98 : BitVec 1 := Scalar.cmpi .ne v97 c0_i32_39
  let v102 : BitVec 1 := Scalar.andi v101 v98
  let v103 : BitVec 32 := Scalar.addi v97 v96
  let v104 : BitVec 32 := Scalar.select v102 v103 v97
  let c1_i32_42 : BitVec 32 := 1#32
  let v105 : BitVec 1 := Scalar.cmpi .eq v104 c1_i32_42
  let v106 : BitVec 32 := Scalar.extui v105
  let c0_i32_43 : BitVec 32 := 0#32
  let v107 : BitVec 1 := Scalar.cmpi .ne v106 c0_i32_43
  v107

def k0_mult3 (i : grid0.Coords) : BitVec 32 :=
  let arg2 : BitVec 32 := BitVec.ofNat 32 (i 2).val
  let c1_i32_45 : BitVec 32 := 1#32
  let v111 : BitVec 32 := Scalar.subi arg2 c1_i32_45
  let c640_i32 : BitVec 32 := 640#32
  let v112 : BitVec 32 := Scalar.muli v111 c640_i32
  v112
def k0_off9 (i : grid0.Coords) : Fin 2 → Nat :=
  let arg2 : BitVec 32 := BitVec.ofNat 32 (i 2).val
  let c1_i32_45 : BitVec 32 := 1#32
  let v111 : BitVec 32 := Scalar.subi arg2 c1_i32_45
  let c640_i32 : BitVec 32 := 640#32
  let v112 : BitVec 32 := Scalar.muli v111 c640_i32
  let v113 : BitVec 32 := v112
  let v115 : Index := Scalar.indexCast v113
  let c0_47 : Index := 0#32
  ![v115.toNat, 0]
def k0_off10 (i : grid0.Coords) : Fin 2 → Nat :=
  let arg2 : BitVec 32 := BitVec.ofNat 32 (i 2).val
  let c1_i32_45 : BitVec 32 := 1#32
  let v111 : BitVec 32 := Scalar.subi arg2 c1_i32_45
  let c640_i32 : BitVec 32 := 640#32
  let v112 : BitVec 32 := Scalar.muli v111 c640_i32
  let v113 : BitVec 32 := v112
  let v120 : Index := Scalar.indexCast v113
  let c0_51 : Index := 0#32
  ![v120.toNat, 0]
def k0_off11 (i : grid0.Coords) : Fin 2 → Nat :=
  let arg2 : BitVec 32 := BitVec.ofNat 32 (i 2).val
  let c1_i32_45 : BitVec 32 := 1#32
  let v111 : BitVec 32 := Scalar.subi arg2 c1_i32_45
  let c640_i32 : BitVec 32 := 640#32
  let v112 : BitVec 32 := Scalar.muli v111 c640_i32
  let v113 : BitVec 32 := v112
  let v276 : Index := Scalar.indexCast v113
  let c128_124 : Index := 128#32
  ![v276.toNat, 128]
def k0_off12 (i : grid0.Coords) : Fin 2 → Nat :=
  let arg2 : BitVec 32 := BitVec.ofNat 32 (i 2).val
  let c1_i32_45 : BitVec 32 := 1#32
  let v111 : BitVec 32 := Scalar.subi arg2 c1_i32_45
  let c640_i32 : BitVec 32 := 640#32
  let v112 : BitVec 32 := Scalar.muli v111 c640_i32
  let v113 : BitVec 32 := v112
  let v371 : Index := Scalar.indexCast v113
  let c128_166 : Index := 128#32
  ![v371.toNat, 128]
def k0_off13 (i : grid0.Coords) : Fin 2 → Nat :=
  let arg2 : BitVec 32 := BitVec.ofNat 32 (i 2).val
  let c1_i32_45 : BitVec 32 := 1#32
  let v111 : BitVec 32 := Scalar.subi arg2 c1_i32_45
  let c640_i32 : BitVec 32 := 640#32
  let v112 : BitVec 32 := Scalar.muli v111 c640_i32
  let v113 : BitVec 32 := v112
  let v527 : Index := Scalar.indexCast v113
  let c256_239 : Index := 256#32
  ![v527.toNat, 256]
def k0_off14 (i : grid0.Coords) : Fin 2 → Nat :=
  let arg2 : BitVec 32 := BitVec.ofNat 32 (i 2).val
  let c1_i32_45 : BitVec 32 := 1#32
  let v111 : BitVec 32 := Scalar.subi arg2 c1_i32_45
  let c640_i32 : BitVec 32 := 640#32
  let v112 : BitVec 32 := Scalar.muli v111 c640_i32
  let v113 : BitVec 32 := v112
  let v622 : Index := Scalar.indexCast v113
  let c256_281 : Index := 256#32
  ![v622.toNat, 256]
def k0_off15 (i : grid0.Coords) : Fin 2 → Nat :=
  let arg2 : BitVec 32 := BitVec.ofNat 32 (i 2).val
  let c1_i32_45 : BitVec 32 := 1#32
  let v111 : BitVec 32 := Scalar.subi arg2 c1_i32_45
  let c640_i32 : BitVec 32 := 640#32
  let v112 : BitVec 32 := Scalar.muli v111 c640_i32
  let v113 : BitVec 32 := v112
  let v778 : Index := Scalar.indexCast v113
  let c384_354 : Index := 384#32
  ![v778.toNat, 384]
def k0_off16 (i : grid0.Coords) : Fin 2 → Nat :=
  let arg2 : BitVec 32 := BitVec.ofNat 32 (i 2).val
  let c1_i32_45 : BitVec 32 := 1#32
  let v111 : BitVec 32 := Scalar.subi arg2 c1_i32_45
  let c640_i32 : BitVec 32 := 640#32
  let v112 : BitVec 32 := Scalar.muli v111 c640_i32
  let v113 : BitVec 32 := v112
  let v873 : Index := Scalar.indexCast v113
  let c384_396 : Index := 384#32
  ![v873.toNat, 384]
def k0_cond2 (i : grid0.Coords) : BitVec 1 :=
  let arg2 : BitVec 32 := BitVec.ofNat 32 (i 2).val
  let c2_i32_36 : BitVec 32 := 2#32
  let c0_i32_37 : BitVec 32 := 0#32
  let v95 : BitVec 1 := Scalar.cmpi .eq c2_i32_36 c0_i32_37
  let c1_i32_38 : BitVec 32 := 1#32
  let v96 : BitVec 32 := Scalar.select v95 c1_i32_38 c2_i32_36
  let v97 : BitVec 32 := Scalar.remsi arg2 v96
  let c0_i32_40 : BitVec 32 := 0#32
  let v99 : BitVec 1 := Scalar.cmpi .slt v97 c0_i32_40
  let c0_i32_41 : BitVec 32 := 0#32
  let v100 : BitVec 1 := Scalar.cmpi .slt v96 c0_i32_41
  let v101 : BitVec 1 := Scalar.xori v99 v100
  let c0_i32_39 : BitVec 32 := 0#32
  let v98 : BitVec 1 := Scalar.cmpi .ne v97 c0_i32_39
  let v102 : BitVec 1 := Scalar.andi v101 v98
  let v103 : BitVec 32 := Scalar.addi v97 v96
  let v104 : BitVec 32 := Scalar.select v102 v103 v97
  let c1_i32_42 : BitVec 32 := 1#32
  let v105 : BitVec 1 := Scalar.cmpi .eq v104 c1_i32_42
  let v_true : BitVec 1 := 1#1
  let v108 : BitVec 1 := Scalar.xori v105 v_true
  let v109 : BitVec 32 := Scalar.extui v108
  let c0_i32_44 : BitVec 32 := 0#32
  let v110 : BitVec 1 := Scalar.cmpi .ne v109 c0_i32_44
  v110

def k0_mult4 (i : grid0.Coords) : BitVec 32 :=
  let arg2 : BitVec 32 := BitVec.ofNat 32 (i 2).val
  let c640_i32 : BitVec 32 := 640#32
  let v111 : BitVec 32 := Scalar.muli arg2 c640_i32
  v111
def k0_off17 (i : grid0.Coords) : Fin 2 → Nat :=
  let arg2 : BitVec 32 := BitVec.ofNat 32 (i 2).val
  let c640_i32 : BitVec 32 := 640#32
  let v111 : BitVec 32 := Scalar.muli arg2 c640_i32
  let v112 : BitVec 32 := v111
  let v114 : Index := Scalar.indexCast v112
  let c0_46 : Index := 0#32
  ![v114.toNat, 0]
def k0_off18 (i : grid0.Coords) : Fin 2 → Nat :=
  let arg2 : BitVec 32 := BitVec.ofNat 32 (i 2).val
  let c640_i32 : BitVec 32 := 640#32
  let v111 : BitVec 32 := Scalar.muli arg2 c640_i32
  let v112 : BitVec 32 := v111
  let v119 : Index := Scalar.indexCast v112
  let c0_50 : Index := 0#32
  ![v119.toNat, 0]
def k0_off19 (i : grid0.Coords) : Fin 2 → Nat :=
  let arg2 : BitVec 32 := BitVec.ofNat 32 (i 2).val
  let c640_i32 : BitVec 32 := 640#32
  let v111 : BitVec 32 := Scalar.muli arg2 c640_i32
  let v112 : BitVec 32 := v111
  let v275 : Index := Scalar.indexCast v112
  let c128_123 : Index := 128#32
  ![v275.toNat, 128]
def k0_off20 (i : grid0.Coords) : Fin 2 → Nat :=
  let arg2 : BitVec 32 := BitVec.ofNat 32 (i 2).val
  let c640_i32 : BitVec 32 := 640#32
  let v111 : BitVec 32 := Scalar.muli arg2 c640_i32
  let v112 : BitVec 32 := v111
  let v370 : Index := Scalar.indexCast v112
  let c128_165 : Index := 128#32
  ![v370.toNat, 128]
def k0_off21 (i : grid0.Coords) : Fin 2 → Nat :=
  let arg2 : BitVec 32 := BitVec.ofNat 32 (i 2).val
  let c640_i32 : BitVec 32 := 640#32
  let v111 : BitVec 32 := Scalar.muli arg2 c640_i32
  let v112 : BitVec 32 := v111
  let v526 : Index := Scalar.indexCast v112
  let c256_238 : Index := 256#32
  ![v526.toNat, 256]
def k0_off22 (i : grid0.Coords) : Fin 2 → Nat :=
  let arg2 : BitVec 32 := BitVec.ofNat 32 (i 2).val
  let c640_i32 : BitVec 32 := 640#32
  let v111 : BitVec 32 := Scalar.muli arg2 c640_i32
  let v112 : BitVec 32 := v111
  let v621 : Index := Scalar.indexCast v112
  let c256_280 : Index := 256#32
  ![v621.toNat, 256]
def k0_off23 (i : grid0.Coords) : Fin 2 → Nat :=
  let arg2 : BitVec 32 := BitVec.ofNat 32 (i 2).val
  let c640_i32 : BitVec 32 := 640#32
  let v111 : BitVec 32 := Scalar.muli arg2 c640_i32
  let v112 : BitVec 32 := v111
  let v777 : Index := Scalar.indexCast v112
  let c384_353 : Index := 384#32
  ![v777.toNat, 384]
def k0_off24 (i : grid0.Coords) : Fin 2 → Nat :=
  let arg2 : BitVec 32 := BitVec.ofNat 32 (i 2).val
  let c640_i32 : BitVec 32 := 640#32
  let v111 : BitVec 32 := Scalar.muli arg2 c640_i32
  let v112 : BitVec 32 := v111
  let v872 : Index := Scalar.indexCast v112
  let c384_395 : Index := 384#32
  ![v872.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.muli arg0 c13_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.muli arg0 c13_i32
  let v1 : BitVec 32 := Scalar.addi v0 arg2
  let c0_i32 : BitVec 32 := 0#32
  ![v1.toNat, arg1.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "qscale" => some (((1 / 8) * (Real.log 2)⁻¹ : ℝ) : EReal)
  | _ => none
-- ==== ReferenceIdeal.lean ====
abbrev S4x8320x512 : Shape := ⟨3, ![4, 8320, 512]⟩
abbrev S1x64 : Shape := ⟨2, ![1, 64]⟩
abbrev S1x128 : Shape := ⟨2, ![1, 128]⟩
abbrev S4x8320x4x2x64 : Shape := ⟨5, ![4, 8320, 4, 2, 64]⟩
abbrev S2x4x4x8320x64 : Shape := ⟨5, ![2, 4, 4, 8320, 64]⟩
abbrev S4x8320x4x128 : Shape := ⟨4, ![4, 8320, 4, 128]⟩
abbrev S4x4x8320x128 : Shape := ⟨4, ![4, 4, 8320, 128]⟩
abbrev S64 : Shape := ⟨1, ![64]⟩
abbrev S_ : Shape := ⟨0, ![]⟩
abbrev S8320 : Shape := ⟨1, ![8320]⟩
abbrev S8320x1 : Shape := ⟨2, ![8320, 1]⟩
abbrev S1x8320 : Shape := ⟨2, ![1, 8320]⟩
abbrev S8320x8320 : Shape := ⟨2, ![8320, 8320]⟩
abbrev S2x4x4x8320x8320 : Shape := ⟨5, ![2, 4, 4, 8320, 8320]⟩
abbrev S2x4x4x8320 : Shape := ⟨4, ![2, 4, 4, 8320]⟩
abbrev S2x4x4x8320x1 : Shape := ⟨5, ![2, 4, 4, 8320, 1]⟩
abbrev S1x4x4x8320x8320 : Shape := ⟨5, ![1, 4, 4, 8320, 8320]⟩
abbrev S4x4x8320x8320 : Shape := ⟨4, ![4, 4, 8320, 8320]⟩
abbrev S128 : Shape := ⟨1, ![128]⟩
abbrev S4x4x8320 : Shape := ⟨3, ![4, 4, 8320]⟩
abbrev S4x4x8320x1 : Shape := ⟨4, ![4, 4, 8320, 1]⟩
abbrev S1x1x1x128 : Shape := ⟨4, ![1, 1, 1, 128]⟩
abbrev S33280x512 : Shape := ⟨2, ![33280, 512]⟩

abbrev nBuf : Space → Nat
  | .hbm => 89
  | .vmem => 0
  | .smem => 0
  | _ => 0

abbrev bufTy : (tb : Table) → Fin (tcTables nBuf tb) → BufTy
  | .hbm, ⟨0, _⟩ => ⟨S4x8320x512, .f32⟩
  | .hbm, ⟨1, _⟩ => ⟨S4x8320x512, .f32⟩
  | .hbm, ⟨2, _⟩ => ⟨S4x8320x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S4x8320x4x2x64, .f32⟩
  | .hbm, ⟨9, _⟩ => ⟨S2x4x4x8320x64, .f32⟩
  | .hbm, ⟨10, _⟩ => ⟨S4x8320x4x2x64, .f32⟩
  | .hbm, ⟨11, _⟩ => ⟨S2x4x4x8320x64, .f32⟩
  | .hbm, ⟨12, _⟩ => ⟨S4x8320x4x128, .f32⟩
  | .hbm, ⟨13, _⟩ => ⟨S4x4x8320x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8320, .i32⟩
  | .hbm, ⟨30, _⟩ => ⟨S8320x1, .i32⟩
  | .hbm, ⟨31, _⟩ => ⟨S1x8320, .i32⟩
  | .hbm, ⟨32, _⟩ => ⟨S8320x8320, .i32⟩
  | .hbm, ⟨33, _⟩ => ⟨S8320x8320, .i32⟩
  | .hbm, ⟨34, _⟩ => ⟨S8320x8320, .i1⟩
  | .hbm, ⟨35, _⟩ => ⟨S2x4x4x8320x8320, .f32⟩
  | .hbm, ⟨36, _⟩ => ⟨S_, .f32⟩
  | .hbm, ⟨37, _⟩ => ⟨S2x4x4x8320x8320, .f32⟩
  | .hbm, ⟨38, _⟩ => ⟨S2x4x4x8320x8320, .f32⟩
  | .hbm, ⟨39, _⟩ => ⟨S_, .f32⟩
  | .hbm, ⟨40, _⟩ => ⟨S_, .f32⟩
  | .hbm, ⟨41, _⟩ => ⟨S2x4x4x8320x8320, .i1⟩
  | .hbm, ⟨42, _⟩ => ⟨S2x4x4x8320x8320, .f32⟩
  | .hbm, ⟨43, _⟩ => ⟨S2x4x4x8320x8320, .f32⟩
  | .hbm, ⟨44, _⟩ => ⟨S_, .f32⟩
  | .hbm, ⟨45, _⟩ => ⟨S2x4x4x8320, .f32⟩
  | .hbm, ⟨46, _⟩ => ⟨S_, .f32⟩
  | .hbm, ⟨47, _⟩ => ⟨S2x4x4x8320, .f32⟩
  | .hbm, ⟨48, _⟩ => ⟨S2x4x4x8320, .f32⟩
  | .hbm, ⟨49, _⟩ => ⟨S2x4x4x8320x1, .f32⟩
  | .hbm, ⟨50, _⟩ => ⟨S2x4x4x8320x8320, .f32⟩
  | .hbm, ⟨51, _⟩ => ⟨S2x4x4x8320x8320, .f32⟩
  | .hbm, ⟨52, _⟩ => ⟨S2x4x4x8320x8320, .f32⟩
  | .hbm, ⟨53, _⟩ => ⟨S_, .f32⟩
  | .hbm, ⟨54, _⟩ => ⟨S2x4x4x8320, .f32⟩
  | .hbm, ⟨55, _⟩ => ⟨S2x4x4x8320x1, .f32⟩
  | .hbm, ⟨56, _⟩ => ⟨S2x4x4x8320x8320, .f32⟩
  | .hbm, ⟨57, _⟩ => ⟨S2x4x4x8320x8320, .f32⟩
  | .hbm, ⟨58, _⟩ => ⟨S1x4x4x8320x8320, .f32⟩
  | .hbm, ⟨59, _⟩ => ⟨S4x4x8320x8320, .f32⟩
  | .hbm, ⟨60, _⟩ => ⟨S1x4x4x8320x8320, .f32⟩
  | .hbm, ⟨61, _⟩ => ⟨S4x4x8320x8320, .f32⟩
  | .hbm, ⟨62, _⟩ => ⟨S4x4x8320x8320, .f32⟩
  | .hbm, ⟨63, _⟩ => ⟨S4x4x8320x8320, .f32⟩
  | .hbm, ⟨64, _⟩ => ⟨S4x4x8320x8320, .f32⟩
  | .hbm, ⟨65, _⟩ => ⟨S4x4x8320x128, .f32⟩
  | .hbm, ⟨66, _⟩ => ⟨S128, .f32⟩
  | .hbm, ⟨67, _⟩ => ⟨S4x4x8320x128, .f32⟩
  | .hbm, ⟨68, _⟩ => ⟨S_, .f32⟩
  | .hbm, ⟨69, _⟩ => ⟨S4x4x8320, .f32⟩
  | .hbm, ⟨70, _⟩ => ⟨S4x4x8320x1, .f32⟩
  | .hbm, ⟨71, _⟩ => ⟨S_, .f32⟩
  | .hbm, ⟨72, _⟩ => ⟨S4x4x8320x1, .f32⟩
  | .hbm, ⟨73, _⟩ => ⟨S4x4x8320x1, .f32⟩
  | .hbm, ⟨74, _⟩ => ⟨S_, .f32⟩
  | .hbm, ⟨75, _⟩ => ⟨S4x4x8320x1, .f32⟩
  | .hbm, ⟨76, _⟩ => ⟨S4x4x8320x1, .f32⟩
  | .hbm, ⟨77, _⟩ => ⟨S4x4x8320x1, .f32⟩
  | .hbm, ⟨78, _⟩ => ⟨S4x4x8320x128, .f32⟩
  | .hbm, ⟨79, _⟩ => ⟨S4x4x8320x128, .f32⟩
  | .hbm, ⟨80, _⟩ => ⟨S1x1x1x128, .f32⟩
  | .hbm, ⟨81, _⟩ => ⟨S4x4x8320x128, .f32⟩
  | .hbm, ⟨82, _⟩ => ⟨S4x4x8320x128, .f32⟩
  | .hbm, ⟨83, _⟩ => ⟨S_, .f32⟩
  | .hbm, ⟨84, _⟩ => ⟨S4x4x8320x128, .f32⟩
  | .hbm, ⟨85, _⟩ => ⟨S4x4x8320x128, .f32⟩
  | .hbm, ⟨86, _⟩ => ⟨S4x8320x4x128, .f32⟩
  | .hbm, ⟨87, _⟩ => ⟨S33280x512, .f32⟩
  | .hbm, ⟨88, _⟩ => ⟨S33280x512, .bf16⟩
  | _, _ => ⟨S4x8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Kernel2.lean ====
abbrev S4x8320x1024 : Shape := ⟨3, ![4, 8320, 1024]⟩
abbrev S4x8320x512 : Shape := ⟨3, ![4, 8320, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S33280x1024 : Shape := ⟨2, ![33280, 1024]⟩
abbrev S33280x512 : Shape := ⟨2, ![33280, 512]⟩
abbrev S1024x4 : Shape := ⟨2, ![1024, 4]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S640 : Shape := ⟨1, ![640]⟩
abbrev S640x1 : Shape := ⟨2, ![640, 1]⟩
abbrev S1x640 : Shape := ⟨2, ![1, 640]⟩
abbrev S640x640 : Shape := ⟨2, ![640, 640]⟩
abbrev S1024x1024 : Shape := ⟨2, ![1024, 1024]⟩
abbrev S1024 : Shape := ⟨1, ![1024]⟩
abbrev S66560x128 : Shape := ⟨2, ![66560, 128]⟩
abbrev S8x33280 : Shape := ⟨2, ![8, 33280]⟩
abbrev S64x128 : Shape := ⟨2, ![64, 128]⟩
abbrev S1280x1024 : Shape := ⟨2, ![1280, 1024]⟩
abbrev S1280x512 : Shape := ⟨2, ![1280, 512]⟩
abbrev S2560x128 : Shape := ⟨2, ![2560, 128]⟩
abbrev S8x1280 : Shape := ⟨2, ![8, 1280]⟩
abbrev S640x512 : Shape := ⟨2, ![640, 512]⟩
abbrev S640x1024 : Shape := ⟨2, ![640, 1024]⟩
abbrev S640x128 : Shape := ⟨2, ![640, 128]⟩
abbrev S1280x128 : Shape := ⟨2, ![1280, 128]⟩
abbrev S1024x256 : Shape := ⟨2, ![1024, 256]⟩
abbrev S640x256 : Shape := ⟨2, ![640, 256]⟩
abbrev S128x640 : Shape := ⟨2, ![128, 640]⟩
abbrev S64x640 : Shape := ⟨2, ![64, 640]⟩
abbrev S64 : Shape := ⟨1, ![64]⟩
abbrev S64x1 : Shape := ⟨2, ![64, 1]⟩
abbrev S8x640 : Shape := ⟨2, ![8, 640]⟩

abbrev nBuf : Space → Nat
  | .hbm => 49
  | .vmem => 26
  | .smem => 0
  | _ => 0

abbrev bufTy : (tb : Table) → Fin (tcTables nBuf tb) → BufTy
  | .hbm, ⟨0, _⟩ => ⟨S4x8320x1024, .f32⟩
  | .hbm, ⟨1, _⟩ => ⟨S4x8320x512, .f32⟩
  | .hbm, ⟨2, _⟩ => ⟨S4x8320x512, .f32⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x4, .f32⟩
  | .hbm, ⟨7, _⟩ => ⟨S1x1024x32, .f32⟩
  | .hbm, ⟨8, _⟩ => ⟨S1x32, .f32⟩
  | .hbm, ⟨9, _⟩ => ⟨S33280x1024, .f32⟩
  | .hbm, ⟨10, _⟩ => ⟨S4x8320x512, .bf16⟩
  | .hbm, ⟨11, _⟩ => ⟨S33280x512, .bf16⟩
  | .hbm, ⟨12, _⟩ => ⟨S4x8320x512, .bf16⟩
  | .hbm, ⟨13, _⟩ => ⟨S33280x512, .bf16⟩
  | .hbm, ⟨14, _⟩ => ⟨S1024x4, .f32⟩
  | .hbm, ⟨15, _⟩ => ⟨S1024x32, .f32⟩
  | .hbm, ⟨16, _⟩ => ⟨S1024x36, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S4, .f32⟩
  | .hbm, ⟨25, _⟩ => ⟨S32, .f32⟩
  | .hbm, ⟨26, _⟩ => ⟨S36, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S640, .i32⟩
  | .hbm, ⟨32, _⟩ => ⟨S640x1, .i32⟩
  | .hbm, ⟨33, _⟩ => ⟨S1x640, .i32⟩
  | .hbm, ⟨34, _⟩ => ⟨S640x640, .i32⟩
  | .hbm, ⟨35, _⟩ => ⟨S640x640, .i32⟩
  | .hbm, ⟨36, _⟩ => ⟨S640x640, .i1⟩
  | .hbm, ⟨37, _⟩ => ⟨S640x640, .bf16⟩
  | .hbm, ⟨38, _⟩ => ⟨S1024x1024, .f32⟩
  | .hbm, ⟨39, _⟩ => ⟨S1024x1024, .bf16⟩
  | .hbm, ⟨40, _⟩ => ⟨S1024, .f32⟩
  | .hbm, ⟨41, _⟩ => ⟨S1x1024, .f32⟩
  | .hbm, ⟨42, _⟩ => ⟨S33280x1024, .f32⟩
  | .hbm, ⟨43, _⟩ => ⟨S66560x128, .bf16⟩
  | .hbm, ⟨44, _⟩ => ⟨S66560x128, .bf16⟩
  | .hbm, ⟨45, _⟩ => ⟨S66560x128, .bf16⟩
  | .hbm, ⟨46, _⟩ => ⟨S66560x128, .bf16⟩
  | .hbm, ⟨47, _⟩ => ⟨S8x33280, .f32⟩
  | .hbm, ⟨48, _⟩ => ⟨S64x128, .f32⟩
  | .local _ .vmem, ⟨0, _⟩ => ⟨S1280x1024, .f32⟩
  | .local _ .vmem, ⟨1, _⟩ => ⟨S1280x1024, .f32⟩
  | .local _ .vmem, ⟨2, _⟩ => ⟨S1280x512, .bf16⟩
  | .local _ .vmem, ⟨3, _⟩ => ⟨S1280x512, .bf16⟩
  | .local _ .vmem, ⟨4, _⟩ => ⟨S1280x512, .bf16⟩
  | .local _ .vmem, ⟨5, _⟩ => ⟨S1280x512, .bf16⟩
  | .local _ .vmem, ⟨6, _⟩ => ⟨S1024x1024, .bf16⟩
  | .local _ .vmem, ⟨7, _⟩ => ⟨S1x1024, .f32⟩
  | .local _ .vmem, ⟨8, _⟩ => ⟨S1024x128, .bf16⟩
  | .local _ .vmem, ⟨9, _⟩ => ⟨S1024x128, .bf16⟩
  | .local _ .vmem, ⟨10, _⟩ => ⟨S1x128, .f32⟩
  | .local _ .vmem, ⟨11, _⟩ => ⟨S640x640, .bf16⟩
  | .local _ .vmem, ⟨12, _⟩ => ⟨S1280x1024, .f32⟩
  | .local _ .vmem, ⟨13, _⟩ => ⟨S1280x1024, .f32⟩
  | .local _ .vmem, ⟨14, _⟩ => ⟨S2560x128, .bf16⟩
  | .local _ .vmem, ⟨15, _⟩ => ⟨S2560x128, .bf16⟩
  | .local _ .vmem, ⟨16, _⟩ => ⟨S2560x128, .bf16⟩
  | .local _ .vmem, ⟨17, _⟩ => ⟨S2560x128, .bf16⟩
  | .local _ .vmem, ⟨18, _⟩ => ⟨S2560x128, .bf16⟩
  | .local _ .vmem, ⟨19, _⟩ => ⟨S2560x128, .bf16⟩
  | .local _ .vmem, ⟨20, _⟩ => ⟨S2560x128, .bf16⟩
  | .local _ .vmem, ⟨21, _⟩ => ⟨S2560x128, .bf16⟩
  | .local _ .vmem, ⟨22, _⟩ => ⟨S8x1280, .f32⟩
  | .local _ .vmem, ⟨23, _⟩ => ⟨S8x1280, .f32⟩
  | .local _ .vmem, ⟨24, _⟩ => ⟨S64x128, .f32⟩
  | .local _ .vmem, ⟨25, _⟩ => ⟨S64x128, .f32⟩
  | _, _ => ⟨S4x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [BitOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S640x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1280x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2560x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2560x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2560x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2560x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1280 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel2Ideal.lean ====
variable {F : FTy → Type} [FloatOps F]
-- ==== Reference2Ideal.lean ====
abbrev S4x8320x1024 : Shape := ⟨3, ![4, 8320, 1024]⟩
abbrev S4x8320x512 : Shape := ⟨3, ![4, 8320, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x1024 : Shape := ⟨2, ![1024, 1024]⟩
abbrev S1024 : Shape := ⟨1, ![1024]⟩
abbrev S_ : Shape := ⟨0, ![]⟩
abbrev S4x8320 : Shape := ⟨2, ![4, 8320]⟩
abbrev S4x8320x1 : Shape := ⟨3, ![4, 8320, 1]⟩
abbrev S1x1x1024 : Shape := ⟨3, ![1, 1, 1024]⟩
abbrev S33280x2x4x128 : Shape := ⟨4, ![33280, 2, 4, 128]⟩
abbrev S33280x1024 : Shape := ⟨2, ![33280, 1024]⟩
abbrev S33280x2x1x128 : Shape := ⟨4, ![33280, 2, 1, 128]⟩
abbrev S33280x2x128 : Shape := ⟨3, ![33280, 2, 128]⟩
abbrev S66560x128 : Shape := ⟨2, ![66560, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x8320x1024, .f32⟩
  | .hbm, ⟨1, _⟩ => ⟨S4x8320x512, .f32⟩
  | .hbm, ⟨2, _⟩ => ⟨S4x8320x512, .f32⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x4, .f32⟩
  | .hbm, ⟨7, _⟩ => ⟨S1x1024x32, .f32⟩
  | .hbm, ⟨8, _⟩ => ⟨S1x32, .f32⟩
  | .hbm, ⟨9, _⟩ => ⟨S4x8320x1024, .f32⟩
  | .hbm, ⟨10, _⟩ => ⟨S1024x1024, .f32⟩
  | .hbm, ⟨11, _⟩ => ⟨S4x8320x1024, .f32⟩
  | .hbm, ⟨12, _⟩ => ⟨S4x8320x1024, .f32⟩
  | .hbm, ⟨13, _⟩ => ⟨S1024, .f32⟩
  | .hbm, ⟨14, _⟩ => ⟨S4x8320x1024, .f32⟩
  | .hbm, ⟨15, _⟩ => ⟨S_, .f32⟩
  | .hbm, ⟨16, _⟩ => ⟨S4x8320, .f32⟩
  | .hbm, ⟨17, _⟩ => ⟨S4x8320x1, .f32⟩
  | .hbm, ⟨18, _⟩ => ⟨S_, .f32⟩
  | .hbm, ⟨19, _⟩ => ⟨S4x8320x1, .f32⟩
  | .hbm, ⟨20, _⟩ => ⟨S4x8320x1, .f32⟩
  | .hbm, ⟨21, _⟩ => ⟨S_, .f32⟩
  | .hbm, ⟨22, _⟩ => ⟨S4x8320x1, .f32⟩
  | .hbm, ⟨23, _⟩ => ⟨S4x8320x1, .f32⟩
  | .hbm, ⟨24, _⟩ => ⟨S4x8320x1, .f32⟩
  | .hbm, ⟨25, _⟩ => ⟨S4x8320x1024, .f32⟩
  | .hbm, ⟨26, _⟩ => ⟨S4x8320x1024, .f32⟩
  | .hbm, ⟨27, _⟩ => ⟨S1x1x1024, .f32⟩
  | .hbm, ⟨28, _⟩ => ⟨S4x8320x1024, .f32⟩
  | .hbm, ⟨29, _⟩ => ⟨S4x8320x1024, .f32⟩
  | .hbm, ⟨30, _⟩ => ⟨S4x8320x1024, .bf16⟩
  | .hbm, ⟨31, _⟩ => ⟨S33280x2x4x128, .bf16⟩
  | .hbm, ⟨32, _⟩ => ⟨S33280x1024, .f32⟩
  | .hbm, ⟨33, _⟩ => ⟨S33280x2x1x128, .bf16⟩
  | .hbm, ⟨34, _⟩ => ⟨S33280x2x128, .bf16⟩
  | .hbm, ⟨35, _⟩ => ⟨S66560x128, .bf16⟩
  | .hbm, ⟨36, _⟩ => ⟨S33280x2x1x128, .bf16⟩
  | .hbm, ⟨37, _⟩ => ⟨S33280x2x128, .bf16⟩
  | .hbm, ⟨38, _⟩ => ⟨S66560x128, .bf16⟩
  | .hbm, ⟨39, _⟩ => ⟨S33280x2x1x128, .bf16⟩
  | .hbm, ⟨40, _⟩ => ⟨S33280x2x128, .bf16⟩
  | .hbm, ⟨41, _⟩ => ⟨S66560x128, .bf16⟩
  | .hbm, ⟨42, _⟩ => ⟨S33280x2x1x128, .bf16⟩
  | .hbm, ⟨43, _⟩ => ⟨S33280x2x128, .bf16⟩
  | .hbm, ⟨44, _⟩ => ⟨S66560x128, .bf16⟩
  | _, _ => ⟨S4x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel3.lean ====
abbrev S4x8320x1024 : Shape := ⟨3, ![4, 8320, 1024]⟩
abbrev S8x33280 : Shape := ⟨2, ![8, 33280]⟩
abbrev S65536x128 : Shape := ⟨2, ![65536, 128]⟩
abbrev S8x4x8320 : Shape := ⟨3, ![8, 4, 8320]⟩
abbrev S8x4x8192 : Shape := ⟨3, ![8, 4, 8192]⟩
abbrev S8x32768 : Shape := ⟨2, ![8, 32768]⟩
abbrev S4x8192x1024 : Shape := ⟨3, ![4, 8192, 1024]⟩
abbrev S8x1024 : Shape := ⟨2, ![8, 1024]⟩
abbrev S2048x128 : Shape := ⟨2, ![2048, 128]⟩
abbrev S1x1024x1024 : Shape := ⟨3, ![1, 1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1024x1024 : Shape := ⟨2, ![1024, 1024]⟩
abbrev S1024x128 : Shape := ⟨2, ![1024, 128]⟩
abbrev S1024x512 : Shape := ⟨2, ![1024, 512]⟩
abbrev S128x1024 : Shape := ⟨2, ![128, 1024]⟩
abbrev S1024x1 : Shape := ⟨2, ![1024, 1]⟩

abbrev nBuf : Space → Nat
  | .hbm => 14
  | .vmem => 21
  | .smem => 0
  | _ => 0

abbrev bufTy : (tb : Table) → Fin (tcTables nBuf tb) → BufTy
  | .hbm, ⟨0, _⟩ => ⟨S4x8320x1024, .f32⟩
  | .hbm, ⟨1, _⟩ => ⟨S8x33280, .f32⟩
  | .hbm, ⟨2, _⟩ => ⟨S65536x128, .bf16⟩
  | .hbm, ⟨3, _⟩ => ⟨S65536x128, .bf16⟩
  | .hbm, ⟨4, _⟩ => ⟨S65536x128, .bf16⟩
  | .hbm, ⟨5, _⟩ => ⟨S65536x128, .bf16⟩
  | .hbm, ⟨6, _⟩ => ⟨S65536x128, .bf16⟩
  | .hbm, ⟨7, _⟩ => ⟨S65536x128, .bf16⟩
  | .hbm, ⟨8, _⟩ => ⟨S65536x128, .bf16⟩
  | .hbm, ⟨9, _⟩ => ⟨S65536x128, .bf16⟩
  | .hbm, ⟨10, _⟩ => ⟨S8x4x8320, .f32⟩
  | .hbm, ⟨11, _⟩ => ⟨S8x4x8192, .f32⟩
  | .hbm, ⟨12, _⟩ => ⟨S8x32768, .f32⟩
  | .hbm, ⟨13, _⟩ => ⟨S4x8192x1024, .f32⟩
  | .local _ .vmem, ⟨0, _⟩ => ⟨S8x1024, .f32⟩
  | .local _ .vmem, ⟨1, _⟩ => ⟨S8x1024, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S1x1024x1024, .f32⟩
  | .local _ .vmem, ⟨19, _⟩ => ⟨S1x1024x1024, .f32⟩
  | .local _ .vmem, ⟨20, _⟩ => ⟨S2x1024x1024, .f32⟩
  | _, _ => ⟨S4x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨2, ![4, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_3 : BitVec 32 := 0#32
  let v12 : BitVec 1 := Scalar.cmpi .eq v1 c0_i32_3
  let v13 : BitVec 32 := Scalar.extui v12
  let c0_i32_4 : BitVec 32 := 0#32
  let v14 : BitVec 1 := Scalar.cmpi .ne v13 c0_i32_4
  v14

def k0_mult1 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_50 : BitVec 32 := 0#32
  let v114 : BitVec 1 := Scalar.cmpi .sgt v1 c0_i32_50
  let v115 : BitVec 32 := Scalar.extui v114
  let c0_i32_51 : BitVec 32 := 0#32
  let v116 : BitVec 1 := Scalar.cmpi .slt v1 c0_i32_51
  let v117 : BitVec 32 := Scalar.extui v116
  let v118 : BitVec 32 := Scalar.subi v115 v117
  let c8_i32_49 : BitVec 32 := 8#32
  let c0_i32_52 : BitVec 32 := 0#32
  let v119 : BitVec 1 := Scalar.cmpi .sgt c8_i32_49 c0_i32_52
  let v120 : BitVec 32 := Scalar.extui v119
  let c0_i32_53 : BitVec 32 := 0#32
  let v121 : BitVec 1 := Scalar.cmpi .slt c8_i32_49 c0_i32_53
  let v122 : BitVec 32 := Scalar.extui v121
  let v123 : BitVec 32 := Scalar.subi v120 v122
  let v124 : BitVec 1 := Scalar.cmpi .ne v118 v123
  let v125 : BitVec 32 := Scalar.remsi v1 c8_i32_49
  let c0_i32_54 : BitVec 32 := 0#32
  let v126 : BitVec 1 := Scalar.cmpi .ne v125 c0_i32_54
  let v127 : BitVec 1 := Scalar.andi v124 v126
  let v113 : BitVec 32 := Scalar.divsi v1 c8_i32_49
  let c1_i32_55 : BitVec 32 := 1#32
  let v128 : BitVec 32 := Scalar.subi v113 c1_i32_55
  let v129 : BitVec 32 := Scalar.select v127 v128 v113
  let c8320_i32_56 : BitVec 32 := 8320#32
  let v130 : BitVec 32 := Scalar.muli v129 c8320_i32_56
  let c16_i32_57 : BitVec 32 := 16#32
  let v131 : BitVec 32 := Scalar.addi v130 c16_i32_57
  let c8_i32_58 : BitVec 32 := 8#32
  let c0_i32_59 : BitVec 32 := 0#32
  let v132 : BitVec 1 := Scalar.cmpi .eq c8_i32_58 c0_i32_59
  let c1_i32_60 : BitVec 32 := 1#32
  let v133 : BitVec 32 := Scalar.select v132 c1_i32_60 c8_i32_58
  let v134 : BitVec 32 := Scalar.remsi v1 v133
  let c0_i32_62 : BitVec 32 := 0#32
  let v136 : BitVec 1 := Scalar.cmpi .slt v134 c0_i32_62
  let c0_i32_63 : BitVec 32 := 0#32
  let v137 : BitVec 1 := Scalar.cmpi .slt v133 c0_i32_63
  let v138 : BitVec 1 := Scalar.xori v136 v137
  let c0_i32_61 : BitVec 32 := 0#32
  let v135 : BitVec 1 := Scalar.cmpi .ne v134 c0_i32_61
  let v139 : BitVec 1 := Scalar.andi v138 v135
  let v140 : BitVec 32 := Scalar.addi v134 v133
  let v141 : BitVec 32 := Scalar.select v139 v140 v134
  let c1024_i32_64 : BitVec 32 := 1024#32
  let v142 : BitVec 32 := Scalar.muli v141 c1024_i32_64
  let v143 : BitVec 32 := Scalar.addi v131 v142
  let c8320_i32_65 : BitVec 32 := 8320#32
  let v144 : BitVec 32 := Scalar.divsi v143 c8320_i32_65
  let c8320_i32_66 : BitVec 32 := 8320#32
  let v145 : BitVec 32 := Scalar.muli v144 c8320_i32_66
  let v146 : BitVec 32 := Scalar.subi v143 v145
  v146
def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off2 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_67 : BitVec 32 := 0#32
  let c0_i32_68 : BitVec 32 := 0#32
  ![v11.toNat, 0, 0]
def k0_off3 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_50 : BitVec 32 := 0#32
  let v114 : BitVec 1 := Scalar.cmpi .sgt v1 c0_i32_50
  let v115 : BitVec 32 := Scalar.extui v114
  let c0_i32_51 : BitVec 32 := 0#32
  let v116 : BitVec 1 := Scalar.cmpi .slt v1 c0_i32_51
  let v117 : BitVec 32 := Scalar.extui v116
  let v118 : BitVec 32 := Scalar.subi v115 v117
  let c8_i32_49 : BitVec 32 := 8#32
  let c0_i32_52 : BitVec 32 := 0#32
  let v119 : BitVec 1 := Scalar.cmpi .sgt c8_i32_49 c0_i32_52
  let v120 : BitVec 32 := Scalar.extui v119
  let c0_i32_53 : BitVec 32 := 0#32
  let v121 : BitVec 1 := Scalar.cmpi .slt c8_i32_49 c0_i32_53
  let v122 : BitVec 32 := Scalar.extui v121
  let v123 : BitVec 32 := Scalar.subi v120 v122
  let v124 : BitVec 1 := Scalar.cmpi .ne v118 v123
  let v125 : BitVec 32 := Scalar.remsi v1 c8_i32_49
  let c0_i32_54 : BitVec 32 := 0#32
  let v126 : BitVec 1 := Scalar.cmpi .ne v125 c0_i32_54
  let v127 : BitVec 1 := Scalar.andi v124 v126
  let v113 : BitVec 32 := Scalar.divsi v1 c8_i32_49
  let c1_i32_55 : BitVec 32 := 1#32
  let v128 : BitVec 32 := Scalar.subi v113 c1_i32_55
  let v129 : BitVec 32 := Scalar.select v127 v128 v113
  let c8320_i32_56 : BitVec 32 := 8320#32
  let v130 : BitVec 32 := Scalar.muli v129 c8320_i32_56
  let c16_i32_57 : BitVec 32 := 16#32
  let v131 : BitVec 32 := Scalar.addi v130 c16_i32_57
  let c8_i32_58 : BitVec 32 := 8#32
  let c0_i32_59 : BitVec 32 := 0#32
  let v132 : BitVec 1 := Scalar.cmpi .eq c8_i32_58 c0_i32_59
  let c1_i32_60 : BitVec 32 := 1#32
  let v133 : BitVec 32 := Scalar.select v132 c1_i32_60 c8_i32_58
  let v134 : BitVec 32 := Scalar.remsi v1 v133
  let c0_i32_62 : BitVec 32 := 0#32
  let v136 : BitVec 1 := Scalar.cmpi .slt v134 c0_i32_62
  let c0_i32_63 : BitVec 32 := 0#32
  let v137 : BitVec 1 := Scalar.cmpi .slt v133 c0_i32_63
  let v138 : BitVec 1 := Scalar.xori v136 v137
  let c0_i32_61 : BitVec 32 := 0#32
  let v135 : BitVec 1 := Scalar.cmpi .ne v134 c0_i32_61
  let v139 : BitVec 1 := Scalar.andi v138 v135
  let v140 : BitVec 32 := Scalar.addi v134 v133
  let v141 : BitVec 32 := Scalar.select v139 v140 v134
  let c1024_i32_64 : BitVec 32 := 1024#32
  let v142 : BitVec 32 := Scalar.muli v141 c1024_i32_64
  let v143 : BitVec 32 := Scalar.addi v131 v142
  let c8320_i32_65 : BitVec 32 := 8320#32
  let v144 : BitVec 32 := Scalar.divsi v143 c8320_i32_65
  let c8320_i32_66 : BitVec 32 := 8320#32
  let v145 : BitVec 32 := Scalar.muli v144 c8320_i32_66
  let v146 : BitVec 32 := Scalar.subi v143 v145
  let v147 : BitVec 32 := v146
  let c0_i32_69 : BitVec 32 := 0#32
  ![v144.toNat, v147.toNat, 0]
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c31_i32 : BitVec 32 := 31#32
  let v15 : BitVec 1 := Scalar.cmpi .slt v1 c31_i32
  let v16 : BitVec 32 := Scalar.extui v15
  let c0_i32_5 : BitVec 32 := 0#32
  let v17 : BitVec 1 := Scalar.cmpi .ne v16 c0_i32_5
  v17

def k0_mult2 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_49 : BitVec 32 := 1#32
  let v113 : BitVec 32 := Scalar.addi v1 c1_i32_49
  let c0_i32_52 : BitVec 32 := 0#32
  let v116 : BitVec 1 := Scalar.cmpi .sgt v113 c0_i32_52
  let v117 : BitVec 32 := Scalar.extui v116
  let c0_i32_53 : BitVec 32 := 0#32
  let v118 : BitVec 1 := Scalar.cmpi .slt v113 c0_i32_53
  let v119 : BitVec 32 := Scalar.extui v118
  let v120 : BitVec 32 := Scalar.subi v117 v119
  let c8_i32_51 : BitVec 32 := 8#32
  let c0_i32_54 : BitVec 32 := 0#32
  let v121 : BitVec 1 := Scalar.cmpi .sgt c8_i32_51 c0_i32_54
  let v122 : BitVec 32 := Scalar.extui v121
  let c0_i32_55 : BitVec 32 := 0#32
  let v123 : BitVec 1 := Scalar.cmpi .slt c8_i32_51 c0_i32_55
  let v124 : BitVec 32 := Scalar.extui v123
  let v125 : BitVec 32 := Scalar.subi v122 v124
  let v126 : BitVec 1 := Scalar.cmpi .ne v120 v125
  let v127 : BitVec 32 := Scalar.remsi v113 c8_i32_51
  let c0_i32_56 : BitVec 32 := 0#32
  let v128 : BitVec 1 := Scalar.cmpi .ne v127 c0_i32_56
  let v129 : BitVec 1 := Scalar.andi v126 v128
  let v115 : BitVec 32 := Scalar.divsi v113 c8_i32_51
  let c1_i32_57 : BitVec 32 := 1#32
  let v130 : BitVec 32 := Scalar.subi v115 c1_i32_57
  let v131 : BitVec 32 := Scalar.select v129 v130 v115
  let c8320_i32_58 : BitVec 32 := 8320#32
  let v132 : BitVec 32 := Scalar.muli v131 c8320_i32_58
  let c16_i32_59 : BitVec 32 := 16#32
  let v133 : BitVec 32 := Scalar.addi v132 c16_i32_59
  let c8_i32_60 : BitVec 32 := 8#32
  let c0_i32_61 : BitVec 32 := 0#32
  let v134 : BitVec 1 := Scalar.cmpi .eq c8_i32_60 c0_i32_61
  let c1_i32_62 : BitVec 32 := 1#32
  let v135 : BitVec 32 := Scalar.select v134 c1_i32_62 c8_i32_60
  let v136 : BitVec 32 := Scalar.remsi v113 v135
  let c0_i32_64 : BitVec 32 := 0#32
  let v138 : BitVec 1 := Scalar.cmpi .slt v136 c0_i32_64
  let c0_i32_65 : BitVec 32 := 0#32
  let v139 : BitVec 1 := Scalar.cmpi .slt v135 c0_i32_65
  let v140 : BitVec 1 := Scalar.xori v138 v139
  let c0_i32_63 : BitVec 32 := 0#32
  let v137 : BitVec 1 := Scalar.cmpi .ne v136 c0_i32_63
  let v141 : BitVec 1 := Scalar.andi v140 v137
  let v142 : BitVec 32 := Scalar.addi v136 v135
  let v143 : BitVec 32 := Scalar.select v141 v142 v136
  let c1024_i32_66 : BitVec 32 := 1024#32
  let v144 : BitVec 32 := Scalar.muli v143 c1024_i32_66
  let v145 : BitVec 32 := Scalar.addi v133 v144
  let c8320_i32_67 : BitVec 32 := 8320#32
  let v146 : BitVec 32 := Scalar.divsi v145 c8320_i32_67
  let c8320_i32_68 : BitVec 32 := 8320#32
  let v147 : BitVec 32 := Scalar.muli v146 c8320_i32_68
  let v148 : BitVec 32 := Scalar.subi v145 v147
  v148
def k0_off4 (i : grid0.Coords) : Fin 1 → Nat :=
  let c1_i32_50 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v114 : BitVec 32 := Scalar.subi c1_i32_50 v11
  ![v114.toNat]
def k0_off5 (i : grid0.Coords) : Fin 3 → Nat :=
  let c1_i32_50 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v114 : BitVec 32 := Scalar.subi c1_i32_50 v11
  let c0_i32_69 : BitVec 32 := 0#32
  let c0_i32_70 : BitVec 32 := 0#32
  ![v114.toNat, 0, 0]
def k0_off6 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_49 : BitVec 32 := 1#32
  let v113 : BitVec 32 := Scalar.addi v1 c1_i32_49
  let c0_i32_52 : BitVec 32 := 0#32
  let v116 : BitVec 1 := Scalar.cmpi .sgt v113 c0_i32_52
  let v117 : BitVec 32 := Scalar.extui v116
  let c0_i32_53 : BitVec 32 := 0#32
  let v118 : BitVec 1 := Scalar.cmpi .slt v113 c0_i32_53
  let v119 : BitVec 32 := Scalar.extui v118
  let v120 : BitVec 32 := Scalar.subi v117 v119
  let c8_i32_51 : BitVec 32 := 8#32
  let c0_i32_54 : BitVec 32 := 0#32
  let v121 : BitVec 1 := Scalar.cmpi .sgt c8_i32_51 c0_i32_54
  let v122 : BitVec 32 := Scalar.extui v121
  let c0_i32_55 : BitVec 32 := 0#32
  let v123 : BitVec 1 := Scalar.cmpi .slt c8_i32_51 c0_i32_55
  let v124 : BitVec 32 := Scalar.extui v123
  let v125 : BitVec 32 := Scalar.subi v122 v124
  let v126 : BitVec 1 := Scalar.cmpi .ne v120 v125
  let v127 : BitVec 32 := Scalar.remsi v113 c8_i32_51
  let c0_i32_56 : BitVec 32 := 0#32
  let v128 : BitVec 1 := Scalar.cmpi .ne v127 c0_i32_56
  let v129 : BitVec 1 := Scalar.andi v126 v128
  let v115 : BitVec 32 := Scalar.divsi v113 c8_i32_51
  let c1_i32_57 : BitVec 32 := 1#32
  let v130 : BitVec 32 := Scalar.subi v115 c1_i32_57
  let v131 : BitVec 32 := Scalar.select v129 v130 v115
  let c8320_i32_58 : BitVec 32 := 8320#32
  let v132 : BitVec 32 := Scalar.muli v131 c8320_i32_58
  let c16_i32_59 : BitVec 32 := 16#32
  let v133 : BitVec 32 := Scalar.addi v132 c16_i32_59
  let c8_i32_60 : BitVec 32 := 8#32
  let c0_i32_61 : BitVec 32 := 0#32
  let v134 : BitVec 1 := Scalar.cmpi .eq c8_i32_60 c0_i32_61
  let c1_i32_62 : BitVec 32 := 1#32
  let v135 : BitVec 32 := Scalar.select v134 c1_i32_62 c8_i32_60
  let v136 : BitVec 32 := Scalar.remsi v113 v135
  let c0_i32_64 : BitVec 32 := 0#32
  let v138 : BitVec 1 := Scalar.cmpi .slt v136 c0_i32_64
  let c0_i32_65 : BitVec 32 := 0#32
  let v139 : BitVec 1 := Scalar.cmpi .slt v135 c0_i32_65
  let v140 : BitVec 1 := Scalar.xori v138 v139
  let c0_i32_63 : BitVec 32 := 0#32
  let v137 : BitVec 1 := Scalar.cmpi .ne v136 c0_i32_63
  let v141 : BitVec 1 := Scalar.andi v140 v137
  let v142 : BitVec 32 := Scalar.addi v136 v135
  let v143 : BitVec 32 := Scalar.select v141 v142 v136
  let c1024_i32_66 : BitVec 32 := 1024#32
  let v144 : BitVec 32 := Scalar.muli v143 c1024_i32_66
  let v145 : BitVec 32 := Scalar.addi v133 v144
  let c8320_i32_67 : BitVec 32 := 8320#32
  let v146 : BitVec 32 := Scalar.divsi v145 c8320_i32_67
  let c8320_i32_68 : BitVec 32 := 8320#32
  let v147 : BitVec 32 := Scalar.muli v146 c8320_i32_68
  let v148 : BitVec 32 := Scalar.subi v145 v147
  let v149 : BitVec 32 := v148
  let c0_i32_71 : BitVec 32 := 0#32
  ![v146.toNat, v149.toNat, 0]
def k0_mult3 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_26 : BitVec 32 := 0#32
  let v66 : BitVec 1 := Scalar.cmpi .sgt v1 c0_i32_26
  let v67 : BitVec 32 := Scalar.extui v66
  let c0_i32_27 : BitVec 32 := 0#32
  let v68 : BitVec 1 := Scalar.cmpi .slt v1 c0_i32_27
  let v69 : BitVec 32 := Scalar.extui v68
  let v70 : BitVec 32 := Scalar.subi v67 v69
  let c8_i32_25 : BitVec 32 := 8#32
  let c0_i32_28 : BitVec 32 := 0#32
  let v71 : BitVec 1 := Scalar.cmpi .sgt c8_i32_25 c0_i32_28
  let v72 : BitVec 32 := Scalar.extui v71
  let c0_i32_29 : BitVec 32 := 0#32
  let v73 : BitVec 1 := Scalar.cmpi .slt c8_i32_25 c0_i32_29
  let v74 : BitVec 32 := Scalar.extui v73
  let v75 : BitVec 32 := Scalar.subi v72 v74
  let v76 : BitVec 1 := Scalar.cmpi .ne v70 v75
  let v77 : BitVec 32 := Scalar.remsi v1 c8_i32_25
  let c0_i32_30 : BitVec 32 := 0#32
  let v78 : BitVec 1 := Scalar.cmpi .ne v77 c0_i32_30
  let v79 : BitVec 1 := Scalar.andi v76 v78
  let v65 : BitVec 32 := Scalar.divsi v1 c8_i32_25
  let c1_i32_31 : BitVec 32 := 1#32
  let v80 : BitVec 32 := Scalar.subi v65 c1_i32_31
  let v81 : BitVec 32 := Scalar.select v79 v80 v65
  let c8320_i32 : BitVec 32 := 8320#32
  let v82 : BitVec 32 := Scalar.muli v81 c8320_i32
  let c16_i32_32 : BitVec 32 := 16#32
  let v83 : BitVec 32 := Scalar.addi v82 c16_i32_32
  let c8_i32_33 : BitVec 32 := 8#32
  let c0_i32_34 : BitVec 32 := 0#32
  let v84 : BitVec 1 := Scalar.cmpi .eq c8_i32_33 c0_i32_34
  let c1_i32_35 : BitVec 32 := 1#32
  let v85 : BitVec 32 := Scalar.select v84 c1_i32_35 c8_i32_33
  let v86 : BitVec 32 := Scalar.remsi v1 v85
  let c0_i32_37 : BitVec 32 := 0#32
  let v88 : BitVec 1 := Scalar.cmpi .slt v86 c0_i32_37
  let c0_i32_38 : BitVec 32 := 0#32
  let v89 : BitVec 1 := Scalar.cmpi .slt v85 c0_i32_38
  let v90 : BitVec 1 := Scalar.xori v88 v89
  let c0_i32_36 : BitVec 32 := 0#32
  let v87 : BitVec 1 := Scalar.cmpi .ne v86 c0_i32_36
  let v91 : BitVec 1 := Scalar.andi v90 v87
  let v92 : BitVec 32 := Scalar.addi v86 v85
  let v93 : BitVec 32 := Scalar.select v91 v92 v86
  let c1024_i32 : BitVec 32 := 1024#32
  let v94 : BitVec 32 := Scalar.muli v93 c1024_i32
  let v95 : BitVec 32 := Scalar.addi v83 v94
  let c8320_i32_39 : BitVec 32 := 8320#32
  let v96 : BitVec 32 := Scalar.divsi v95 c8320_i32_39
  let c8320_i32_40 : BitVec 32 := 8320#32
  let v97 : BitVec 32 := Scalar.muli v96 c8320_i32_40
  let v98 : BitVec 32 := Scalar.subi v95 v97
  v98
def k0_off7 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off8 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_41 : BitVec 32 := 0#32
  let c0_i32_42 : BitVec 32 := 0#32
  ![v11.toNat, 0, 0]
def k0_off9 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_26 : BitVec 32 := 0#32
  let v66 : BitVec 1 := Scalar.cmpi .sgt v1 c0_i32_26
  let v67 : BitVec 32 := Scalar.extui v66
  let c0_i32_27 : BitVec 32 := 0#32
  let v68 : BitVec 1 := Scalar.cmpi .slt v1 c0_i32_27
  let v69 : BitVec 32 := Scalar.extui v68
  let v70 : BitVec 32 := Scalar.subi v67 v69
  let c8_i32_25 : BitVec 32 := 8#32
  let c0_i32_28 : BitVec 32 := 0#32
  let v71 : BitVec 1 := Scalar.cmpi .sgt c8_i32_25 c0_i32_28
  let v72 : BitVec 32 := Scalar.extui v71
  let c0_i32_29 : BitVec 32 := 0#32
  let v73 : BitVec 1 := Scalar.cmpi .slt c8_i32_25 c0_i32_29
  let v74 : BitVec 32 := Scalar.extui v73
  let v75 : BitVec 32 := Scalar.subi v72 v74
  let v76 : BitVec 1 := Scalar.cmpi .ne v70 v75
  let v77 : BitVec 32 := Scalar.remsi v1 c8_i32_25
  let c0_i32_30 : BitVec 32 := 0#32
  let v78 : BitVec 1 := Scalar.cmpi .ne v77 c0_i32_30
  let v79 : BitVec 1 := Scalar.andi v76 v78
  let v65 : BitVec 32 := Scalar.divsi v1 c8_i32_25
  let c1_i32_31 : BitVec 32 := 1#32
  let v80 : BitVec 32 := Scalar.subi v65 c1_i32_31
  let v81 : BitVec 32 := Scalar.select v79 v80 v65
  let c8320_i32 : BitVec 32 := 8320#32
  let v82 : BitVec 32 := Scalar.muli v81 c8320_i32
  let c16_i32_32 : BitVec 32 := 16#32
  let v83 : BitVec 32 := Scalar.addi v82 c16_i32_32
  let c8_i32_33 : BitVec 32 := 8#32
  let c0_i32_34 : BitVec 32 := 0#32
  let v84 : BitVec 1 := Scalar.cmpi .eq c8_i32_33 c0_i32_34
  let c1_i32_35 : BitVec 32 := 1#32
  let v85 : BitVec 32 := Scalar.select v84 c1_i32_35 c8_i32_33
  let v86 : BitVec 32 := Scalar.remsi v1 v85
  let c0_i32_37 : BitVec 32 := 0#32
  let v88 : BitVec 1 := Scalar.cmpi .slt v86 c0_i32_37
  let c0_i32_38 : BitVec 32 := 0#32
  let v89 : BitVec 1 := Scalar.cmpi .slt v85 c0_i32_38
  let v90 : BitVec 1 := Scalar.xori v88 v89
  let c0_i32_36 : BitVec 32 := 0#32
  let v87 : BitVec 1 := Scalar.cmpi .ne v86 c0_i32_36
  let v91 : BitVec 1 := Scalar.andi v90 v87
  let v92 : BitVec 32 := Scalar.addi v86 v85
  let v93 : BitVec 32 := Scalar.select v91 v92 v86
  let c1024_i32 : BitVec 32 := 1024#32
  let v94 : BitVec 32 := Scalar.muli v93 c1024_i32
  let v95 : BitVec 32 := Scalar.addi v83 v94
  let c8320_i32_39 : BitVec 32 := 8320#32
  let v96 : BitVec 32 := Scalar.divsi v95 c8320_i32_39
  let c8320_i32_40 : BitVec 32 := 8320#32
  let v97 : BitVec 32 := Scalar.muli v96 c8320_i32_40
  let v98 : BitVec 32 := Scalar.subi v95 v97
  let v99 : BitVec 32 := v98
  let c0_i32_43 : BitVec 32 := 0#32
  ![v96.toNat, v99.toNat, 0]
def k0_off10 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v106 : Index := Scalar.indexCast v11
  let c0_44 : Index := 0#32
  let c0_45 : Index := 0#32
  ![v106.toNat, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel3Ideal.lean ====
abbrev S2048x512 : Shape := ⟨2, ![2048, 512]⟩
variable {F : FTy → Type} [FloatOps F]
-- ==== Reference3Ideal.lean ====
abbrev S4x8320x1024 : Shape := ⟨3, ![4, 8320, 1024]⟩
abbrev S8x33280 : Shape := ⟨2, ![8, 33280]⟩
abbrev S65536x128 : Shape := ⟨2, ![65536, 128]⟩
abbrev S8x4x8320 : Shape := ⟨3, ![8, 4, 8320]⟩
abbrev S2x4x8192 : Shape := ⟨3, ![2, 4, 8192]⟩
abbrev S1x4x8192 : Shape := ⟨3, ![1, 4, 8192]⟩
abbrev S4x8192 : Shape := ⟨2, ![4, 8192]⟩
abbrev S4x8192x1 : Shape := ⟨3, ![4, 8192, 1]⟩
abbrev S32768x2x128 : Shape := ⟨3, ![32768, 2, 128]⟩
abbrev S32768x2x1x128 : Shape := ⟨4, ![32768, 2, 1, 128]⟩
abbrev S32768x2x4x128 : Shape := ⟨4, ![32768, 2, 4, 128]⟩
abbrev S4x8192x1024 : Shape := ⟨3, ![4, 8192, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x8320x1024, .f32⟩
  | .hbm, ⟨1, _⟩ => ⟨S8x33280, .f32⟩
  | .hbm, ⟨2, _⟩ => ⟨S65536x128, .bf16⟩
  | .hbm, ⟨3, _⟩ => ⟨S65536x128, .bf16⟩
  | .hbm, ⟨4, _⟩ => ⟨S65536x128, .bf16⟩
  | .hbm, ⟨5, _⟩ => ⟨S65536x128, .bf16⟩
  | .hbm, ⟨6, _⟩ => ⟨S65536x128, .bf16⟩
  | .hbm, ⟨7, _⟩ => ⟨S65536x128, .bf16⟩
  | .hbm, ⟨8, _⟩ => ⟨S65536x128, .bf16⟩
  | .hbm, ⟨9, _⟩ => ⟨S65536x128, .bf16⟩
  | .hbm, ⟨10, _⟩ => ⟨S8x4x8320, .f32⟩
  | .hbm, ⟨11, _⟩ => ⟨S2x4x8192, .f32⟩
  | .hbm, ⟨12, _⟩ => ⟨S1x4x8192, .f32⟩
  | .hbm, ⟨13, _⟩ => ⟨S4x8192, .f32⟩
  | .hbm, ⟨14, _⟩ => ⟨S4x8192x1, .f32⟩
  | .hbm, ⟨15, _⟩ => ⟨S32768x2x128, .bf16⟩
  | .hbm, ⟨16, _⟩ => ⟨S32768x2x128, .bf16⟩
  | .hbm, ⟨17, _⟩ => ⟨S32768x2x128, .bf16⟩
  | .hbm, ⟨18, _⟩ => ⟨S32768x2x128, .bf16⟩
  | .hbm, ⟨19, _⟩ => ⟨S32768x2x1x128, .bf16⟩
  | .hbm, ⟨20, _⟩ => ⟨S32768x2x1x128, .bf16⟩
  | .hbm, ⟨21, _⟩ => ⟨S32768x2x1x128, .bf16⟩
  | .hbm, ⟨22, _⟩ => ⟨S32768x2x1x128, .bf16⟩
  | .hbm, ⟨23, _⟩ => ⟨S32768x2x4x128, .bf16⟩
  | .hbm, ⟨24, _⟩ => ⟨S4x8192x1024, .bf16⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S1x4x8192, .f32⟩
  | .hbm, ⟨29, _⟩ => ⟨S4x8192, .f32⟩
  | .hbm, ⟨30, _⟩ => ⟨S4x8192x1, .f32⟩
  | .hbm, ⟨31, _⟩ => ⟨S32768x2x128, .bf16⟩
  | .hbm, ⟨32, _⟩ => ⟨S32768x2x128, .bf16⟩
  | .hbm, ⟨33, _⟩ => ⟨S32768x2x128, .bf16⟩
  | .hbm, ⟨34, _⟩ => ⟨S32768x2x128, .bf16⟩
  | .hbm, ⟨35, _⟩ => ⟨S32768x2x1x128, .bf16⟩
  | .hbm, ⟨36, _⟩ => ⟨S32768x2x1x128, .bf16⟩
  | .hbm, ⟨37, _⟩ => ⟨S32768x2x1x128, .bf16⟩
  | .hbm, ⟨38, _⟩ => ⟨S32768x2x1x128, .bf16⟩
  | .hbm, ⟨39, _⟩ => ⟨S32768x2x4x128, .bf16⟩
  | .hbm, ⟨40, _⟩ => ⟨S4x8192x1024, .bf16⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | _, _ => ⟨S4x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel4.lean ====
abbrev S32 : Shape := ⟨1, ![32]⟩
abbrev S8x33280 : Shape := ⟨2, ![8, 33280]⟩
abbrev S_ : Shape := ⟨0, ![]⟩
abbrev S8x8320 : Shape := ⟨2, ![8, 8320]⟩
abbrev S1 : Shape := ⟨1, ![1]⟩
abbrev S8x4x8320 : Shape := ⟨3, ![8, 4, 8320]⟩
abbrev S2x4x8208 : Shape := ⟨3, ![2, 4, 8208]⟩

abbrev nBuf : Space → Nat
  | .hbm => 35
  | .vmem => 4
  | .smem => 1
  | _ => 0

abbrev bufTy : (tb : Table) → Fin (tcTables nBuf tb) → BufTy
  | .hbm, ⟨0, _⟩ => ⟨S32, .i32⟩
  | .hbm, ⟨1, _⟩ => ⟨S8x33280, .f32⟩
  | .hbm, ⟨2, _⟩ => ⟨S_, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S8x33280, .i32⟩
  | .hbm, ⟨33, _⟩ => ⟨S8x4x8320, .i32⟩
  | .hbm, ⟨34, _⟩ => ⟨S2x4x8208, .i32⟩
  | .local _ .vmem, ⟨0, _⟩ => ⟨S8x8320, .f32⟩
  | .local _ .vmem, ⟨1, _⟩ => ⟨S8x8320, .f32⟩
  | .local _ .vmem, ⟨2, _⟩ => ⟨S8x8320, .i32⟩
  | .local _ .vmem, ⟨3, _⟩ => ⟨S8x8320, .i32⟩
  | .local _ .smem, ⟨0, _⟩ => ⟨S32, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_call1_call0_c : Ref sig .tc := ⟨.hbm, 29, rfl⟩
abbrev main_call1_call0_v0 : Ref sig .tc := ⟨.hbm, 30, rfl⟩
abbrev main_v7 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x8320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8320 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4.lean ====
abbrev S32 : Shape := ⟨1, ![32]⟩
abbrev S8x33280 : Shape := ⟨2, ![8, 33280]⟩
abbrev S8x4x8320 : Shape := ⟨3, ![8, 4, 8320]⟩
abbrev S8x4x8208 : Shape := ⟨3, ![8, 4, 8208]⟩
abbrev S2x4x8208 : Shape := ⟨3, ![2, 4, 8208]⟩
abbrev S_ : Shape := ⟨0, ![]⟩
abbrev S2x4x8208x1 : Shape := ⟨4, ![2, 4, 8208, 1]⟩
abbrev S1x1x1x32 : Shape := ⟨4, ![1, 1, 1, 32]⟩
abbrev S2x4x8208x32 : Shape := ⟨4, ![2, 4, 8208, 32]⟩

abbrev nBuf : Space → Nat
  | .hbm => 53
  | .vmem => 0
  | .smem => 0
  | _ => 0

abbrev bufTy : (tb : Table) → Fin (tcTables nBuf tb) → BufTy
  | .hbm, ⟨0, _⟩ => ⟨S32, .i32⟩
  | .hbm, ⟨1, _⟩ => ⟨S8x33280, .f32⟩
  | .hbm, ⟨2, _⟩ => ⟨S8x4x8320, .f32⟩
  | .hbm, ⟨3, _⟩ => ⟨S8x4x8208, .f32⟩
  | .hbm, ⟨4, _⟩ => ⟨S2x4x8208, .f32⟩
  | .hbm, ⟨5, _⟩ => ⟨S2x4x8208, .i32⟩
  | .hbm, ⟨6, _⟩ => ⟨S2x4x8208, .f32⟩
  | .hbm, ⟨7, _⟩ => ⟨S2x4x8208, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S2x4x8208x1, .i32⟩
  | .hbm, ⟨40, _⟩ => ⟨S32, .i32⟩
  | .hbm, ⟨41, _⟩ => ⟨S1x1x1x32, .i32⟩
  | .hbm, ⟨42, _⟩ => ⟨S2x4x8208x32, .i32⟩
  | .hbm, ⟨43, _⟩ => ⟨S2x4x8208x32, .i32⟩
  | .hbm, ⟨44, _⟩ => ⟨S2x4x8208x32, .i1⟩
  | .hbm, ⟨45, _⟩ => ⟨S_, .i32⟩
  | .hbm, ⟨46, _⟩ => ⟨S_, .i32⟩
  | .hbm, ⟨47, _⟩ => ⟨S2x4x8208x32, .i32⟩
  | .hbm, ⟨48, _⟩ => ⟨S2x4x8208x32, .i32⟩
  | .hbm, ⟨49, _⟩ => ⟨S2x4x8208x32, .i32⟩
  | .hbm, ⟨50, _⟩ => ⟨S_, .i32⟩
  | .hbm, ⟨51, _⟩ => ⟨S2x4x8208, .i32⟩
  | .hbm, ⟨52, _⟩ => ⟨S2x4x8208, .i32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_call1_call0_c : Ref sig .tc := ⟨.hbm, 35, rfl⟩
abbrev main_call1_call0_v0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩

abbrev nD : Nat := 1
abbrev τ : Topo := Topo.v7x

variable {F : FTy → Type} [FloatOps F]
-- ==== Proof.Body.lean ====
/-
  ONE GRID POINT OF THE ATTENTION, run once by the executor. A grid point is either odd (its diagonal
  chunk is 1280 columns wide) or even (640 columns), and the two are run apart: each run finds the list of pieces
  that the point stores into the result block, as a function of the blocks it reads and of whatever the four scratch
  buffers held when it started. Nothing here says what those pieces are; `Proof/…Value` modules read them.
-/
module

public import proofs.«01_k».proof.Proof.Gen.KernelIdeal.Skeleton
public import proofs.«01_k».proof.Proof.Gen.KernelIdeal.Loops
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a grid point starts from: the five input blocks at `X_·`, the result block and the four scratch buffers at
    `G_·`. -/
abbrev Before (c : Dev nD) (arg3 : Memref sig .tc .vmem S640x512 .f32) (arg4 : Memref sig .tc .vmem S8320x512 .bf16) (arg5 : Memref sig .tc .vmem S8320x512 .bf16) (arg6 : Memref sig .tc .vmem S4x64 .f32) (arg7 : Memref sig .tc .vmem S1x128 .f32) (arg8 : Memref sig .tc .vmem S640x512 .bf16) (arg9 : Memref sig .tc .vmem S5120x128 .bf16) (arg10 : Memref sig .tc .vmem S5120x128 .f32) (arg11 : Memref sig .tc .vmem S5120x128 .f32) (arg12 : Memref sig .tc .vmem S5120x128 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) : sProp 𝕄 :=
  iprop((arg3.view.loc (c : Thread nD τ) ↦[arg3.view.set]{fullShare} X_arg3)
      ∗ (arg4.view.loc (c : Thread nD τ) ↦[arg4.view.set]{fullShare} X_arg4)
      ∗ (arg5.view.loc (c : Thread nD τ) ↦[arg5.view.set]{fullShare} X_arg5)
      ∗ (arg6.view.loc (c : Thread nD τ) ↦[arg6.view.set]{fullShare} X_arg6)
      ∗ (arg7.view.loc (c : Thread nD τ) ↦[arg7.view.set]{fullShare} X_arg7)
      ∗ (arg8.view.loc (c : Thread nD τ) ↦[arg8.view.set]{fullShare} G_arg8)
      ∗ (arg9.view.loc (c : Thread nD τ) ↦[arg9.view.set]{fullShare} G_arg9)
      ∗ (arg10.view.loc (c : Thread nD τ) ↦[arg10.view.set]{fullShare} G_arg10)
      ∗ (arg11.view.loc (c : Thread nD τ) ↦[arg11.view.set]{fullShare} G_arg11)
      ∗ (arg12.view.loc (c : Thread nD τ) ↦[arg12.view.set]{fullShare} G_arg12))

/-- What it ends at: the input blocks as they were, the result block with the pieces `L` written into it, the scratch
    buffers at something. -/
abbrev After (c : Dev nD) (arg3 : Memref sig .tc .vmem S640x512 .f32) (arg4 : Memref sig .tc .vmem S8320x512 .bf16) (arg5 : Memref sig .tc .vmem S8320x512 .bf16) (arg6 : Memref sig .tc .vmem S4x64 .f32) (arg7 : Memref sig .tc .vmem S1x128 .f32) (arg8 : Memref sig .tc .vmem S640x512 .bf16) (arg9 : Memref sig .tc .vmem S5120x128 .bf16) (arg10 : Memref sig .tc .vmem S5120x128 .f32) (arg11 : Memref sig .tc .vmem S5120x128 .f32) (arg12 : Memref sig .tc .vmem S5120x128 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg8 : BufTy.Contents (Elt F) arg8.view.ty) (L : List (View.Piece (Elt F) S640x512 .bf16)) : sProp 𝕄 :=
  iprop((arg3.view.loc (c : Thread nD τ) ↦[arg3.view.set]{fullShare} X_arg3)
      ∗ (arg4.view.loc (c : Thread nD τ) ↦[arg4.view.set]{fullShare} X_arg4)
      ∗ (arg5.view.loc (c : Thread nD τ) ↦[arg5.view.set]{fullShare} X_arg5)
      ∗ (arg6.view.loc (c : Thread nD τ) ↦[arg6.view.set]{fullShare} X_arg6)
      ∗ (arg7.view.loc (c : Thread nD τ) ↦[arg7.view.set]{fullShare} X_arg7)
      ∗ (arg8.view.loc (c : Thread nD τ) ↦[arg8.view.set]{fullShare} (arg8.view.writes (Elt F) G_arg8 L))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f)))

/-- The run of an odd grid point, with the pieces it stores into the result block. -/
@[irreducible] def oddRun (𝒱 : Variants) (c : Dev nD) (bd : Option 𝒱.V) (i : grid0.Coords) (arg3 : Memref sig .tc .vmem S640x512 .f32) (harg3 : arg3.IsWhole) (arg4 : Memref sig .tc .vmem S8320x512 .bf16) (harg4 : arg4.IsWhole) (arg5 : Memref sig .tc .vmem S8320x512 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S640x512 .bf16) (harg8 : arg8.IsWhole) (arg9 : Memref sig .tc .vmem S5120x128 .bf16) (harg9 : arg9.IsWhole) (arg10 : Memref sig .tc .vmem S5120x128 .f32) (harg10 : arg10.IsWhole) (arg11 : Memref sig .tc .vmem S5120x128 .f32) (harg11 : arg11.IsWhole) (arg12 : Memref sig .tc .vmem S5120x128 .f32) (harg12 : arg12.IsWhole) (h1 : k0_cond1 i = 1#1) (h2 : ¬ k0_cond2 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) :
    { L : (BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S640x512 .bf16)) // ∀ (E : Set ℕ) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty),
      Before (F := F) c arg3 arg4 arg5 arg6 arg7 arg8 arg9 arg10 arg11 arg12 X_arg3 X_arg4 X_arg5 X_arg6 X_arg7 G_arg8 G_arg9 G_arg10 G_arg11 G_arg12
      ⊢ wp frame (wpE (defs₀ (F := F)) 𝒱 (c : Thread nD τ) bd) E (cc0_diffattn (F := F) i arg3 harg3 arg4 harg4 arg5 harg5 arg6 harg6 arg7 harg7 arg8 harg8 arg9 harg9 arg10 harg10 arg11 harg11 arg12 harg12)
          (fun _ => After (F := F) c arg3 arg4 arg5 arg6 arg7 arg8 arg9 arg10 arg11 arg12 X_arg3 X_arg4 X_arg5 X_arg6 X_arg7 G_arg8 (L G_arg8 G_arg9 G_arg10 G_arg11 G_arg12)) } := by
  refine ⟨?_, fun E G_arg8 G_arg9 G_arg10 G_arg11 G_arg12 => ?run⟩
  case run =>
    simp only [cc0_diffattn_eq_skeleton]; unfold cc0_diffattn_skel
    iintro ⟨H_arg3, H_arg4, H_arg5, H_arg6, H_arg7, H_arg8, H_arg9, H_arg10, H_arg11, H_arg12⟩
    sl_exec
    sl_step
    sl_close

/-- The run of an even grid point, with the pieces it stores into the result block. -/
@[irreducible] def evenRun (𝒱 : Variants) (c : Dev nD) (bd : Option 𝒱.V) (i : grid0.Coords) (arg3 : Memref sig .tc .vmem S640x512 .f32) (harg3 : arg3.IsWhole) (arg4 : Memref sig .tc .vmem S8320x512 .bf16) (harg4 : arg4.IsWhole) (arg5 : Memref sig .tc .vmem S8320x512 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S640x512 .bf16) (harg8 : arg8.IsWhole) (arg9 : Memref sig .tc .vmem S5120x128 .bf16) (harg9 : arg9.IsWhole) (arg10 : Memref sig .tc .vmem S5120x128 .f32) (harg10 : arg10.IsWhole) (arg11 : Memref sig .tc .vmem S5120x128 .f32) (harg11 : arg11.IsWhole) (arg12 : Memref sig .tc .vmem S5120x128 .f32) (harg12 : arg12.IsWhole) (h1 : ¬ k0_cond1 i = 1#1) (h2 : k0_cond2 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) :
    { L : (BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S640x512 .bf16)) // ∀ (E : Set ℕ) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty),
      Before (F := F) c arg3 arg4 arg5 arg6 arg7 arg8 arg9 arg10 arg11 arg12 X_arg3 X_arg4 X_arg5 X_arg6 X_arg7 G_arg8 G_arg9 G_arg10 G_arg11 G_arg12
      ⊢ wp frame (wpE (defs₀ (F := F)) 𝒱 (c : Thread nD τ) bd) E (cc0_diffattn (F := F) i arg3 harg3 arg4 harg4 arg5 harg5 arg6 harg6 arg7 harg7 arg8 harg8 arg9 harg9 arg10 harg10 arg11 harg11 arg12 harg12)
          (fun _ => After (F := F) c arg3 arg4 arg5 arg6 arg7 arg8 arg9 arg10 arg11 arg12 X_arg3 X_arg4 X_arg5 X_arg6 X_arg7 G_arg8 (L G_arg8 G_arg9 G_arg10 G_arg11 G_arg12)) } := by
  refine ⟨?_, fun E G_arg8 G_arg9 G_arg10 G_arg11 G_arg12 => ?run⟩
  case run =>
    simp only [cc0_diffattn_eq_skeleton]; unfold cc0_diffattn_skel
    iintro ⟨H_arg3, H_arg4, H_arg5, H_arg6, H_arg7, H_arg8, H_arg9, H_arg10, H_arg11, H_arg12⟩
    sl_exec
    sl_step
    sl_close

end Cert.KernelIdeal.Hand

end
-- ==== Proof.Launch.lean ====
/-
  THE LAUNCH OF THE ATTENTION, by relational proof data: the five input windows hold their blocks, and of the result
  block the data say what the run of the point (`oddRun`, `evenRun`) found, for SOME earlier contents of the result
  block and of the scratch buffers (`Holds`). From it: the program ends, every argument is unchanged and
  every counter is zero; and the post `RDat.FramePost` keeps the result array for the value proof.
-/
module

public import proofs.«01_k».proof.Proof.Gen.KernelIdeal.Frame
public import proofs.«01_k».proof.Proof.Body
public import Idealize.ShloMosaic.Lib.Pipeline.DatRel
public import Idealize.ShloMosaic.Lib.Quiescent

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers of a grid point: the six current staging buffers and the four scratch buffers -/

abbrev st0 (t : Fin cfg0.N) : Memref sig .tc .vmem S640x512 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S8320x512 .bf16 := win0_1.stage (cfg0.slots t 1)
abbrev hst1 (t : Fin cfg0.N) : (st1 t).IsWhole := hstage0_1 ((cfg0.slots t 1).cast nbuf0_1)
abbrev st2 (t : Fin cfg0.N) : Memref sig .tc .vmem S8320x512 .bf16 := win0_2.stage (cfg0.slots t 2)
abbrev hst2 (t : Fin cfg0.N) : (st2 t).IsWhole := hstage0_2 ((cfg0.slots t 2).cast nbuf0_2)
abbrev st3 (t : Fin cfg0.N) : Memref sig .tc .vmem S4x64 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S1x128 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S640x512 .bf16 := win0_5.stage (cfg0.slots t 5)
abbrev hst5 (t : Fin cfg0.N) : (st5 t).IsWhole := hstage0_5 ((cfg0.slots t 5).cast nbuf0_5)
abbrev sc0 : Memref sig .tc .vmem S5120x128 .bf16 := Memref.whole cc0_scratch0
abbrev sc1 : Memref sig .tc .vmem S5120x128 .f32 := Memref.whole cc0_scratch1
abbrev sc2 : Memref sig .tc .vmem S5120x128 .f32 := Memref.whole cc0_scratch2
abbrev sc3 : Memref sig .tc .vmem S5120x128 .f32 := Memref.whole cc0_scratch3

/-- Every grid point is odd or even, never both. -/
theorem parity : ∀ i : grid0.Coords, (k0_cond1 i = 1#1 ∧ ¬ k0_cond2 i = 1#1) ∨ (¬ k0_cond1 i = 1#1 ∧ k0_cond2 i = 1#1) := by
  decide +kernel

/-- What the result block may hold after point `t`: the pieces that the point's run stores, from the point's input
    blocks and from some earlier contents of the result block and of the scratch buffers. -/
def Holds (c : Dev nD) (t : Fin cfg0.N) (X : S640x512.Idx → Elt F .bf16) : Prop :=
  ∃ (X0 : BufTy.Contents (Elt F) (st0 t).view.ty) (X1 : BufTy.Contents (Elt F) (st1 t).view.ty) (X2 : BufTy.Contents (Elt F) (st2 t).view.ty) (X3 : BufTy.Contents (Elt F) (st3 t).view.ty) (X4 : BufTy.Contents (Elt F) (st4 t).view.ty) (G8 : BufTy.Contents (Elt F) (st5 t).view.ty) (G9 : BufTy.Contents (Elt F) sc0.view.ty) (G10 : BufTy.Contents (Elt F) sc1.view.ty) (G11 : BufTy.Contents (Elt F) sc2.view.ty) (G12 : BufTy.Contents (Elt F) sc3.view.ty), ((st0 t).view.read (Elt F) X0 = iblk m c 0 t ∧ (st1 t).view.read (Elt F) X1 = iblk m c 1 t ∧ (st2 t).view.read (Elt F) X2 = iblk m c 2 t ∧ (st3 t).view.read (Elt F) X3 = iblk m c 3 t ∧ (st4 t).view.read (Elt F) X4 = iblk m c 4 t) ∧
    ((∃ (h1 : k0_cond1 (grid0.coords t) = 1#1) (h2 : ¬ k0_cond2 (grid0.coords t) = 1#1), X = (st5 t).view.read (Elt F) ((st5 t).view.writes (Elt F) G8 ((oddRun (F := F) Variants.none c none (grid0.coords t) (st0 t) (hst0 t) (st1 t) (hst1 t) (st2 t) (hst2 t) (st3 t) (hst3 t) (st4 t) (hst4 t) (st5 t) (hst5 t) sc0 (Memref.isWhole_whole _) sc1 (Memref.isWhole_whole _) sc2 (Memref.isWhole_whole _) sc3 (Memref.isWhole_whole _) h1 h2 X0 X1 X2 X3 X4).1 G8 G9 G10 G11 G12)))
      ∨ (∃ (h1 : ¬ k0_cond1 (grid0.coords t) = 1#1) (h2 : k0_cond2 (grid0.coords t) = 1#1), X = (st5 t).view.read (Elt F) ((st5 t).view.writes (Elt F) G8 ((evenRun (F := F) Variants.none c none (grid0.coords t) (st0 t) (hst0 t) (st1 t) (hst1 t) (st2 t) (hst2 t) (st3 t) (hst3 t) (st4 t) (hst4 t) (st5 t) (hst5 t) sc0 (Memref.isWhole_whole _) sc1 (Memref.isWhole_whole _) sc2 (Memref.isWhole_whole _) sc3 (Memref.isWhole_whole _) h1 h2 X0 X1 X2 X3 X4).1 G8 G9 G10 G11 G12))))

/-- The relation of the windows: the result window to `Holds`; nothing is asked of the others. -/
def Rl (c : Dev nD) : (w : Fin cfg0.W) → Fin cfg0.N → ((cfg0.win w).block.Idx → Elt F (cfg0.win w).elt) → Prop
  | 5 => fun t X => Holds m c t X
  | 0 | 1 | 2 | 3 | 4 => fun _ _ => True
  | ⟨_ + 6, h⟩ => absurd h (Nat.not_lt.2 (Nat.le_add_left _ _))

/-- Only the result window is related. -/
def related : Fin cfg0.W → Bool
  | 5 => true
  | 0 | 1 | 2 | 3 | 4 => false
  | ⟨_ + 6, h⟩ => absurd h (Nat.not_lt.2 (Nat.le_add_left _ _))

/-- What the exact data say the body leaves in each window: an input's own block, and nothing of the result. -/
def afterOf (c : Dev nD) : (w : Fin cfg0.W) → (t : Fin cfg0.N) → (cfg0.win w).block.Idx → Elt F (cfg0.win w).elt
  | 0 => fun t => iblk m c 0 t
  | 1 => fun t => iblk m c 1 t
  | 2 => fun t => iblk m c 2 t
  | 3 => fun t => iblk m c 3 t
  | 4 => fun t => iblk m c 4 t
  | 5 => fun t => Pipeline.Dat.unnamed (cfg := cfg0) 5 t
  | ⟨_ + 6, h⟩ => absurd h (Nat.not_lt.2 (Nat.le_add_left _ _))

/-- The exact data under the relation: arrays as the region finds them, the scratch forgotten between points. -/
def dat (c : Dev nD) : Dat τ (Elt F) Unit ℕ (UR sig nD τ) ℕ cfg0 c where
  A w := V m c (Pipeline.arrRef spec0 w)
  after := afterOf m c
  Φ _ := Pipeline.ΦA spec0 c
  q _ := fullShare
  owed _ := 0

theorem A_eq (c : Dev nD) (w : Fin cfg0.W) : (dat m c).A w = V m c (Pipeline.arrRef spec0 w) := by dsimp only [dat]

/-- The scratch invariant, buffer by buffer. -/
theorem Phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ ∃ r, prngReg c r) := by
  unfold Pipeline.ΦA; rw [scopedRest0_eq]; simp only [sc0, sc1, sc2, sc3, owns_whole]; try rfl

/-- What the body is called with at point `t`. -/
def bodyPre (c : Dev nD) (t : Fin cfg0.N) : sProp 𝕄 :=
  iprop((dat m c).Φ t.castSucc ∗ (dat m c).owesAt () t.castSucc
    ∗ (∃ d, owns (c : Thread nD τ) (st0 t) fullShare ((dat m c).before 0 t d)) ∗ (∃ d, owns (c : Thread nD τ) (st1 t) fullShare ((dat m c).before 1 t d)) ∗ (∃ d, owns (c : Thread nD τ) (st2 t) fullShare ((dat m c).before 2 t d)) ∗ (∃ d, owns (c : Thread nD τ) (st3 t) fullShare ((dat m c).before 3 t d)) ∗ (∃ d, owns (c : Thread nD τ) (st4 t) fullShare ((dat m c).before 4 t d))
    ∗ (∃ Y, ⌜((dat m c).toRRel related (Rl m c)).Finds 5 t Y⌝ ∗ owns (c : Thread nD τ) (st5 t) fullShare Y))
/-- What it returns at point `t`. -/
def bodyPost (c : Dev nD) (t : Fin cfg0.N) : sProp 𝕄 :=
  iprop((dat m c).Φ t.succ ∗ (dat m c).owesAt () t.succ
    ∗ owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t)
    ∗ (∃ X, ⌜Rl m c 5 t X⌝ ∗ owns (c : Thread nD τ) (st5 t) fullShare X))

/-- The body at a point: the scratch taken out of the invariant, the point's run, the scratch put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dat m c).Φ t.succ = (dat m c).Φ t.castSucc from rfl,
    show (dat m c).owesAt () t.succ = (dat m c).owesAt () t.castSucc from rfl,
    show (dat m c).Φ t.castSucc = Pipeline.ΦA spec0 c from rfl, Phi_eq]
  simp only [before0_0_of m (dat m c) (A_eq m c 0) (fun _ => rfl) t, before0_1_of m (dat m c) (A_eq m c 1) (fun _ => rfl) t, before0_2_of m (dat m c) (A_eq m c 2) (fun _ => rfl) t, before0_3_of m (dat m c) (A_eq m c 3) (fun _ => rfl) t, before0_4_of m (dat m c) (A_eq m c 4) (fun _ => rfl) t]
  unfold owns
  iintro ⟨⟨⟨⟨%d9, %G9, -, H9⟩, ⟨%d10, %G10, -, H10⟩, ⟨%d11, %G11, -, H11⟩, ⟨%d12, %G12, -, H12⟩⟩, Hg⟩, HO, ⟨%e0, %X0, %hX0, H3⟩, ⟨%e1, %X1, %hX1, H4⟩, ⟨%e2, %X2, %hX2, H5⟩, ⟨%e3, %X3, %hX3, H6⟩, ⟨%e4, %X4, %hX4, H7⟩, ⟨%Y, -, %G8, -, H8⟩⟩
  rcases parity (grid0.coords t) with ⟨h1, h2⟩ | ⟨h1, h2⟩
  · iapply (wp_wand_r Idealize.ShloMosaic.frame (wpE (defs₀ (F := F)) Variants.none (c : Thread nD τ) none) Set.univ)
    isplitl [H3 H4 H5 H6 H7 H8 H9 H10 H11 H12]
    · iapply ((oddRun (F := F) Variants.none c none (grid0.coords t) (st0 t) (hst0 t) (st1 t) (hst1 t) (st2 t) (hst2 t) (st3 t) (hst3 t) (st4 t) (hst4 t) (st5 t) (hst5 t) sc0 (Memref.isWhole_whole _) sc1 (Memref.isWhole_whole _) sc2 (Memref.isWhole_whole _) sc3 (Memref.isWhole_whole _) h1 h2 X0 X1 X2 X3 X4).2 Set.univ G8 G9 G10 G11 G12)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iintro %_ ⟨H3, H4, H5, H6, H7, H8, ⟨%f9, H9⟩, ⟨%f10, H10⟩, ⟨%f11, H11⟩, ⟨%f12, H12⟩⟩
      isplitl [H9 H10 H11 H12 Hg]
      · isplitl [H9 H10 H11 H12]
        · isplitl [H9]
          · iexists _, _; isplitr; swap; · iexact H9
            ipureintro; rfl
          isplitl [H10]
          · iexists _, _; isplitr; swap; · iexact H10
            ipureintro; rfl
          isplitl [H11]
          · iexists _, _; isplitr; swap; · iexact H11
            ipureintro; rfl
          iexists _, _; isplitr; swap; · iexact H12
          ipureintro; rfl
        iexact Hg
      isplitl [HO]; · iexact HO
      isplitl [H3]
      · iexists _; isplitr; swap; · iexact H3
        ipureintro; exact hX0
      isplitl [H4]
      · iexists _; isplitr; swap; · iexact H4
        ipureintro; exact hX1
      isplitl [H5]
      · iexists _; isplitr; swap; · iexact H5
        ipureintro; exact hX2
      isplitl [H6]
      · iexists _; isplitr; swap; · iexact H6
        ipureintro; exact hX3
      isplitl [H7]
      · iexists _; isplitr; swap; · iexact H7
        ipureintro; exact hX4
      iexists _; isplitr
      · ipureintro
        exact ⟨X0, X1, X2, X3, X4, G8, G9, G10, G11, G12, ⟨hX0, hX1, hX2, hX3, hX4⟩, .inl ⟨h1, h2, rfl⟩⟩
      · iexists _; isplitr; swap; · iexact H8
        ipureintro; rfl
  · iapply (wp_wand_r Idealize.ShloMosaic.frame (wpE (defs₀ (F := F)) Variants.none (c : Thread nD τ) none) Set.univ)
    isplitl [H3 H4 H5 H6 H7 H8 H9 H10 H11 H12]
    · iapply ((evenRun (F := F) Variants.none c none (grid0.coords t) (st0 t) (hst0 t) (st1 t) (hst1 t) (st2 t) (hst2 t) (st3 t) (hst3 t) (st4 t) (hst4 t) (st5 t) (hst5 t) sc0 (Memref.isWhole_whole _) sc1 (Memref.isWhole_whole _) sc2 (Memref.isWhole_whole _) sc3 (Memref.isWhole_whole _) h1 h2 X0 X1 X2 X3 X4).2 Set.univ G8 G9 G10 G11 G12)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iintro %_ ⟨H3, H4, H5, H6, H7, H8, ⟨%f9, H9⟩, ⟨%f10, H10⟩, ⟨%f11, H11⟩, ⟨%f12, H12⟩⟩
      isplitl [H9 H10 H11 H12 Hg]
      · isplitl [H9 H10 H11 H12]
        · isplitl [H9]
          · iexists _, _; isplitr; swap; · iexact H9
            ipureintro; rfl
          isplitl [H10]
          · iexists _, _; isplitr; swap; · iexact H10
            ipureintro; rfl
          isplitl [H11]
          · iexists _, _; isplitr; swap; · iexact H11
            ipureintro; rfl
          iexists _, _; isplitr; swap; · iexact H12
          ipureintro; rfl
        iexact Hg
      isplitl [HO]; · iexact HO
      isplitl [H3]
      · iexists _; isplitr; swap; · iexact H3
        ipureintro; exact hX0
      isplitl [H4]
      · iexists _; isplitr; swap; · iexact H4
        ipureintro; exact hX1
      isplitl [H5]
      · iexists _; isplitr; swap; · iexact H5
        ipureintro; exact hX2
      isplitl [H6]
      · iexists _; isplitr; swap; · iexact H6
        ipureintro; exact hX3
      isplitl [H7]
      · iexists _; isplitr; swap; · iexact H7
        ipureintro; exact hX4
      iexists _; isplitr
      · ipureintro
        exact ⟨X0, X1, X2, X3, X4, G8, G9, G10, G11, G12, ⟨hX0, hX1, hX2, hX3, hX4⟩, .inr ⟨h1, h2, rfl⟩⟩
      · iexists _; isplitr; swap; · iexact H8
        ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, with the result window held to `Rl`. -/
theorem body_obligation (c : Dev nD) :
    BodyObligationRel (dat (F := F) m c) (defs₀ (F := F)) Variants.none () Set.univ related (Rl m c) := fun t => by
  rw [bigSep_W0, bigSep_W0, defs₀_row]
  exact triple_restated (sound_body m c t) rfl .rfl fun _ => .rfl

/-- The relational data of the launch. -/
abbrev rdat (c : Dev nD) : Pipeline.RDat τ (Elt F) Unit ℕ (UR sig nD τ) ℕ (cfgs 0) c := (dat m c).toRRel related (Rl m c)

set_option backward.isDefEq.respectTransparency.types false in
/-- From any memory with zero counters the program runs to its end with every counter at zero, the arrays in the relation of `rdat` and
    the buffers no window stages as the host operations left them. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m)
    (hΦ := fun _ _ => rfl)

/-- At the end of the launch the eight arguments are unchanged. -/
theorem args_kept (c : Dev nD) (r) (h : Pipeline.RDat.FramePost (cfgs 0) (rdat m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The eight arguments end unchanged and every counter ends at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_kept m c r h.1, h.2⟩) (run_main m ρ)

end Cert.KernelIdeal.Hand

end
-- ==== Proof.Frames.lean ====
/-
  The frames and the two named constants of the claim, each from a run proved elsewhere.
-/
module

public import proofs.«01_k».proof.Defs
public import proofs.«01_k».proof.Proof.Launch
public import proofs.«01_k».proof.Proof.LaunchBits
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel as printed runs to its end, its arguments unchanged, every counter back at zero. -/
theorem frame_kernel : quiescent_Kernel := fun m g _ => Cert.Kernel.Hand.quiescent m g

/-- The kernel with its two constants named does the same. -/
theorem frame_kernelIdeal : quiescent_KernelIdeal := fun m g _ => Cert.KernelIdeal.Hand.quiescent m g

/-- The reference has no counters at all, and it writes none of its arguments. -/
theorem frame_reference : quiescent_ReferenceIdeal := fun m g _ =>
  (θ_run _ _ _).mono (fun r h => ⟨fun c => (h c).2, sem_eq_zero_of_no_sems rfl r.2⟩) (Cert.ReferenceIdeal.Value.run m g)

/-- The two named constants stand where their literals stood. -/
theorem named : preserves_Kernel_KernelIdeal :=
  ⟨IdealRules.named_const.statement Cert.KernelIdeal.κ "qscale" .f32 0x3E38AA3B#32 (((1 / 8) * (Real.log 2)⁻¹ : ℝ) : EReal) rfl,
   IdealRules.named_const.statement Cert.KernelIdeal.κ "mask" .f32 0xF149F2CA#32 ⊥ rfl⟩

end Cert.Proof

end
-- ==== Proof.Online.lean ====
/-
  ONE ROW OF THE RUNNING SOFTMAX over the extended reals. A row's state is its running maximum `m`, the running sum `l` of
  `2 ^ (score - m)` and the running weighted sum `a` of `2 ^ (score - m) * value`; `RowState` says what the three hold
  after the first `n` columns, and `rowState_step` that one more block of columns keeps it.
-/
module

public import Idealize.ShloMosaic.PureOps.Ideal.Laws

@[expose] public section

noncomputable section

namespace Cert.Attn

open Idealize.ShloMosaic
open scoped BigOperators

/-- The weight of column `j` against the maximum `μ`. -/
def wt (σ : ℕ → ℝ) (μ : ℝ) (j : ℕ) : ℝ := Real.rpow 2 (σ j - μ)

/-- What a row of the three running arrays holds after `n` columns: nothing yet, or a finite maximum with the
    sums of the weights taken against it. -/
def RowState (σ : ℕ → ℝ) (ν : ℕ → Fin 128 → ℝ) (n : ℕ) (m l a : Fin 128 → EReal) : Prop :=
  (n = 0 ∧ (∀ d, m d = ⊥) ∧ (∀ d, l d = 0) ∧ ∀ d, a d = 0) ∨
  ∃ μ : ℝ, (∀ d, m d = (μ : EReal)) ∧ (∀ d, l d = ((∑ j ∈ Finset.range n, wt σ μ j : ℝ) : EReal)) ∧
    ∀ d, a d = ((∑ j ∈ Finset.range n, wt σ μ j * ν j d : ℝ) : EReal)

theorem wt_pos (σ : ℕ → ℝ) (μ : ℝ) (j : ℕ) : 0 < wt σ μ j := Real.rpow_pos_of_pos two_pos _

/-- Moving the maximum multiplies every weight by the same factor. -/
theorem wt_shift (σ : ℕ → ℝ) (μ μ' : ℝ) (j : ℕ) : Real.rpow 2 (μ - μ') * wt σ μ j = wt σ μ' j := by
  unfold wt
  show (2 : ℝ) ^ (μ - μ') * (2 : ℝ) ^ (σ j - μ) = (2 : ℝ) ^ (σ j - μ')
  rw [← Real.rpow_add two_pos]; congr 1; ring

/-- The maximum of a row that holds a number at least once and numbers or `⊥` everywhere is a number. -/
theorem fold_max_real {w : ℕ} (s : Fin w → EReal) (hr : ∀ c, s c = ⊥ ∨ ∃ x : ℝ, s c = (x : EReal)) (c₀ : Fin w)
    (x₀ : ℝ) (h₀ : s c₀ = (x₀ : EReal)) : ∃ ρ : ℝ, (Finset.univ : Finset (Fin w)).fold max ⊥ s = (ρ : EReal) := by
  have e : (Finset.univ : Finset (Fin w)).fold max ⊥ s = Finset.univ.sup s := rfl
  have h1 : Finset.univ.sup s ≠ ⊥ := by
    intro h
    have := Finset.le_sup (f := s) (Finset.mem_univ c₀)
    rw [h, h₀] at this
    exact absurd this (by simp)
  have h2 : Finset.univ.sup s ≠ ⊤ := by
    apply ne_of_lt
    rw [Finset.sup_lt_iff (by exact bot_lt_top)]
    intro c _
    rcases hr c with h | ⟨x, h⟩ <;> rw [h]
    · exact bot_lt_top
    · exact EReal.coe_lt_top x
  exact ⟨_, by rw [e]; exact (EReal.coe_toReal h2 h1).symm⟩

/-- A finite sum of numbers is the number. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over `w` columns whose first `k` count is a sum over `k` columns. -/
theorem sum_first {w k : ℕ} (hk : k ≤ w) (f : ℕ → ℝ) :
    (∑ c : Fin w, if c.val < k then f c.val else 0) = ∑ j ∈ Finset.range k, f j := by
  rw [Fin.sum_univ_eq_sum_range (fun j => if j < k then f j else 0) w, ← Finset.sum_filter]
  congr 1
  ext j; simp only [Finset.mem_filter, Finset.mem_range]; omega

/-- THE STEP. From `n` columns to `n + k`: the new maximum is the greater of the old and the block's, the factor
    `2 ^ (old - new)` rescales the old sums, and the block's weights are added; columns past `k` hold `⊥` and weigh nothing. -/
theorem rowState_step {σ : ℕ → ℝ} {ν : ℕ → Fin 128 → ℝ} {n w k : ℕ} {m l a m' l' a' : Fin 128 → EReal} {s : Fin w → EReal}
    {u : Fin w → Fin 128 → ℝ} (ix : Fin w → Fin 128)
    (h : RowState σ ν n m l a) (hk : 0 < k) (hkw : k ≤ w)
    (hs : ∀ c : Fin w, s c = if c.val < k then ((σ (n + c.val) : ℝ) : EReal) else ⊥)
    (hu : ∀ c : Fin w, c.val < k → ∀ d, u c d = ν (n + c.val) d)
    (hm : ∀ d, m' d = max (m d) ((Finset.univ : Finset (Fin w)).fold max ⊥ s))
    (hl : ∀ d, l' d = Ideal.exp2 (m d - m' d) * l d + ∑ c : Fin w, Ideal.exp2 (s c - m' (ix c)) * 1)
    (ha : ∀ d, a' d = Ideal.exp2 (m d - m' d) * a d + ∑ c : Fin w, Ideal.exp2 (s c - m' (ix c)) * (u c d : EReal)) :
    RowState σ ν (n + k) m' l' a' := by
  obtain ⟨ρ, hρ⟩ := fold_max_real s (fun c => by
    rw [hs c]; split
    · exact .inr ⟨_, rfl⟩
    · exact .inl rfl) ⟨0, by omega⟩ (σ (n + 0)) (by rw [hs]; simp [hk])
  rw [hρ] at hm
  have key : ∃ μ' : ℝ, (∀ d, m' d = (μ' : EReal)) ∧
      (∀ d, Ideal.exp2 (m d - m' d) * l d = ((∑ j ∈ Finset.range n, wt σ μ' j : ℝ) : EReal)) ∧
      (∀ d, Ideal.exp2 (m d - m' d) * a d = ((∑ j ∈ Finset.range n, wt σ μ' j * ν j d : ℝ) : EReal)) := by
    rcases h with ⟨rfl, h1, h2, h3⟩ | ⟨μ, h1, h2, h3⟩
    · refine ⟨ρ, fun d => by rw [hm, h1]; simp, fun d => by rw [h2]; simp, fun d => by rw [h3]; simp⟩
    · have e : ∀ d, m' d = ((max μ ρ : ℝ) : EReal) := fun d => by
        rw [hm, h1]; exact (EReal.coe_strictMono.monotone.map_max (a := μ) (b := ρ)).symm
      refine ⟨max μ ρ, e, fun d => ?_, fun d => ?_⟩
      · rw [e, h1, h2, ← EReal.coe_sub, Ideal.exp2_coe, ← EReal.coe_mul, Finset.mul_sum]
        simp only [wt_shift]
      · rw [e, h1, h3, ← EReal.coe_sub, Ideal.exp2_coe, ← EReal.coe_mul, Finset.mul_sum]
        simp only [← mul_assoc, wt_shift]
  obtain ⟨μ', e1, e2, e3⟩ := key
  have ew : ∀ c : Fin w, Ideal.exp2 (s c - m' (ix c)) = ((if c.val < k then wt σ μ' (n + c.val) else 0 : ℝ) : EReal) := by
    intro c
    rw [hs, e1]
    split
    · rw [← EReal.coe_sub, Ideal.exp2_coe]; rfl
    · simp
  refine .inr ⟨μ', e1, fun d => ?_, fun d => ?_⟩
  · rw [hl, e2, Finset.sum_range_add, EReal.coe_add]
    congr 1
    rw [← sum_first hkw (fun j => wt σ μ' (n + j)), coe_sum]
    exact Finset.sum_congr rfl fun c _ => by rw [ew, mul_one]
  · rw [ha, e3, Finset.sum_range_add, EReal.coe_add]
    congr 1
    rw [← sum_first hkw (fun j => wt σ μ' (n + j) * ν (n + j) d), coe_sum]
    refine Finset.sum_congr rfl fun c _ => ?_
    rw [ew, ← EReal.coe_mul]
    congr 1
    split
    · rw [hu c ‹_›]
    · simp

end Cert.Attn
-- ==== Proof.Update.lean ====
/-
  ONE UPDATE of the running softmax as the kernel computes it on a block of `nr` rows against `w = 128 n` columns, for any
  such extents: the scores, the causal mask, the new maximum, the rescaling factor, the weights and their two products with
  the values and with a block of ones. `update_row`: read at a row, it is one step of `RowState`.
-/
module

public import proofs.«01_k».proof.Proof.Online
public import proofs.«01_k».proof.Proof.Gen.KernelIdeal.Skeleton
public import Idealize.ShloMosaic.Lib.MatmulPlain
public import Idealize.ShloMosaic.Lib.Pipeline.Value
public import Idealize.ShloMosaic.Lib.IdealHost
public import Idealize.ShloMosaic.Lib.WordCmp

@[expose] public section

noncomputable section

namespace Cert.Attn

open Idealize.ShloMosaic Idealize.ShloMosaic.ValueIdx Cert.KernelIdeal
open scoped BigOperators

/-- A two-axis shape. -/
abbrev Sh (a b : ℕ) : Shape := ⟨2, ![a, b]⟩

/-- The shape facts of an update of `nr` rows against `w` columns, `n` tiles of 128 lanes wide. -/
structure Geo (nr w n : ℕ) : Prop where
  wide : w = 128 * n
  castK : (Sh w 128).ShapeCasts (Sh w 128)
  castR : (Sh nr 128).ShapeCasts (Sh nr 128)
  red : (Sh nr w).Reduces [1] ⟨1, ![nr]⟩
  castC : (⟨1, ![nr]⟩ : Shape).ShapeCasts (Sh nr 1)
  bc : (Sh nr 1).Broadcasts (Sh nr 128)
  cat : ∀ x : (Sh nr 128).Idx → EReal, Shape.Concatenates ((List.ofFn fun _ : Fin n =>
    (⟨Sh nr 128, x⟩ : (s : Shape) × (s.Idx → EReal))).map (·.1)) (Sh nr w) 1
  catV : Shape.Concatenates [Sh w 128, Sh w 128] (Sh w 256) 1
  sl0 : (Sh nr 256).Slices ![0, 0] (Sh nr 128)
  sl1 : (Sh nr 256).Slices ![0, 128] (Sh nr 128)
  io0 : (Sh nr w).Iotas .tc 32 [0]
  io1 : (Sh nr w).Iotas .tc 32 [1]

/-- The value of a masked score, `⊥`. -/
def neg : EReal := Named.named (F := Ideal) (φ := .f32) κ "mask" 0xF149F2CA#32

theorem neg_eq : neg = ⊥ := IdealRules.named_const.ideal_named_scalar (φ := .f32) κ "mask" 0xF149F2CA#32 ⊥ rfl

variable {nr w n : ℕ}

/-- The scores of the rows against the block of keys. -/
def scoresG (g : Geo nr w n) (qs : FVec Ideal (Sh nr 128) .bf16) (kc : FVec Ideal (Sh w 128) .bf16) : FVec Ideal (Sh nr w) .f32 :=
  matmul (DotDims.transposedRhs nr 128 w) none qs (shapeCast (Sh w 128) kc g.castK) (constant (Sh nr w) .f32 0x00000000#32)

/-- The causal mask on a block of scores: column `c` of row `r` stays where `c ≤ r + d`. -/
def maskedG (g : Geo nr w n) (d : BitVec 32) (s : FVec Ideal (Sh nr w) .f32) : FVec Ideal (Sh nr w) .f32 :=
  select (cmpi .sle (iota .tc (Sh nr w) 32 [1] g.io1) (addi (iota .tc (Sh nr w) 32 [0] g.io0) (broadcast (Sh nr w) d))) s
    (broadcast (Sh nr w) neg)

/-- The maximum before the update: none yet at the first block. -/
def mPrev (first : BitVec 1) (m : FVec Ideal (Sh nr 128) .f32) : FVec Ideal (Sh nr 128) .f32 :=
  Scalar.select first (broadcast (Sh nr 128) neg) m

/-- A sum before the update: zero at the first block. -/
def zPrev (first : BitVec 1) (l : FVec Ideal (Sh nr 128) .f32) : FVec Ideal (Sh nr 128) .f32 :=
  Scalar.select first (broadcast (Sh nr 128) (Scalar.ofBits (F := Ideal) .f32 0x00000000#32)) l

/-- The maximum after it. -/
def mNew (g : Geo nr w n) (s : FVec Ideal (Sh nr w) .f32) (mp : FVec Ideal (Sh nr 128) .f32) : FVec Ideal (Sh nr 128) .f32 :=
  maximumf mp (broadcastTo (Sh nr 128)
    (shapeCast (Sh nr 1) (multiReduction .maximumf [1] ⟨1, ![nr]⟩ s 0xFF800000#32 g.red (.inl rfl) rfl) g.castC) g.bc)

/-- The factor by which the old sums are rescaled. -/
def alphaG (g : Geo nr w n) (s : FVec Ideal (Sh nr w) .f32) (mp : FVec Ideal (Sh nr 128) .f32) : FVec Ideal (Sh nr 128) .f32 :=
  exp2 (subf mp (mNew g s mp))

/-- The block of values beside a block of ones. -/
def valuesG (g : Geo nr w n) (vc : FVec Ideal (Sh w 128) .bf16) : FVec Ideal (Sh w 256) .bf16 :=
  concatenate (Sh w 256) 1 [⟨Sh w 128, shapeCast (Sh w 128) vc g.castK⟩,
    ⟨Sh w 128, broadcast (Sh w 128) (Scalar.ofBits (F := Ideal) .bf16 0x3F80#16)⟩] g.catV

/-- The weights' products with the values and with the ones. -/
def pvG (g : Geo nr w n) (s : FVec Ideal (Sh nr w) .f32) (mp : FVec Ideal (Sh nr 128) .f32) (vc : FVec Ideal (Sh w 128) .bf16) :
    FVec Ideal (Sh nr 256) .f32 :=
  matmul (DotDims.plain nr w 256) none
    (exp2 (truncf .bf16 (subf s (concatenate (Sh nr w) 1 (List.ofFn fun _ : Fin n =>
      (⟨Sh nr 128, mNew g s mp⟩ : (s : Shape) × (s.Idx → EReal))) (g.cat _)))))
    (valuesG g vc) (constant (Sh nr 256) .f32 0x00000000#32)

/-- The sum of the weights after it. -/
def lNew (g : Geo nr w n) (s : FVec Ideal (Sh nr w) .f32) (mp lp : FVec Ideal (Sh nr 128) .f32) (vc : FVec Ideal (Sh w 128) .bf16) :
    FVec Ideal (Sh nr 128) .f32 :=
  shapeCast (Sh nr 128) (addf (mulf (alphaG g s mp) lp) (extractStridedSlice (Sh nr 128) ![0, 128] (pvG g s mp vc) g.sl1)) g.castR

/-- The weighted sum of the values after it. -/
def aNew (g : Geo nr w n) (s : FVec Ideal (Sh nr w) .f32) (mp ap : FVec Ideal (Sh nr 128) .f32) (vc : FVec Ideal (Sh w 128) .bf16) :
    FVec Ideal (Sh nr 128) .f32 :=
  shapeCast (Sh nr 128) (addf (mulf (alphaG g s mp) ap) (extractStridedSlice (Sh nr 128) ![0, 0] (pvG g s mp vc) g.sl0)) g.castR

/-- The maximum as it is stored. -/
def mOut (g : Geo nr w n) (s : FVec Ideal (Sh nr w) .f32) (mp : FVec Ideal (Sh nr 128) .f32) : FVec Ideal (Sh nr 128) .f32 :=
  shapeCast (Sh nr 128) (mNew g s mp) g.castR

/-! ## Read at a row -/

theorem mNew_apply (g : Geo nr w n) (s : FVec Ideal (Sh nr w) .f32) (mp : FVec Ideal (Sh nr 128) .f32) (r : Fin nr) (d : Fin 128) :
    mNew g s mp (ix2 r d) = max (mp (ix2 r d)) ((Finset.univ : Finset (Fin w)).fold max ⊥ fun c => s (ix2 r c)) := by
  show max (mp (ix2 r d)) (broadcastTo (Sh nr 128) _ g.bc (ix2 r d)) = _
  congr 1
  rw [broadcastTo_apply _ g.bc (ix2 r d) (ix2 r (0 : Fin 1)) (by
    intro a
    match a with
    | ⟨0, _⟩ =>
      show r.val = if nr = 1 then 0 else r.val
      split
      · have := r.isLt; omega
      · rfl
    | ⟨1, _⟩ => rfl)]
  rw [shapeCast_apply _ g.castC (ix2 r (0 : Fin 1)) (ix1 r) (by
    rw [Shape.rowMajor_val_one, Shape.rowMajor_val_two]; show r.val = r.val * 1 + 0; omega)]
  refine (Ideal.multiReduction_maximumf_single (a := (1 : Fin (Sh nr w).rank)) s 0xFF800000#32 g.red (.inl rfl) rfl (ix1 r)).trans ?_
  have hb : (FloatOps.ofBits (F := Ideal) .f32 0xFF800000#32 : EReal) = ⊥ := by
    show Ideal.ofBits .f32 0xFF800000#32 = ⊥
    simp [Ideal.ofBits, Ideal.ieee]
  rw [hb]
  show Finset.fold max ⊥ _ (Finset.univ : Finset (Fin w)) = _
  congr 1
  funext c
  show s (g.red.lift (ix1 r) c) = s (ix2 r c)
  congr 1
  funext a
  apply Fin.ext
  match a with
  | ⟨0, _⟩ => rfl
  | ⟨1, _⟩ => rfl

theorem valuesG_left (g : Geo nr w n) (vc : FVec Ideal (Sh w 128) .bf16) (c : Fin w) (d : Fin 128) :
    valuesG g vc (ix2 c (⟨d.val, by omega⟩ : Fin 256)) = vc (ix2 c d) := by
  unfold valuesG
  refine (concatenate_pair_apply_left (t := Sh w 256) 1 _ _ g.catV (ix2 c (⟨d.val, by omega⟩ : Fin 256)) rfl (ix2 c d) (by
    intro b; match b with | ⟨0, _⟩ => rfl | ⟨1, _⟩ => rfl)).trans ?_
  rw [shapeCast_self]

theorem valuesG_right (g : Geo nr w n) (vc : FVec Ideal (Sh w 128) .bf16) (c : Fin w) (d : Fin 128) :
    valuesG g vc (ix2 c (⟨128 + d.val, by omega⟩ : Fin 256)) = 1 := by
  unfold valuesG
  refine (concatenate_pair_apply_right (t := Sh w 256) 1 _ _ g.catV (ix2 c (⟨128 + d.val, by omega⟩ : Fin 256)) rfl rfl (ix2 c d) (by
    intro b hb
    match b with
    | ⟨0, _⟩ => rfl
    | ⟨1, _⟩ => exact absurd rfl hb) (by show d.val + 128 = 128 + d.val; omega)).trans ?_
  exact Ideal.ofBits_one_bf16

theorem pvG_apply (g : Geo nr w n) (s : FVec Ideal (Sh nr w) .f32) (mp : FVec Ideal (Sh nr 128) .f32) (vc : FVec Ideal (Sh w 128) .bf16)
    (r : Fin nr) (e : Fin 256) :
    pvG g s mp vc (ix2 r e) = ∑ c : Fin w, Ideal.exp2 (s (ix2 r c) - mNew g s mp (ix2 r (⟨c.val % 128, by omega⟩ : Fin 128)))
      * valuesG g vc (ix2 c e) := by
  unfold pvG
  rw [show ∀ A B C, matmul (F := Ideal) (DotDims.plain nr w 256) none A B C (ix2 r e) = _ from
    fun A B C => Ideal.matmul_plain_apply (φ₁ := .bf16) (φ₂ := .bf16) none A B C r e]
  rw [show constant (F := Ideal) (Sh nr 256) .f32 0x00000000#32 (ix2 r e) = 0 from Ideal.ofBits_zero_f32, zero_add]
  refine Finset.sum_congr rfl fun c _ => ?_
  congr 1
  show Ideal.exp2 (s (ix2 r c) - concatenate (Sh nr w) 1 _ (g.cat _) (ix2 r c)) = _
  congr 2
  have hc := c.isLt
  have hw := g.wide
  rw [concatenate_ofFn_apply (a := 1) (fun _ : Fin n => mNew g s mp) (g.cat _) rfl 128 rfl (ix2 r c)
    (⟨c.val / 128, by omega⟩ : Fin n) rfl (ix2 r (⟨c.val % 128, by omega⟩ : Fin 128)) rfl (by
    intro b hb
    match b with
    | ⟨0, _⟩ => rfl
    | ⟨1, _⟩ => exact absurd rfl hb)]

theorem lNew_apply (g : Geo nr w n) (s : FVec Ideal (Sh nr w) .f32) (mp lp : FVec Ideal (Sh nr 128) .f32) (vc : FVec Ideal (Sh w 128) .bf16)
    (r : Fin nr) (d : Fin 128) :
    lNew g s mp lp vc (ix2 r d) = Ideal.exp2 (mp (ix2 r d) - mNew g s mp (ix2 r d)) * lp (ix2 r d)
      + ∑ c : Fin w, Ideal.exp2 (s (ix2 r c) - mNew g s mp (ix2 r (⟨c.val % 128, by omega⟩ : Fin 128))) * 1 := by
  unfold lNew
  rw [shapeCast_self]
  show _ + extractStridedSlice (Sh nr 128) ![0, 128] (pvG g s mp vc) g.sl1 (ix2 r d) = _
  rw [extractStridedSlice_apply _ _ g.sl1 (ix2 r d) (ix2 r (⟨128 + d.val, by omega⟩ : Fin 256)) (by
    intro a; match a with | ⟨0, _⟩ => exact (Nat.zero_add _).symm | ⟨1, _⟩ => rfl), pvG_apply]
  simp only [valuesG_right]
  rfl

theorem aNew_apply (g : Geo nr w n) (s : FVec Ideal (Sh nr w) .f32) (mp ap : FVec Ideal (Sh nr 128) .f32) (vc : FVec Ideal (Sh w 128) .bf16)
    (r : Fin nr) (d : Fin 128) :
    aNew g s mp ap vc (ix2 r d) = Ideal.exp2 (mp (ix2 r d) - mNew g s mp (ix2 r d)) * ap (ix2 r d)
      + ∑ c : Fin w, Ideal.exp2 (s (ix2 r c) - mNew g s mp (ix2 r (⟨c.val % 128, by omega⟩ : Fin 128))) * vc (ix2 c d) := by
  unfold aNew
  rw [shapeCast_self]
  show _ + extractStridedSlice (Sh nr 128) ![0, 0] (pvG g s mp vc) g.sl0 (ix2 r d) = _
  rw [extractStridedSlice_apply _ _ g.sl0 (ix2 r d) (ix2 r (⟨d.val, by omega⟩ : Fin 256)) (by
    intro a; match a with | ⟨0, _⟩ => exact (Nat.zero_add _).symm | ⟨1, _⟩ => exact (Nat.zero_add _).symm), pvG_apply]
  simp only [valuesG_left]
  rfl

/-- **An update, read at a row, is a step**: from a row that has `k₀` columns (or from anything, at the first block) to one that
    has `k` more. -/
theorem update_row (g : Geo nr w n) {first : BitVec 1} {s : FVec Ideal (Sh nr w) .f32} {m l a : FVec Ideal (Sh nr 128) .f32}
    {vc : FVec Ideal (Sh w 128) .bf16} {σ : ℕ → ℝ} {ν : ℕ → Fin 128 → ℝ} {k₀ k : ℕ} (r : Fin nr)
    (h : first ≠ 1#1 → RowState σ ν k₀ (fun d => m (ix2 r d)) (fun d => l (ix2 r d)) (fun d => a (ix2 r d)))
    (h0 : first = 1#1 → k₀ = 0) (hk : 0 < k) (hkw : k ≤ w)
    (hs : ∀ c : Fin w, s (ix2 r c) = if c.val < k then ((σ (k₀ + c.val) : ℝ) : EReal) else ⊥)
    (hv : ∀ c : Fin w, ∀ d, vc (ix2 c d) = ((ν (k₀ + c.val) d : ℝ) : EReal)) :
    RowState σ ν (k₀ + k) (fun d => mOut g s (mPrev first m) (ix2 r d)) (fun d => lNew g s (mPrev first m) (zPrev first l) vc (ix2 r d))
      (fun d => aNew g s (mPrev first m) (zPrev first a) vc (ix2 r d)) := by
  have hp : RowState σ ν k₀ (fun d => mPrev first m (ix2 r d)) (fun d => zPrev first l (ix2 r d)) (fun d => zPrev first a (ix2 r d)) := by
    by_cases hf : first = 1#1
    · refine .inl ⟨h0 hf, fun d => ?_, fun d => ?_, fun d => ?_⟩
      · subst hf; exact neg_eq
      · subst hf; exact Ideal.ofBits_zero_f32
      · subst hf; exact Ideal.ofBits_zero_f32
    · have e : ∀ {α : Type} (x y : α), Scalar.select first x y = y := fun x y => if_neg hf
      unfold mPrev zPrev
      simp only [e]
      exact h hf
  refine rowState_step (s := fun c => s (ix2 r c)) (u := fun c d => ν (k₀ + c.val) d) (fun c => ⟨c.val % 128, by omega⟩) hp hk hkw hs
    (fun c _ d => rfl) (fun d => ?_) (fun d => ?_) (fun d => ?_)
  · unfold mOut; rw [shapeCast_self]; exact mNew_apply g s _ r d
  · unfold mOut; rw [shapeCast_self]; exact lNew_apply g s _ _ vc r d
  · unfold mOut; rw [shapeCast_self]; simp only [← hv]; exact aNew_apply g s _ _ vc r d

/-- The scores read at an entry. -/
theorem scoresG_apply (g : Geo nr w n) (qs : FVec Ideal (Sh nr 128) .bf16) (kc : FVec Ideal (Sh w 128) .bf16) (r : Fin nr) (c : Fin w) :
    scoresG g qs kc (ix2 r c) = ∑ x : Fin 128, qs (ix2 r x) * kc (ix2 c x) := by
  unfold scoresG
  rw [shapeCast_self]
  rw [show ∀ A B C, matmul (F := Ideal) (DotDims.transposedRhs nr 128 w) none A B C (ix2 r c) = _ from
    fun A B C => Ideal.matmul_transposedRhs_apply (φ₁ := .bf16) (φ₂ := .bf16) none A B C r c]
  rw [show constant (F := Ideal) (Sh nr w) .f32 0x00000000#32 (ix2 r c) = 0 from Ideal.ofBits_zero_f32, zero_add]

/-- The mask read at an entry, for extents below `2 ^ 30`. -/
theorem maskedG_apply (g : Geo nr w n) (d : ℕ) (hr : nr < 2 ^ 30) (hw : w < 2 ^ 30) (hd : d < 2 ^ 30) (s : FVec Ideal (Sh nr w) .f32)
    (r : Fin nr) (c : Fin w) :
    maskedG g (BitVec.ofNat 32 d) s (ix2 r c) = if c.val < r.val + d + 1 then s (ix2 r c) else ⊥ := by
  have h1 := r.isLt
  have h2 := c.isLt
  have e : maskedG g (BitVec.ofNat 32 d) s (ix2 r c)
      = Scalar.select (IntOp.cmpi .sle (BitVec.ofNat 32 (0 * w + c.val)) (BitVec.ofNat 32 (0 * nr + r.val) + BitVec.ofNat 32 d))
        (s (ix2 r c)) neg := rfl
  rw [e, neg_eq]
  have e2 : IntOp.cmpi .sle (BitVec.ofNat 32 (0 * w + c.val)) (BitVec.ofNat 32 (0 * nr + r.val) + BitVec.ofNat 32 d)
      = BitVec.ofBool (decide (c.val < r.val + d + 1)) := by
    rw [Nat.zero_mul, Nat.zero_mul, Nat.zero_add, Nat.zero_add, ← BitVec.ofNat_add, WordCmp.cmpi_sle_ofNat (by omega) (by omega)]
    congr 1
    exact decide_eq_decide.mpr (by omega)
  rw [e2]
  by_cases hc : c.val < r.val + d + 1
  · simp [hc, Scalar.select]
  · simp [hc, Scalar.select]

end Cert.Attn
-- ==== Proof.Stage.lean ====
/-
  THE RUNNING STATE IN THE THREE SCRATCH BUFFERS, row by row: `Todo` says the rows from `b` on have the first `off` columns,
  `Done` that the rows below `b` have `N X` of them. One store of each buffer moves `b` by the rows stored
  (`Done.cons`, `Todo.cons`), for a block of columns taken whole (`Done.plain`) or under the causal mask (`Done.masked`).
-/
module

public import proofs.«01_k».proof.Proof.Update
public import Idealize.ShloMosaic.Lib.WritesUnit

@[expose] public section

noncomputable section

namespace Cert.Attn

open Idealize.ShloMosaic Idealize.ShloMosaic.ValueIdx Cert.KernelIdeal
open scoped BigOperators

variable {sig : RefSig} {κ₁ κ₂ κ₃ : Kind} {sp₁ sp₂ sp₃ : Space}

/-- Row `X` of a scratch buffer's contents. -/
def rowOf {κ : Kind} {sp : Space} (v : View sig κ sp (Sh 5120 128) .f32) (f : v.ty.Contents (Elt Ideal)) (X : Fin 5120) : Fin 128 → EReal :=
  fun d => v.read (Elt Ideal) f (ix2 X d)

variable (v10 : View sig κ₁ sp₁ (Sh 5120 128) .f32) (v11 : View sig κ₂ sp₂ (Sh 5120 128) .f32) (v12 : View sig κ₃ sp₃ (Sh 5120 128) .f32)

/-- The rows from `b` on have the first `off` columns, unless this is the first block. -/
def Todo (b off : ℕ) (σ : ℕ → ℕ → ℝ) (ν : ℕ → ℕ → Fin 128 → ℝ) (first : BitVec 1) (f10 : v10.ty.Contents (Elt Ideal))
    (f11 : v11.ty.Contents (Elt Ideal)) (f12 : v12.ty.Contents (Elt Ideal)) : Prop :=
  first ≠ 1#1 → ∀ X : Fin 5120, b ≤ X.val → RowState (σ X.val) (ν X.val) off (rowOf v10 f10 X) (rowOf v11 f11 X) (rowOf v12 f12 X)

/-- The rows below `b` have `N X` columns once the stores are made, whatever the buffers held. -/
def Done (b : ℕ) (N : ℕ → ℕ) (σ : ℕ → ℕ → ℝ) (ν : ℕ → ℕ → Fin 128 → ℝ) (L10 L11 L12 : List (View.Piece (Elt Ideal) (Sh 5120 128) .f32)) : Prop :=
  ∀ f10 f11 f12, ∀ X : Fin 5120, X.val < b → RowState (σ X.val) (ν X.val) (N X.val) (rowOf v10 (v10.writes (Elt Ideal) f10 L10) X)
    (rowOf v11 (v11.writes (Elt Ideal) f11 L11) X) (rowOf v12 (v12.writes (Elt Ideal) f12 L12) X)

variable {v10 v11 v12} {b off nr w n a : ℕ} {N : ℕ → ℕ} {σ : ℕ → ℕ → ℝ} {ν : ℕ → ℕ → Fin 128 → ℝ} {first : BitVec 1}
  {L10 L11 L12 : List (View.Piece (Elt Ideal) (Sh 5120 128) .f32)}

theorem Done.zero : Done v10 v11 v12 0 N σ ν L10 L11 L12 := fun _ _ _ X h => absurd h (Nat.not_lt_zero _)

/-- The rows done are there to go on from. -/
theorem Done.todo (h : Done v10 v11 v12 5120 (fun _ => off) σ ν L10 L11 L12) (f10 f11 f12) :
    Todo v10 v11 v12 0 off σ ν first (v10.writes (Elt Ideal) f10 L10) (v11.writes (Elt Ideal) f11 L11) (v12.writes (Elt Ideal) f12 L12) :=
  fun _ X _ => h f10 f11 f12 X X.isLt

theorem Todo.mono {f10 f11 f12} (h : Todo v10 v11 v12 b off σ ν first f10 f11 f12) {b' : ℕ} (hb : b ≤ b') :
    Todo v10 v11 v12 b' off σ ν first f10 f11 f12 := fun hf X hX => h hf X (le_trans hb hX)

/-- A row of a store of whole rows, inside them. -/
theorem rowOf_mem {κ : Kind} {sp : Space} {v : View sig κ sp (Sh 5120 128) .f32} (f : v.ty.Contents (Elt Ideal))
    (inb : ∀ i, (![a, 0] : Fin 2 → ℕ) i + (Sh nr 128).size i ≤ (Sh 5120 128).size i) (p : FVec Ideal (Sh nr 128) .f32)
    (L : List (View.Piece (Elt Ideal) (Sh 5120 128) .f32)) (X : Fin 5120) (r : Fin nr) (hX : X.val = a + r.val) :
    rowOf v (v.writes (Elt Ideal) f (⟨Rect.unit (s := Sh 5120 128) ![a, 0] (Sh nr 128).size inb, p⟩ :: L)) X = fun d => p (ix2 r d) := by
  funext d
  exact View.read_writes_cons_rows_of_mem v f inb p L (ix2 X d) (ix2 r d) rfl hX rfl

/-- A row of a store of whole rows, outside them. -/
theorem rowOf_not_mem {κ : Kind} {sp : Space} {v : View sig κ sp (Sh 5120 128) .f32} (f : v.ty.Contents (Elt Ideal))
    (inb : ∀ i, (![a, 0] : Fin 2 → ℕ) i + (Sh nr 128).size i ≤ (Sh 5120 128).size i) (p : FVec Ideal (Sh nr 128) .f32)
    (L : List (View.Piece (Elt Ideal) (Sh 5120 128) .f32)) (X : Fin 5120) (hX : X.val < a ∨ a + nr ≤ X.val) :
    rowOf v (v.writes (Elt Ideal) f (⟨Rect.unit (s := Sh 5120 128) ![a, 0] (Sh nr 128).size inb, p⟩ :: L)) X
      = rowOf v (v.writes (Elt Ideal) f L) X := by
  funext d
  exact View.read_writes_cons_rows_of_not_mem v f inb p L (ix2 X d) rfl rfl hX

/-- What a load of whole rows reads. -/
theorem readAt_rows {m c : ℕ} {e : EltTy} {κ : Kind} {sp : Space} (v : View sig κ sp (Sh m c) e) (f : v.ty.Contents (Elt Ideal)) {w k o : ℕ}
    {off : Fin 2 → ℕ} (inb : ∀ i, off i + (Sh w k).size i ≤ (Sh m c).size i) (hoff : off = ![a, o]) (r : Fin w) (d : Fin k) (X : Fin m) (Y : Fin c)
    (hX : X.val = a + r.val) (hY : Y.val = o + d.val) :
    v.readAt (Elt Ideal) (Rect.unit (s := Sh m c) off (Sh w k).size inb).toLoadRect f (ix2 r d) = v.read (Elt Ideal) f (ix2 X Y) := by
  subst hoff
  rw [View.readAt_apply]
  congr 1
  funext i
  apply Fin.ext
  match i with
  | ⟨0, _⟩ => show a + 1 * r.val = X.val; omega
  | ⟨1, _⟩ => show o + 1 * d.val = Y.val; omega

/-- Stores of rows below the ones still to do leave those as they were. -/
theorem Todo.cons {f10 f11 f12} (h : Todo v10 v11 v12 a off σ ν first (v10.writes (Elt Ideal) f10 L10) (v11.writes (Elt Ideal) f11 L11) (v12.writes (Elt Ideal) f12 L12))
    (nr : ℕ) {inb0 inb1 inb2 : ∀ i, (![a, 0] : Fin 2 → ℕ) i + (Sh nr 128).size i ≤ (Sh 5120 128).size i} {p0 p1 p2 : FVec Ideal (Sh nr 128) .f32} :
    Todo v10 v11 v12 (a + nr) off σ ν first
      (v10.writes (Elt Ideal) f10 (⟨Rect.unit (s := Sh 5120 128) ![a, 0] (Sh nr 128).size inb0, p0⟩ :: L10))
      (v11.writes (Elt Ideal) f11 (⟨Rect.unit (s := Sh 5120 128) ![a, 0] (Sh nr 128).size inb1, p1⟩ :: L11))
      (v12.writes (Elt Ideal) f12 (⟨Rect.unit (s := Sh 5120 128) ![a, 0] (Sh nr 128).size inb2, p2⟩ :: L12)) := by
  intro hf X hX
  rw [rowOf_not_mem f10 inb0 p0 L10 X (.inr hX), rowOf_not_mem f11 inb1 p1 L11 X (.inr hX), rowOf_not_mem f12 inb2 p2 L12 X (.inr hX)]
  exact h hf X (by omega)

/-- **One store of each buffer**: an update of rows `a … a + nr` off the contents `f` they are loaded from. -/
theorem Done.cons (hd : Done v10 v11 v12 a N σ ν L10 L11 L12) {f10 f11 f12} (h : Todo v10 v11 v12 a off σ ν first f10 f11 f12)
    (g : Geo nr w n) (h0 : first = 1#1 → off = 0) (s : FVec Ideal (Sh nr w) .f32) (vc : FVec Ideal (Sh w 128) .bf16)
    (inb0 inb1 inb2 i0 i1 i2 : ∀ i, (![a, 0] : Fin 2 → ℕ) i + (Sh nr 128).size i ≤ (Sh 5120 128).size i)
    (hs : ∀ r : Fin nr, ∃ k, N (a + r.val) = off + k ∧ 0 < k ∧ k ≤ w ∧
      ∀ c : Fin w, s (ix2 r c) = if c.val < k then ((σ (a + r.val) (off + c.val) : ℝ) : EReal) else ⊥)
    (hv : ∀ r : Fin nr, ∀ c : Fin w, ∀ d, vc (ix2 c d) = ((ν (a + r.val) (off + c.val) d : ℝ) : EReal)) :
    Done v10 v11 v12 (a + nr) N σ ν
      (⟨Rect.unit (s := Sh 5120 128) ![a, 0] (Sh nr 128).size inb0,
        mOut g s (mPrev first (v10.readAt (Elt Ideal) (Rect.unit (s := Sh 5120 128) ![a, 0] (Sh nr 128).size i0).toLoadRect f10))⟩ :: L10)
      (⟨Rect.unit (s := Sh 5120 128) ![a, 0] (Sh nr 128).size inb1,
        lNew g s (mPrev first (v10.readAt (Elt Ideal) (Rect.unit (s := Sh 5120 128) ![a, 0] (Sh nr 128).size i0).toLoadRect f10))
          (zPrev first (v11.readAt (Elt Ideal) (Rect.unit (s := Sh 5120 128) ![a, 0] (Sh nr 128).size i1).toLoadRect f11)) vc⟩ :: L11)
      (⟨Rect.unit (s := Sh 5120 128) ![a, 0] (Sh nr 128).size inb2,
        aNew g s (mPrev first (v10.readAt (Elt Ideal) (Rect.unit (s := Sh 5120 128) ![a, 0] (Sh nr 128).size i0).toLoadRect f10))
          (zPrev first (v12.readAt (Elt Ideal) (Rect.unit (s := Sh 5120 128) ![a, 0] (Sh nr 128).size i2).toLoadRect f12)) vc⟩ :: L12) := by
  intro g10 g11 g12 X hX
  by_cases hXa : X.val < a
  · rw [rowOf_not_mem g10 inb0 _ L10 X (.inl hXa), rowOf_not_mem g11 inb1 _ L11 X (.inl hXa), rowOf_not_mem g12 inb2 _ L12 X (.inl hXa)]
    exact hd g10 g11 g12 X hXa
  · obtain ⟨r, hr⟩ : ∃ r : Fin nr, X.val = a + r.val := ⟨⟨X.val - a, by omega⟩, by simp only []; omega⟩
    rw [rowOf_mem g10 inb0 _ L10 X r hr, rowOf_mem g11 inb1 _ L11 X r hr, rowOf_mem g12 inb2 _ L12 X r hr]
    obtain ⟨k, hN, hk, hkw, hs⟩ := hs r
    rw [hr, hN]
    refine update_row g r (fun hf => ?_) h0 hk hkw hs (hv r)
    have e := h hf X (by omega)
    rw [hr] at e
    have rd : ∀ {κ : Kind} {sp : Space} (v : View sig κ sp (Sh 5120 128) .f32) (f : v.ty.Contents (Elt Ideal))
        (i : ∀ i, (![a, 0] : Fin 2 → ℕ) i + (Sh nr 128).size i ≤ (Sh 5120 128).size i),
        (fun d => v.readAt (Elt Ideal) (Rect.unit (s := Sh 5120 128) ![a, 0] (Sh nr 128).size i).toLoadRect f (ix2 r d)) = rowOf v f X :=
      fun v f i => funext fun d => readAt_rows v f i rfl r d X d hr (by omega)
    rw [← rd v10 f10 i0, ← rd v11 f11 i1, ← rd v12 f12 i2] at e
    exact e

variable (v10 v11 v12) in
/-- Where the stores stand: the rows below `b` are done, the others still to do, of the contents `g` the stores `L` are made on. -/
def Stage (b off : ℕ) (N : ℕ → ℕ) (σ : ℕ → ℕ → ℝ) (ν : ℕ → ℕ → Fin 128 → ℝ) (first : BitVec 1) (g10 : v10.ty.Contents (Elt Ideal))
    (g11 : v11.ty.Contents (Elt Ideal)) (g12 : v12.ty.Contents (Elt Ideal)) (L10 L11 L12 : List (View.Piece (Elt Ideal) (Sh 5120 128) .f32)) : Prop :=
  Done v10 v11 v12 b N σ ν L10 L11 L12 ∧
    Todo v10 v11 v12 b off σ ν first (v10.writes (Elt Ideal) g10 L10) (v11.writes (Elt Ideal) g11 L11) (v12.writes (Elt Ideal) g12 L12)

theorem Stage.zero (N : ℕ → ℕ) {g10 g11 g12} (h : Todo v10 v11 v12 0 off σ ν first (v10.writes (Elt Ideal) g10 L10)
    (v11.writes (Elt Ideal) g11 L11) (v12.writes (Elt Ideal) g12 L12)) : Stage v10 v11 v12 0 off N σ ν first g10 g11 g12 L10 L11 L12 :=
  ⟨Done.zero, h⟩

theorem Stage.of_eq {g10 g11 g12} {M10 M11 M12 : List (View.Piece (Elt Ideal) (Sh 5120 128) .f32)}
    (h : Stage v10 v11 v12 b off N σ ν first g10 g11 g12 L10 L11 L12)
    (e10 : M10 = L10) (e11 : M11 = L11) (e12 : M12 = L12) : Stage v10 v11 v12 b off N σ ν first g10 g11 g12 M10 M11 M12 := by
  subst e10 e11 e12; exact h

/-- The scores of row `X` against column `j`, of queries `qf` and the keys of the row's own head. -/
def sc (qf kf : ℕ → ℕ → ℝ) (X j : ℕ) : ℝ := ∑ x : Fin 128, qf X x.val * kf j (128 * (X / 1280) + x.val)

/-- The values of the row's own head. -/
def vl (vf : ℕ → ℕ → ℝ) (X j : ℕ) (d : Fin 128) : ℝ := vf j (128 * (X / 1280) + d.val)

theorem coe_mul_sum {ι : Type} (s : Finset ι) (f g : ι → ℝ) :
    (∑ x ∈ s, ((f x : ℝ) : EReal) * ((g x : ℝ) : EReal)) = ((∑ x ∈ s, f x * g x : ℝ) : EReal) := by
  refine Eq.trans ?_ (coe_sum _ _).symm; exact Finset.sum_congr rfl fun x _ => (EReal.coe_mul _ _).symm

variable {qf kf vf : ℕ → ℕ → ℝ} {hd : ℕ}

/-- A block of columns taken whole. -/
theorem Done.plain (hdn : Done v10 v11 v12 a N (sc qf kf) (vl vf) L10 L11 L12) {f10 f11 f12}
    (h : Todo v10 v11 v12 a off (sc qf kf) (vl vf) first f10 f11 f12)
    (g : Geo nr w n) (h0 : first = 1#1 → off = 0) (qs : FVec Ideal (Sh nr 128) .bf16) (kc vc : FVec Ideal (Sh w 128) .bf16)
    (inb0 inb1 inb2 i0 i1 i2 : ∀ i, (![a, 0] : Fin 2 → ℕ) i + (Sh nr 128).size i ≤ (Sh 5120 128).size i)
    (hq : ∀ r x, qs (ix2 r x) = ((qf (a + r.val) x.val : ℝ) : EReal))
    (hk : ∀ c x, kc (ix2 c x) = ((kf (off + c.val) (128 * hd + x.val) : ℝ) : EReal))
    (hv : ∀ c x, vc (ix2 c x) = ((vf (off + c.val) (128 * hd + x.val) : ℝ) : EReal))
    (hw : 0 < w) (ha : 1280 * hd ≤ a) (hb : a + nr ≤ 1280 * (hd + 1)) (hN : ∀ r < nr, N (a + r) = off + w) :
    Done v10 v11 v12 (a + nr) N (sc qf kf) (vl vf)
      (⟨Rect.unit (s := Sh 5120 128) ![a, 0] (Sh nr 128).size inb0,
        mOut g (scoresG g qs kc) (mPrev first (v10.readAt (Elt Ideal) (Rect.unit (s := Sh 5120 128) ![a, 0] (Sh nr 128).size i0).toLoadRect f10))⟩ :: L10)
      (⟨Rect.unit (s := Sh 5120 128) ![a, 0] (Sh nr 128).size inb1,
        lNew g (scoresG g qs kc) (mPrev first (v10.readAt (Elt Ideal) (Rect.unit (s := Sh 5120 128) ![a, 0] (Sh nr 128).size i0).toLoadRect f10))
          (zPrev first (v11.readAt (Elt Ideal) (Rect.unit (s := Sh 5120 128) ![a, 0] (Sh nr 128).size i1).toLoadRect f11)) vc⟩ :: L11)
      (⟨Rect.unit (s := Sh 5120 128) ![a, 0] (Sh nr 128).size inb2,
        aNew g (scoresG g qs kc) (mPrev first (v10.readAt (Elt Ideal) (Rect.unit (s := Sh 5120 128) ![a, 0] (Sh nr 128).size i0).toLoadRect f10))
          (zPrev first (v12.readAt (Elt Ideal) (Rect.unit (s := Sh 5120 128) ![a, 0] (Sh nr 128).size i2).toLoadRect f12)) vc⟩ :: L12) := by
  have hX : ∀ r : Fin nr, (a + r.val) / 1280 = hd := fun r => by have := r.isLt; omega
  refine Done.cons hdn h g h0 _ vc inb0 inb1 inb2 i0 i1 i2 (fun r => ⟨w, hN r r.isLt, hw, le_rfl, fun c => ?_⟩) (fun r c d => ?_)
  · rw [if_pos c.isLt, scoresG_apply]
    unfold sc
    rw [hX, ← coe_mul_sum]
    exact Finset.sum_congr rfl fun x _ => by rw [hq, hk]
  · unfold vl
    rw [hX]; exact hv c d

/-- A block of columns under the causal mask: row `a + r` takes its first `r + d + 1`. -/
theorem Done.masked (hdn : Done v10 v11 v12 a N (sc qf kf) (vl vf) L10 L11 L12) {f10 f11 f12}
    (h : Todo v10 v11 v12 a off (sc qf kf) (vl vf) first f10 f11 f12)
    (g : Geo nr w n) (h0 : first = 1#1 → off = 0) (D : ℕ) (qs : FVec Ideal (Sh nr 128) .bf16) (kc vc : FVec Ideal (Sh w 128) .bf16)
    (inb0 inb1 inb2 i0 i1 i2 : ∀ i, (![a, 0] : Fin 2 → ℕ) i + (Sh nr 128).size i ≤ (Sh 5120 128).size i)
    (hq : ∀ r x, qs (ix2 r x) = ((qf (a + r.val) x.val : ℝ) : EReal))
    (hk : ∀ c x, kc (ix2 c x) = ((kf (off + c.val) (128 * hd + x.val) : ℝ) : EReal))
    (hv : ∀ c x, vc (ix2 c x) = ((vf (off + c.val) (128 * hd + x.val) : ℝ) : EReal))
    (hw : nr + D ≤ w) (hwb : w < 2 ^ 30) (ha : 1280 * hd ≤ a) (hb : a + nr ≤ 1280 * (hd + 1)) (hN : ∀ r < nr, N (a + r) = off + (r + D + 1)) :
    Done v10 v11 v12 (a + nr) N (sc qf kf) (vl vf)
      (⟨Rect.unit (s := Sh 5120 128) ![a, 0] (Sh nr 128).size inb0,
        mOut g (maskedG g (BitVec.ofNat 32 D) (scoresG g qs kc)) (mPrev first (v10.readAt (Elt Ideal) (Rect.unit (s := Sh 5120 128) ![a, 0] (Sh nr 128).size i0).toLoadRect f10))⟩ :: L10)
      (⟨Rect.unit (s := Sh 5120 128) ![a, 0] (Sh nr 128).size inb1,
        lNew g (maskedG g (BitVec.ofNat 32 D) (scoresG g qs kc)) (mPrev first (v10.readAt (Elt Ideal) (Rect.unit (s := Sh 5120 128) ![a, 0] (Sh nr 128).size i0).toLoadRect f10))
          (zPrev first (v11.readAt (Elt Ideal) (Rect.unit (s := Sh 5120 128) ![a, 0] (Sh nr 128).size i1).toLoadRect f11)) vc⟩ :: L11)
      (⟨Rect.unit (s := Sh 5120 128) ![a, 0] (Sh nr 128).size inb2,
        aNew g (maskedG g (BitVec.ofNat 32 D) (scoresG g qs kc)) (mPrev first (v10.readAt (Elt Ideal) (Rect.unit (s := Sh 5120 128) ![a, 0] (Sh nr 128).size i0).toLoadRect f10))
          (zPrev first (v12.readAt (Elt Ideal) (Rect.unit (s := Sh 5120 128) ![a, 0] (Sh nr 128).size i2).toLoadRect f12)) vc⟩ :: L12) := by
  have hX : ∀ r : Fin nr, (a + r.val) / 1280 = hd := fun r => by have := r.isLt; omega
  refine Done.cons hdn h g h0 _ vc inb0 inb1 inb2 i0 i1 i2
    (fun r => ⟨r.val + D + 1, hN r r.isLt, by omega, by have := r.isLt; omega, fun c => ?_⟩) (fun r c d => ?_)
  · rw [maskedG_apply g D (by omega) hwb (by omega), scoresG_apply]
    refine if_congr Iff.rfl ?_ rfl
    unfold sc
    rw [hX, ← coe_mul_sum]
    exact Finset.sum_congr rfl fun x _ => by rw [hq, hk]
  · unfold vl
    rw [hX]; exact hv c d

/-- **One stage**: the same, where the buffers are loaded as the stores before left them. -/
theorem Stage.masked {g10 g11 g12} (h : Stage v10 v11 v12 a off N (sc qf kf) (vl vf) first g10 g11 g12 L10 L11 L12)
    (g : Geo nr w n) (h0 : first = 1#1 → off = 0) (D : ℕ) (qs : FVec Ideal (Sh nr 128) .bf16) (kc vc : FVec Ideal (Sh w 128) .bf16)
    (inb0 inb1 inb2 i0 i1 i2 : ∀ i, (![a, 0] : Fin 2 → ℕ) i + (Sh nr 128).size i ≤ (Sh 5120 128).size i)
    (hq : ∀ r x, qs (ix2 r x) = ((qf (a + r.val) x.val : ℝ) : EReal))
    (hk : ∀ c x, kc (ix2 c x) = ((kf (off + c.val) (128 * hd + x.val) : ℝ) : EReal))
    (hv : ∀ c x, vc (ix2 c x) = ((vf (off + c.val) (128 * hd + x.val) : ℝ) : EReal))
    (hw : nr + D ≤ w) (hwb : w < 2 ^ 30) (ha : 1280 * hd ≤ a) (hb : a + nr ≤ 1280 * (hd + 1)) (hN : ∀ r < nr, N (a + r) = off + (r + D + 1)) :
    Stage v10 v11 v12 (a + nr) off N (sc qf kf) (vl vf) first g10 g11 g12
      (⟨Rect.unit (s := Sh 5120 128) ![a, 0] (Sh nr 128).size inb0,
        mOut g (maskedG g (BitVec.ofNat 32 D) (scoresG g qs kc)) (mPrev first (v10.readAt (Elt Ideal) (Rect.unit (s := Sh 5120 128) ![a, 0] (Sh nr 128).size i0).toLoadRect (v10.writes (Elt Ideal) g10 L10)))⟩ :: L10)
      (⟨Rect.unit (s := Sh 5120 128) ![a, 0] (Sh nr 128).size inb1,
        lNew g (maskedG g (BitVec.ofNat 32 D) (scoresG g qs kc)) (mPrev first (v10.readAt (Elt Ideal) (Rect.unit (s := Sh 5120 128) ![a, 0] (Sh nr 128).size i0).toLoadRect (v10.writes (Elt Ideal) g10 L10)))
          (zPrev first (v11.readAt (Elt Ideal) (Rect.unit (s := Sh 5120 128) ![a, 0] (Sh nr 128).size i1).toLoadRect (v11.writes (Elt Ideal) g11 L11))) vc⟩ :: L11)
      (⟨Rect.unit (s := Sh 5120 128) ![a, 0] (Sh nr 128).size inb2,
        aNew g (maskedG g (BitVec.ofNat 32 D) (scoresG g qs kc)) (mPrev first (v10.readAt (Elt Ideal) (Rect.unit (s := Sh 5120 128) ![a, 0] (Sh nr 128).size i0).toLoadRect (v10.writes (Elt Ideal) g10 L10)))
          (zPrev first (v12.readAt (Elt Ideal) (Rect.unit (s := Sh 5120 128) ![a, 0] (Sh nr 128).size i2).toLoadRect (v12.writes (Elt Ideal) g12 L12))) vc⟩ :: L12) :=
  ⟨h.1.masked h.2 g h0 D qs kc vc inb0 inb1 inb2 i0 i1 i2 hq hk hv hw hwb ha hb hN, h.2.cons nr⟩

end Cert.Attn
-- ==== Proof.Geos.lean ====
/-
  THE FIVE BLOCK SHAPES at which the kernel updates, and the number of trips its loops make.
-/
module

public import proofs.«01_k».proof.Proof.Stage
public import proofs.«01_k».proof.Proof.Gen.KernelIdeal.Loops

@[expose] public section

noncomputable section

namespace Cert.Attn

open Idealize.ShloMosaic Idealize.ShloMosaic.ValueIdx Cert.KernelIdeal Cert.KernelIdeal.Gen

/-- 640 rows against 1280 columns: a block of the loop. -/
theorem geo640 : Geo 640 1280 10 where
  wide := rfl
  castK := shapeCasts_S1280x128_S1280x128
  castR := shapeCasts_S640x128_S640x128
  red := reduces_S640x1280_S640
  castC := shapeCasts_S640_S640x1
  bc := broadcasts_S640x1_S640x128
  cat := fun _ => concatenates_S640x128_S640x128_S640x128_S640x128_S640x128_S640x128_S640x128_S640x128_S640x128_S640x128_S640x1280_d1
  catV := concatenates_S1280x128_S1280x128_S1280x256_d1
  sl0 := slices_S640x256_o0_0_S640x128
  sl1 := slices_S640x256_o0_128_S640x128
  io0 := ⟨by decide, fun _ => ⟨.inr rfl, le_rfl⟩, fun h => absurd rfl h⟩
  io1 := ⟨by decide, fun _ => ⟨.inr rfl, le_rfl⟩, fun h => absurd rfl h⟩

/-- The first 384 rows at an odd point. -/
theorem geo1024 : Geo 384 1024 8 where
  wide := rfl
  castK := shapeCasts_S1024x128_S1024x128
  castR := shapeCasts_S384x128_S384x128
  red := reduces_S384x1024_S384
  castC := shapeCasts_S384_S384x1
  bc := broadcasts_S384x1_S384x128
  cat := fun _ => concatenates_S384x128_S384x128_S384x128_S384x128_S384x128_S384x128_S384x128_S384x128_S384x1024_d1
  catV := concatenates_S1024x128_S1024x128_S1024x256_d1
  sl0 := slices_S384x256_o0_0_S384x128
  sl1 := slices_S384x256_o0_128_S384x128
  io0 := ⟨by decide, fun _ => ⟨.inr rfl, le_rfl⟩, fun h => absurd rfl h⟩
  io1 := ⟨by decide, fun _ => ⟨.inr rfl, le_rfl⟩, fun h => absurd rfl h⟩

/-- The other 256 rows at an odd point. -/
theorem geo1280 : Geo 256 1280 10 where
  wide := rfl
  castK := shapeCasts_S1280x128_S1280x128
  castR := shapeCasts_S256x128_S256x128
  red := reduces_S256x1280_S256
  castC := shapeCasts_S256_S256x1
  bc := broadcasts_S256x1_S256x128
  cat := fun _ => concatenates_S256x128_S256x128_S256x128_S256x128_S256x128_S256x128_S256x128_S256x128_S256x128_S256x128_S256x1280_d1
  catV := concatenates_S1280x128_S1280x128_S1280x256_d1
  sl0 := slices_S256x256_o0_0_S256x128
  sl1 := slices_S256x256_o0_128_S256x128
  io0 := ⟨by decide, fun _ => ⟨.inr rfl, le_rfl⟩, fun h => absurd rfl h⟩
  io1 := ⟨by decide, fun _ => ⟨.inr rfl, le_rfl⟩, fun h => absurd rfl h⟩

/-- The first 256 rows at an even point. -/
theorem geo256 : Geo 256 256 2 where
  wide := rfl
  castK := shapeCasts_S256x128_S256x128
  castR := shapeCasts_S256x128_S256x128
  red := reduces_S256x256_S256
  castC := shapeCasts_S256_S256x1
  bc := broadcasts_S256x1_S256x128
  cat := fun _ => concatenates_S256x128_S256x128_S256x256_d1
  catV := concatenates_S256x128_S256x128_S256x256_d1
  sl0 := slices_S256x256_o0_0_S256x128
  sl1 := slices_S256x256_o0_128_S256x128
  io0 := ⟨by decide, fun _ => ⟨.inr rfl, le_rfl⟩, fun h => absurd rfl h⟩
  io1 := ⟨by decide, fun _ => ⟨.inr rfl, le_rfl⟩, fun h => absurd rfl h⟩

/-- The other 384 rows at an even point. -/
theorem geo384 : Geo 384 640 5 where
  wide := rfl
  castK := shapeCasts_S640x128_S640x128
  castR := shapeCasts_S384x128_S384x128
  red := reduces_S384x640_S384
  castC := shapeCasts_S384_S384x1
  bc := broadcasts_S384x1_S384x128
  cat := fun _ => concatenates_S384x128_S384x128_S384x128_S384x128_S384x128_S384x640_d1
  catV := concatenates_S640x128_S640x128_S640x256_d1
  sl0 := slices_S384x256_o0_0_S384x128
  sl1 := slices_S384x256_o0_128_S384x128
  io0 := ⟨by decide, fun _ => ⟨.inr rfl, le_rfl⟩, fun h => absurd rfl h⟩
  io1 := ⟨by decide, fun _ => ⟨.inr rfl, le_rfl⟩, fun h => absurd rfl h⟩

/-- The loop makes one trip per pair of query blocks before the point. -/
theorem trips_eq (i : grid0.Coords) : (k0_t1_loop i).trips = (i 2).val / 2 := by
  have : ∀ n : Fin 13, (Scf.trips (k0_t1_loop (fun a => match a with | ⟨0, _⟩ => (0 : Fin 4) | ⟨1, _⟩ => (0 : Fin 1) | ⟨2, _⟩ => n)).lb
      (k0_t1_loop (fun a => match a with | ⟨0, _⟩ => (0 : Fin 4) | ⟨1, _⟩ => (0 : Fin 1) | ⟨2, _⟩ => n)).ub
      (k0_t1_loop (fun a => match a with | ⟨0, _⟩ => (0 : Fin 4) | ⟨1, _⟩ => (0 : Fin 1) | ⟨2, _⟩ => n)).st) = n.val / 2 := by
    decide
  exact this (i 2)

/-- The second loop makes none. -/
theorem trips2_eq (i : grid0.Coords) : (k0_t2_loop i).trips = 0 := by
  have : ∀ n : Fin 13, (Scf.trips (k0_t2_loop (fun a => match a with | ⟨0, _⟩ => (0 : Fin 4) | ⟨1, _⟩ => (0 : Fin 1) | ⟨2, _⟩ => n)).lb
      (k0_t2_loop (fun a => match a with | ⟨0, _⟩ => (0 : Fin 4) | ⟨1, _⟩ => (0 : Fin 1) | ⟨2, _⟩ => n)).ub
      (k0_t2_loop (fun a => match a with | ⟨0, _⟩ => (0 : Fin 4) | ⟨1, _⟩ => (0 : Fin 1) | ⟨2, _⟩ => n)).st) = 0 := by
    decide
  exact this (i 2)

end Cert.Attn
-- ==== Proof.Trip.lean ====
/-
  ONE TRIP OF THE LOOP takes every one of the 5120 score rows over its block of 1280 columns (`trip_done`), so after `k`
  trips each has the first `1280 k` (`loop_done`).
-/
module

public import proofs.«01_k».proof.Proof.Geos
import all proofs.«01_k».proof.Proof.Gen.KernelIdeal.Loops

@[expose] public section

set_option maxRecDepth 8192
set_option maxHeartbeats 4000000

noncomputable section

namespace Cert.Attn

open Idealize.ShloMosaic Idealize.ShloMosaic.ValueIdx Cert.KernelIdeal Cert.KernelIdeal.Gen

/-- There are at most six trips. -/
theorem trip_lt (i : grid0.Coords) (k : Fin (k0_t1_loop i).trips) : k.val < 6 := by
  have h := k.isLt
  have e := trips_eq i
  have h2 : (i 2).val < 13 := (i 2).isLt
  have h3 : k.val < (i 2).val / 2 := e ▸ h
  omega

/-- The columns a trip loads: block `k`, each head's lanes. -/
theorem trip_offs (i : grid0.Coords) (k : Fin (k0_t1_loop i).trips) :
    k0_off1 i k = ![1280 * k.val, 0] ∧ k0_off2 i k = ![1280 * k.val, 128] ∧ k0_off3 i k = ![1280 * k.val, 256]
      ∧ k0_off4 i k = ![1280 * k.val, 384] := by
  have h : k.val < 6 := trip_lt i k
  have hx : (Scalar.muli (Scf.iv 0#32 1#32 k.val) 1280#32).toNat = 1280 * k.val := by
    generalize k.val = x at h
    interval_cases x <;> rfl
  refine ⟨?_, ?_, ?_, ?_⟩
  · show ![(Scalar.muli (Scf.iv 0#32 1#32 k.val) 1280#32).toNat, 0] = _; rw [hx]
  · show ![(Scalar.muli (Scf.iv 0#32 1#32 k.val) 1280#32).toNat, 128] = _; rw [hx]
  · show ![(Scalar.muli (Scf.iv 0#32 1#32 k.val) 1280#32).toNat, 256] = _; rw [hx]
  · show ![(Scalar.muli (Scf.iv 0#32 1#32 k.val) 1280#32).toNat, 384] = _; rw [hx]

/-- The first trip starts from no columns. -/
theorem trip_first (i : grid0.Coords) (k : Fin (k0_t1_loop i).trips) :
    Scalar.cmpi .eq (Scf.iv 0#32 1#32 k.val) 0#32 = 1#1 → 1280 * k.val = 0 := by
  have h : ∀ x : Fin 6, Scalar.cmpi .eq (Scf.iv 0#32 1#32 x.val) 0#32 = 1#1 → 1280 * x.val = 0 := by decide
  exact h ⟨k.val, trip_lt i k⟩

variable (𝒱 : Variants) (c : Dev nD) (bd : Option 𝒱.V) (i : grid0.Coords)
  (arg3 : Memref sig .tc .vmem S640x512 .f32) (harg3 : arg3.IsWhole) (arg4 : Memref sig .tc .vmem S8320x512 .bf16) (harg4 : arg4.IsWhole)
  (arg5 : Memref sig .tc .vmem S8320x512 .bf16) (harg5 : arg5.IsWhole) (arg6 : Memref sig .tc .vmem S4x64 .f32) (harg6 : arg6.IsWhole)
  (arg7 : Memref sig .tc .vmem S1x128 .f32) (harg7 : arg7.IsWhole) (arg8 : Memref sig .tc .vmem S640x512 .bf16) (harg8 : arg8.IsWhole)
  (arg9 : Memref sig .tc .vmem S5120x128 .bf16) (harg9 : arg9.IsWhole) (arg10 : Memref sig .tc .vmem S5120x128 .f32) (harg10 : arg10.IsWhole)
  (arg11 : Memref sig .tc .vmem S5120x128 .f32) (harg11 : arg11.IsWhole) (arg12 : Memref sig .tc .vmem S5120x128 .f32) (harg12 : arg12.IsWhole)
  (arg2 : BitVec 32) (v69 : FVec Ideal S640x128 .bf16)
  (X_arg4 : BufTy.Contents (Elt Ideal) arg4.view.ty) (X_arg5 : BufTy.Contents (Elt Ideal) arg5.view.ty) (X_arg9 : BufTy.Contents (Elt Ideal) arg9.view.ty)

variable {qf kf vf : ℕ → ℕ → ℝ}

variable (hQ : ∀ (X : Fin 5120) (x : Fin 128), arg9.view.read (Elt Ideal) X_arg9 (ix2 X x) = ((qf X.val x.val : ℝ) : EReal))
  (hK : ∀ (j : Fin 8320) (x : Fin 512), arg4.view.read (Elt Ideal) X_arg4 (ix2 j x) = ((kf j.val x.val : ℝ) : EReal))
  (hV : ∀ (j : Fin 8320) (x : Fin 512), arg5.view.read (Elt Ideal) X_arg5 (ix2 j x) = ((vf j.val x.val : ℝ) : EReal))

include hQ hK hV in
/-- One trip, off contents that have the first `1280 k` columns. -/
theorem trip_done (k : Fin (k0_t1_loop i).trips) (f10 f11 f12)
    (h : Todo arg10.view arg11.view arg12.view 0 (1280 * k.val) (sc qf kf) (vl vf) (Scalar.cmpi .eq (Scf.iv 0#32 1#32 k.val) 0#32) f10 f11 f12) :
    Done arg10.view arg11.view arg12.view 5120 (fun _ => 1280 * k.val + 1280) (sc qf kf) (vl vf)
      ((trip_k0_t1 (F := Ideal) 𝒱 c bd i arg3 harg3 arg4 harg4 arg5 harg5 arg6 harg6 arg7 harg7 arg8 harg8 arg9 harg9 arg10 harg10 arg11 harg11 arg12 harg12 arg2 v69 X_arg4 X_arg5 X_arg9 k).1 f10 f11 f12)
      ((trip_k0_t1 (F := Ideal) 𝒱 c bd i arg3 harg3 arg4 harg4 arg5 harg5 arg6 harg6 arg7 harg7 arg8 harg8 arg9 harg9 arg10 harg10 arg11 harg11 arg12 harg12 arg2 v69 X_arg4 X_arg5 X_arg9 k).2.1 f10 f11 f12)
      ((trip_k0_t1 (F := Ideal) 𝒱 c bd i arg3 harg3 arg4 harg4 arg5 harg5 arg6 harg6 arg7 harg7 arg8 harg8 arg9 harg9 arg10 harg10 arg11 harg11 arg12 harg12 arg2 v69 X_arg4 X_arg5 X_arg9 k).2.2.1 f10 f11 f12) := by
  have hk6 : k.val < 6 := trip_lt i k
  obtain ⟨o1, o2, o3, o4⟩ := trip_offs i k
  have h0 := trip_first i k
  have q : ∀ a : ℕ, ∀ inb, a + 640 ≤ 5120 → ∀ (r : Fin 640) (x : Fin 128),
      arg9.view.readAt (Elt Ideal) (Rect.unit (s := Sh 5120 128) ![a, 0] (Sh 640 128).size inb).toLoadRect X_arg9 (ix2 r x) = ((qf (a + r.val) x.val : ℝ) : EReal) :=
    fun a inb ha r x => (readAt_rows arg9.view X_arg9 inb rfl r x ⟨a + r.val, by omega⟩ x rfl (by omega)).trans (hQ _ _)
  have kk : ∀ (v : Memref sig .tc .vmem S8320x512 .bf16) (X : BufTy.Contents (Elt Ideal) v.view.ty) (g : ℕ → ℕ → ℝ),
      (∀ (j : Fin 8320) (x : Fin 512), v.view.read (Elt Ideal) X (ix2 j x) = ((g j.val x.val : ℝ) : EReal)) →
      ∀ (hd : ℕ) (off : Fin 2 → ℕ) inb, off = ![1280 * k.val, 128 * hd] → hd < 4 → ∀ (r : Fin 1280) (x : Fin 128),
      v.view.readAt (Elt Ideal) (Rect.unit (s := Sh 8320 512) off (Sh 1280 128).size inb).toLoadRect X (ix2 r x)
        = ((g (1280 * k.val + r.val) (128 * hd + x.val) : ℝ) : EReal) :=
    fun v X g hg hd off inb ho hh r x =>
      (readAt_rows v.view X inb ho r x ⟨1280 * k.val + r.val, by omega⟩ ⟨128 * hd + x.val, by omega⟩ rfl rfl).trans (hg _ _)
  unfold trip_k0_t1
  dsimp only
  have s0 := Done.zero (v10 := arg10.view) (v11 := arg11.view) (v12 := arg12.view) (N := fun _ => 1280 * k.val + 1280) (σ := sc qf kf) (ν := vl vf) (L10 := []) (L11 := []) (L12 := [])
  have s1 := s0.plain h geo640 h0 _ _ _ inb_S5120x128_S640x128_0_0 inb_S5120x128_S640x128_0_0 inb_S5120x128_S640x128_0_0 inb_S5120x128_S640x128_0_0 inb_S5120x128_S640x128_0_0 inb_S5120x128_S640x128_0_0
    (q 0 inb_S5120x128_S640x128_0_0 (by omega)) (kk arg4 X_arg4 kf hK 0 _ (k0_off1_inb i k) o1 (by omega))
    (kk arg5 X_arg5 vf hV 0 _ (k0_off1_inb i k) o1 (by omega)) (by omega) (by omega) (by omega) (fun _ _ => rfl)
  have s2 := s1.plain (h.mono (Nat.zero_le 640)) geo640 h0 _ _ _ inb_S5120x128_S640x128_640_0 inb_S5120x128_S640x128_640_0 inb_S5120x128_S640x128_640_0 inb_S5120x128_S640x128_640_0 inb_S5120x128_S640x128_640_0 inb_S5120x128_S640x128_640_0
    (q 640 inb_S5120x128_S640x128_640_0 (by omega)) (kk arg4 X_arg4 kf hK 0 _ (k0_off1_inb i k) o1 (by omega))
    (kk arg5 X_arg5 vf hV 0 _ (k0_off1_inb i k) o1 (by omega)) (by omega) (by omega) (by omega) (fun _ _ => rfl)
  have s3 := s2.plain (h.mono (Nat.zero_le 1280)) geo640 h0 _ _ _ inb_S5120x128_S640x128_1280_0 inb_S5120x128_S640x128_1280_0 inb_S5120x128_S640x128_1280_0 inb_S5120x128_S640x128_1280_0 inb_S5120x128_S640x128_1280_0 inb_S5120x128_S640x128_1280_0
    (q 1280 inb_S5120x128_S640x128_1280_0 (by omega)) (kk arg4 X_arg4 kf hK 1 _ (k0_off2_inb i k) o2 (by omega))
    (kk arg5 X_arg5 vf hV 1 _ (k0_off2_inb i k) o2 (by omega)) (by omega) (by omega) (by omega) (fun _ _ => rfl)
  have s4 := s3.plain (h.mono (Nat.zero_le 1920)) geo640 h0 _ _ _ inb_S5120x128_S640x128_1920_0 inb_S5120x128_S640x128_1920_0 inb_S5120x128_S640x128_1920_0 inb_S5120x128_S640x128_1920_0 inb_S5120x128_S640x128_1920_0 inb_S5120x128_S640x128_1920_0
    (q 1920 inb_S5120x128_S640x128_1920_0 (by omega)) (kk arg4 X_arg4 kf hK 1 _ (k0_off2_inb i k) o2 (by omega))
    (kk arg5 X_arg5 vf hV 1 _ (k0_off2_inb i k) o2 (by omega)) (by omega) (by omega) (by omega) (fun _ _ => rfl)
  have s5 := s4.plain (h.mono (Nat.zero_le 2560)) geo640 h0 _ _ _ inb_S5120x128_S640x128_2560_0 inb_S5120x128_S640x128_2560_0 inb_S5120x128_S640x128_2560_0 inb_S5120x128_S640x128_2560_0 inb_S5120x128_S640x128_2560_0 inb_S5120x128_S640x128_2560_0
    (q 2560 inb_S5120x128_S640x128_2560_0 (by omega)) (kk arg4 X_arg4 kf hK 2 _ (k0_off3_inb i k) o3 (by omega))
    (kk arg5 X_arg5 vf hV 2 _ (k0_off3_inb i k) o3 (by omega)) (by omega) (by omega) (by omega) (fun _ _ => rfl)
  have s6 := s5.plain (h.mono (Nat.zero_le 3200)) geo640 h0 _ _ _ inb_S5120x128_S640x128_3200_0 inb_S5120x128_S640x128_3200_0 inb_S5120x128_S640x128_3200_0 inb_S5120x128_S640x128_3200_0 inb_S5120x128_S640x128_3200_0 inb_S5120x128_S640x128_3200_0
    (q 3200 inb_S5120x128_S640x128_3200_0 (by omega)) (kk arg4 X_arg4 kf hK 2 _ (k0_off3_inb i k) o3 (by omega))
    (kk arg5 X_arg5 vf hV 2 _ (k0_off3_inb i k) o3 (by omega)) (by omega) (by omega) (by omega) (fun _ _ => rfl)
  have s7 := s6.plain (h.mono (Nat.zero_le 3840)) geo640 h0 _ _ _ inb_S5120x128_S640x128_3840_0 inb_S5120x128_S640x128_3840_0 inb_S5120x128_S640x128_3840_0 inb_S5120x128_S640x128_3840_0 inb_S5120x128_S640x128_3840_0 inb_S5120x128_S640x128_3840_0
    (q 3840 inb_S5120x128_S640x128_3840_0 (by omega)) (kk arg4 X_arg4 kf hK 3 _ (k0_off4_inb i k) o4 (by omega))
    (kk arg5 X_arg5 vf hV 3 _ (k0_off4_inb i k) o4 (by omega)) (by omega) (by omega) (by omega) (fun _ _ => rfl)
  have s8 := s7.plain (h.mono (Nat.zero_le 4480)) geo640 h0 _ _ _ inb_S5120x128_S640x128_4480_0 inb_S5120x128_S640x128_4480_0 inb_S5120x128_S640x128_4480_0 inb_S5120x128_S640x128_4480_0 inb_S5120x128_S640x128_4480_0 inb_S5120x128_S640x128_4480_0
    (q 4480 inb_S5120x128_S640x128_4480_0 (by omega)) (kk arg4 X_arg4 kf hK 3 _ (k0_off4_inb i k) o4 (by omega))
    (kk arg5 X_arg5 vf hV 3 _ (k0_off4_inb i k) o4 (by omega)) (by omega) (by omega) (by omega) (fun _ _ => rfl)
  exact s8

theorem Done.append {v10 v11 v12 : View sig .tc .vmem (Sh 5120 128) .f32} {N : ℕ → ℕ} {σ : ℕ → ℕ → ℝ} {ν : ℕ → ℕ → Fin 128 → ℝ}
    {L10 L11 L12 : List (View.Piece (Elt Ideal) (Sh 5120 128) .f32)} {b : ℕ} (h : Done v10 v11 v12 b N σ ν L10 L11 L12) (M10 M11 M12) :
    Done v10 v11 v12 b N σ ν (L10 ++ M10) (L11 ++ M11) (L12 ++ M12) := by
  intro f10 f11 f12 X hX
  rw [View.writes_append, View.writes_append, View.writes_append]
  exact h _ _ _ X hX

include hQ hK hV in
/-- After `k` trips, `k > 0`, every row has the first `1280 k` columns. -/
theorem loop_done (G10 G11 G12) (k : ℕ) (hk : k ≤ (k0_t1_loop i).trips) (hk0 : k ≠ 0) :
    Done arg10.view arg11.view arg12.view 5120 (fun _ => 1280 * k) (sc qf kf) (vl vf)
      (pb_k0_t1 (F := Ideal) 𝒱 c bd i arg3 harg3 arg4 harg4 arg5 harg5 arg6 harg6 arg7 harg7 arg8 harg8 arg9 harg9 arg10 harg10 arg11 harg11 arg12 harg12 arg2 v69 X_arg4 X_arg5 X_arg9 G10 G11 G12 k).1
      (pb_k0_t1 (F := Ideal) 𝒱 c bd i arg3 harg3 arg4 harg4 arg5 harg5 arg6 harg6 arg7 harg7 arg8 harg8 arg9 harg9 arg10 harg10 arg11 harg11 arg12 harg12 arg2 v69 X_arg4 X_arg5 X_arg9 G10 G11 G12 k).2.1
      (pb_k0_t1 (F := Ideal) 𝒱 c bd i arg3 harg3 arg4 harg4 arg5 harg5 arg6 harg6 arg7 harg7 arg8 harg8 arg9 harg9 arg10 harg10 arg11 harg11 arg12 harg12 arg2 v69 X_arg4 X_arg5 X_arg9 G10 G11 G12 k).2.2 := by
  induction k with
  | zero => exact absurd rfl hk0
  | succ k ih =>
    rw [pb_k0_t1_succ (F := Ideal) 𝒱 c bd i arg3 harg3 arg4 harg4 arg5 harg5 arg6 harg6 arg7 harg7 arg8 harg8 arg9 harg9 arg10 harg10 arg11 harg11 arg12 harg12 arg2 v69 X_arg4 X_arg5 X_arg9 G10 G11 G12 ⟨k, hk⟩]
    refine Done.append (trip_done 𝒱 c bd i arg3 harg3 arg4 harg4 arg5 harg5 arg6 harg6 arg7 harg7 arg8 harg8 arg9 harg9 arg10 harg10 arg11 harg11 arg12 harg12 arg2 v69 X_arg4 X_arg5 X_arg9 hQ hK hV ⟨k, hk⟩ _ _ _ ?_) _ _ _
    by_cases h0 : k = 0
    · subst h0
      exact fun hf => absurd rfl hf
    · exact (ih (by omega) h0).todo G10 G11 G12

end Cert.Attn
-- ==== Proof.Tail.lean ====
/-
  WHAT THE TWO KINDS OF GRID POINT SHARE after the loop: where the remaining columns start, and the rows the loop left.
-/
module

public import proofs.«01_k».proof.Proof.Trip
public import proofs.«01_k».proof.Proof.Body

@[expose] public section

set_option maxRecDepth 8192
set_option maxHeartbeats 4000000

noncomputable section

namespace Cert.Attn

open Idealize.ShloMosaic Idealize.ShloMosaic.ValueIdx Cert.KernelIdeal Cert.KernelIdeal.Gen

/-- Whole rows of a scratch buffer are inside it. -/
theorem rowsIn {a nr : ℕ} (h : a + nr ≤ 5120) : ∀ i, (![a, 0] : Fin 2 → ℕ) i + (Sh nr 128).size i ≤ (Sh 5120 128).size i :=
  Fin.forall_fin_two.mpr ⟨h, le_rfl⟩

/-- So is a head's block of rows inside the keys and values. -/
theorem keysIn {off : Fin 2 → ℕ} {a w hd : ℕ} (ho : off = ![a, 128 * hd]) (h : a + w ≤ 8320) (hh : hd < 4) :
    ∀ i, off i + (Sh w 128).size i ≤ (Sh 8320 512).size i := by
  subst ho
  exact Fin.forall_fin_two.mpr ⟨h, by show 128 * hd + 128 ≤ 512; omega⟩

/-- What is loaded of the queries. -/
theorem q_rows {v : View sig .tc .vmem (Sh 5120 128) .bf16} {X : v.ty.Contents (Elt Ideal)} {qf : ℕ → ℕ → ℝ}
    (hQ : ∀ (Y : Fin 5120) (x : Fin 128), v.read (Elt Ideal) X (ix2 Y x) = ((qf Y.val x.val : ℝ) : EReal)) {a nr : ℕ} (h : a + nr ≤ 5120)
    (r : Fin nr) (x : Fin 128) :
    v.readAt (Elt Ideal) (Rect.unit (s := Sh 5120 128) ![a, 0] (Sh nr 128).size (rowsIn h)).toLoadRect X (ix2 r x) = ((qf (a + r.val) x.val : ℝ) : EReal) :=
  (readAt_rows v X (rowsIn h) rfl r x ⟨a + r.val, by omega⟩ x rfl (by omega)).trans (hQ _ _)

/-- What is loaded of the keys or values. -/
theorem k_rows {v : View sig .tc .vmem (Sh 8320 512) .bf16} {X : v.ty.Contents (Elt Ideal)} {g : ℕ → ℕ → ℝ}
    (hg : ∀ (j : Fin 8320) (x : Fin 512), v.read (Elt Ideal) X (ix2 j x) = ((g j.val x.val : ℝ) : EReal)) {off : Fin 2 → ℕ} {a w hd : ℕ}
    (ho : off = ![a, 128 * hd]) (h : a + w ≤ 8320) (hh : hd < 4) (r : Fin w) (x : Fin 128) :
    v.readAt (Elt Ideal) (Rect.unit (s := Sh 8320 512) off (Sh w 128).size (keysIn ho h hh)).toLoadRect X (ix2 r x)
      = ((g (a + r.val) (128 * hd + x.val) : ℝ) : EReal) :=
  (readAt_rows v X (keysIn ho h hh) ho r x ⟨a + r.val, by omega⟩ ⟨128 * hd + x.val, by omega⟩ rfl rfl).trans (hg _ _)

/-- The columns each row has when a point is through: up to and with its own. -/
def upTo (q X : ℕ) : ℕ := 640 * q + X % 640 + 1

theorem first_spec (i : grid0.Coords) : Scalar.cmpi .slt (BitVec.ofNat 32 (i 2).val) 2#32 = 1#1 ↔ (i 2).val < 2 := by
  have h : ∀ n : Fin 13, Scalar.cmpi .slt (BitVec.ofNat 32 n.val) 2#32 = 1#1 ↔ n.val < 2 := by decide
  exact h (i 2)

theorem odd_spec (i : grid0.Coords) (h1 : k0_cond1 i = 1#1) : (i 2).val % 2 = 1 := by
  have h : ∀ n : Fin 13, k0_cond1 (fun a => match a with | ⟨0, _⟩ => (0 : Fin 4) | ⟨1, _⟩ => (0 : Fin 1) | ⟨2, _⟩ => n) = 1#1 → n.val % 2 = 1 := by
    decide
  exact h (i 2) h1

theorem even_spec (i : grid0.Coords) (h2 : k0_cond2 i = 1#1) : (i 2).val % 2 = 0 := by
  have h : ∀ n : Fin 13, k0_cond2 (fun a => match a with | ⟨0, _⟩ => (0 : Fin 4) | ⟨1, _⟩ => (0 : Fin 1) | ⟨2, _⟩ => n) = 1#1 → n.val % 2 = 0 := by
    decide
  exact h (i 2) h2

theorem odd_offs (i : grid0.Coords) (h1 : (i 2).val % 2 = 1) :
    k0_off10 i = ![640 * ((i 2).val - 1), 128 * 0] ∧ k0_off12 i = ![640 * ((i 2).val - 1), 128 * 1]
      ∧ k0_off14 i = ![640 * ((i 2).val - 1), 128 * 2] ∧ k0_off16 i = ![640 * ((i 2).val - 1), 128 * 3] := by
  have h : ∀ n : Fin 13, n.val % 2 = 1 → (Scalar.muli (Scalar.subi (BitVec.ofNat 32 n.val) 1#32) 640#32).toNat = 640 * (n.val - 1) := by decide
  have hx := h (i 2) h1
  refine ⟨?_, ?_, ?_, ?_⟩
  · show ![(Scalar.muli (Scalar.subi (BitVec.ofNat 32 (i 2).val) 1#32) 640#32).toNat, 0] = _; rw [hx]
  · show ![(Scalar.muli (Scalar.subi (BitVec.ofNat 32 (i 2).val) 1#32) 640#32).toNat, 128] = _; rw [hx]
  · show ![(Scalar.muli (Scalar.subi (BitVec.ofNat 32 (i 2).val) 1#32) 640#32).toNat, 256] = _; rw [hx]
  · show ![(Scalar.muli (Scalar.subi (BitVec.ofNat 32 (i 2).val) 1#32) 640#32).toNat, 384] = _; rw [hx]

theorem even_offs (i : grid0.Coords) :
    k0_off18 i = ![640 * (i 2).val, 128 * 0] ∧ k0_off20 i = ![640 * (i 2).val, 128 * 1]
      ∧ k0_off22 i = ![640 * (i 2).val, 128 * 2] ∧ k0_off24 i = ![640 * (i 2).val, 128 * 3] := by
  have h : ∀ n : Fin 13, (Scalar.muli (BitVec.ofNat 32 n.val) 640#32).toNat = 640 * n.val := by decide
  have hx := h (i 2)
  refine ⟨?_, ?_, ?_, ?_⟩
  · show ![(Scalar.muli (BitVec.ofNat 32 (i 2).val) 640#32).toNat, 0] = _; rw [hx]
  · show ![(Scalar.muli (BitVec.ofNat 32 (i 2).val) 640#32).toNat, 128] = _; rw [hx]
  · show ![(Scalar.muli (BitVec.ofNat 32 (i 2).val) 640#32).toNat, 256] = _; rw [hx]
  · show ![(Scalar.muli (BitVec.ofNat 32 (i 2).val) 640#32).toNat, 384] = _; rw [hx]

variable (𝒱 : Variants) (c : Dev nD) (bd : Option 𝒱.V) (i : grid0.Coords)
  (arg3 : Memref sig .tc .vmem S640x512 .f32) (harg3 : arg3.IsWhole) (arg4 : Memref sig .tc .vmem S8320x512 .bf16) (harg4 : arg4.IsWhole)
  (arg5 : Memref sig .tc .vmem S8320x512 .bf16) (harg5 : arg5.IsWhole) (arg6 : Memref sig .tc .vmem S4x64 .f32) (harg6 : arg6.IsWhole)
  (arg7 : Memref sig .tc .vmem S1x128 .f32) (harg7 : arg7.IsWhole) (arg8 : Memref sig .tc .vmem S640x512 .bf16) (harg8 : arg8.IsWhole)
  (arg9 : Memref sig .tc .vmem S5120x128 .bf16) (harg9 : arg9.IsWhole) (arg10 : Memref sig .tc .vmem S5120x128 .f32) (harg10 : arg10.IsWhole)
  (arg11 : Memref sig .tc .vmem S5120x128 .f32) (harg11 : arg11.IsWhole) (arg12 : Memref sig .tc .vmem S5120x128 .f32) (harg12 : arg12.IsWhole)
  (arg2 : BitVec 32) (v69 : FVec Ideal S640x128 .bf16) (v94 : BitVec 32)
  (X_arg4 : BufTy.Contents (Elt Ideal) arg4.view.ty) (X_arg5 : BufTy.Contents (Elt Ideal) arg5.view.ty) (X_arg9 : BufTy.Contents (Elt Ideal) arg9.view.ty)
  (G10 : BufTy.Contents (Elt Ideal) arg10.view.ty) (G11 : BufTy.Contents (Elt Ideal) arg11.view.ty) (G12 : BufTy.Contents (Elt Ideal) arg12.view.ty)

/-- The stores of the loop over pairs of blocks. -/
abbrev P1 (n1 : ℕ) := pb_k0_t1 (F := Ideal) 𝒱 c bd i arg3 harg3 arg4 harg4 arg5 harg5 arg6 harg6 arg7 harg7 arg8 harg8 arg9 harg9 arg10 harg10 arg11 harg11 arg12 harg12 arg2 v69 X_arg4 X_arg5 X_arg9 G10 G11 G12 n1

/-- The stores of the second loop, which are none. -/
abbrev P2 (n1 n2 : ℕ) := pb_k0_t2 (F := Ideal) 𝒱 c bd i arg3 harg3 arg4 harg4 arg5 harg5 arg6 harg6 arg7 harg7 arg8 harg8 arg9 harg9 arg10 harg10 arg11 harg11 arg12 harg12 arg2 v69 v94 X_arg4 X_arg5 X_arg9
  (arg10.view.writes (Elt Ideal) G10 (P1 𝒱 c bd i arg3 harg3 arg4 harg4 arg5 harg5 arg6 harg6 arg7 harg7 arg8 harg8 arg9 harg9 arg10 harg10 arg11 harg11 arg12 harg12 arg2 v69 X_arg4 X_arg5 X_arg9 G10 G11 G12 n1).1)
  (arg11.view.writes (Elt Ideal) G11 (P1 𝒱 c bd i arg3 harg3 arg4 harg4 arg5 harg5 arg6 harg6 arg7 harg7 arg8 harg8 arg9 harg9 arg10 harg10 arg11 harg11 arg12 harg12 arg2 v69 X_arg4 X_arg5 X_arg9 G10 G11 G12 n1).2.1)
  (arg12.view.writes (Elt Ideal) G12 (P1 𝒱 c bd i arg3 harg3 arg4 harg4 arg5 harg5 arg6 harg6 arg7 harg7 arg8 harg8 arg9 harg9 arg10 harg10 arg11 harg11 arg12 harg12 arg2 v69 X_arg4 X_arg5 X_arg9 G10 G11 G12 n1).2.2) n2

variable {qf kf vf : ℕ → ℕ → ℝ}

variable (hQ : ∀ (X : Fin 5120) (x : Fin 128), arg9.view.read (Elt Ideal) X_arg9 (ix2 X x) = ((qf X.val x.val : ℝ) : EReal))
  (hK : ∀ (j : Fin 8320) (x : Fin 512), arg4.view.read (Elt Ideal) X_arg4 (ix2 j x) = ((kf j.val x.val : ℝ) : EReal))
  (hV : ∀ (j : Fin 8320) (x : Fin 512), arg5.view.read (Elt Ideal) X_arg5 (ix2 j x) = ((vf j.val x.val : ℝ) : EReal))

include hQ hK hV in
/-- What the loop leaves: the first `1280 ⌊q/2⌋` columns of every row. -/
theorem loops_todo (n1 n2 : ℕ) (h1 : n1 = (k0_t1_loop i).trips) (h2 : n2 = (k0_t2_loop i).trips) (off : ℕ) (first : BitVec 1)
    (hoff : first ≠ 1#1 → n1 ≠ 0 ∧ off = 1280 * n1) :
    Todo arg10.view arg11.view arg12.view 0 off (sc qf kf) (vl vf) first
      (arg10.view.writes (Elt Ideal) G10 ((P2 𝒱 c bd i arg3 harg3 arg4 harg4 arg5 harg5 arg6 harg6 arg7 harg7 arg8 harg8 arg9 harg9 arg10 harg10 arg11 harg11 arg12 harg12 arg2 v69 v94 X_arg4 X_arg5 X_arg9 G10 G11 G12 n1 n2).1
        ++ (P1 𝒱 c bd i arg3 harg3 arg4 harg4 arg5 harg5 arg6 harg6 arg7 harg7 arg8 harg8 arg9 harg9 arg10 harg10 arg11 harg11 arg12 harg12 arg2 v69 X_arg4 X_arg5 X_arg9 G10 G11 G12 n1).1))
      (arg11.view.writes (Elt Ideal) G11 ((P2 𝒱 c bd i arg3 harg3 arg4 harg4 arg5 harg5 arg6 harg6 arg7 harg7 arg8 harg8 arg9 harg9 arg10 harg10 arg11 harg11 arg12 harg12 arg2 v69 v94 X_arg4 X_arg5 X_arg9 G10 G11 G12 n1 n2).2.1
        ++ (P1 𝒱 c bd i arg3 harg3 arg4 harg4 arg5 harg5 arg6 harg6 arg7 harg7 arg8 harg8 arg9 harg9 arg10 harg10 arg11 harg11 arg12 harg12 arg2 v69 X_arg4 X_arg5 X_arg9 G10 G11 G12 n1).2.1))
      (arg12.view.writes (Elt Ideal) G12 ((P2 𝒱 c bd i arg3 harg3 arg4 harg4 arg5 harg5 arg6 harg6 arg7 harg7 arg8 harg8 arg9 harg9 arg10 harg10 arg11 harg11 arg12 harg12 arg2 v69 v94 X_arg4 X_arg5 X_arg9 G10 G11 G12 n1 n2).2.2
        ++ (P1 𝒱 c bd i arg3 harg3 arg4 harg4 arg5 harg5 arg6 harg6 arg7 harg7 arg8 harg8 arg9 harg9 arg10 harg10 arg11 harg11 arg12 harg12 arg2 v69 X_arg4 X_arg5 X_arg9 G10 G11 G12 n1).2.2)) := by
  obtain rfl : n2 = 0 := h2.trans (trips2_eq i)
  intro hf
  obtain ⟨hn, rfl⟩ := hoff hf
  exact (loop_done 𝒱 c bd i arg3 harg3 arg4 harg4 arg5 harg5 arg6 harg6 arg7 harg7 arg8 harg8 arg9 harg9 arg10 harg10 arg11 harg11 arg12 harg12 arg2 v69 X_arg4 X_arg5 X_arg9 hQ hK hV
    G10 G11 G12 n1 h1.le hn).todo G10 G11 G12 hf

end Cert.Attn
-- ==== Proof.Spec.lean ====
/-
  THE VALUE of the layer's attention, as mathematics: two causal softmax maps of a head, their averages of the values, the
  difference of the two averages and its normalization; and what a finished row of the running softmax gives.
-/
module

public import proofs.«01_k».proof.Proof.Tail

@[expose] public section

noncomputable section

namespace Cert.Attn

open Idealize.ShloMosaic Idealize.ShloMosaic.ValueIdx Cert.KernelIdeal
open scoped BigOperators

/-- The scale of a query in the kernel: an eighth, in units of base-two exponents. -/
def cq : ℝ := (1 / 8) * (Real.log 2)⁻¹

/-- The product of query row `p` and key row `j` over the 64 columns from `o` on. -/
def dotS (Q K : ℕ → ℕ → ℝ) (o p j : ℕ) : ℝ := ∑ x : Fin 64, Q p (o + x.val) * K j (o + x.val)

/-- The unnormalized weight of key row `j` for query row `p`. -/
def ex (Q K : ℕ → ℕ → ℝ) (o p j : ℕ) : ℝ := Real.exp (dotS Q K o p j / 8)

/-- The causal softmax average of column `c` of the values for query row `p`, the map being the columns from `o` on. -/
def avg (Q K V : ℕ → ℕ → ℝ) (o p c : ℕ) : ℝ :=
  (∑ j ∈ Finset.range (p + 1), ex Q K o p j * V j c) / ∑ j ∈ Finset.range (p + 1), ex Q K o p j

/-- The difference of the two averages of head `h`. -/
def diffO (Q K V : ℕ → ℕ → ℝ) (lam : ℝ) (h p d : ℕ) : ℝ :=
  avg Q K V (128 * h) p (128 * h + d) - lam * avg Q K V (128 * h + 64) p (128 * h + d)

/-- The normalization of a row by its root mean square, with the gain `g` and the layer's constant factor. -/
def fin (o g : Fin 128 → EReal) (d : Fin 128) : EReal :=
  o d * Ideal.rsqrt (Ideal.div (∑ x, o x * o x) (Ideal.ofBits .f32 0x43000000#32) + Ideal.ofBits .f32 0x358637BD#32) * g d
    * Ideal.ofBits .f32 0x3F4CCCCD#32

theorem ex_pos (Q K : ℕ → ℕ → ℝ) (o p j : ℕ) : 0 < ex Q K o p j := Real.exp_pos _

theorem sum_ex_pos (Q K : ℕ → ℕ → ℝ) (o p : ℕ) : 0 < ∑ j ∈ Finset.range (p + 1), ex Q K o p j :=
  Finset.sum_pos (fun j _ => ex_pos Q K o p j) ⟨0, Finset.mem_range.mpr (Nat.succ_pos p)⟩

/-- A real quotient. -/
theorem div_real (a l : ℝ) (h : l ≠ 0) : Ideal.div (a : EReal) (l : EReal) = ((a / l : ℝ) : EReal) := by
  rw [Ideal.div_coe h, ← EReal.coe_mul]
  congr 1
  field_simp

/-- The base-two weight is the natural one up to the common factor of the shift. -/
theorem wt_eq (σ : ℕ → ℝ) (S : ℕ → ℝ) (μ : ℝ) (j : ℕ) (h : σ j = cq * S j) :
    wt σ μ j = Real.exp (S j / 8) * Real.rpow 2 (-μ) := by
  unfold wt
  show (2:ℝ) ^ (σ j - μ) = _ * (2:ℝ) ^ (-μ)
  rw [h, sub_eq_add_neg, Real.rpow_add (by norm_num : (0:ℝ) < 2)]
  congr 1
  rw [Real.rpow_def_of_pos (by norm_num : (0:ℝ) < 2)]
  congr 1
  unfold cq
  have : Real.log 2 ≠ 0 := (Real.log_pos (by norm_num)).ne'
  field_simp

/-- **A finished row**: the quotient of its two sums is the average. -/
theorem row_avg (Q K V : ℕ → ℕ → ℝ) (o p c0 : ℕ) {σ : ℕ → ℝ} {ν : ℕ → Fin 128 → ℝ} {m l a : Fin 128 → EReal}
    (hσ : ∀ j, σ j = cq * dotS Q K o p j) (hν : ∀ j d, ν j d = V j (c0 + d.val)) (h : RowState σ ν (p + 1) m l a) (d : Fin 128) :
    Ideal.div (a d) (l d) = ((avg Q K V o p (c0 + d.val) : ℝ) : EReal) := by
  obtain ⟨h0, _⟩ | ⟨μ, _, hl, ha⟩ := h
  · exact absurd h0 (Nat.succ_ne_zero p)
  have hw : ∀ j, wt σ μ j = ex Q K o p j * Real.rpow 2 (-μ) := fun j => wt_eq σ (dotS Q K o p) μ j (hσ j)
  have hc : Real.rpow 2 (-μ) ≠ 0 := (Real.rpow_pos_of_pos (by norm_num : (0:ℝ) < 2) _).ne'
  have hs := (sum_ex_pos Q K o p).ne'
  have el : ∑ j ∈ Finset.range (p + 1), wt σ μ j = (∑ j ∈ Finset.range (p + 1), ex Q K o p j) * Real.rpow 2 (-μ) := by
    rw [Finset.sum_mul]
    exact Finset.sum_congr rfl fun j _ => hw j
  have ea : ∑ j ∈ Finset.range (p + 1), wt σ μ j * ν j d
      = (∑ j ∈ Finset.range (p + 1), ex Q K o p j * V j (c0 + d.val)) * Real.rpow 2 (-μ) := by
    rw [Finset.sum_mul]
    refine Finset.sum_congr rfl fun j _ => ?_
    rw [hw j, hν j d]
    ring
  rw [hl d, ha d, el, ea, div_real _ _ (mul_ne_zero hs hc)]
  congr 1
  unfold avg
  exact mul_div_mul_right _ _ hc

/-- The queries as the kernel holds them: the rows of a head's two maps one below the other, each with the other map's columns
    zero, scaled. -/
def qf (Q : ℕ → ℕ → ℝ) (q X x : ℕ) : ℝ :=
  if (x < 64 ↔ X % 1280 / 640 = 0) then Q (640 * q + X % 640) (128 * (X / 1280) + x) * cq else 0

/-- The scores of those rows are the maps' products, scaled. -/
theorem sc_qf (Q K : ℕ → ℕ → ℝ) (q X j : ℕ) (hX : X % 1280 / 640 < 2) :
    sc (qf Q q) K X j = cq * dotS Q K (128 * (X / 1280) + 64 * (X % 1280 / 640)) (640 * q + X % 640) j := by
  unfold sc dotS
  rw [show (∑ x : Fin 128, qf Q q X x.val * K j (128 * (X / 1280) + x.val)) = _ from
    Fin.sum_univ_add (a := 64) (b := 64) (fun x : Fin (64 + 64) => qf Q q X x.val * K j (128 * (X / 1280) + x.val))]
  rw [Finset.mul_sum]
  obtain hn | hn : X % 1280 / 640 = 0 ∨ X % 1280 / 640 = 1 := by omega
  · have h2 : (∑ i : Fin 64, qf Q q X (Fin.natAdd 64 i : Fin (64 + 64)).val * K j (128 * (X / 1280) + (Fin.natAdd 64 i : Fin (64 + 64)).val)) = 0 :=
      Finset.sum_eq_zero fun i _ => by
        rw [show qf Q q X (Fin.natAdd 64 i : Fin (64 + 64)).val = 0 from if_neg (by
          rw [hn]; intro hh; have := hh.mpr rfl; simp at this), zero_mul]
    rw [h2, add_zero]
    refine Finset.sum_congr rfl fun i _ => ?_
    rw [show qf Q q X (Fin.castAdd 64 i : Fin (64 + 64)).val = _ from if_pos (by
      rw [hn]; exact ⟨fun _ => rfl, fun _ => i.isLt⟩), hn]
    show Q _ (128 * (X / 1280) + i.val) * cq * K j (128 * (X / 1280) + i.val) = _
    ring_nf
  · have h2 : (∑ i : Fin 64, qf Q q X (Fin.castAdd 64 i : Fin (64 + 64)).val * K j (128 * (X / 1280) + (Fin.castAdd 64 i : Fin (64 + 64)).val)) = 0 :=
      Finset.sum_eq_zero fun i _ => by
        rw [show qf Q q X (Fin.castAdd 64 i : Fin (64 + 64)).val = 0 from if_neg (by
          rw [hn]; intro hh; exact absurd (hh.mp i.isLt) (by decide)), zero_mul]
    rw [h2, zero_add]
    refine Finset.sum_congr rfl fun i _ => ?_
    rw [show qf Q q X (Fin.natAdd 64 i : Fin (64 + 64)).val = _ from if_pos (by
      rw [hn]; constructor
      · intro hh; simp at hh
      · intro hh; exact absurd hh (by decide)), hn]
    show Q _ (128 * (X / 1280) + (64 + i.val)) * cq * K j (128 * (X / 1280) + (64 + i.val)) = _
    rw [show 128 * (X / 1280) + (64 + i.val) = 128 * (X / 1280) + 64 * 1 + i.val by omega]
    ring

end Cert.Attn
-- ==== Proof.Queries.lean ====
/-
  THE QUERIES as the kernel lays them out: for each head two blocks of 640 rows, scaled, one with the columns of the first map
  and one with those of the second, the others zero. `queries`: the buffer so filled, read at a row, is `qf`.
-/
module

public import proofs.«01_k».proof.Proof.Spec

@[expose] public section

noncomputable section

namespace Cert.Attn

open Idealize.ShloMosaic Idealize.ShloMosaic.ValueIdx Cert.KernelIdeal Cert.KernelIdeal.Gen
open scoped BigOperators

variable {sig : RefSig} {κ₁ κ₂ : Kind} {sp₁ sp₂ : Space}

theorem qscale_eq : Named.named (F := Ideal) (φ := .f32) κ "qscale" 0x3E38AA3B#32 = ((cq : ℝ) : EReal) :=
  IdealRules.named_const.ideal_named_scalar (φ := .f32) κ "qscale" 0x3E38AA3B#32 _ rfl

theorem zero_bf16 : Ideal.ofBits .bf16 0x0000#16 = 0 := by simp [Ideal.ofBits, Ideal.ieee]

/-- The block of the first map. -/
theorem first_map (v : Vec Ideal S640x128 .f32) (r : Fin 640) (x : Fin 128) (z : ℝ) (hv : v (ix2 r x) = ((z : ℝ) : EReal)) :
    k0_pay542 (F := Ideal) v (ix2 r x) = ((if x.val < 64 then z * cq else 0 : ℝ) : EReal) := by
  have e : k0_pay542 (F := Ideal) v (ix2 r x)
      = Scalar.select (IntOp.cmpi .slt (BitVec.ofNat 32 (0 * 128 + x.val)) (BitVec.ofNat 32 64))
        (v (ix2 r x) * Named.named (F := Ideal) (φ := .f32) κ "qscale" 0x3E38AA3B#32) (Ideal.ofBits .bf16 0x0000#16) := by
    unfold k0_pay542 k0_pay540 k0_pay541
    simp only [shapeCast_self]
    rfl
  have hx := x.isLt
  rw [e, qscale_eq, zero_bf16, Nat.zero_mul, Nat.zero_add, WordCmp.cmpi_slt_ofNat (by omega) (by omega), hv]
  by_cases h : x.val < 64
  · simp [h, Scalar.select]
  · simp [h, Scalar.select]

/-- The block of the second map. -/
theorem second_map (v : Vec Ideal S640x128 .f32) (r : Fin 640) (x : Fin 128) (z : ℝ) (hv : v (ix2 r x) = ((z : ℝ) : EReal)) :
    k0_pay543 (F := Ideal) v (ix2 r x) = ((if 64 ≤ x.val then z * cq else 0 : ℝ) : EReal) := by
  have e : k0_pay543 (F := Ideal) v (ix2 r x)
      = Scalar.select (IntOp.cmpi .sge (BitVec.ofNat 32 (0 * 128 + x.val)) (BitVec.ofNat 32 64))
        (v (ix2 r x) * Named.named (F := Ideal) (φ := .f32) κ "qscale" 0x3E38AA3B#32) (Ideal.ofBits .bf16 0x0000#16) := by
    unfold k0_pay543 k0_pay540 k0_pay541
    simp only [shapeCast_self]
    rfl
  have hx := x.isLt
  rw [e, qscale_eq, zero_bf16, Nat.zero_mul, Nat.zero_add, WordCmp.cmpi_sge_ofNat (by omega) (by omega), hv]
  by_cases h : 64 ≤ x.val
  · simp [h, Scalar.select]
  · simp [h, Scalar.select]

variable (v9 : View sig κ₁ sp₁ (Sh 5120 128) .bf16) (v3 : View sig κ₂ sp₂ (Sh 640 512) .f32)

/-- The rows below `b` are laid out. -/
def Laid (Q : ℕ → ℕ → ℝ) (q : ℕ) (f : v9.ty.Contents (Elt Ideal)) (b : ℕ) (L : List (View.Piece (Elt Ideal) (Sh 5120 128) .bf16)) : Prop :=
  ∀ X : Fin 5120, X.val < b → ∀ x : Fin 128, v9.read (Elt Ideal) (v9.writes (Elt Ideal) f L) (ix2 X x) = ((qf Q q X.val x.val : ℝ) : EReal)

variable {v9}

theorem Laid.nil (Q : ℕ → ℕ → ℝ) (q : ℕ) (f : v9.ty.Contents (Elt Ideal)) : Laid v9 Q q f 0 [] :=
  fun X h => absurd h (Nat.not_lt_zero _)

/-- One more block of rows. -/
theorem Laid.cons {Q : ℕ → ℕ → ℝ} {q : ℕ} {f : v9.ty.Contents (Elt Ideal)} {L : List (View.Piece (Elt Ideal) (Sh 5120 128) .bf16)} {a b : ℕ}
    (h : Laid v9 Q q f a L) (hb : b = a + 640) (inb : ∀ i, (![a, 0] : Fin 2 → ℕ) i + (Sh 640 128).size i ≤ (Sh 5120 128).size i)
    (p : FVec Ideal (Sh 640 128) .bf16)
    (hp : ∀ (r : Fin 640) (x : Fin 128), p (ix2 r x) = ((qf Q q (a + r.val) x.val : ℝ) : EReal)) :
    Laid v9 Q q f b (⟨Rect.unit (s := Sh 5120 128) ![a, 0] (Sh 640 128).size inb, p⟩ :: L) := by
  subst hb
  intro X hX x
  by_cases hlt : X.val < a
  · rw [View.read_writes_cons_rows_of_not_mem v9 f inb p L (ix2 X x) rfl rfl (.inl hlt)]
    exact h X hlt x
  · rw [View.read_writes_cons_rows_of_mem v9 f inb p L (ix2 X x) (ix2 (⟨X.val - a, by omega⟩ : Fin 640) x) rfl
      (by show X.val = a + (X.val - a); omega) rfl, hp]
    rw [show a + (X.val - a) = X.val by omega]

variable {v3}

/-- A head's first block. -/
theorem laid_first {Q : ℕ → ℕ → ℝ} {q h a o : ℕ} {g : v3.ty.Contents (Elt Ideal)}
    (hg : ∀ (r : Fin 640) (y : Fin 512), v3.read (Elt Ideal) g (ix2 r y) = ((Q (640 * q + r.val) y.val : ℝ) : EReal))
    (inb : ∀ i, (![0, o] : Fin 2 → ℕ) i + (Sh 640 128).size i ≤ (Sh 640 512).size i) (hh : h < 4) (ha : a = 1280 * h) (ho : o = 128 * h)
    (r : Fin 640) (x : Fin 128) :
    k0_pay542 (F := Ideal) (v3.readAt (Elt Ideal) (Rect.unit (s := Sh 640 512) ![0, o] (Sh 640 128).size inb).toLoadRect g) (ix2 r x)
      = ((qf Q q (a + r.val) x.val : ℝ) : EReal) := by
  have hr := r.isLt
  have hx := x.isLt
  subst ha ho
  rw [first_map _ r x (Q (640 * q + r.val) (128 * h + x.val))
    ((readAt_rows v3 g inb rfl r x r (⟨128 * h + x.val, by omega⟩ : Fin 512) (Nat.zero_add _).symm rfl).trans (hg _ _))]
  unfold qf
  rw [show (1280 * h + r.val) % 1280 / 640 = 0 by omega, show (1280 * h + r.val) % 640 = r.val by omega,
    show (1280 * h + r.val) / 1280 = h by omega]
  simp only [iff_true]

/-- A head's second block. -/
theorem laid_second {Q : ℕ → ℕ → ℝ} {q h a o : ℕ} {g : v3.ty.Contents (Elt Ideal)}
    (hg : ∀ (r : Fin 640) (y : Fin 512), v3.read (Elt Ideal) g (ix2 r y) = ((Q (640 * q + r.val) y.val : ℝ) : EReal))
    (inb : ∀ i, (![0, o] : Fin 2 → ℕ) i + (Sh 640 128).size i ≤ (Sh 640 512).size i) (hh : h < 4) (ha : a = 1280 * h + 640) (ho : o = 128 * h)
    (r : Fin 640) (x : Fin 128) :
    k0_pay543 (F := Ideal) (v3.readAt (Elt Ideal) (Rect.unit (s := Sh 640 512) ![0, o] (Sh 640 128).size inb).toLoadRect g) (ix2 r x)
      = ((qf Q q (a + r.val) x.val : ℝ) : EReal) := by
  have hr := r.isLt
  have hx := x.isLt
  subst ha ho
  rw [second_map _ r x (Q (640 * q + r.val) (128 * h + x.val))
    ((readAt_rows v3 g inb rfl r x r (⟨128 * h + x.val, by omega⟩ : Fin 512) (Nat.zero_add _).symm rfl).trans (hg _ _))]
  unfold qf
  rw [show (1280 * h + 640 + r.val) % 1280 / 640 = 1 by omega, show (1280 * h + 640 + r.val) % 640 = r.val by omega,
    show (1280 * h + 640 + r.val) / 1280 = h by omega]
  congr 1
  by_cases hc : x.val < 64
  · rw [if_neg (by omega), if_neg (by rw [iff_comm]; intro hh; exact absurd (hh.mpr hc) (by decide))]
  · rw [if_pos (by omega), if_pos ⟨fun h => absurd h hc, fun h => absurd h (by decide)⟩]

/-- **All eight blocks.** -/
theorem laid_all {Q : ℕ → ℕ → ℝ} {q : ℕ} (f : v9.ty.Contents (Elt Ideal)) {g : v3.ty.Contents (Elt Ideal)}
    (hg : ∀ (r : Fin 640) (y : Fin 512), v3.read (Elt Ideal) g (ix2 r y) = ((Q (640 * q + r.val) y.val : ℝ) : EReal)) :
    Laid v9 Q q f 5120 [
      ⟨Rect.unit (s := Sh 5120 128) ![4480, 0] (Sh 640 128).size inb_S5120x128_S640x128_4480_0,
        k0_pay543 (v3.readAt (Elt Ideal) (Rect.unit (s := Sh 640 512) ![0, 384] (Sh 640 128).size inb_S640x512_S640x128_0_384).toLoadRect g)⟩,
      ⟨Rect.unit (s := Sh 5120 128) ![3840, 0] (Sh 640 128).size inb_S5120x128_S640x128_3840_0,
        k0_pay542 (v3.readAt (Elt Ideal) (Rect.unit (s := Sh 640 512) ![0, 384] (Sh 640 128).size inb_S640x512_S640x128_0_384).toLoadRect g)⟩,
      ⟨Rect.unit (s := Sh 5120 128) ![3200, 0] (Sh 640 128).size inb_S5120x128_S640x128_3200_0,
        k0_pay543 (v3.readAt (Elt Ideal) (Rect.unit (s := Sh 640 512) ![0, 256] (Sh 640 128).size inb_S640x512_S640x128_0_256).toLoadRect g)⟩,
      ⟨Rect.unit (s := Sh 5120 128) ![2560, 0] (Sh 640 128).size inb_S5120x128_S640x128_2560_0,
        k0_pay542 (v3.readAt (Elt Ideal) (Rect.unit (s := Sh 640 512) ![0, 256] (Sh 640 128).size inb_S640x512_S640x128_0_256).toLoadRect g)⟩,
      ⟨Rect.unit (s := Sh 5120 128) ![1920, 0] (Sh 640 128).size inb_S5120x128_S640x128_1920_0,
        k0_pay543 (v3.readAt (Elt Ideal) (Rect.unit (s := Sh 640 512) ![0, 128] (Sh 640 128).size inb_S640x512_S640x128_0_128).toLoadRect g)⟩,
      ⟨Rect.unit (s := Sh 5120 128) ![1280, 0] (Sh 640 128).size inb_S5120x128_S640x128_1280_0,
        k0_pay542 (v3.readAt (Elt Ideal) (Rect.unit (s := Sh 640 512) ![0, 128] (Sh 640 128).size inb_S640x512_S640x128_0_128).toLoadRect g)⟩,
      ⟨Rect.unit (s := Sh 5120 128) ![640, 0] (Sh 640 128).size inb_S5120x128_S640x128_640_0,
        k0_pay543 (v3.readAt (Elt Ideal) (Rect.unit (s := Sh 640 512) ![0, 0] (Sh 640 128).size inb_S640x512_S640x128_0_0).toLoadRect g)⟩,
      ⟨Rect.unit (s := Sh 5120 128) ![0, 0] (Sh 640 128).size inb_S5120x128_S640x128_0_0,
        k0_pay542 (v3.readAt (Elt Ideal) (Rect.unit (s := Sh 640 512) ![0, 0] (Sh 640 128).size inb_S640x512_S640x128_0_0).toLoadRect g)⟩] :=
  (((((((((Laid.nil Q q f).cons (b := 640) (by omega) inb_S5120x128_S640x128_0_0 _
      (laid_first hg inb_S640x512_S640x128_0_0 (h := 0) (by omega) (by omega) (by omega))).cons (b := 1280) (by omega) inb_S5120x128_S640x128_640_0 _
      (laid_second hg inb_S640x512_S640x128_0_0 (h := 0) (by omega) (by omega) (by omega))).cons (b := 1920) (by omega) inb_S5120x128_S640x128_1280_0 _
      (laid_first hg inb_S640x512_S640x128_0_128 (h := 1) (by omega) (by omega) (by omega))).cons (b := 2560) (by omega) inb_S5120x128_S640x128_1920_0 _
      (laid_second hg inb_S640x512_S640x128_0_128 (h := 1) (by omega) (by omega) (by omega))).cons (b := 3200) (by omega) inb_S5120x128_S640x128_2560_0 _
      (laid_first hg inb_S640x512_S640x128_0_256 (h := 2) (by omega) (by omega) (by omega))).cons (b := 3840) (by omega) inb_S5120x128_S640x128_3200_0 _
      (laid_second hg inb_S640x512_S640x128_0_256 (h := 2) (by omega) (by omega) (by omega))).cons (b := 4480) (by omega) inb_S5120x128_S640x128_3840_0 _
      (laid_first hg inb_S640x512_S640x128_0_384 (h := 3) (by omega) (by omega) (by omega))).cons (b := 5120) (by omega) inb_S5120x128_S640x128_4480_0 _
      (laid_second hg inb_S640x512_S640x128_0_384 (h := 3) (by omega) (by omega) (by omega)))

end Cert.Attn
-- ==== Proof.Finish.lean ====
/-
  THE END OF A GRID POINT: from the two finished sums of a head's 1280 rows, the block of 640 rows of the result — the two
  maps' quotients, their difference by `λ`, the normalization — read at an entry; and `λ` as the kernel computes it.
-/
module

public import proofs.«01_k».proof.Proof.Queries

@[expose] public section

noncomputable section

namespace Cert.Attn

open Idealize.ShloMosaic Idealize.ShloMosaic.ValueIdx Cert.KernelIdeal Cert.KernelIdeal.Gen
open scoped BigOperators

/-- `λ` from the four rows of its parameters. -/
def lamE (a b c d : Fin 64 → EReal) : EReal :=
  Ideal.exp (∑ x, a x * b x) - Ideal.exp (∑ x, c x * d x) + Ideal.ofBits .f32 0x3E4CCCCD#32

/-- `λ` of real parameters. -/
def lamR (a b c d : Fin 64 → ℝ) : ℝ :=
  Real.exp (∑ x, a x * b x) - Real.exp (∑ x, c x * d x) + (Ideal.ofBits .f32 0x3E4CCCCD#32).toReal

theorem lamE_real (a b c d : Fin 64 → ℝ) :
    lamE (fun x => (a x : EReal)) (fun x => (b x : EReal)) (fun x => (c x : EReal)) (fun x => (d x : EReal)) = ((lamR a b c d : ℝ) : EReal) := by
  have hc : Ideal.ofBits .f32 0x3E4CCCCD#32 = (((Ideal.ofBits .f32 0x3E4CCCCD#32).toReal : ℝ) : EReal) := by
    have he : ∃ r : ℝ, Ideal.ofBits .f32 0x3E4CCCCD#32 = (r : EReal) := by
      show ∃ r : ℝ, Ideal.ieee 8 23 0x3E4CCCCD#32 = (r : EReal)
      unfold Ideal.ieee
      dsimp only
      rw [if_neg (by decide), if_neg (by decide)]
      exact ⟨_, rfl⟩
    obtain ⟨r, hr⟩ := he
    rw [hr, EReal.toReal_coe]
  unfold lamE lamR
  generalize (Ideal.ofBits .f32 0x3E4CCCCD#32).toReal = z at hc ⊢
  rw [hc, coe_mul_sum, coe_mul_sum, Ideal.exp_coe, Ideal.exp_coe, ← EReal.coe_sub, ← EReal.coe_add]

/-- The kernel's `λ`, as a one-by-one array. -/
def lamG (w : Vec Ideal S4x64 .f32) : FVec Ideal S1x1 .f32 :=
  addf (subf (exp (shapeCast S1x1 (multiReduction .add [1] S1 (mulf (extractStridedSlice S1x64 ![0, 0] (shapeCast S4x64 w shapeCasts_S4x64_S4x64) slices_S4x64_o0_0_S1x64)
        (extractStridedSlice S1x64 ![1, 0] (shapeCast S4x64 w shapeCasts_S4x64_S4x64) slices_S4x64_o1_0_S1x64)) 0x00000000#32 reduces_S1x64_S1 (.inl rfl) rfl) shapeCasts_S1_S1x1))
      (exp (shapeCast S1x1 (multiReduction .add [1] S1 (mulf (extractStridedSlice S1x64 ![2, 0] (shapeCast S4x64 w shapeCasts_S4x64_S4x64) slices_S4x64_o2_0_S1x64)
        (extractStridedSlice S1x64 ![3, 0] (shapeCast S4x64 w shapeCasts_S4x64_S4x64) slices_S4x64_o3_0_S1x64)) 0x00000000#32 reduces_S1x64_S1 (.inl rfl) rfl) shapeCasts_S1_S1x1)))
    (broadcast S1x1 (Scalar.ofBits (F := Ideal) .f32 0x3E4CCCCD#32))

theorem lam_sum (u v : FVec Ideal S1x64 .f32) :
    shapeCast S1x1 (multiReduction .add [1] S1 (mulf u v) 0x00000000#32 reduces_S1x64_S1 (.inl rfl) rfl) shapeCasts_S1_S1x1 (ix2 (0 : Fin 1) (0 : Fin 1))
      = ∑ x : Fin 64, u (ix2 (0 : Fin 1) x) * v (ix2 (0 : Fin 1) x) := by
  refine (shapeCast_apply _ shapeCasts_S1_S1x1 (ix2 (0 : Fin 1) (0 : Fin 1)) (ix1 (0 : Fin 1)) (by
    rw [Shape.rowMajor_val_one, Shape.rowMajor_val_two]; rfl)).trans ?_
  refine (Ideal.multiReduction_add_single (a := (1 : Fin S1x64.rank)) (mulf u v) 0x00000000#32 reduces_S1x64_S1 (.inl rfl) rfl (ix1 (0 : Fin 1))).trans ?_
  show (∑ x : Fin 64, _) = _
  refine Finset.sum_congr rfl fun x _ => ?_
  show (mulf u v) (reduces_S1x64_S1.lift (ix1 (0 : Fin 1)) x) = (mulf u v) (ix2 (0 : Fin 1) x)
  congr 1
  funext a
  apply Fin.ext
  match a with
  | ⟨0, _⟩ => rfl
  | ⟨1, _⟩ => rfl

theorem lamG_apply (w : Vec Ideal S4x64 .f32) :
    lamG w (ix2 (0 : Fin 1) (0 : Fin 1)) = lamE (fun x => w (ix2 (0 : Fin 4) x)) (fun x => w (ix2 (1 : Fin 4) x)) (fun x => w (ix2 (2 : Fin 4) x))
      (fun x => w (ix2 (3 : Fin 4) x)) := by
  unfold lamG lamE
  rw [shapeCast_self]
  have hs : ∀ (k : Fin 4) (h : S4x64.Slices ![k.val, 0] S1x64) (x : Fin 64), extractStridedSlice S1x64 ![k.val, 0] w h (ix2 (0 : Fin 1) x) = w (ix2 k x) :=
    fun k h x => extractStridedSlice_apply _ _ h (ix2 (0 : Fin 1) x) (ix2 k x) (by
      intro a; match a with | ⟨0, _⟩ => rfl | ⟨1, _⟩ => exact (Nat.zero_add _).symm)
  have e0 := hs 0 slices_S4x64_o0_0_S1x64
  have e1 := hs 1 slices_S4x64_o1_0_S1x64
  have e2 := hs 2 slices_S4x64_o2_0_S1x64
  have e3 := hs 3 slices_S4x64_o3_0_S1x64
  show Ideal.exp (shapeCast S1x1 _ shapeCasts_S1_S1x1 (ix2 (0 : Fin 1) (0 : Fin 1))) - Ideal.exp (shapeCast S1x1 _ shapeCasts_S1_S1x1 (ix2 (0 : Fin 1) (0 : Fin 1))) + _ = _
  rw [lam_sum, lam_sum]
  rw [show (∑ x : Fin 64, extractStridedSlice S1x64 ![0, 0] w slices_S4x64_o0_0_S1x64 (ix2 (0 : Fin 1) x)
      * extractStridedSlice S1x64 ![1, 0] w slices_S4x64_o1_0_S1x64 (ix2 (0 : Fin 1) x)) = _ from
      Finset.sum_congr rfl fun x _ => congrArg₂ (· * ·) (e0 x) (e1 x),
    show (∑ x : Fin 64, extractStridedSlice S1x64 ![2, 0] w slices_S4x64_o2_0_S1x64 (ix2 (0 : Fin 1) x)
      * extractStridedSlice S1x64 ![3, 0] w slices_S4x64_o3_0_S1x64 (ix2 (0 : Fin 1) x)) = _ from
      Finset.sum_congr rfl fun x _ => congrArg₂ (· * ·) (e2 x) (e3 x)]
  rfl

/-- The difference of the two maps' quotients, read in a row. -/
def quo (A L : FVec Ideal S1280x128 .f32) (lam : EReal) (r : Fin 640) (x : Fin 128) : EReal :=
  Ideal.div (A (ix2 (⟨r.val, by omega⟩ : Fin 1280) x)) (L (ix2 (⟨r.val, by omega⟩ : Fin 1280) x))
    - lam * Ideal.div (A (ix2 (⟨640 + r.val, by omega⟩ : Fin 1280) x)) (L (ix2 (⟨640 + r.val, by omega⟩ : Fin 1280) x))

/-- The normalized block, with its operand `o` named. -/
def finG (o : FVec Ideal S640x128 .f32) (g : Vec Ideal S1x128 .f32) : FVec Ideal S640x128 .bf16 :=
  truncf .bf16 (mulf (mulf (mulf o (broadcastTo S640x128 (rsqrt (addf (divf (shapeCast S640x1
    (multiReduction .add [1] S640 (mulf o o) 0x00000000#32 reduces_S640x128_S640 (.inl rfl) rfl) shapeCasts_S640_S640x1)
    (broadcast S640x1 (Scalar.ofBits (F := Ideal) .f32 0x43000000#32))) (broadcast S640x1 (Scalar.ofBits (F := Ideal) .f32 0x358637BD#32)))) broadcasts_S640x1_S640x128))
    (broadcastTo S640x128 (shapeCast S1x128 g shapeCasts_S1x128_S1x128) broadcasts_S1x128_S640x128))
    (broadcast S640x128 (Scalar.ofBits (F := Ideal) .f32 0x3F4CCCCD#32))) bitsLt_bf16_f32

theorem finG_apply (o : FVec Ideal S640x128 .f32) (g : Vec Ideal S1x128 .f32) (r : Fin 640) (d : Fin 128) :
    finG o g (ix2 r d) = fin (fun x => o (ix2 r x)) (fun x => g (ix2 (0 : Fin 1) x)) d := by
  have hs : shapeCast S640x1 (multiReduction .add [1] S640 (mulf o o) 0x00000000#32 reduces_S640x128_S640 (.inl rfl) rfl) shapeCasts_S640_S640x1
      (ix2 r (0 : Fin 1)) = ∑ x : Fin 128, o (ix2 r x) * o (ix2 r x) := by
    refine (shapeCast_apply _ shapeCasts_S640_S640x1 (ix2 r (0 : Fin 1)) (ix1 r) (by
      rw [Shape.rowMajor_val_one, Shape.rowMajor_val_two]; show r.val = r.val * 1 + 0; omega)).trans ?_
    refine (Ideal.multiReduction_add_single (a := (1 : Fin S640x128.rank)) (mulf o o) 0x00000000#32 reduces_S640x128_S640 (.inl rfl) rfl (ix1 r)).trans ?_
    show (∑ x : Fin 128, _) = _
    refine Finset.sum_congr rfl fun x _ => ?_
    show (mulf o o) (reduces_S640x128_S640.lift (ix1 r) x) = (mulf o o) (ix2 r x)
    congr 1
    funext a
    apply Fin.ext
    match a with
    | ⟨0, _⟩ => rfl
    | ⟨1, _⟩ => rfl
  unfold finG fin
  rw [shapeCast_self]
  show o (ix2 r d) * broadcastTo S640x128 _ broadcasts_S640x1_S640x128 (ix2 r d) * broadcastTo S640x128 g broadcasts_S1x128_S640x128 (ix2 r d) * _ = _
  rw [broadcastTo_apply _ broadcasts_S640x1_S640x128 (ix2 r d) (ix2 r (0 : Fin 1)) (by
    intro a; match a with | ⟨0, _⟩ => rfl | ⟨1, _⟩ => rfl),
    broadcastTo_apply _ broadcasts_S1x128_S640x128 (ix2 r d) (ix2 (0 : Fin 1) d) (by
    intro a; match a with | ⟨0, _⟩ => rfl | ⟨1, _⟩ => rfl)]
  show o (ix2 r d) * Ideal.rsqrt (Ideal.div (shapeCast S640x1 _ shapeCasts_S640_S640x1 (ix2 r (0 : Fin 1))) _ + _) * _ * _ = _
  rw [hs]
  rfl

/-- **The end of a point**, read at an entry. -/
theorem finish_apply (lam : FVec Ideal S1x1 .f32) (A L : Vec Ideal S1280x128 .f32) (g : Vec Ideal S1x128 .f32) (r : Fin 640) (d : Fin 128) :
    k0_pay203 (F := Ideal) lam A L g (ix2 r d) = fin (quo A L (lam (ix2 (0 : Fin 1) (0 : Fin 1))) r) (fun x => g (ix2 (0 : Fin 1) x)) d := by
  have e : k0_pay203 (F := Ideal) lam A L g = finG (subf (extractStridedSlice S640x128 ![0, 0] (divf A L) slices_S1280x128_o0_0_S640x128)
      (mulf (broadcastTo S640x128 lam broadcasts_S1x1_S640x128) (extractStridedSlice S640x128 ![640, 0] (divf A L) slices_S1280x128_o640_0_S640x128))) g := rfl
  rw [e, finG_apply]
  congr 1
  funext x
  show extractStridedSlice S640x128 ![0, 0] (divf A L) slices_S1280x128_o0_0_S640x128 (ix2 r x)
    - broadcastTo S640x128 lam broadcasts_S1x1_S640x128 (ix2 r x) * extractStridedSlice S640x128 ![640, 0] (divf A L) slices_S1280x128_o640_0_S640x128 (ix2 r x) = _
  rw [extractStridedSlice_apply _ _ slices_S1280x128_o0_0_S640x128 (ix2 r x) (ix2 (⟨r.val, by omega⟩ : Fin 1280) x) (by
      intro a; match a with | ⟨0, _⟩ => exact (Nat.zero_add _).symm | ⟨1, _⟩ => exact (Nat.zero_add _).symm),
    extractStridedSlice_apply _ _ slices_S1280x128_o640_0_S640x128 (ix2 r x) (ix2 (⟨640 + r.val, by omega⟩ : Fin 1280) x) (by
      intro a; match a with | ⟨0, _⟩ => rfl | ⟨1, _⟩ => exact (Nat.zero_add _).symm),
    broadcastTo_apply _ broadcasts_S1x1_S640x128 (ix2 r x) (ix2 (0 : Fin 1) (0 : Fin 1)) (by
    intro a; match a with | ⟨0, _⟩ => rfl | ⟨1, _⟩ => rfl)]
  rfl

end Cert.Attn
-- ==== Proof.Blocks.lean ====
/-
  A HEAD'S BLOCK of the result from its finished rows, and the four blocks side by side in a block of the output.
-/
module

public import proofs.«01_k».proof.Proof.Finish

@[expose] public section

noncomputable section

namespace Cert.Attn

open Idealize.ShloMosaic Idealize.ShloMosaic.ValueIdx Cert.KernelIdeal Cert.KernelIdeal.Gen
open scoped BigOperators

variable {sig : RefSig} {κ₁ κ₂ κ₃ : Kind} {sp₁ sp₂ sp₃ : Space}

/-- **A head's difference** of averages, from the rows that are finished. -/
theorem head_quo {v10 : View sig κ₁ sp₁ (Sh 5120 128) .f32} {v11 : View sig κ₂ sp₂ (Sh 5120 128) .f32} {v12 : View sig κ₃ sp₃ (Sh 5120 128) .f32}
    {Q K V : ℕ → ℕ → ℝ} {q b h a : ℕ} {L10 L11 L12 : List (View.Piece (Elt Ideal) (Sh 5120 128) .f32)}
    (hd : Done v10 v11 v12 b (upTo q) (sc (qf Q q) K) (vl V) L10 L11 L12) (hh : h < 4) (hb : b = 1280 * (h + 1)) (ha : a = 1280 * h)
    (inb : ∀ i, (![a, 0] : Fin 2 → ℕ) i + (Sh 1280 128).size i ≤ (Sh 5120 128).size i) (lam : ℝ) (r : Fin 640) (x : Fin 128) :
    quo (v12.readCov (Val := Elt Ideal) L12 (Rect.unit (s := Sh 5120 128) ![a, 0] (Sh 1280 128).size inb).toLoadRect)
      (v11.readCov (Val := Elt Ideal) L11 (Rect.unit (s := Sh 5120 128) ![a, 0] (Sh 1280 128).size inb).toLoadRect) ((lam : ℝ) : EReal) r x
      = ((diffO Q K V lam h (640 * q + r.val) x.val : ℝ) : EReal) := by
  subst hb ha
  have hr := r.isLt
  have key : ∀ n, n < 2 → ∀ X : Fin 5120, X.val = 1280 * h + (640 * n + r.val) →
      Ideal.div (rowOf v12 (v12.writes (Elt Ideal) v12.junk L12) X x) (rowOf v11 (v11.writes (Elt Ideal) v11.junk L11) X x)
        = ((avg Q K V (128 * h + 64 * n) (640 * q + r.val) (128 * h + x.val) : ℝ) : EReal) := by
    intro n hn X hX
    have h1 : X.val / 1280 = h := by omega
    have h2 : X.val % 1280 / 640 = n := by omega
    have h3 : X.val % 640 = r.val := by omega
    have hrow := hd v10.junk v11.junk v12.junk X (by omega)
    rw [show upTo q X.val = (640 * q + r.val) + 1 by unfold upTo; rw [h3]] at hrow
    refine row_avg Q K V (128 * h + 64 * n) (640 * q + r.val) (128 * h) (fun j => ?_) (fun j d => ?_) hrow x
    · rw [sc_qf Q K q X.val j (by omega), h1, h2, h3]
    · show V j (128 * (X.val / 1280) + d.val) = _
      rw [h1]
  have e0 := key 0 (by omega) ⟨1280 * h + r.val, by omega⟩ (by show 1280 * h + r.val = _; omega)
  have e1 := key 1 (by omega) ⟨1280 * h + (640 + r.val), by omega⟩ (by show 1280 * h + (640 + r.val) = _; omega)
  unfold quo diffO View.readCov
  rw [readAt_rows v12 _ inb rfl (⟨r.val, by omega⟩ : Fin 1280) x ⟨1280 * h + r.val, by omega⟩ x rfl (Nat.zero_add _).symm,
    readAt_rows v11 _ inb rfl (⟨r.val, by omega⟩ : Fin 1280) x ⟨1280 * h + r.val, by omega⟩ x rfl (Nat.zero_add _).symm,
    readAt_rows v12 _ inb rfl (⟨640 + r.val, by omega⟩ : Fin 1280) x ⟨1280 * h + (640 + r.val), by omega⟩ x rfl (Nat.zero_add _).symm,
    readAt_rows v11 _ inb rfl (⟨640 + r.val, by omega⟩ : Fin 1280) x ⟨1280 * h + (640 + r.val), by omega⟩ x rfl (Nat.zero_add _).symm]
  refine (congrArg₂ (fun u v : EReal => u - (lam : EReal) * v) e0 e1).trans ?_
  rw [← EReal.coe_mul, ← EReal.coe_sub]
  rfl

/-- **A head's block** of the result. -/
theorem head_block {v10 : View sig κ₁ sp₁ (Sh 5120 128) .f32} {v11 : View sig κ₂ sp₂ (Sh 5120 128) .f32} {v12 : View sig κ₃ sp₃ (Sh 5120 128) .f32}
    {Q K V : ℕ → ℕ → ℝ} {q b h a : ℕ} {L10 L11 L12 : List (View.Piece (Elt Ideal) (Sh 5120 128) .f32)}
    (hd : Done v10 v11 v12 b (upTo q) (sc (qf Q q) K) (vl V) L10 L11 L12) (hh : h < 4) (hb : b = 1280 * (h + 1)) (ha : a = 1280 * h)
    (inb : ∀ i, (![a, 0] : Fin 2 → ℕ) i + (Sh 1280 128).size i ≤ (Sh 5120 128).size i) (w : Vec Ideal S4x64 .f32) (lam : ℝ)
    (hw : lamG w (ix2 (0 : Fin 1) (0 : Fin 1)) = ((lam : ℝ) : EReal)) (g : Vec Ideal S1x128 .f32) (gv : Fin 128 → EReal)
    (hg : ∀ x, g (ix2 (0 : Fin 1) x) = gv x) (r : Fin 640) (x : Fin 128) :
    k0_pay203 (F := Ideal) (lamG w) (v12.readCov (Val := Elt Ideal) L12 (Rect.unit (s := Sh 5120 128) ![a, 0] (Sh 1280 128).size inb).toLoadRect)
      (v11.readCov (Val := Elt Ideal) L11 (Rect.unit (s := Sh 5120 128) ![a, 0] (Sh 1280 128).size inb).toLoadRect) g (ix2 r x)
      = fin (fun z => ((diffO Q K V lam h (640 * q + r.val) z.val : ℝ) : EReal)) gv x := by
  refine (finish_apply _ _ _ _ r x).trans ?_
  rw [hw, funext (head_quo hd hh hb ha inb lam r), funext hg]

/-- Four blocks of 128 columns side by side. -/
theorem four_blocks (v : View sig κ₁ sp₁ (Sh 640 512) .bf16) (f : v.ty.Contents (Elt Ideal)) (p : Fin 4 → FVec Ideal (Sh 640 128) .bf16)
    (W : ℕ → Fin 640 → Fin 128 → EReal) (hp : ∀ (h : Fin 4) r x, p h (ix2 r x) = W h.val r x) (r : Fin 640) (y : Fin 512)
    (i3 : ∀ i, (![0, 384] : Fin 2 → ℕ) i + (Sh 640 128).size i ≤ (Sh 640 512).size i)
    (i2 : ∀ i, (![0, 256] : Fin 2 → ℕ) i + (Sh 640 128).size i ≤ (Sh 640 512).size i)
    (i1 : ∀ i, (![0, 128] : Fin 2 → ℕ) i + (Sh 640 128).size i ≤ (Sh 640 512).size i)
    (i0 : ∀ i, (![0, 0] : Fin 2 → ℕ) i + (Sh 640 128).size i ≤ (Sh 640 512).size i) :
    v.read (Elt Ideal) (v.writes (Elt Ideal) f
      [⟨Rect.unit (s := Sh 640 512) ![0, 384] (Sh 640 128).size i3, p 3⟩, ⟨Rect.unit (s := Sh 640 512) ![0, 256] (Sh 640 128).size i2, p 2⟩,
        ⟨Rect.unit (s := Sh 640 512) ![0, 128] (Sh 640 128).size i1, p 1⟩, ⟨Rect.unit (s := Sh 640 512) ![0, 0] (Sh 640 128).size i0, p 0⟩]) (ix2 r y)
      = W (y.val / 128) r ⟨y.val % 128, Nat.mod_lt _ (by decide)⟩ := by
  have hy := y.isLt
  have mem : ∀ (h : Fin 4) (off : ℕ) (hoff : off = 128 * h.val) (inb : ∀ i, (![0, off] : Fin 2 → ℕ) i + (Sh 640 128).size i ≤ (Sh 640 512).size i)
      (L : List (View.Piece (Elt Ideal) (Sh 640 512) .bf16)), y.val / 128 = h.val →
      v.read (Elt Ideal) (v.writes (Elt Ideal) f ((⟨Rect.unit (s := Sh 640 512) ![0, off] (Sh 640 128).size inb, p h⟩ : View.Piece (Elt Ideal) (Sh 640 512) .bf16) :: L)) (ix2 r y)
        = W (y.val / 128) r ⟨y.val % 128, Nat.mod_lt _ (by decide)⟩ := by
    intro h off hoff inb L hh
    rw [View.read_writes_cons_unit_of_mem v f inb (p h) L (ix2 r y) (ix2 r (⟨y.val % 128, Nat.mod_lt _ (by decide)⟩ : Fin 128)) rfl (by
      intro a
      match a with
      | ⟨0, _⟩ => exact (Nat.zero_add _).symm
      | ⟨1, _⟩ => show y.val = off + y.val % 128; omega), hp, hh]
  have skip : ∀ (h : Fin 4) (off : ℕ) (inb : ∀ i, (![0, off] : Fin 2 → ℕ) i + (Sh 640 128).size i ≤ (Sh 640 512).size i)
      (L : List (View.Piece (Elt Ideal) (Sh 640 512) .bf16)), y.val < off →
      v.read (Elt Ideal) (v.writes (Elt Ideal) f ((⟨Rect.unit (s := Sh 640 512) ![0, off] (Sh 640 128).size inb, p h⟩ : View.Piece (Elt Ideal) (Sh 640 512) .bf16) :: L)) (ix2 r y)
        = v.read (Elt Ideal) (v.writes (Elt Ideal) f L) (ix2 r y) := by
    intro h off inb L hlt
    exact View.read_writes_cons_unit_of_not_mem v f inb (p h) L (ix2 r y) rfl (1 : Fin 2) (.inl hlt)
  by_cases c3 : 384 ≤ y.val
  · exact mem 3 384 rfl i3 _ (by show y.val / 128 = 3; omega)
  refine (skip 3 384 i3 _ (by omega)).trans ?_
  by_cases c2 : 256 ≤ y.val
  · exact mem 2 256 rfl i2 _ (by show y.val / 128 = 2; omega)
  refine (skip 2 256 i2 _ (by omega)).trans ?_
  by_cases c1 : 128 ≤ y.val
  · exact mem 1 128 rfl i1 _ (by show y.val / 128 = 1; omega)
  refine (skip 1 128 i1 _ (by omega)).trans ?_
  exact mem 0 0 rfl i0 _ (by show y.val / 128 = 0; omega)

end Cert.Attn
-- ==== Proof.Odd.lean ====
/-
  AN ODD GRID POINT: after the loop, each of the eight blocks of 640 rows is updated once more, in two parts, under the causal
  mask; then every row `X` has the columns up to and with its own. `odd_done1` … `odd_done4`: that it is so of each head's
  rows as soon as the head's four stores are made, which is where the result reads them.
-/
module

public import proofs.«01_k».proof.Proof.Blocks
import all proofs.«01_k».proof.Proof.Body

@[expose] public section

set_option maxRecDepth 8192
set_option maxHeartbeats 4000000

noncomputable section

namespace Cert.Attn

open Idealize.ShloMosaic Idealize.ShloMosaic.ValueIdx Cert.KernelIdeal Cert.KernelIdeal.Gen Cert.KernelIdeal.Hand

variable (𝒱 : Variants) (c : Dev nD) (bd : Option 𝒱.V) (i : grid0.Coords)
  (arg3 : Memref sig .tc .vmem S640x512 .f32) (harg3 : arg3.IsWhole) (arg4 : Memref sig .tc .vmem S8320x512 .bf16) (harg4 : arg4.IsWhole)
  (arg5 : Memref sig .tc .vmem S8320x512 .bf16) (harg5 : arg5.IsWhole) (arg6 : Memref sig .tc .vmem S4x64 .f32) (harg6 : arg6.IsWhole)
  (arg7 : Memref sig .tc .vmem S1x128 .f32) (harg7 : arg7.IsWhole) (arg8 : Memref sig .tc .vmem S640x512 .bf16) (harg8 : arg8.IsWhole)
  (arg9 : Memref sig .tc .vmem S5120x128 .bf16) (harg9 : arg9.IsWhole) (arg10 : Memref sig .tc .vmem S5120x128 .f32) (harg10 : arg10.IsWhole)
  (arg11 : Memref sig .tc .vmem S5120x128 .f32) (harg11 : arg11.IsWhole) (arg12 : Memref sig .tc .vmem S5120x128 .f32) (harg12 : arg12.IsWhole)
  (h1 : k0_cond1 i = 1#1)
  (X_arg3 : BufTy.Contents (Elt Ideal) arg3.view.ty) (X_arg4 : BufTy.Contents (Elt Ideal) arg4.view.ty) (X_arg5 : BufTy.Contents (Elt Ideal) arg5.view.ty)
  (G10 : BufTy.Contents (Elt Ideal) arg10.view.ty) (G11 : BufTy.Contents (Elt Ideal) arg11.view.ty) (G12 : BufTy.Contents (Elt Ideal) arg12.view.ty)

variable {qf kf vf : ℕ → ℕ → ℝ}

variable (hQ : ∀ (X : Fin 5120) (x : Fin 128), arg9.view.read (Elt Ideal) (arg9.view.writes (Elt Ideal) arg9.view.junk (oddRun.sl.H_arg9_8 arg3 X_arg3)) (ix2 X x) = ((qf X.val x.val : ℝ) : EReal))
  (hK : ∀ (j : Fin 8320) (x : Fin 512), arg4.view.read (Elt Ideal) X_arg4 (ix2 j x) = ((kf j.val x.val : ℝ) : EReal))
  (hV : ∀ (j : Fin 8320) (x : Fin 512), arg5.view.read (Elt Ideal) X_arg5 (ix2 j x) = ((vf j.val x.val : ℝ) : EReal))

include hQ hK hV in
/-- **Every row has its columns**, head by head. -/
theorem odd_done :
    Done arg10.view arg11.view arg12.view 1280 (upTo (i 2).val) (sc qf kf) (vl vf)
      (oddRun.sl.H_arg10_4 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_4 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_4 𝒱 c bd i arg3 harg3 arg4 harg4 arg5 harg5 arg6 harg6 arg7 harg7 arg8 harg8 arg9 harg9 arg10 harg10 arg11 harg11 arg12 harg12 h1 X_arg3 X_arg4 X_arg5 G10 G11 G12) ∧ Done arg10.view arg11.view arg12.view 2560 (upTo (i 2).val) (sc qf kf) (vl vf)
      (oddRun.sl.H_arg10_8 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_8 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_8 𝒱 c bd i arg3 harg3 arg4 harg4 arg5 harg5 arg6 harg6 arg7 harg7 arg8 harg8 arg9 harg9 arg10 harg10 arg11 harg11 arg12 harg12 h1 X_arg3 X_arg4 X_arg5 G10 G11 G12) ∧ Done arg10.view arg11.view arg12.view 3840 (upTo (i 2).val) (sc qf kf) (vl vf)
      (oddRun.sl.H_arg10_12 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_12 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_12 𝒱 c bd i arg3 harg3 arg4 harg4 arg5 harg5 arg6 harg6 arg7 harg7 arg8 harg8 arg9 harg9 arg10 harg10 arg11 harg11 arg12 harg12 h1 X_arg3 X_arg4 X_arg5 G10 G11 G12)
      ∧ ∃ L10, Done arg10.view arg11.view arg12.view 5120 (upTo (i 2).val) (sc qf kf) (vl vf) L10
      (oddRun.sl.H_arg11_16 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_16 𝒱 c bd i arg3 harg3 arg4 harg4 arg5 harg5 arg6 harg6 arg7 harg7 arg8 harg8 arg9 harg9 arg10 harg10 arg11 harg11 arg12 harg12 h1 X_arg3 X_arg4 X_arg5 G10 G11 G12) := by
  have hp := odd_spec i h1
  obtain ⟨o0, o1, o2, o3⟩ := odd_offs i hp
  have hq : (i 2).val < 13 := (i 2).isLt
  have fs := first_spec i
  have tr := trips_eq i
  have h0 : oddRun.sl.v114 i = 1#1 → (640 * ((i 2).val - 1)) = 0 := fun hf => by have := fs.mp hf; omega
  have t0 := loops_todo 𝒱 c bd i arg3 harg3 arg4 harg4 arg5 harg5 arg6 harg6 arg7 harg7 arg8 harg8 arg9 harg9 arg10 harg10 arg11 harg11 arg12 harg12 (BitVec.ofNat 32 (i 2).val) (oddRun.sl.r_1 arg3 X_arg3)
    (oddRun.sl.v94 i) X_arg4 X_arg5 (arg9.view.writes (Elt Ideal) arg9.view.junk (oddRun.sl.H_arg9_8 arg3 X_arg3)) G10 G11 G12 hQ hK hV
    (Scf.trips (k0_t1_loop i).lb (k0_t1_loop i).ub (k0_t1_loop i).st) (Scf.trips (k0_t2_loop i).lb (k0_t2_loop i).ub (k0_t2_loop i).st) rfl rfl
    (640 * ((i 2).val - 1)) (oddRun.sl.v114 i) (fun hf => by
      have h2 : ¬ (i 2).val < 2 := fun h => hf (fs.mpr h)
      have e : (Scf.trips (k0_t1_loop i).lb (k0_t1_loop i).ub (k0_t1_loop i).st) = (i 2).val / 2 := tr
      rw [e]; omega)
  have u1 := (Stage.zero (upTo (i 2).val) t0).masked geo1024 h0 640 _ _ _ (rowsIn (by omega)) (rowsIn (by omega)) (rowsIn (by omega)) (rowsIn (by omega)) (rowsIn (by omega)) (rowsIn (by omega))
      (q_rows hQ (a := 0) (nr := 384) (by omega)) (k_rows hK o0 (by omega) (by omega)) (k_rows hV o0 (by omega) (by omega)) (by omega) (by omega) (by omega) (by omega)
      (fun r hr => by show 640 * (i 2).val + (0 + r) % 640 + 1 = (640 * ((i 2).val - 1)) + (r + 640 + 1); omega)
  have s1 : Stage arg10.view arg11.view arg12.view 384 (640 * ((i 2).val - 1)) (upTo (i 2).val) (sc qf kf) (vl vf) (oddRun.sl.v114 i) G10 G11 G12
      (oddRun.sl.H_arg10_1 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_1 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_1 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u1.of_eq rfl rfl rfl
  have u2 := s1.masked geo1280 h0 1024 _ _ _ (rowsIn (by omega)) (rowsIn (by omega)) (rowsIn (by omega)) (rowsIn (by omega)) (rowsIn (by omega)) (rowsIn (by omega))
      (q_rows hQ (a := 384) (nr := 256) (by omega)) (k_rows hK o0 (by omega) (by omega)) (k_rows hV o0 (by omega) (by omega)) (by omega) (by omega) (by omega) (by omega)
      (fun r hr => by show 640 * (i 2).val + (384 + r) % 640 + 1 = (640 * ((i 2).val - 1)) + (r + 1024 + 1); omega)
  have s2 : Stage arg10.view arg11.view arg12.view 640 (640 * ((i 2).val - 1)) (upTo (i 2).val) (sc qf kf) (vl vf) (oddRun.sl.v114 i) G10 G11 G12
      (oddRun.sl.H_arg10_2 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_2 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_2 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u2.of_eq rfl rfl rfl
  have u3 := s2.masked geo1024 h0 640 _ _ _ (rowsIn (by omega)) (rowsIn (by omega)) (rowsIn (by omega)) (rowsIn (by omega)) (rowsIn (by omega)) (rowsIn (by omega))
      (q_rows hQ (a := 640) (nr := 384) (by omega)) (k_rows hK o0 (by omega) (by omega)) (k_rows hV o0 (by omega) (by omega)) (by omega) (by omega) (by omega) (by omega)
      (fun r hr => by show 640 * (i 2).val + (640 + r) % 640 + 1 = (640 * ((i 2).val - 1)) + (r + 640 + 1); omega)
  have s3 : Stage arg10.view arg11.view arg12.view 1024 (640 * ((i 2).val - 1)) (upTo (i 2).val) (sc qf kf) (vl vf) (oddRun.sl.v114 i) G10 G11 G12
      (oddRun.sl.H_arg10_3 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_3 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_3 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u3.of_eq rfl rfl rfl
  have u4 := s3.masked geo1280 h0 1024 _ _ _ (rowsIn (by omega)) (rowsIn (by omega)) (rowsIn (by omega)) (rowsIn (by omega)) (rowsIn (by omega)) (rowsIn (by omega))
      (q_rows hQ (a := 1024) (nr := 256) (by omega)) (k_rows hK o0 (by omega) (by omega)) (k_rows hV o0 (by omega) (by omega)) (by omega) (by omega) (by omega) (by omega)
      (fun r hr => by show 640 * (i 2).val + (1024 + r) % 640 + 1 = (640 * ((i 2).val - 1)) + (r + 1024 + 1); omega)
  have s4 : Stage arg10.view arg11.view arg12.view 1280 (640 * ((i 2).val - 1)) (upTo (i 2).val) (sc qf kf) (vl vf) (oddRun.sl.v114 i) G10 G11 G12
      (oddRun.sl.H_arg10_4 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_4 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_4 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u4.of_eq rfl rfl rfl
  have u5 := s4.masked geo1024 h0 640 _ _ _ (rowsIn (by omega)) (rowsIn (by omega)) (rowsIn (by omega)) (rowsIn (by omega)) (rowsIn (by omega)) (rowsIn (by omega))
      (q_rows hQ (a := 1280) (nr := 384) (by omega)) (k_rows hK o1 (by omega) (by omega)) (k_rows hV o1 (by omega) (by omega)) (by omega) (by omega) (by omega) (by omega)
      (fun r hr => by show 640 * (i 2).val + (1280 + r) % 640 + 1 = (640 * ((i 2).val - 1)) + (r + 640 + 1); omega)
  have s5 : Stage arg10.view arg11.view arg12.view 1664 (640 * ((i 2).val - 1)) (upTo (i 2).val) (sc qf kf) (vl vf) (oddRun.sl.v114 i) G10 G11 G12
      (oddRun.sl.H_arg10_5 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_5 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_5 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u5.of_eq rfl rfl rfl
  have u6 := s5.masked geo1280 h0 1024 _ _ _ (rowsIn (by omega)) (rowsIn (by omega)) (rowsIn (by omega)) (rowsIn (by omega)) (rowsIn (by omega)) (rowsIn (by omega))
      (q_rows hQ (a := 1664) (nr := 256) (by omega)) (k_rows hK o1 (by omega) (by omega)) (k_rows hV o1 (by omega) (by omega)) (by omega) (by omega) (by omega) (by omega)
      (fun r hr => by show 640 * (i 2).val + (1664 + r) % 640 + 1 = (640 * ((i 2).val - 1)) + (r + 1024 + 1); omega)
  have s6 : Stage arg10.view arg11.view arg12.view 1920 (640 * ((i 2).val - 1)) (upTo (i 2).val) (sc qf kf) (vl vf) (oddRun.sl.v114 i) G10 G11 G12
      (oddRun.sl.H_arg10_6 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_6 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_6 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u6.of_eq rfl rfl rfl
  have u7 := s6.masked geo1024 h0 640 _ _ _ (rowsIn (by omega)) (rowsIn (by omega)) (rowsIn (by omega)) (rowsIn (by omega)) (rowsIn (by omega)) (rowsIn (by omega))
      (q_rows hQ (a := 1920) (nr := 384) (by omega)) (k_rows hK o1 (by omega) (by omega)) (k_rows hV o1 (by omega) (by omega)) (by omega) (by omega) (by omega) (by omega)
      (fun r hr => by show 640 * (i 2).val + (1920 + r) % 640 + 1 = (640 * ((i 2).val - 1)) + (r + 640 + 1); omega)
  have s7 : Stage arg10.view arg11.view arg12.view 2304 (640 * ((i 2).val - 1)) (upTo (i 2).val) (sc qf kf) (vl vf) (oddRun.sl.v114 i) G10 G11 G12
      (oddRun.sl.H_arg10_7 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_7 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_7 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u7.of_eq rfl rfl rfl
  have u8 := s7.masked geo1280 h0 1024 _ _ _ (rowsIn (by omega)) (rowsIn (by omega)) (rowsIn (by omega)) (rowsIn (by omega)) (rowsIn (by omega)) (rowsIn (by omega))
      (q_rows hQ (a := 2304) (nr := 256) (by omega)) (k_rows hK o1 (by omega) (by omega)) (k_rows hV o1 (by omega) (by omega)) (by omega) (by omega) (by omega) (by omega)
      (fun r hr => by show 640 * (i 2).val + (2304 + r) % 640 + 1 = (640 * ((i 2).val - 1)) + (r + 1024 + 1); omega)
  have s8 : Stage arg10.view arg11.view arg12.view 2560 (640 * ((i 2).val - 1)) (upTo (i 2).val) (sc qf kf) (vl vf) (oddRun.sl.v114 i) G10 G11 G12
      (oddRun.sl.H_arg10_8 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_8 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_8 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u8.of_eq rfl rfl rfl
  have u9 := s8.masked geo1024 h0 640 _ _ _ (rowsIn (by omega)) (rowsIn (by omega)) (rowsIn (by omega)) (rowsIn (by omega)) (rowsIn (by omega)) (rowsIn (by omega))
      (q_rows hQ (a := 2560) (nr := 384) (by omega)) (k_rows hK o2 (by omega) (by omega)) (k_rows hV o2 (by omega) (by omega)) (by omega) (by omega) (by omega) (by omega)
      (fun r hr => by show 640 * (i 2).val + (2560 + r) % 640 + 1 = (640 * ((i 2).val - 1)) + (r + 640 + 1); omega)
  have s9 : Stage arg10.view arg11.view arg12.view 2944 (640 * ((i 2).val - 1)) (upTo (i 2).val) (sc qf kf) (vl vf) (oddRun.sl.v114 i) G10 G11 G12
      (oddRun.sl.H_arg10_9 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_9 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_9 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u9.of_eq rfl rfl rfl
  have u10 := s9.masked geo1280 h0 1024 _ _ _ (rowsIn (by omega)) (rowsIn (by omega)) (rowsIn (by omega)) (rowsIn (by omega)) (rowsIn (by omega)) (rowsIn (by omega))
      (q_rows hQ (a := 2944) (nr := 256) (by omega)) (k_rows hK o2 (by omega) (by omega)) (k_rows hV o2 (by omega) (by omega)) (by omega) (by omega) (by omega) (by omega)
      (fun r hr => by show 640 * (i 2).val + (2944 + r) % 640 + 1 = (640 * ((i 2).val - 1)) + (r + 1024 + 1); omega)
  have s10 : Stage arg10.view arg11.view arg12.view 3200 (640 * ((i 2).val - 1)) (upTo (i 2).val) (sc qf kf) (vl vf) (oddRun.sl.v114 i) G10 G11 G12
      (oddRun.sl.H_arg10_10 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_10 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_10 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u10.of_eq rfl rfl rfl
  have u11 := s10.masked geo1024 h0 640 _ _ _ (rowsIn (by omega)) (rowsIn (by omega)) (rowsIn (by omega)) (rowsIn (by omega)) (rowsIn (by omega)) (rowsIn (by omega))
      (q_rows hQ (a := 3200) (nr := 384) (by omega)) (k_rows hK o2 (by omega) (by omega)) (k_rows hV o2 (by omega) (by omega)) (by omega) (by omega) (by omega) (by omega)
      (fun r hr => by show 640 * (i 2).val + (3200 + r) % 640 + 1 = (640 * ((i 2).val - 1)) + (r + 640 + 1); omega)
  have s11 : Stage arg10.view arg11.view arg12.view 3584 (640 * ((i 2).val - 1)) (upTo (i 2).val) (sc qf kf) (vl vf) (oddRun.sl.v114 i) G10 G11 G12
      (oddRun.sl.H_arg10_11 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_11 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_11 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u11.of_eq rfl rfl rfl
  have u12 := s11.masked geo1280 h0 1024 _ _ _ (rowsIn (by omega)) (rowsIn (by omega)) (rowsIn (by omega)) (rowsIn (by omega)) (rowsIn (by omega)) (rowsIn (by omega))
      (q_rows hQ (a := 3584) (nr := 256) (by omega)) (k_rows hK o2 (by omega) (by omega)) (k_rows hV o2 (by omega) (by omega)) (by omega) (by omega) (by omega) (by omega)
      (fun r hr => by show 640 * (i 2).val + (3584 + r) % 640 + 1 = (640 * ((i 2).val - 1)) + (r + 1024 + 1); omega)
  have s12 : Stage arg10.view arg11.view arg12.view 3840 (640 * ((i 2).val - 1)) (upTo (i 2).val) (sc qf kf) (vl vf) (oddRun.sl.v114 i) G10 G11 G12
      (oddRun.sl.H_arg10_12 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_12 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_12 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u12.of_eq rfl rfl rfl
  have u13 := s12.masked geo1024 h0 640 _ _ _ (rowsIn (by omega)) (rowsIn (by omega)) (rowsIn (by omega)) (rowsIn (by omega)) (rowsIn (by omega)) (rowsIn (by omega))
      (q_rows hQ (a := 3840) (nr := 384) (by omega)) (k_rows hK o3 (by omega) (by omega)) (k_rows hV o3 (by omega) (by omega)) (by omega) (by omega) (by omega) (by omega)
      (fun r hr => by show 640 * (i 2).val + (3840 + r) % 640 + 1 = (640 * ((i 2).val - 1)) + (r + 640 + 1); omega)
  have s13 : Stage arg10.view arg11.view arg12.view 4224 (640 * ((i 2).val - 1)) (upTo (i 2).val) (sc qf kf) (vl vf) (oddRun.sl.v114 i) G10 G11 G12
      (oddRun.sl.H_arg10_13 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_13 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_13 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u13.of_eq rfl rfl rfl
  have u14 := s13.masked geo1280 h0 1024 _ _ _ (rowsIn (by omega)) (rowsIn (by omega)) (rowsIn (by omega)) (rowsIn (by omega)) (rowsIn (by omega)) (rowsIn (by omega))
      (q_rows hQ (a := 4224) (nr := 256) (by omega)) (k_rows hK o3 (by omega) (by omega)) (k_rows hV o3 (by omega) (by omega)) (by omega) (by omega) (by omega) (by omega)
      (fun r hr => by show 640 * (i 2).val + (4224 + r) % 640 + 1 = (640 * ((i 2).val - 1)) + (r + 1024 + 1); omega)
  have s14 : Stage arg10.view arg11.view arg12.view 4480 (640 * ((i 2).val - 1)) (upTo (i 2).val) (sc qf kf) (vl vf) (oddRun.sl.v114 i) G10 G11 G12
      (oddRun.sl.H_arg10_14 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_14 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_14 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u14.of_eq rfl rfl rfl
  have u15 := s14.masked geo1024 h0 640 _ _ _ (rowsIn (by omega)) (rowsIn (by omega)) (rowsIn (by omega)) (rowsIn (by omega)) (rowsIn (by omega)) (rowsIn (by omega))
      (q_rows hQ (a := 4480) (nr := 384) (by omega)) (k_rows hK o3 (by omega) (by omega)) (k_rows hV o3 (by omega) (by omega)) (by omega) (by omega) (by omega) (by omega)
      (fun r hr => by show 640 * (i 2).val + (4480 + r) % 640 + 1 = (640 * ((i 2).val - 1)) + (r + 640 + 1); omega)
  have s15 : Stage arg10.view arg11.view arg12.view 4864 (640 * ((i 2).val - 1)) (upTo (i 2).val) (sc qf kf) (vl vf) (oddRun.sl.v114 i) G10 G11 G12
      (oddRun.sl.H_arg10_15 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg11_15 𝒱 c bd i arg3 harg3 arg4 harg4 arg5 harg5 arg6 harg6 arg7 harg7 arg8 harg8 arg9 harg9 arg10 harg10 arg11 harg11 arg12 harg12 h1 X_arg3 X_arg4 X_arg5 G10 G11 G12) (oddRun.sl.H_arg12_15 𝒱 c bd i arg3 harg3 arg4 harg4 arg5 harg5 arg6 harg6 arg7 harg7 arg8 harg8 arg9 harg9 arg10 harg10 arg11 harg11 arg12 harg12 h1 X_arg3 X_arg4 X_arg5 G10 G11 G12) :=
    u15.of_eq rfl rfl rfl
  have u16 := s15.masked geo1280 h0 1024 _ _ _ (rowsIn (by omega)) (rowsIn (by omega)) (rowsIn (by omega)) (rowsIn (by omega)) (rowsIn (by omega)) (rowsIn (by omega))
      (q_rows hQ (a := 4864) (nr := 256) (by omega)) (k_rows hK o3 (by omega) (by omega)) (k_rows hV o3 (by omega) (by omega)) (by omega) (by omega) (by omega) (by omega)
      (fun r hr => by show 640 * (i 2).val + (4864 + r) % 640 + 1 = (640 * ((i 2).val - 1)) + (r + 1024 + 1); omega)
  exact ⟨s4.1, s8.1, s12.1, _, (Stage.of_eq (L10 := _) u16 rfl (show (oddRun.sl.H_arg11_16 𝒱 c bd i arg3 harg3 arg4 harg4 arg5 harg5 arg6 harg6 arg7 harg7 arg8 harg8 arg9 harg9 arg10 harg10 arg11 harg11 arg12 harg12 h1 X_arg3 X_arg4 X_arg5 G10 G11 G12) = _ from rfl) (show (oddRun.sl.H_arg12_16 𝒱 c bd i arg3 harg3 arg4 harg4 arg5 harg5 arg6 harg6 arg7 harg7 arg8 harg8 arg9 harg9 arg10 harg10 arg11 harg11 arg12 harg12 h1 X_arg3 X_arg4 X_arg5 G10 G11 G12) = _ from rfl)).1⟩

end Cert.Attn
-- ==== Proof.Even.lean ====
/-
  AN EVEN GRID POINT: after the loop, each of the eight blocks of 640 rows is updated once more, in two parts, under the causal
  mask; then every row `X` has the columns up to and with its own. `even_done1` … `even_done4`: that it is so of each head's
  rows as soon as the head's four stores are made, which is where the result reads them.
-/
module

public import proofs.«01_k».proof.Proof.Odd
import all proofs.«01_k».proof.Proof.Body

@[expose] public section

set_option maxRecDepth 8192
set_option maxHeartbeats 4000000

noncomputable section

namespace Cert.Attn

open Idealize.ShloMosaic Idealize.ShloMosaic.ValueIdx Cert.KernelIdeal Cert.KernelIdeal.Gen Cert.KernelIdeal.Hand

variable (𝒱 : Variants) (c : Dev nD) (bd : Option 𝒱.V) (i : grid0.Coords)
  (arg3 : Memref sig .tc .vmem S640x512 .f32) (harg3 : arg3.IsWhole) (arg4 : Memref sig .tc .vmem S8320x512 .bf16) (harg4 : arg4.IsWhole)
  (arg5 : Memref sig .tc .vmem S8320x512 .bf16) (harg5 : arg5.IsWhole) (arg6 : Memref sig .tc .vmem S4x64 .f32) (harg6 : arg6.IsWhole)
  (arg7 : Memref sig .tc .vmem S1x128 .f32) (harg7 : arg7.IsWhole) (arg8 : Memref sig .tc .vmem S640x512 .bf16) (harg8 : arg8.IsWhole)
  (arg9 : Memref sig .tc .vmem S5120x128 .bf16) (harg9 : arg9.IsWhole) (arg10 : Memref sig .tc .vmem S5120x128 .f32) (harg10 : arg10.IsWhole)
  (arg11 : Memref sig .tc .vmem S5120x128 .f32) (harg11 : arg11.IsWhole) (arg12 : Memref sig .tc .vmem S5120x128 .f32) (harg12 : arg12.IsWhole)
  (h2 : k0_cond2 i = 1#1)
  (X_arg3 : BufTy.Contents (Elt Ideal) arg3.view.ty) (X_arg4 : BufTy.Contents (Elt Ideal) arg4.view.ty) (X_arg5 : BufTy.Contents (Elt Ideal) arg5.view.ty)
  (G10 : BufTy.Contents (Elt Ideal) arg10.view.ty) (G11 : BufTy.Contents (Elt Ideal) arg11.view.ty) (G12 : BufTy.Contents (Elt Ideal) arg12.view.ty)

variable {qf kf vf : ℕ → ℕ → ℝ}

variable (hQ : ∀ (X : Fin 5120) (x : Fin 128), arg9.view.read (Elt Ideal) (arg9.view.writes (Elt Ideal) arg9.view.junk (evenRun.sl.H_arg9_8 arg3 X_arg3)) (ix2 X x) = ((qf X.val x.val : ℝ) : EReal))
  (hK : ∀ (j : Fin 8320) (x : Fin 512), arg4.view.read (Elt Ideal) X_arg4 (ix2 j x) = ((kf j.val x.val : ℝ) : EReal))
  (hV : ∀ (j : Fin 8320) (x : Fin 512), arg5.view.read (Elt Ideal) X_arg5 (ix2 j x) = ((vf j.val x.val : ℝ) : EReal))

include hQ hK hV in
/-- **Every row has its columns**, head by head. -/
theorem even_done :
    Done arg10.view arg11.view arg12.view 1280 (upTo (i 2).val) (sc qf kf) (vl vf)
      (evenRun.sl.H_arg10_4 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_4 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_4 𝒱 c bd i arg3 harg3 arg4 harg4 arg5 harg5 arg6 harg6 arg7 harg7 arg8 harg8 arg9 harg9 arg10 harg10 arg11 harg11 arg12 harg12 h2 X_arg3 X_arg4 X_arg5 G10 G11 G12) ∧ Done arg10.view arg11.view arg12.view 2560 (upTo (i 2).val) (sc qf kf) (vl vf)
      (evenRun.sl.H_arg10_8 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_8 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_8 𝒱 c bd i arg3 harg3 arg4 harg4 arg5 harg5 arg6 harg6 arg7 harg7 arg8 harg8 arg9 harg9 arg10 harg10 arg11 harg11 arg12 harg12 h2 X_arg3 X_arg4 X_arg5 G10 G11 G12) ∧ Done arg10.view arg11.view arg12.view 3840 (upTo (i 2).val) (sc qf kf) (vl vf)
      (evenRun.sl.H_arg10_12 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_12 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_12 𝒱 c bd i arg3 harg3 arg4 harg4 arg5 harg5 arg6 harg6 arg7 harg7 arg8 harg8 arg9 harg9 arg10 harg10 arg11 harg11 arg12 harg12 h2 X_arg3 X_arg4 X_arg5 G10 G11 G12)
      ∧ ∃ L10, Done arg10.view arg11.view arg12.view 5120 (upTo (i 2).val) (sc qf kf) (vl vf) L10
      (evenRun.sl.H_arg11_16 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_16 𝒱 c bd i arg3 harg3 arg4 harg4 arg5 harg5 arg6 harg6 arg7 harg7 arg8 harg8 arg9 harg9 arg10 harg10 arg11 harg11 arg12 harg12 h2 X_arg3 X_arg4 X_arg5 G10 G11 G12) := by
  have hp := even_spec i h2
  obtain ⟨o0, o1, o2, o3⟩ := even_offs i
  have hq : (i 2).val < 13 := (i 2).isLt
  have fs := first_spec i
  have tr := trips_eq i
  have h0 : evenRun.sl.v113 i = 1#1 → (640 * (i 2).val) = 0 := fun hf => by have := fs.mp hf; omega
  have t0 := loops_todo 𝒱 c bd i arg3 harg3 arg4 harg4 arg5 harg5 arg6 harg6 arg7 harg7 arg8 harg8 arg9 harg9 arg10 harg10 arg11 harg11 arg12 harg12 (BitVec.ofNat 32 (i 2).val) (evenRun.sl.r_1 arg3 X_arg3)
    (evenRun.sl.v94 i) X_arg4 X_arg5 (arg9.view.writes (Elt Ideal) arg9.view.junk (evenRun.sl.H_arg9_8 arg3 X_arg3)) G10 G11 G12 hQ hK hV
    (Scf.trips (k0_t1_loop i).lb (k0_t1_loop i).ub (k0_t1_loop i).st) (Scf.trips (k0_t2_loop i).lb (k0_t2_loop i).ub (k0_t2_loop i).st) rfl rfl
    (640 * (i 2).val) (evenRun.sl.v113 i) (fun hf => by
      have h2 : ¬ (i 2).val < 2 := fun h => hf (fs.mpr h)
      have e : (Scf.trips (k0_t1_loop i).lb (k0_t1_loop i).ub (k0_t1_loop i).st) = (i 2).val / 2 := tr
      rw [e]; omega)
  have u1 := (Stage.zero (upTo (i 2).val) t0).masked geo256 h0 0 _ _ _ (rowsIn (by omega)) (rowsIn (by omega)) (rowsIn (by omega)) (rowsIn (by omega)) (rowsIn (by omega)) (rowsIn (by omega))
      (q_rows hQ (a := 0) (nr := 256) (by omega)) (k_rows hK o0 (by omega) (by omega)) (k_rows hV o0 (by omega) (by omega)) (by omega) (by omega) (by omega) (by omega)
      (fun r hr => by show 640 * (i 2).val + (0 + r) % 640 + 1 = (640 * (i 2).val) + (r + 0 + 1); omega)
  have s1 : Stage arg10.view arg11.view arg12.view 256 (640 * (i 2).val) (upTo (i 2).val) (sc qf kf) (vl vf) (evenRun.sl.v113 i) G10 G11 G12
      (evenRun.sl.H_arg10_1 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_1 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_1 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u1.of_eq rfl rfl rfl
  have u2 := s1.masked geo384 h0 256 _ _ _ (rowsIn (by omega)) (rowsIn (by omega)) (rowsIn (by omega)) (rowsIn (by omega)) (rowsIn (by omega)) (rowsIn (by omega))
      (q_rows hQ (a := 256) (nr := 384) (by omega)) (k_rows hK o0 (by omega) (by omega)) (k_rows hV o0 (by omega) (by omega)) (by omega) (by omega) (by omega) (by omega)
      (fun r hr => by show 640 * (i 2).val + (256 + r) % 640 + 1 = (640 * (i 2).val) + (r + 256 + 1); omega)
  have s2 : Stage arg10.view arg11.view arg12.view 640 (640 * (i 2).val) (upTo (i 2).val) (sc qf kf) (vl vf) (evenRun.sl.v113 i) G10 G11 G12
      (evenRun.sl.H_arg10_2 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_2 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_2 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u2.of_eq rfl rfl rfl
  have u3 := s2.masked geo256 h0 0 _ _ _ (rowsIn (by omega)) (rowsIn (by omega)) (rowsIn (by omega)) (rowsIn (by omega)) (rowsIn (by omega)) (rowsIn (by omega))
      (q_rows hQ (a := 640) (nr := 256) (by omega)) (k_rows hK o0 (by omega) (by omega)) (k_rows hV o0 (by omega) (by omega)) (by omega) (by omega) (by omega) (by omega)
      (fun r hr => by show 640 * (i 2).val + (640 + r) % 640 + 1 = (640 * (i 2).val) + (r + 0 + 1); omega)
  have s3 : Stage arg10.view arg11.view arg12.view 896 (640 * (i 2).val) (upTo (i 2).val) (sc qf kf) (vl vf) (evenRun.sl.v113 i) G10 G11 G12
      (evenRun.sl.H_arg10_3 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_3 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_3 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u3.of_eq rfl rfl rfl
  have u4 := s3.masked geo384 h0 256 _ _ _ (rowsIn (by omega)) (rowsIn (by omega)) (rowsIn (by omega)) (rowsIn (by omega)) (rowsIn (by omega)) (rowsIn (by omega))
      (q_rows hQ (a := 896) (nr := 384) (by omega)) (k_rows hK o0 (by omega) (by omega)) (k_rows hV o0 (by omega) (by omega)) (by omega) (by omega) (by omega) (by omega)
      (fun r hr => by show 640 * (i 2).val + (896 + r) % 640 + 1 = (640 * (i 2).val) + (r + 256 + 1); omega)
  have s4 : Stage arg10.view arg11.view arg12.view 1280 (640 * (i 2).val) (upTo (i 2).val) (sc qf kf) (vl vf) (evenRun.sl.v113 i) G10 G11 G12
      (evenRun.sl.H_arg10_4 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_4 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_4 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u4.of_eq rfl rfl rfl
  have u5 := s4.masked geo256 h0 0 _ _ _ (rowsIn (by omega)) (rowsIn (by omega)) (rowsIn (by omega)) (rowsIn (by omega)) (rowsIn (by omega)) (rowsIn (by omega))
      (q_rows hQ (a := 1280) (nr := 256) (by omega)) (k_rows hK o1 (by omega) (by omega)) (k_rows hV o1 (by omega) (by omega)) (by omega) (by omega) (by omega) (by omega)
      (fun r hr => by show 640 * (i 2).val + (1280 + r) % 640 + 1 = (640 * (i 2).val) + (r + 0 + 1); omega)
  have s5 : Stage arg10.view arg11.view arg12.view 1536 (640 * (i 2).val) (upTo (i 2).val) (sc qf kf) (vl vf) (evenRun.sl.v113 i) G10 G11 G12
      (evenRun.sl.H_arg10_5 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_5 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_5 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u5.of_eq rfl rfl rfl
  have u6 := s5.masked geo384 h0 256 _ _ _ (rowsIn (by omega)) (rowsIn (by omega)) (rowsIn (by omega)) (rowsIn (by omega)) (rowsIn (by omega)) (rowsIn (by omega))
      (q_rows hQ (a := 1536) (nr := 384) (by omega)) (k_rows hK o1 (by omega) (by omega)) (k_rows hV o1 (by omega) (by omega)) (by omega) (by omega) (by omega) (by omega)
      (fun r hr => by show 640 * (i 2).val + (1536 + r) % 640 + 1 = (640 * (i 2).val) + (r + 256 + 1); omega)
  have s6 : Stage arg10.view arg11.view arg12.view 1920 (640 * (i 2).val) (upTo (i 2).val) (sc qf kf) (vl vf) (evenRun.sl.v113 i) G10 G11 G12
      (evenRun.sl.H_arg10_6 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_6 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_6 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u6.of_eq rfl rfl rfl
  have u7 := s6.masked geo256 h0 0 _ _ _ (rowsIn (by omega)) (rowsIn (by omega)) (rowsIn (by omega)) (rowsIn (by omega)) (rowsIn (by omega)) (rowsIn (by omega))
      (q_rows hQ (a := 1920) (nr := 256) (by omega)) (k_rows hK o1 (by omega) (by omega)) (k_rows hV o1 (by omega) (by omega)) (by omega) (by omega) (by omega) (by omega)
      (fun r hr => by show 640 * (i 2).val + (1920 + r) % 640 + 1 = (640 * (i 2).val) + (r + 0 + 1); omega)
  have s7 : Stage arg10.view arg11.view arg12.view 2176 (640 * (i 2).val) (upTo (i 2).val) (sc qf kf) (vl vf) (evenRun.sl.v113 i) G10 G11 G12
      (evenRun.sl.H_arg10_7 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_7 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_7 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u7.of_eq rfl rfl rfl
  have u8 := s7.masked geo384 h0 256 _ _ _ (rowsIn (by omega)) (rowsIn (by omega)) (rowsIn (by omega)) (rowsIn (by omega)) (rowsIn (by omega)) (rowsIn (by omega))
      (q_rows hQ (a := 2176) (nr := 384) (by omega)) (k_rows hK o1 (by omega) (by omega)) (k_rows hV o1 (by omega) (by omega)) (by omega) (by omega) (by omega) (by omega)
      (fun r hr => by show 640 * (i 2).val + (2176 + r) % 640 + 1 = (640 * (i 2).val) + (r + 256 + 1); omega)
  have s8 : Stage arg10.view arg11.view arg12.view 2560 (640 * (i 2).val) (upTo (i 2).val) (sc qf kf) (vl vf) (evenRun.sl.v113 i) G10 G11 G12
      (evenRun.sl.H_arg10_8 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_8 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_8 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u8.of_eq rfl rfl rfl
  have u9 := s8.masked geo256 h0 0 _ _ _ (rowsIn (by omega)) (rowsIn (by omega)) (rowsIn (by omega)) (rowsIn (by omega)) (rowsIn (by omega)) (rowsIn (by omega))
      (q_rows hQ (a := 2560) (nr := 256) (by omega)) (k_rows hK o2 (by omega) (by omega)) (k_rows hV o2 (by omega) (by omega)) (by omega) (by omega) (by omega) (by omega)
      (fun r hr => by show 640 * (i 2).val + (2560 + r) % 640 + 1 = (640 * (i 2).val) + (r + 0 + 1); omega)
  have s9 : Stage arg10.view arg11.view arg12.view 2816 (640 * (i 2).val) (upTo (i 2).val) (sc qf kf) (vl vf) (evenRun.sl.v113 i) G10 G11 G12
      (evenRun.sl.H_arg10_9 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_9 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_9 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u9.of_eq rfl rfl rfl
  have u10 := s9.masked geo384 h0 256 _ _ _ (rowsIn (by omega)) (rowsIn (by omega)) (rowsIn (by omega)) (rowsIn (by omega)) (rowsIn (by omega)) (rowsIn (by omega))
      (q_rows hQ (a := 2816) (nr := 384) (by omega)) (k_rows hK o2 (by omega) (by omega)) (k_rows hV o2 (by omega) (by omega)) (by omega) (by omega) (by omega) (by omega)
      (fun r hr => by show 640 * (i 2).val + (2816 + r) % 640 + 1 = (640 * (i 2).val) + (r + 256 + 1); omega)
  have s10 : Stage arg10.view arg11.view arg12.view 3200 (640 * (i 2).val) (upTo (i 2).val) (sc qf kf) (vl vf) (evenRun.sl.v113 i) G10 G11 G12
      (evenRun.sl.H_arg10_10 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_10 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_10 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u10.of_eq rfl rfl rfl
  have u11 := s10.masked geo256 h0 0 _ _ _ (rowsIn (by omega)) (rowsIn (by omega)) (rowsIn (by omega)) (rowsIn (by omega)) (rowsIn (by omega)) (rowsIn (by omega))
      (q_rows hQ (a := 3200) (nr := 256) (by omega)) (k_rows hK o2 (by omega) (by omega)) (k_rows hV o2 (by omega) (by omega)) (by omega) (by omega) (by omega) (by omega)
      (fun r hr => by show 640 * (i 2).val + (3200 + r) % 640 + 1 = (640 * (i 2).val) + (r + 0 + 1); omega)
  have s11 : Stage arg10.view arg11.view arg12.view 3456 (640 * (i 2).val) (upTo (i 2).val) (sc qf kf) (vl vf) (evenRun.sl.v113 i) G10 G11 G12
      (evenRun.sl.H_arg10_11 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_11 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_11 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u11.of_eq rfl rfl rfl
  have u12 := s11.masked geo384 h0 256 _ _ _ (rowsIn (by omega)) (rowsIn (by omega)) (rowsIn (by omega)) (rowsIn (by omega)) (rowsIn (by omega)) (rowsIn (by omega))
      (q_rows hQ (a := 3456) (nr := 384) (by omega)) (k_rows hK o2 (by omega) (by omega)) (k_rows hV o2 (by omega) (by omega)) (by omega) (by omega) (by omega) (by omega)
      (fun r hr => by show 640 * (i 2).val + (3456 + r) % 640 + 1 = (640 * (i 2).val) + (r + 256 + 1); omega)
  have s12 : Stage arg10.view arg11.view arg12.view 3840 (640 * (i 2).val) (upTo (i 2).val) (sc qf kf) (vl vf) (evenRun.sl.v113 i) G10 G11 G12
      (evenRun.sl.H_arg10_12 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_12 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_12 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u12.of_eq rfl rfl rfl
  have u13 := s12.masked geo256 h0 0 _ _ _ (rowsIn (by omega)) (rowsIn (by omega)) (rowsIn (by omega)) (rowsIn (by omega)) (rowsIn (by omega)) (rowsIn (by omega))
      (q_rows hQ (a := 3840) (nr := 256) (by omega)) (k_rows hK o3 (by omega) (by omega)) (k_rows hV o3 (by omega) (by omega)) (by omega) (by omega) (by omega) (by omega)
      (fun r hr => by show 640 * (i 2).val + (3840 + r) % 640 + 1 = (640 * (i 2).val) + (r + 0 + 1); omega)
  have s13 : Stage arg10.view arg11.view arg12.view 4096 (640 * (i 2).val) (upTo (i 2).val) (sc qf kf) (vl vf) (evenRun.sl.v113 i) G10 G11 G12
      (evenRun.sl.H_arg10_13 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_13 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_13 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u13.of_eq rfl rfl rfl
  have u14 := s13.masked geo384 h0 256 _ _ _ (rowsIn (by omega)) (rowsIn (by omega)) (rowsIn (by omega)) (rowsIn (by omega)) (rowsIn (by omega)) (rowsIn (by omega))
      (q_rows hQ (a := 4096) (nr := 384) (by omega)) (k_rows hK o3 (by omega) (by omega)) (k_rows hV o3 (by omega) (by omega)) (by omega) (by omega) (by omega) (by omega)
      (fun r hr => by show 640 * (i 2).val + (4096 + r) % 640 + 1 = (640 * (i 2).val) + (r + 256 + 1); omega)
  have s14 : Stage arg10.view arg11.view arg12.view 4480 (640 * (i 2).val) (upTo (i 2).val) (sc qf kf) (vl vf) (evenRun.sl.v113 i) G10 G11 G12
      (evenRun.sl.H_arg10_14 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_14 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_14 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u14.of_eq rfl rfl rfl
  have u15 := s14.masked geo256 h0 0 _ _ _ (rowsIn (by omega)) (rowsIn (by omega)) (rowsIn (by omega)) (rowsIn (by omega)) (rowsIn (by omega)) (rowsIn (by omega))
      (q_rows hQ (a := 4480) (nr := 256) (by omega)) (k_rows hK o3 (by omega) (by omega)) (k_rows hV o3 (by omega) (by omega)) (by omega) (by omega) (by omega) (by omega)
      (fun r hr => by show 640 * (i 2).val + (4480 + r) % 640 + 1 = (640 * (i 2).val) + (r + 0 + 1); omega)
  have s15 : Stage arg10.view arg11.view arg12.view 4736 (640 * (i 2).val) (upTo (i 2).val) (sc qf kf) (vl vf) (evenRun.sl.v113 i) G10 G11 G12
      (evenRun.sl.H_arg10_15 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg11_15 𝒱 c bd i arg3 harg3 arg4 harg4 arg5 harg5 arg6 harg6 arg7 harg7 arg8 harg8 arg9 harg9 arg10 harg10 arg11 harg11 arg12 harg12 h2 X_arg3 X_arg4 X_arg5 G10 G11 G12) (evenRun.sl.H_arg12_15 𝒱 c bd i arg3 harg3 arg4 harg4 arg5 harg5 arg6 harg6 arg7 harg7 arg8 harg8 arg9 harg9 arg10 harg10 arg11 harg11 arg12 harg12 h2 X_arg3 X_arg4 X_arg5 G10 G11 G12) :=
    u15.of_eq rfl rfl rfl
  have u16 := s15.masked geo384 h0 256 _ _ _ (rowsIn (by omega)) (rowsIn (by omega)) (rowsIn (by omega)) (rowsIn (by omega)) (rowsIn (by omega)) (rowsIn (by omega))
      (q_rows hQ (a := 4736) (nr := 384) (by omega)) (k_rows hK o3 (by omega) (by omega)) (k_rows hV o3 (by omega) (by omega)) (by omega) (by omega) (by omega) (by omega)
      (fun r hr => by show 640 * (i 2).val + (4736 + r) % 640 + 1 = (640 * (i 2).val) + (r + 256 + 1); omega)
  exact ⟨s4.1, s8.1, s12.1, _, (Stage.of_eq (L10 := _) u16 rfl (show (evenRun.sl.H_arg11_16 𝒱 c bd i arg3 harg3 arg4 harg4 arg5 harg5 arg6 harg6 arg7 harg7 arg8 harg8 arg9 harg9 arg10 harg10 arg11 harg11 arg12 harg12 h2 X_arg3 X_arg4 X_arg5 G10 G11 G12) = _ from rfl) (show (evenRun.sl.H_arg12_16 𝒱 c bd i arg3 harg3 arg4 harg4 arg5 harg5 arg6 harg6 arg7 harg7 arg8 harg8 arg9 harg9 arg10 harg10 arg11 harg11 arg12 harg12 h2 X_arg3 X_arg4 X_arg5 G10 G11 G12) = _ from rfl)).1⟩

end Cert.Attn
-- ==== Proof.Point.lean ====
/-
  A GRID POINT: what it leaves in its block of the result, in terms of the rows of queries, keys and values it reads: the
  normalized difference of the averages of each head (`odd_point`, `even_point`).
-/
module

public import proofs.«01_k».proof.Proof.Even
import all proofs.«01_k».proof.Proof.Body

@[expose] public section

set_option maxRecDepth 8192
set_option maxHeartbeats 4000000

noncomputable section

namespace Cert.Attn

open Idealize.ShloMosaic Idealize.ShloMosaic.ValueIdx Cert.KernelIdeal Cert.KernelIdeal.Gen Cert.KernelIdeal.Hand

variable (𝒱 : Variants) (c : Dev nD) (bd : Option 𝒱.V) (i : grid0.Coords)
  (arg3 : Memref sig .tc .vmem S640x512 .f32) (harg3 : arg3.IsWhole) (arg4 : Memref sig .tc .vmem S8320x512 .bf16) (harg4 : arg4.IsWhole)
  (arg5 : Memref sig .tc .vmem S8320x512 .bf16) (harg5 : arg5.IsWhole) (arg6 : Memref sig .tc .vmem S4x64 .f32) (harg6 : arg6.IsWhole)
  (arg7 : Memref sig .tc .vmem S1x128 .f32) (harg7 : arg7.IsWhole) (arg8 : Memref sig .tc .vmem S640x512 .bf16) (harg8 : arg8.IsWhole)
  (arg9 : Memref sig .tc .vmem S5120x128 .bf16) (harg9 : arg9.IsWhole) (arg10 : Memref sig .tc .vmem S5120x128 .f32) (harg10 : arg10.IsWhole)
  (arg11 : Memref sig .tc .vmem S5120x128 .f32) (harg11 : arg11.IsWhole) (arg12 : Memref sig .tc .vmem S5120x128 .f32) (harg12 : arg12.IsWhole)
  (X_arg3 : BufTy.Contents (Elt Ideal) arg3.view.ty) (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty)
  (G8 : BufTy.Contents (Elt Ideal) arg8.view.ty) (G9 : BufTy.Contents (Elt Ideal) arg9.view.ty)
  (G10 : BufTy.Contents (Elt Ideal) arg10.view.ty) (G11 : BufTy.Contents (Elt Ideal) arg11.view.ty) (G12 : BufTy.Contents (Elt Ideal) arg12.view.ty)

variable {Q K V : ℕ → ℕ → ℝ} {la lb lc ld : Fin 64 → ℝ} {gv : Fin 128 → EReal}

variable (hQ : ∀ (r : Fin 640) (y : Fin 512), arg3.view.read (Elt Ideal) X_arg3 (ix2 r y) = ((Q (640 * (i 2).val + r.val) y.val : ℝ) : EReal))
  (hK : ∀ (j : Fin 8320) (x : Fin 512), arg4.view.read (Elt Ideal) X_arg4 (ix2 j x) = ((K j.val x.val : ℝ) : EReal))
  (hV : ∀ (j : Fin 8320) (x : Fin 512), arg5.view.read (Elt Ideal) X_arg5 (ix2 j x) = ((V j.val x.val : ℝ) : EReal))
  (ha : ∀ x, arg6.view.read (Elt Ideal) X_arg6 (ix2 (0 : Fin 4) x) = ((la x : ℝ) : EReal))
  (hb : ∀ x, arg6.view.read (Elt Ideal) X_arg6 (ix2 (1 : Fin 4) x) = ((lb x : ℝ) : EReal))
  (hc : ∀ x, arg6.view.read (Elt Ideal) X_arg6 (ix2 (2 : Fin 4) x) = ((lc x : ℝ) : EReal))
  (hd : ∀ x, arg6.view.read (Elt Ideal) X_arg6 (ix2 (3 : Fin 4) x) = ((ld x : ℝ) : EReal))
  (hg : ∀ x, arg7.view.read (Elt Ideal) X_arg7 (ix2 (0 : Fin 1) x) = gv x)

/-- The parameters of `λ` as they are loaded. -/
def lamLoad : Vec Ideal S4x64 .f32 := View.readAt (Elt Ideal) arg6.view (Rect.unit ![0, 0] S4x64.size inb_S4x64_S4x64_0_0).toLoadRect X_arg6

/-- The gain as it is loaded. -/
def gainLoad : Vec Ideal S1x128 .f32 := View.readAt (Elt Ideal) arg7.view (Rect.unit ![0, 0] S1x128.size inb_S1x128_S1x128_0_0).toLoadRect X_arg7

include ha hb hc hd in
theorem lamLoad_eq : lamG (lamLoad arg6 X_arg6) (ix2 (0 : Fin 1) (0 : Fin 1)) = ((lamR la lb lc ld : ℝ) : EReal) := by
  have e : ∀ (k : Fin 4) (x : Fin 64), lamLoad arg6 X_arg6 (ix2 k x) = arg6.view.read (Elt Ideal) X_arg6 (ix2 k x) := fun k x =>
    readAt_rows arg6.view X_arg6 inb_S4x64_S4x64_0_0 rfl k x k x (Nat.zero_add _).symm (Nat.zero_add _).symm
  rw [lamG_apply]
  simp only [e, ha, hb, hc, hd]
  exact lamE_real la lb lc ld

include hg in
theorem gainLoad_eq (x : Fin 128) : gainLoad arg7 X_arg7 (ix2 (0 : Fin 1) x) = gv x :=
  (readAt_rows arg7.view X_arg7 inb_S1x128_S1x128_0_0 rfl (0 : Fin 1) x (0 : Fin 1) x rfl (Nat.zero_add _).symm).trans (hg x)

section odd

variable (h1 : k0_cond1 i = 1#1) (h2 : ¬ k0_cond2 i = 1#1)

/-- The four blocks of the result. -/
def oddPay : Fin 4 → FVec Ideal (Sh 640 128) .bf16
  | 0 => k0_pay203 (F := Ideal) (lamG (lamLoad arg6 X_arg6))
        (arg12.view.readCov (Val := Elt Ideal) (oddRun.sl.H_arg12_4 𝒱 c bd i arg3 harg3 arg4 harg4 arg5 harg5 arg6 harg6 arg7 harg7 arg8 harg8 arg9 harg9 arg10 harg10 arg11 harg11 arg12 harg12 h1 X_arg3 X_arg4 X_arg5 G10 G11 G12) (Rect.unit (s := Sh 5120 128) ![0, 0] (Sh 1280 128).size inb_S5120x128_S1280x128_0_0).toLoadRect)
        (arg11.view.readCov (Val := Elt Ideal) (oddRun.sl.H_arg11_4 𝒱 c bd i arg3 harg3 arg4 harg4 arg5 harg5 arg6 harg6 arg7 harg7 arg8 harg8 arg9 harg9 arg10 harg10 arg11 harg11 arg12 harg12 h1 X_arg3 X_arg4 X_arg5 G10 G11 G12) (Rect.unit (s := Sh 5120 128) ![0, 0] (Sh 1280 128).size inb_S5120x128_S1280x128_0_0).toLoadRect)
        (gainLoad arg7 X_arg7)
  | 1 => k0_pay203 (F := Ideal) (lamG (lamLoad arg6 X_arg6))
        (arg12.view.readCov (Val := Elt Ideal) (oddRun.sl.H_arg12_8 𝒱 c bd i arg3 harg3 arg4 harg4 arg5 harg5 arg6 harg6 arg7 harg7 arg8 harg8 arg9 harg9 arg10 harg10 arg11 harg11 arg12 harg12 h1 X_arg3 X_arg4 X_arg5 G10 G11 G12) (Rect.unit (s := Sh 5120 128) ![1280, 0] (Sh 1280 128).size inb_S5120x128_S1280x128_1280_0).toLoadRect)
        (arg11.view.readCov (Val := Elt Ideal) (oddRun.sl.H_arg11_8 𝒱 c bd i arg3 harg3 arg4 harg4 arg5 harg5 arg6 harg6 arg7 harg7 arg8 harg8 arg9 harg9 arg10 harg10 arg11 harg11 arg12 harg12 h1 X_arg3 X_arg4 X_arg5 G10 G11 G12) (Rect.unit (s := Sh 5120 128) ![1280, 0] (Sh 1280 128).size inb_S5120x128_S1280x128_1280_0).toLoadRect)
        (gainLoad arg7 X_arg7)
  | 2 => k0_pay203 (F := Ideal) (lamG (lamLoad arg6 X_arg6))
        (arg12.view.readCov (Val := Elt Ideal) (oddRun.sl.H_arg12_12 𝒱 c bd i arg3 harg3 arg4 harg4 arg5 harg5 arg6 harg6 arg7 harg7 arg8 harg8 arg9 harg9 arg10 harg10 arg11 harg11 arg12 harg12 h1 X_arg3 X_arg4 X_arg5 G10 G11 G12) (Rect.unit (s := Sh 5120 128) ![2560, 0] (Sh 1280 128).size inb_S5120x128_S1280x128_2560_0).toLoadRect)
        (arg11.view.readCov (Val := Elt Ideal) (oddRun.sl.H_arg11_12 𝒱 c bd i arg3 harg3 arg4 harg4 arg5 harg5 arg6 harg6 arg7 harg7 arg8 harg8 arg9 harg9 arg10 harg10 arg11 harg11 arg12 harg12 h1 X_arg3 X_arg4 X_arg5 G10 G11 G12) (Rect.unit (s := Sh 5120 128) ![2560, 0] (Sh 1280 128).size inb_S5120x128_S1280x128_2560_0).toLoadRect)
        (gainLoad arg7 X_arg7)
  | 3 => k0_pay203 (F := Ideal) (lamG (lamLoad arg6 X_arg6))
        (arg12.view.readCov (Val := Elt Ideal) (oddRun.sl.H_arg12_16 𝒱 c bd i arg3 harg3 arg4 harg4 arg5 harg5 arg6 harg6 arg7 harg7 arg8 harg8 arg9 harg9 arg10 harg10 arg11 harg11 arg12 harg12 h1 X_arg3 X_arg4 X_arg5 G10 G11 G12) (Rect.unit (s := Sh 5120 128) ![3840, 0] (Sh 1280 128).size inb_S5120x128_S1280x128_3840_0).toLoadRect)
        (arg11.view.readCov (Val := Elt Ideal) (oddRun.sl.H_arg11_16 𝒱 c bd i arg3 harg3 arg4 harg4 arg5 harg5 arg6 harg6 arg7 harg7 arg8 harg8 arg9 harg9 arg10 harg10 arg11 harg11 arg12 harg12 h1 X_arg3 X_arg4 X_arg5 G10 G11 G12) (Rect.unit (s := Sh 5120 128) ![3840, 0] (Sh 1280 128).size inb_S5120x128_S1280x128_3840_0).toLoadRect)
        (gainLoad arg7 X_arg7)

theorem odd_list :
    (oddRun 𝒱 c bd i arg3 harg3 arg4 harg4 arg5 harg5 arg6 harg6 arg7 harg7 arg8 harg8 arg9 harg9 arg10 harg10 arg11 harg11 arg12 harg12 h1 h2 X_arg3 X_arg4 X_arg5 X_arg6 X_arg7).1 G8 G9 G10 G11 G12
      = [⟨Rect.unit (s := Sh 640 512) ![0, 384] (Sh 640 128).size inb_S640x512_S640x128_0_384, oddPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h1 3⟩,
        ⟨Rect.unit (s := Sh 640 512) ![0, 256] (Sh 640 128).size inb_S640x512_S640x128_0_256, oddPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h1 2⟩,
        ⟨Rect.unit (s := Sh 640 512) ![0, 128] (Sh 640 128).size inb_S640x512_S640x128_0_128, oddPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h1 1⟩,
        ⟨Rect.unit (s := Sh 640 512) ![0, 0] (Sh 640 128).size inb_S640x512_S640x128_0_0, oddPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h1 0⟩] := by
  delta oddRun
  rfl

include hQ hK hV ha hb hc hd hg in
/-- **What an odd point leaves**, at an entry of its block. -/
theorem odd_point (f8 : BufTy.Contents (Elt Ideal) arg8.view.ty) (r : Fin 640) (y : Fin 512) :
    arg8.view.read (Elt Ideal) (arg8.view.writes (Elt Ideal) f8 ((oddRun 𝒱 c bd i arg3 harg3 arg4 harg4 arg5 harg5 arg6 harg6 arg7 harg7 arg8 harg8 arg9 harg9 arg10 harg10 arg11 harg11 arg12 harg12 h1 h2 X_arg3 X_arg4 X_arg5 X_arg6 X_arg7).1 G8 G9 G10 G11 G12)) (ix2 r y)
      = fin (fun z => ((diffO Q K V (lamR la lb lc ld) (y.val / 128) (640 * (i 2).val + r.val) z.val : ℝ) : EReal)) gv
        ⟨y.val % 128, Nat.mod_lt _ (by decide)⟩ := by
  rw [odd_list]
  have hq := fun X x => laid_all (q := (i 2).val) arg9.view.junk hQ X X.isLt x
  obtain ⟨d1, d2, d3, L10, d4⟩ := odd_done 𝒱 c bd i arg3 harg3 arg4 harg4 arg5 harg5 arg6 harg6 arg7 harg7 arg8 harg8 arg9 harg9 arg10 harg10 arg11 harg11 arg12 harg12 h1 X_arg3 X_arg4 X_arg5 G10 G11 G12 hq hK hV
  have hl := lamLoad_eq arg6 X_arg6 ha hb hc hd
  have hg' := gainLoad_eq arg7 X_arg7 hg
  refine four_blocks arg8.view f8 (oddPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h1) (fun h r x => fin (fun z => ((diffO Q K V (lamR la lb lc ld) h (640 * (i 2).val + r.val) z.val : ℝ) : EReal)) gv x)
    (fun h r x => ?_) r y _ _ _ _
  match h with
  | 0 => exact head_block (h := 0) d1 (by omega) rfl rfl _ _ _ hl _ gv hg' r x
  | 1 => exact head_block (h := 1) d2 (by omega) rfl rfl _ _ _ hl _ gv hg' r x
  | 2 => exact head_block (h := 2) d3 (by omega) rfl rfl _ _ _ hl _ gv hg' r x
  | 3 => exact head_block (h := 3) d4 (by omega) rfl rfl _ _ _ hl _ gv hg' r x

end odd

section even

variable (h1 : ¬ k0_cond1 i = 1#1) (h2 : k0_cond2 i = 1#1)

/-- The four blocks of the result. -/
def evenPay : Fin 4 → FVec Ideal (Sh 640 128) .bf16
  | 0 => k0_pay203 (F := Ideal) (lamG (lamLoad arg6 X_arg6))
        (arg12.view.readCov (Val := Elt Ideal) (evenRun.sl.H_arg12_4 𝒱 c bd i arg3 harg3 arg4 harg4 arg5 harg5 arg6 harg6 arg7 harg7 arg8 harg8 arg9 harg9 arg10 harg10 arg11 harg11 arg12 harg12 h2 X_arg3 X_arg4 X_arg5 G10 G11 G12) (Rect.unit (s := Sh 5120 128) ![0, 0] (Sh 1280 128).size inb_S5120x128_S1280x128_0_0).toLoadRect)
        (arg11.view.readCov (Val := Elt Ideal) (evenRun.sl.H_arg11_4 𝒱 c bd i arg3 harg3 arg4 harg4 arg5 harg5 arg6 harg6 arg7 harg7 arg8 harg8 arg9 harg9 arg10 harg10 arg11 harg11 arg12 harg12 h2 X_arg3 X_arg4 X_arg5 G10 G11 G12) (Rect.unit (s := Sh 5120 128) ![0, 0] (Sh 1280 128).size inb_S5120x128_S1280x128_0_0).toLoadRect)
        (gainLoad arg7 X_arg7)
  | 1 => k0_pay203 (F := Ideal) (lamG (lamLoad arg6 X_arg6))
        (arg12.view.readCov (Val := Elt Ideal) (evenRun.sl.H_arg12_8 𝒱 c bd i arg3 harg3 arg4 harg4 arg5 harg5 arg6 harg6 arg7 harg7 arg8 harg8 arg9 harg9 arg10 harg10 arg11 harg11 arg12 harg12 h2 X_arg3 X_arg4 X_arg5 G10 G11 G12) (Rect.unit (s := Sh 5120 128) ![1280, 0] (Sh 1280 128).size inb_S5120x128_S1280x128_1280_0).toLoadRect)
        (arg11.view.readCov (Val := Elt Ideal) (evenRun.sl.H_arg11_8 𝒱 c bd i arg3 harg3 arg4 harg4 arg5 harg5 arg6 harg6 arg7 harg7 arg8 harg8 arg9 harg9 arg10 harg10 arg11 harg11 arg12 harg12 h2 X_arg3 X_arg4 X_arg5 G10 G11 G12) (Rect.unit (s := Sh 5120 128) ![1280, 0] (Sh 1280 128).size inb_S5120x128_S1280x128_1280_0).toLoadRect)
        (gainLoad arg7 X_arg7)
  | 2 => k0_pay203 (F := Ideal) (lamG (lamLoad arg6 X_arg6))
        (arg12.view.readCov (Val := Elt Ideal) (evenRun.sl.H_arg12_12 𝒱 c bd i arg3 harg3 arg4 harg4 arg5 harg5 arg6 harg6 arg7 harg7 arg8 harg8 arg9 harg9 arg10 harg10 arg11 harg11 arg12 harg12 h2 X_arg3 X_arg4 X_arg5 G10 G11 G12) (Rect.unit (s := Sh 5120 128) ![2560, 0] (Sh 1280 128).size inb_S5120x128_S1280x128_2560_0).toLoadRect)
        (arg11.view.readCov (Val := Elt Ideal) (evenRun.sl.H_arg11_12 𝒱 c bd i arg3 harg3 arg4 harg4 arg5 harg5 arg6 harg6 arg7 harg7 arg8 harg8 arg9 harg9 arg10 harg10 arg11 harg11 arg12 harg12 h2 X_arg3 X_arg4 X_arg5 G10 G11 G12) (Rect.unit (s := Sh 5120 128) ![2560, 0] (Sh 1280 128).size inb_S5120x128_S1280x128_2560_0).toLoadRect)
        (gainLoad arg7 X_arg7)
  | 3 => k0_pay203 (F := Ideal) (lamG (lamLoad arg6 X_arg6))
        (arg12.view.readCov (Val := Elt Ideal) (evenRun.sl.H_arg12_16 𝒱 c bd i arg3 harg3 arg4 harg4 arg5 harg5 arg6 harg6 arg7 harg7 arg8 harg8 arg9 harg9 arg10 harg10 arg11 harg11 arg12 harg12 h2 X_arg3 X_arg4 X_arg5 G10 G11 G12) (Rect.unit (s := Sh 5120 128) ![3840, 0] (Sh 1280 128).size inb_S5120x128_S1280x128_3840_0).toLoadRect)
        (arg11.view.readCov (Val := Elt Ideal) (evenRun.sl.H_arg11_16 𝒱 c bd i arg3 harg3 arg4 harg4 arg5 harg5 arg6 harg6 arg7 harg7 arg8 harg8 arg9 harg9 arg10 harg10 arg11 harg11 arg12 harg12 h2 X_arg3 X_arg4 X_arg5 G10 G11 G12) (Rect.unit (s := Sh 5120 128) ![3840, 0] (Sh 1280 128).size inb_S5120x128_S1280x128_3840_0).toLoadRect)
        (gainLoad arg7 X_arg7)

theorem even_list :
    (evenRun 𝒱 c bd i arg3 harg3 arg4 harg4 arg5 harg5 arg6 harg6 arg7 harg7 arg8 harg8 arg9 harg9 arg10 harg10 arg11 harg11 arg12 harg12 h1 h2 X_arg3 X_arg4 X_arg5 X_arg6 X_arg7).1 G8 G9 G10 G11 G12
      = [⟨Rect.unit (s := Sh 640 512) ![0, 384] (Sh 640 128).size inb_S640x512_S640x128_0_384, evenPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h2 3⟩,
        ⟨Rect.unit (s := Sh 640 512) ![0, 256] (Sh 640 128).size inb_S640x512_S640x128_0_256, evenPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h2 2⟩,
        ⟨Rect.unit (s := Sh 640 512) ![0, 128] (Sh 640 128).size inb_S640x512_S640x128_0_128, evenPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h2 1⟩,
        ⟨Rect.unit (s := Sh 640 512) ![0, 0] (Sh 640 128).size inb_S640x512_S640x128_0_0, evenPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h2 0⟩] := by
  delta evenRun
  rfl

include hQ hK hV ha hb hc hd hg in
/-- **What an even point leaves**, at an entry of its block. -/
theorem even_point (f8 : BufTy.Contents (Elt Ideal) arg8.view.ty) (r : Fin 640) (y : Fin 512) :
    arg8.view.read (Elt Ideal) (arg8.view.writes (Elt Ideal) f8 ((evenRun 𝒱 c bd i arg3 harg3 arg4 harg4 arg5 harg5 arg6 harg6 arg7 harg7 arg8 harg8 arg9 harg9 arg10 harg10 arg11 harg11 arg12 harg12 h1 h2 X_arg3 X_arg4 X_arg5 X_arg6 X_arg7).1 G8 G9 G10 G11 G12)) (ix2 r y)
      = fin (fun z => ((diffO Q K V (lamR la lb lc ld) (y.val / 128) (640 * (i 2).val + r.val) z.val : ℝ) : EReal)) gv
        ⟨y.val % 128, Nat.mod_lt _ (by decide)⟩ := by
  rw [even_list]
  have hq := fun X x => laid_all (q := (i 2).val) arg9.view.junk hQ X X.isLt x
  obtain ⟨d1, d2, d3, L10, d4⟩ := even_done 𝒱 c bd i arg3 harg3 arg4 harg4 arg5 harg5 arg6 harg6 arg7 harg7 arg8 harg8 arg9 harg9 arg10 harg10 arg11 harg11 arg12 harg12 h2 X_arg3 X_arg4 X_arg5 G10 G11 G12 hq hK hV
  have hl := lamLoad_eq arg6 X_arg6 ha hb hc hd
  have hg' := gainLoad_eq arg7 X_arg7 hg
  refine four_blocks arg8.view f8 (evenPay 𝒱 c bd i arg3 harg3 arg4 harg4 arg5 harg5 arg6 harg6 arg7 harg7 arg8 harg8 arg9 harg9 arg10 harg10 arg11 harg11 arg12 harg12 X_arg3 X_arg4 X_arg5 X_arg6 X_arg7 G10 G11 G12 h2) (fun h r x => fin (fun z => ((diffO Q K V (lamR la lb lc ld) h (640 * (i 2).val + r.val) z.val : ℝ) : EReal)) gv x)
    (fun h r x => ?_) r y _ _ _ _
  match h with
  | 0 => exact head_block (h := 0) d1 (by omega) rfl rfl _ _ _ hl _ gv hg' r x
  | 1 => exact head_block (h := 1) d2 (by omega) rfl rfl _ _ _ hl _ gv hg' r x
  | 2 => exact head_block (h := 2) d3 (by omega) rfl rfl _ _ _ hl _ gv hg' r x
  | 3 => exact head_block (h := 3) d4 (by omega) rfl rfl _ _ _ hl _ gv hg' r x

end even

end Cert.Attn
-- ==== Proof.Inputs.lean ====
/-
  THE BLOCKS a grid point reads, as entries of the program's arguments.
-/
module

public import proofs.«01_k».proof.Proof.Point
public import proofs.«01_k».proof.Proof.Launch
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 4096

noncomputable section

namespace Cert.Attn

open Idealize.ShloMosaic hiding ix1 ix2 ix3 ix4 ix5
open Idealize.ShloMosaic.TcCoe Idealize.ShloMosaic.ValueIdx Cert.KernelIdeal Cert.KernelIdeal.Gen Cert.KernelIdeal.Hand

/-- Every window's block index, and the query tile of a point. -/
theorem indices : ∀ t : Fin cfg0.N, win0_0.index t = ![t.val, 0] ∧ win0_1.index t = ![t.val / 13, 0] ∧ win0_2.index t = ![t.val / 13, 0]
    ∧ win0_3.index t = ![0, 0] ∧ win0_4.index t = ![0, 0] ∧ win0_5.index t = ![t.val, 0] ∧ (grid0.coords t 2).val = t.val % 13 :=
  (by decide +kernel : ∀ t : Fin grid0.N, _)

variable (m : (ℓ : Loc nD τ sig) → Buf (Elt Ideal) ℓ) (c : Dev nD)

/-- The queries, keys and values; the parameters of `λ`; the gain. -/
abbrev qA : S4x8320x512.Idx → EReal := m ((c : Thread nD τ).loc main_arg0)
abbrev kA : S4x8320x512.Idx → EReal := m ((c : Thread nD τ).loc main_arg1)
abbrev vA : S4x8320x512.Idx → EReal := m ((c : Thread nD τ).loc main_arg2)
abbrev l0A : S1x64.Idx → EReal := m ((c : Thread nD τ).loc main_arg3)
abbrev l1A : S1x64.Idx → EReal := m ((c : Thread nD τ).loc main_arg4)
abbrev l2A : S1x64.Idx → EReal := m ((c : Thread nD τ).loc main_arg5)
abbrev l3A : S1x64.Idx → EReal := m ((c : Thread nD τ).loc main_arg6)
abbrev gA : S1x128.Idx → EReal := m ((c : Thread nD τ).loc main_arg7)

theorem npts : cfg0.N = 52 := by decide

/-- An entry of a flattened array. -/
theorem flat_apply {φ : FTy} (A : FVec Ideal S4x8320x512 φ) (h : S4x8320x512.ShapeCasts S33280x512) (i : S33280x512.Idx) (b : Fin 4) (p : Fin 8320) (y : Fin 512)
    (h0 : (i 0).val = 8320 * b.val + p.val) (h1 : (i 1).val = y.val) : shapeCast S33280x512 A h i = A (ix3 b p y) := by
  refine shapeCast_apply _ h i (ix3 b p y) ?_
  rw [Shape.rowMajor_val_three, Shape.rowMajor_val_two]
  show (b.val * 8320 + p.val) * 512 + y.val = (i 0).val * 512 + (i 1).val
  omega

theorem q_block (t : Fin cfg0.N) (r : Fin 640) (y : Fin 512) (b : Fin 4) (p : Fin 8320) (hb : b.val = t.val / 13) (hp : p.val = 640 * (t.val % 13) + r.val) :
    iblk m c 0 t (ix2 r y) = qA m c (ix3 b p y) := by
  have i0 := (indices t).1
  blk_simp [iblk]
  entry_read
  refine flat_apply (φ := .f32) _ _ _ b p y ?_ ?_
  · blk_simp [i0]
    show t.val * 640 + r.val = _
    omega
  · blk_simp [i0]

theorem k_block (t : Fin cfg0.N) (j : Fin 8320) (y : Fin 512) (b : Fin 4) (hb : b.val = t.val / 13) :
    iblk m c 1 t (ix2 j y) = kA m c (ix3 b j y) := by
  have i1 := (indices t).2.1
  blk_simp [iblk]
  entry_read
  refine (flat_apply (φ := .bf16) _ _ _ b j y ?_ ?_).trans ?_
  · blk_simp [i1]
    show t.val / 13 * 8320 + j.val = _
    omega
  · blk_simp [i1]
  · rfl

theorem v_block (t : Fin cfg0.N) (j : Fin 8320) (y : Fin 512) (b : Fin 4) (hb : b.val = t.val / 13) :
    iblk m c 2 t (ix2 j y) = vA m c (ix3 b j y) := by
  have i2 := (indices t).2.2.1
  blk_simp [iblk]
  entry_read
  refine (flat_apply (φ := .bf16) _ _ _ b j y ?_ ?_).trans ?_
  · blk_simp [i2]
    show t.val / 13 * 8320 + j.val = _
    omega
  · blk_simp [i2]
  · rfl

/-- The gain as the kernel is handed it. -/
theorem gain_row (A : FVec Ideal S1x128 .f32) (h : S1x128.ShapeCasts S128) (h' : S128.BroadcastsInDim S1x128 ![1]) (x : Fin 128) :
    broadcastInDim S1x128 ![1] h' (shapeCast S128 A h) (ix2 (0 : Fin 1) x) = A (ix2 (0 : Fin 1) x) := by
  refine (broadcastInDim_apply _ h' _ _ (ix1 x) ?_).trans ?_
  · intro a
    match a with
    | ⟨0, _⟩ => rfl
  · exact shapeCast_apply _ _ (ix1 x) (ix2 (0 : Fin 1) x) (by
      rw [Shape.rowMajor_val_one, Shape.rowMajor_val_two]; show 0 * 128 + x.val = x.val; omega)

theorem g_block (t : Fin cfg0.N) (x : Fin 128) : iblk m c 4 t (ix2 (0 : Fin 1) x) = gA m c (ix2 (0 : Fin 1) x) := by
  have i4 := (indices t).2.2.2.2.1
  have e : (((cfg0.win 4).blk t).view.emb (ix2 (0 : Fin 1) x) : S1x128.Idx) = ix2 (0 : Fin 1) x := by
    blk_ext [i4]
  show V m c main_v15 (((cfg0.win 4).blk t).view.emb (ix2 (0 : Fin 1) x)) = _
  refine (congrArg (V m c main_v15) e).trans ?_
  entry_read
  exact gain_row _ _ _ x

/-- A parameter row as it lies in the stack. -/
theorem lam_row (A : FVec Ideal S1x64 .f32) (h : S1x64.ShapeCasts S64) (h' : S64.BroadcastsInDim S1x64 ![1]) (x : Fin 64) :
    broadcastInDim S1x64 ![1] h' (shapeCast S64 A h) (ix2 (0 : Fin 1) x) = A (ix2 (0 : Fin 1) x) := by
  refine (broadcastInDim_apply _ h' _ _ (ix1 x) ?_).trans ?_
  · intro a
    match a with
    | ⟨0, _⟩ => rfl
  · exact shapeCast_apply _ _ (ix1 x) (ix2 (0 : Fin 1) x) (by
      rw [Shape.rowMajor_val_one, Shape.rowMajor_val_two]; show 0 * 64 + x.val = x.val; omega)

/-- The four parameter rows stacked. -/
theorem stack_apply (A : Fin 4 → FVec Ideal S1x64 .f32) (h) (k : Fin 4) (x : Fin 64) :
    concatenate S4x64 0 [⟨S1x64, A 0⟩, ⟨S1x64, A 1⟩, ⟨S1x64, A 2⟩, ⟨S1x64, A 3⟩] h (ix2 k x) = A k (ix2 (0 : Fin 1) x) := by
  refine concatenate_ofFn_unit_apply (0 : Fin S4x64.rank) A h rfl rfl (ix2 k x) k rfl (ix2 (0 : Fin 1) x) fun b hb => ?_
  match b with
  | ⟨0, _⟩ => exact absurd rfl hb
  | ⟨1, _⟩ => rfl

/-- The argument that holds the parameters of row `k`. -/
def rowA : Fin 4 → FVec Ideal S1x64 .f32
  | 0 => l0A m c
  | 1 => l1A m c
  | 2 => l2A m c
  | 3 => l3A m c

/-- Row `k` as it is stacked. -/
def rowB (k : Fin 4) : FVec Ideal S1x64 .f32 :=
  broadcastInDim S1x64 ![1] bcast_S64_S1x64_1 (shapeCast S64 (rowA m c k) shapeCasts_S1x64_S64)

/-- What the host operations hold in the four rows just before the rows are stacked. -/
theorem V_row0 : StableHlo.upto (hostOps0 (F := Ideal)) (fun b => m (c, b)) 13 (Proc.devRef .tc main_v9) = rowB m c 0 := by
  show StableHlo.after _ _ (Proc.devRef .tc main_v9) = _
  simp only [List.take]
  entry_read
  rfl

theorem V_row1 : StableHlo.upto (hostOps0 (F := Ideal)) (fun b => m (c, b)) 13 (Proc.devRef .tc main_v10) = rowB m c 1 := by
  show StableHlo.after _ _ (Proc.devRef .tc main_v10) = _
  simp only [List.take]
  entry_read
  rfl

theorem V_row2 : StableHlo.upto (hostOps0 (F := Ideal)) (fun b => m (c, b)) 13 (Proc.devRef .tc main_v11) = rowB m c 2 := by
  show StableHlo.after _ _ (Proc.devRef .tc main_v11) = _
  simp only [List.take]
  entry_read
  rfl

theorem V_row3 : StableHlo.upto (hostOps0 (F := Ideal)) (fun b => m (c, b)) 13 (Proc.devRef .tc main_v12) = rowB m c 3 := by
  show StableHlo.after _ _ (Proc.devRef .tc main_v12) = _
  simp only [List.take]
  entry_read
  rfl

/-- The stack of the four rows. -/
theorem V_stack : V m c main_v13 = concatenate S4x64 0 [⟨S1x64, rowB m c 0⟩, ⟨S1x64, rowB m c 1⟩, ⟨S1x64, rowB m c 2⟩, ⟨S1x64, rowB m c 3⟩]
    concatenates_S1x64_S1x64_S1x64_S1x64_S4x64_d0 := by
  refine (StableHlo.after_last_write (ops := hostOps0 (F := Ideal)) (V := fun b => m (c, b)) (i := 13) (W := [main_v14, main_v15]) rfl rfl (by decide)).trans ?_
  rw [StableHlo.nary4_result, V_row0, V_row1, V_row2, V_row3]
  rfl

/-- A row of the parameters' block. -/
theorem l_block (t : Fin cfg0.N) (k : Fin 4) (x : Fin 64) : iblk m c 3 t (ix2 k x) = rowA m c k (ix2 (0 : Fin 1) x) := by
  have i3 := (indices t).2.2.2.1
  have e : (((cfg0.win 3).blk t).view.emb (ix2 k x) : S4x64.Idx) = ix2 k x := by
    blk_ext [i3]
  show V m c main_v13 (((cfg0.win 3).blk t).view.emb (ix2 k x)) = _
  refine (congrArg (V m c main_v13) e).trans ?_
  refine (congrFun (V_stack m c) (ix2 k x)).trans ?_
  refine (stack_apply (rowB m c) concatenates_S1x64_S1x64_S1x64_S1x64_S4x64_d0 k x).trans ?_
  exact lam_row _ _ _ x

end Cert.Attn
-- ==== Proof.Target.lean ====
/-
  WHAT BOTH PROGRAMS COMPUTE, as a function of the program's arguments: for each row of each batch, the normalized
  difference of the two averages of each head (`outE`), on real queries, keys, values and parameters of `λ`.
-/
module

public import proofs.«01_k».proof.Proof.Inputs

@[expose] public section

noncomputable section

namespace Cert.Attn

open Idealize.ShloMosaic hiding ix1 ix2 ix3 ix4 ix5
open Idealize.ShloMosaic.ValueIdx

/-- Every entry is a real number. -/
def AllReal {s : Shape} (A : s.Idx → EReal) : Prop := ∀ i, ∃ r : ℝ, A i = (r : EReal)

/-- Batch `b` of an array of reals, as a matrix of reals. -/
def nat3 (A : (⟨3, ![4, 8320, 512]⟩ : Shape).Idx → EReal) (b p y : ℕ) : ℝ :=
  if h : b < 4 ∧ p < 8320 ∧ y < 512 then (A (ix3 (⟨b, h.1⟩ : Fin 4) (⟨p, h.2.1⟩ : Fin 8320) (⟨y, h.2.2⟩ : Fin 512))).toReal else 0

theorem nat3_eq {A : (⟨3, ![4, 8320, 512]⟩ : Shape).Idx → EReal} (hA : AllReal A) (b : Fin 4) (p : Fin 8320) (y : Fin 512) :
    A (ix3 b p y) = ((nat3 A b.val p.val y.val : ℝ) : EReal) := by
  obtain ⟨r, hr⟩ := hA (ix3 b p y)
  unfold nat3
  rw [dif_pos ⟨b.isLt, p.isLt, y.isLt⟩]
  show A (ix3 b p y) = (((A (ix3 b p y)).toReal : ℝ) : EReal)
  rw [hr, EReal.toReal_coe]

/-- A row of reals. -/
def row1 (A : (⟨2, ![1, 64]⟩ : Shape).Idx → EReal) (x : Fin 64) : ℝ := (A (ix2 (0 : Fin 1) x)).toReal

theorem row1_eq {A : (⟨2, ![1, 64]⟩ : Shape).Idx → EReal} (hA : AllReal A) (x : Fin 64) : A (ix2 (0 : Fin 1) x) = ((row1 A x : ℝ) : EReal) := by
  obtain ⟨r, hr⟩ := hA (ix2 (0 : Fin 1) x)
  unfold row1
  rw [hr, EReal.toReal_coe]

/-- Head `h` of row `p` of batch `b`, at its entry `x`. -/
def headE (q k v : (⟨3, ![4, 8320, 512]⟩ : Shape).Idx → EReal) (a b c d : (⟨2, ![1, 64]⟩ : Shape).Idx → EReal)
    (g : (⟨2, ![1, 128]⟩ : Shape).Idx → EReal) (n p h : ℕ) (x : Fin 128) : EReal :=
  fin (fun z => ((diffO (nat3 q n) (nat3 k n) (nat3 v n) (lamR (row1 a) (row1 b) (row1 c) (row1 d)) h p z.val : ℝ) : EReal))
    (fun x => g (ix2 (0 : Fin 1) x)) x

/-- The result: row `8320·n + p` holds row `p` of batch `n`, column `128·h + x` the entry `x` of head `h`. -/
def outE (q k v : (⟨3, ![4, 8320, 512]⟩ : Shape).Idx → EReal) (a b c d : (⟨2, ![1, 64]⟩ : Shape).Idx → EReal)
    (g : (⟨2, ![1, 128]⟩ : Shape).Idx → EReal) (i : (⟨2, ![33280, 512]⟩ : Shape).Idx) : EReal :=
  headE q k v a b c d g ((i 0).val / 8320) ((i 0).val % 8320) ((i 1).val / 128) ⟨(i 1).val % 128, Nat.mod_lt _ (by decide)⟩

end Cert.Attn
-- ==== Proof.Array.lean ====
/-
  THE KERNEL'S RESULT ARRAY: every point's block holds the wanted rows (`holds_value`), the blocks cover the array, and
  so the array is `outE` of the arguments (`result_array`).
-/
module

public import proofs.«01_k».proof.Proof.Target
public import Idealize.ShloMosaic.Lib.Pipeline.ArrRel

@[expose] public section

set_option maxRecDepth 8192
set_option maxHeartbeats 1000000

noncomputable section

namespace Cert.Attn

open Idealize.ShloMosaic hiding ix1 ix2 ix3 ix4 ix5
open Idealize.ShloMosaic.TcCoe Idealize.ShloMosaic.ValueIdx Cert.KernelIdeal Cert.KernelIdeal.Gen Cert.KernelIdeal.Hand

variable (m : (ℓ : Loc nD τ sig) → Buf (Elt Ideal) ℓ) (c : Dev nD)

/-- The arguments of which the values need to be real: all but the gain. -/
structure RealArgs : Prop where
  q : AllReal (qA m c)
  k : AllReal (kA m c)
  v : AllReal (vA m c)
  l0 : AllReal (l0A m c)
  l1 : AllReal (l1A m c)
  l2 : AllReal (l2A m c)
  l3 : AllReal (l3A m c)

variable {m c}

/-- What a point leaves in its block. -/
theorem holds_value (hr : RealArgs m c) (t : Fin cfg0.N) (X : S640x512.Idx → EReal) (hX : Holds m c t X) (r : Fin 640) (y : Fin 512) :
    X (ix2 r y) = headE (qA m c) (kA m c) (vA m c) (l0A m c) (l1A m c) (l2A m c) (l3A m c) (gA m c)
      (t.val / 13) (640 * (t.val % 13) + r.val) (y.val / 128) ⟨y.val % 128, Nat.mod_lt _ (by decide)⟩ := by
  have ht : t.val < 52 := lt_of_lt_of_eq t.isLt npts
  have hq := (indices t).2.2.2.2.2.2
  obtain ⟨X0, X1, X2, X3, X4, G8, G9, G10, G11, G12, ⟨e0, e1, e2, e3, e4⟩, hX⟩ := hX
  have hQ : ∀ (r : Fin 640) (y : Fin 512), (st0 t).view.read (Elt Ideal) X0 (ix2 r y)
      = ((nat3 (qA m c) (t.val / 13) (640 * ((grid0.coords t) 2).val + r.val) y.val : ℝ) : EReal) := fun r y => by
    rw [hq]
    refine (congrFun e0 (ix2 r y)).trans ((q_block m c t r y (⟨t.val / 13, by omega⟩ : Fin 4) (⟨640 * (t.val % 13) + r.val, by omega⟩ : Fin 8320) rfl rfl).trans ?_)
    exact nat3_eq hr.q _ _ _
  have hK : ∀ (j : Fin 8320) (x : Fin 512), (st1 t).view.read (Elt Ideal) X1 (ix2 j x) = ((nat3 (kA m c) (t.val / 13) j.val x.val : ℝ) : EReal) := fun j x =>
    (congrFun e1 (ix2 j x)).trans ((k_block m c t j x (⟨t.val / 13, by omega⟩ : Fin 4) rfl).trans (nat3_eq hr.k _ _ _))
  have hV : ∀ (j : Fin 8320) (x : Fin 512), (st2 t).view.read (Elt Ideal) X2 (ix2 j x) = ((nat3 (vA m c) (t.val / 13) j.val x.val : ℝ) : EReal) := fun j x =>
    (congrFun e2 (ix2 j x)).trans ((v_block m c t j x (⟨t.val / 13, by omega⟩ : Fin 4) rfl).trans (nat3_eq hr.v _ _ _))
  have ha := fun x : Fin 64 => (congrFun e3 (ix2 (0 : Fin 4) x)).trans ((l_block m c t 0 x).trans (row1_eq hr.l0 x))
  have hb := fun x : Fin 64 => (congrFun e3 (ix2 (1 : Fin 4) x)).trans ((l_block m c t 1 x).trans (row1_eq hr.l1 x))
  have hc := fun x : Fin 64 => (congrFun e3 (ix2 (2 : Fin 4) x)).trans ((l_block m c t 2 x).trans (row1_eq hr.l2 x))
  have hd := fun x : Fin 64 => (congrFun e3 (ix2 (3 : Fin 4) x)).trans ((l_block m c t 3 x).trans (row1_eq hr.l3 x))
  have hg := fun x : Fin 128 => (congrFun e4 (ix2 (0 : Fin 1) x)).trans (g_block m c t x)
  unfold headE
  rw [← hq]
  rcases hX with ⟨h1, h2, rfl⟩ | ⟨h1, h2, rfl⟩
  · exact odd_point _ _ _ _ _ _ _ _ _ _ _ _ _ _ _ _ _ _ _ _ _ _ _ _ _ _ _ _ _ _ _ _ _ _ hQ hK hV ha hb hc hd hg h1 h2 _ r y
  · exact even_point _ _ _ _ _ _ _ _ _ _ _ _ _ _ _ _ _ _ _ _ _ _ _ _ _ _ _ _ _ _ _ _ _ _ hQ hK hV ha hb hc hd hg h1 h2 _ r y

/-- **The result array**: at the end of the launch it is `outE` of the arguments. -/
theorem result_array (hr : RealArgs m c) (r) (h : Pipeline.RDat.FramePost (cfgs 0) (rdat m) (V m) r) :
    r.2.mem ((c : Thread nD τ).loc main_v16) = outE (qA m c) (kA m c) (vA m c) (l0A m c) (l1A m c) (l2A m c) (l3A m c) (gA m c) := by
  obtain ⟨after, hL, hA⟩ := h.exists_exact c
  refine (hA 5).trans (funext fun i => ?_)
  refine ((rdat m c).withAfter after).arrAt_forall_of_covers 5
    (fun i v => v = outE (qA m c) (kA m c) (vA m c) (l0A m c) (l1A m c) (l2A m c) (l3A m c) (gA m c) i) (by decide +kernel) (fun t hf y => ?_) i
  have ht : t.val < 52 := lt_of_lt_of_eq t.isLt npts
  have i5 := (indices t).2.2.2.2.2.1
  have hH : Holds m c t (after 5 t) := Pipeline.Dat.toRRel_leaves (dat := dat m c) (w := 5) rfl (hL 5 t hf)
  obtain ⟨a, b, rfl⟩ : ∃ (a : Fin 640) (b : Fin 512), y = ix2 a b := ⟨y 0, y 1, funext fun k => by
    match k with
    | ⟨0, _⟩ => rfl
    | ⟨1, _⟩ => rfl⟩
  have E0 : ((((cfg0.win 5).blk t).view.emb (ix2 a b) : S33280x512.Idx) 0).val = t.val * 640 + a.val := by
    blk_simp [i5]
    rfl
  have E1 : ((((cfg0.win 5).blk t).view.emb (ix2 a b) : S33280x512.Idx) 1).val = b.val := by
    blk_simp [i5]
    rfl
  generalize (((cfg0.win 5).blk t).view.emb (ix2 a b) : S33280x512.Idx) = j at E0 E1
  refine (holds_value hr t _ hH a b).trans ?_
  have F0 : (j 0).val / 8320 = t.val / 13 := by omega
  have F1 : (j 0).val % 8320 = 640 * (t.val % 13) + a.val := by omega
  unfold outE
  simp only [F0, F1, E1]

end Cert.Attn
-- ==== Proof.SoftRow.lean ====
/-
  A ROW OF THE REFERENCE'S SOFTMAX, as mathematics: the row's largest entry is real, the masked entries have weight zero,
  and dividing by the sum makes the shift by the largest entry disappear; then the weighted average of two such rows.
-/
module

public import proofs.«01_k».proof.Proof.Array

@[expose] public section

noncomputable section

namespace Cert.Attn

open Idealize.ShloMosaic
open scoped BigOperators

/-- A sum of reals among the extended reals. -/
theorem coe_fin_sum {n : ℕ} (f : Fin n → ℝ) : (∑ k, (f k : EReal)) = ((∑ k, f k : ℝ) : EReal) := (coe_sum _ _).symm

/-- A sum over a row cut at `p`. -/
theorem sum_upto {n : ℕ} (p : ℕ) (hp : p < n) (f : ℕ → ℝ) : (∑ k : Fin n, if k.val ≤ p then f k.val else 0) = ∑ k ∈ Finset.range (p + 1), f k := by
  rw [Fin.sum_univ_eq_sum_range (fun k => if k ≤ p then f k else 0) n, ← Finset.sum_filter]
  congr 1
  ext k
  simp only [Finset.mem_filter, Finset.mem_range]
  omega

/-- The largest of finitely many entries, each real or `⊥`, not all `⊥`, is real. -/
theorem fold_real {n : ℕ} (s : Fin n → EReal) (hs : ∀ j, s j ≠ ⊤) (j : Fin n) (hj : s j ≠ ⊥) :
    ∃ μ : ℝ, (Finset.univ : Finset (Fin n)).fold max ⊥ s = (μ : EReal) := by
  have h1 : s j ≤ (Finset.univ : Finset (Fin n)).fold max ⊥ s := (Finset.le_fold_max _).mpr (Or.inr ⟨j, Finset.mem_univ _, le_rfl⟩)
  have h2 : (Finset.univ : Finset (Fin n)).fold max ⊥ s < ⊤ := (Finset.fold_max_lt _).mpr ⟨bot_lt_top, fun x _ => lt_top_iff_ne_top.mpr (hs x)⟩
  refine ⟨_, (EReal.coe_toReal h2.ne fun h => hj ?_).symm⟩
  rw [h] at h1
  exact le_bot_iff.mp h1

/-- **The softmax of a causal row.** -/
theorem soft_row {n : ℕ} (s : Fin n → EReal) (σ : ℕ → ℝ) (p : ℕ) (hp : p < n) (hs : ∀ j, s j = if j.val ≤ p then ((σ j.val : ℝ) : EReal) else ⊥) (j : Fin n) :
    Ideal.div (Ideal.exp (s j - max ⊥ ((Finset.univ : Finset (Fin n)).fold max ⊥ s)))
        (0 + ∑ k, Ideal.exp (s k - max ⊥ ((Finset.univ : Finset (Fin n)).fold max ⊥ s)))
      = (((if j.val ≤ p then Real.exp (σ j.val) / ∑ k ∈ Finset.range (p + 1), Real.exp (σ k) else 0) : ℝ) : EReal) := by
  obtain ⟨μ, hμ⟩ := fold_real s (fun j => by rw [hs]; split <;> simp) ⟨0, by omega⟩ (by rw [hs]; simp)
  rw [max_eq_right bot_le, hμ]
  have he : ∀ k, Ideal.exp (s k - (μ : EReal)) = (((if k.val ≤ p then Real.exp (σ k.val - μ) else 0) : ℝ) : EReal) := fun k => by
    rw [hs]
    split
    · rw [← EReal.coe_sub, Ideal.exp_coe]
    · rw [sub_eq_add_neg, EReal.bot_add, Ideal.exp_bot, EReal.coe_zero]
  simp only [he]
  rw [coe_fin_sum, sum_upto p hp (fun k => Real.exp (σ k - μ)), zero_add]
  have hpos : 0 < ∑ k ∈ Finset.range (p + 1), Real.exp (σ k - μ) :=
    Finset.sum_pos (fun k _ => Real.exp_pos _) ⟨0, Finset.mem_range.mpr (Nat.succ_pos p)⟩
  rw [div_real _ _ hpos.ne']
  congr 1
  split
  · have e : ∀ k, Real.exp (σ k - μ) = Real.exp (σ k) * Real.exp (-μ) := fun k => by rw [sub_eq_add_neg, Real.exp_add]
    simp only [e, ← Finset.sum_mul]
    rw [mul_div_mul_right _ _ (Real.exp_pos _).ne']
  · rw [zero_div]

/-- **The difference of the two maps applied to the values** is the difference of the two averages. -/
theorem diff_row {n : ℕ} (Q K V : ℕ → ℕ → ℝ) (lam : ℝ) (h p d : ℕ) (hp : p < n) (P0 P1 v : Fin n → EReal)
    (h0 : ∀ j, P0 j = (((if j.val ≤ p then ex Q K (128 * h) p j.val / ∑ k ∈ Finset.range (p + 1), ex Q K (128 * h) p k else 0) : ℝ) : EReal))
    (h1 : ∀ j, P1 j = (((if j.val ≤ p then ex Q K (128 * h + 64) p j.val / ∑ k ∈ Finset.range (p + 1), ex Q K (128 * h + 64) p k else 0) : ℝ) : EReal))
    (hv : ∀ j, v j = ((V j.val (128 * h + d) : ℝ) : EReal)) :
    (∑ j, (P0 j - (lam : EReal) * P1 j) * v j) = ((diffO Q K V lam h p d : ℝ) : EReal) := by
  simp only [h0, h1, hv, ← EReal.coe_mul, ← EReal.coe_sub]
  rw [coe_fin_sum]
  congr 1
  unfold diffO avg
  rw [Finset.sum_div, Finset.sum_div, Finset.mul_sum, ← Finset.sum_sub_distrib]
  refine Eq.trans ?_ (sum_upto p hp fun k => ex Q K (128 * h) p k * V k (128 * h + d) / (∑ k ∈ Finset.range (p + 1), ex Q K (128 * h) p k)
    - lam * (ex Q K (128 * h + 64) p k * V k (128 * h + d) / ∑ k ∈ Finset.range (p + 1), ex Q K (128 * h + 64) p k))
  refine Finset.sum_congr rfl fun j _ => ?_
  split <;> ring

end Cert.Attn
-- ==== Proof.RefMaps.lean ====
/-
  THE REFERENCE'S SOFTMAX MAPS: the split of queries, keys and values into heads and maps, the masked scores and their
  softmax, each read at an entry.
-/
module

public import proofs.«01_k».proof.Proof.SoftRow
public import proofs.«01_k».proof.Proof.Gen.ReferenceIdeal.Run
public import Idealize.ShloMosaic.Lib.KernelVsHost
public import Idealize.ShloMosaic.Lib.WordCmp

@[expose] public section

set_option maxRecDepth 4096

noncomputable section

namespace Cert.Attn

open Idealize.ShloMosaic hiding ix1 ix2 ix3 ix4 ix5
open Idealize.ShloMosaic.ValueIdx Cert.ReferenceIdeal Cert.ReferenceIdeal.Gen
open scoped BigOperators

/-- Queries or keys, by map, batch, head, row and column. -/
def splitS (A : FVec Ideal S4x8320x512 .f32) : FVec Ideal S2x4x4x8320x64 .f32 :=
  transpose S2x4x4x8320x64 [3, 0, 2, 1, 4] (shapeCast _ A shapeCasts_S4x8320x512_S4x8320x4x2x64) transposes_S4x8320x4x2x64_S2x4x4x8320x64_3_0_2_1_4

theorem splitS_apply (A : FVec Ideal S4x8320x512 .f32) (n : Fin 2) (b h : Fin 4) (p : Fin 8320) (x : Fin 64) :
    splitS A (ix5 n b h p x) = A (ix3 b p (⟨128 * h.val + 64 * n.val + x.val, by omega⟩ : Fin 512)) := by
  refine (transpose_apply _ _ _ _ (ix5 b p h n x) ?_).trans ?_
  · intro a
    match a with
    | ⟨0, _⟩ => rfl
    | ⟨1, _⟩ => rfl
    | ⟨2, _⟩ => rfl
    | ⟨3, _⟩ => rfl
    | ⟨4, _⟩ => rfl
  · refine shapeCast_apply _ _ _ _ ?_
    rw [Shape.rowMajor_val_three, Shape.rowMajor_val_five]
    show (b.val * 8320 + p.val) * 512 + (128 * h.val + 64 * n.val + x.val) = (((b.val * 8320 + p.val) * 4 + h.val) * 2 + n.val) * 64 + x.val
    omega

/-- The values, by batch, head, row and column. -/
def splitV (A : FVec Ideal S4x8320x512 .f32) : FVec Ideal S4x4x8320x128 .f32 :=
  transpose S4x4x8320x128 [0, 2, 1, 3] (shapeCast _ A shapeCasts_S4x8320x512_S4x8320x4x128) transposes_S4x8320x4x128_S4x4x8320x128_0_2_1_3

theorem splitV_apply (A : FVec Ideal S4x8320x512 .f32) (b h : Fin 4) (p : Fin 8320) (x : Fin 128) :
    splitV A (ix4 b h p x) = A (ix3 b p (⟨128 * h.val + x.val, by omega⟩ : Fin 512)) := by
  refine (transpose_apply _ _ _ _ (ix4 b p h x) ?_).trans ?_
  · intro a
    match a with
    | ⟨0, _⟩ => rfl
    | ⟨1, _⟩ => rfl
    | ⟨2, _⟩ => rfl
    | ⟨3, _⟩ => rfl
  · refine shapeCast_apply _ _ _ _ ?_
    rw [Shape.rowMajor_val_three, Shape.rowMajor_val_four]
    show (b.val * 8320 + p.val) * 512 + (128 * h.val + x.val) = ((b.val * 8320 + p.val) * 4 + h.val) * 128 + x.val
    omega

/-- The products of the rows of queries with the rows of keys. -/
theorem scores_apply (A B : FVec Ideal S2x4x4x8320x64 .f32) (n : Fin 2) (b h : Fin 4) (p j : Fin 8320) :
    Host.dotGeneral dot_S2x4x4x8320x64_S2x4x4x8320x64_S2x4x4x8320x8320_4_4_3_3_012_012 none A B (ix5 n b h p j)
      = ∑ x : Fin 64, A (ix5 n b h p x) * B (ix5 n b h j x) := by
  show FloatOps.dotGeneral _ none _ A B (ix5 n b h p j) = _
  rw [Ideal.dotGeneral_apply, ← Equiv.sum_comp (contrEquiv1 dot_S2x4x4x8320x64_S2x4x4x8320x64_S2x4x4x8320x8320_4_4_3_3_012_012 64 rfl rfl).symm]
  refine Finset.sum_congr rfl fun x _ => ?_
  have hx := contrEquiv1_symm_val dot_S2x4x4x8320x64_S2x4x4x8320x64_S2x4x4x8320x8320_4_4_3_3_012_012 64 rfl rfl x
  refine congrArg₂ (· * ·) (congrArg A ?_) (congrArg B ?_)
  · funext a; apply Fin.ext
    match a with
    | ⟨0, _⟩ => rfl
    | ⟨1, _⟩ => rfl
    | ⟨2, _⟩ => rfl
    | ⟨3, _⟩ => rfl
    | ⟨4, _⟩ => exact hx
  · funext a; apply Fin.ext
    match a with
    | ⟨0, _⟩ => rfl
    | ⟨1, _⟩ => rfl
    | ⟨2, _⟩ => rfl
    | ⟨3, _⟩ => rfl
    | ⟨4, _⟩ => exact hx

/-- The weights applied to the values. -/
theorem applied_apply (A : FVec Ideal S4x4x8320x8320 .f32) (B : FVec Ideal S4x4x8320x128 .f32) (b h : Fin 4) (p : Fin 8320) (x : Fin 128) :
    Host.dotGeneral dot_S4x4x8320x8320_S4x4x8320x128_S4x4x8320x128_3_2_2_3_01_01 none A B (ix4 b h p x)
      = ∑ j : Fin 8320, A (ix4 b h p j) * B (ix4 b h j x) := by
  show FloatOps.dotGeneral _ none _ A B (ix4 b h p x) = _
  rw [Ideal.dotGeneral_apply, ← Equiv.sum_comp (contrEquiv1 dot_S4x4x8320x8320_S4x4x8320x128_S4x4x8320x128_3_2_2_3_01_01 8320 rfl rfl).symm]
  refine Finset.sum_congr rfl fun j _ => ?_
  have hx := contrEquiv1_symm_val dot_S4x4x8320x8320_S4x4x8320x128_S4x4x8320x128_3_2_2_3_01_01 8320 rfl rfl j
  refine congrArg₂ (· * ·) (congrArg A ?_) (congrArg B ?_)
  · funext a; apply Fin.ext
    match a with
    | ⟨0, _⟩ => rfl
    | ⟨1, _⟩ => rfl
    | ⟨2, _⟩ => rfl
    | ⟨3, _⟩ => exact hx
  · funext a; apply Fin.ext
    match a with
    | ⟨0, _⟩ => rfl
    | ⟨1, _⟩ => rfl
    | ⟨2, _⟩ => exact hx
    | ⟨3, _⟩ => rfl

/-- Which keys a query may see. -/
def maskS : IVec S8320x8320 1 :=
  cmpi .sge (broadcastInDim S8320x8320 ![0, 1] bcast_S8320x1_S8320x8320_0_1 (broadcastInDim S8320x1 ![0] bcast_S8320_S8320x1_0 (iotaInDim S8320 32 0)))
    (broadcastInDim S8320x8320 ![0, 1] bcast_S1x8320_S8320x8320_0_1 (broadcastInDim S1x8320 ![1] bcast_S8320_S1x8320_1 (iotaInDim S8320 32 0)))

theorem maskS_apply (p j : Fin 8320) : maskS (ix2 p j) = BitVec.ofBool (decide (j.val ≤ p.val)) := by
  have e1 : broadcastInDim S8320x8320 ![0, 1] bcast_S8320x1_S8320x8320_0_1 (broadcastInDim S8320x1 ![0] bcast_S8320_S8320x1_0 (iotaInDim S8320 32 0)) (ix2 p j)
      = BitVec.ofNat 32 p.val := by
    refine (broadcastInDim_apply _ _ _ _ (ix2 p (0 : Fin 1)) ?_).trans ((broadcastInDim_apply _ _ _ _ (ix1 p) ?_).trans rfl)
    · intro a
      match a with
      | ⟨0, _⟩ => rfl
      | ⟨1, _⟩ => rfl
    · intro a
      match a with
      | ⟨0, _⟩ => rfl
  have e2 : broadcastInDim S8320x8320 ![0, 1] bcast_S1x8320_S8320x8320_0_1 (broadcastInDim S1x8320 ![1] bcast_S8320_S1x8320_1 (iotaInDim S8320 32 0)) (ix2 p j)
      = BitVec.ofNat 32 j.val := by
    refine (broadcastInDim_apply _ _ _ _ (ix2 (0 : Fin 1) j) ?_).trans ((broadcastInDim_apply _ _ _ _ (ix1 j) ?_).trans rfl)
    · intro a
      match a with
      | ⟨0, _⟩ => rfl
      | ⟨1, _⟩ => rfl
    · intro a
      match a with
      | ⟨0, _⟩ => rfl
  show IntOp.cmpi .sge _ _ = _
  rw [e1, e2]
  exact WordCmp.cmpi_sge_ofNat (by omega) (by omega)

/-- The masked scores. -/
def scoreS (q k : FVec Ideal S4x8320x512 .f32) : FVec Ideal S2x4x4x8320x8320 .f32 :=
  select (broadcastInDim S2x4x4x8320x8320 ![3, 4] bcast_S8320x8320_S2x4x4x8320x8320_3_4 maskS)
    (mulf (Host.dotGeneral dot_S2x4x4x8320x64_S2x4x4x8320x64_S2x4x4x8320x8320_4_4_3_3_012_012 none (splitS q) (splitS k))
      (broadcastInDim S2x4x4x8320x8320 ![] bcast_S_S2x4x4x8320x8320 (constant S_ .f32 0x3E000000#32)))
    (broadcastInDim S2x4x4x8320x8320 ![] bcast_S_S2x4x4x8320x8320 (id (constant S_ .f32 0xFF800000#32)))

/-- The constant of the mask. -/
theorem ninf : Ideal.ofBits .f32 0xFF800000#32 = ⊥ := by
  show Ideal.ieee 8 23 0xFF800000#32 = ⊥
  unfold Ideal.ieee
  dsimp only
  rw [if_pos (by decide), if_pos (by decide)]
  rfl

/-- The constant of the scale. -/
theorem eighth : Ideal.ofBits .f32 0x3E000000#32 = ((1 / 8 : ℝ) : EReal) := by
  show Ideal.ieee 8 23 0x3E000000#32 = _
  unfold Ideal.ieee
  dsimp only
  rw [if_neg (by decide), if_neg (by decide), if_neg (by decide)]
  rw [show (((BitVec.extractLsb' 23 8 0x3E000000#32).toNat : ℤ) - (2 ^ (8 - 1) - 1) - ((23 : ℕ) : ℤ)) = -26 by decide,
    show (BitVec.extractLsb' 0 23 0x3E000000#32).toNat = 0 by decide]
  congr 1
  norm_num

theorem scoreS_apply {q k : FVec Ideal S4x8320x512 .f32} (hq : AllReal q) (hk : AllReal k) (n : Fin 2) (b h : Fin 4) (p j : Fin 8320) :
    scoreS q k (ix5 n b h p j)
      = if j.val ≤ p.val then ((dotS (nat3 q b.val) (nat3 k b.val) (128 * h.val + 64 * n.val) p.val j.val / 8 : ℝ) : EReal) else ⊥ := by
  have em : broadcastInDim S2x4x4x8320x8320 ![3, 4] bcast_S8320x8320_S2x4x4x8320x8320_3_4 maskS (ix5 n b h p j) = BitVec.ofBool (decide (j.val ≤ p.val)) := by
    refine (broadcastInDim_apply _ _ _ _ (ix2 p j) ?_).trans (maskS_apply p j)
    intro a
    match a with
    | ⟨0, _⟩ => rfl
    | ⟨1, _⟩ => rfl
  unfold scoreS
  rw [select_apply, em]
  by_cases hj : j.val ≤ p.val
  · rw [decide_eq_true hj, if_pos hj]
    show Host.dotGeneral dot_S2x4x4x8320x64_S2x4x4x8320x64_S2x4x4x8320x8320_4_4_3_3_012_012 none (splitS q) (splitS k) (ix5 n b h p j) * Ideal.ofBits .f32 0x3E000000#32 = _
    rw [scores_apply, eighth]
    simp only [splitS_apply, nat3_eq hq, nat3_eq hk]
    rw [coe_mul_sum, ← EReal.coe_mul]
    congr 1
    unfold dotS
    ring
  · rw [decide_eq_false hj, if_neg hj]
    exact ninf

/-- The largest score of a row. -/
def maxS (s : FVec Ideal S2x4x4x8320x8320 .f32) : FVec Ideal S2x4x4x8320 .f32 :=
  maximumf (broadcastInDim S2x4x4x8320 ![] bcast_S_S2x4x4x8320 (constant S_ .f32 0xFF800000#32))
    (Host.reduce FloatOps.maximumf s (constant S_ .f32 0xFF800000#32) reducesTo_S2x4x4x8320x8320_S2x4x4x8320_d4 h_S_)

theorem lift5 {n0 n1 n2 n3 n4 : ℕ} (H : (⟨5, ![n0, n1, n2, n3, n4]⟩ : Shape).Reduces [4] ⟨4, ![n0, n1, n2, n3]⟩)
    (n : Fin n0) (b : Fin n1) (h : Fin n2) (p : Fin n3) (j : Fin n4) : H.lift (ix4 n b h p) j = ix5 n b h p j := by
  funext a; apply Fin.ext
  match a with
  | ⟨0, _⟩ => rfl
  | ⟨1, _⟩ => rfl
  | ⟨2, _⟩ => rfl
  | ⟨3, _⟩ => rfl
  | ⟨4, _⟩ => rfl

/-- Operations at an entry. -/
theorem max_at {s u : Shape} {dims : Fin u.rank → Fin s.rank} (hb : u.BroadcastsInDim s dims) (c : BitVec 32) (R : FVec Ideal s .f32) (i : s.Idx) :
    maximumf (broadcastInDim s dims hb (constant u .f32 c)) R i = max (Ideal.ofBits .f32 c) (R i) := rfl

theorem div_at {s : Shape} (A B : FVec Ideal s .f32) (i : s.Idx) : Host.divf A B i = Ideal.div (A i) (B i) := rfl

theorem exp_sub_at {s : Shape} (A B : FVec Ideal s .f32) (i : s.Idx) : Host.exp (subf A B) i = Ideal.exp (A i - B i) := rfl

/-- A reduction with the maximum from the mask's constant, at a row. -/
theorem max_row {n0 n1 n2 n3 n4 : ℕ} {u : Shape} (s : FVec Ideal ⟨5, ![n0, n1, n2, n3, n4]⟩ .f32)
    (H' : (⟨5, ![n0, n1, n2, n3, n4]⟩ : Shape).ReducesTo [4] ⟨4, ![n0, n1, n2, n3]⟩)
    (H : (⟨5, ![n0, n1, n2, n3, n4]⟩ : Shape).Reduces [4] ⟨4, ![n0, n1, n2, n3]⟩) (hu : 0 < u.numel)
    (n : Fin n0) (b : Fin n1) (h : Fin n2) (p : Fin n3) :
    Host.reduce FloatOps.maximumf s (constant u .f32 0xFF800000#32) H' hu (ix4 n b h p)
      = (Finset.univ : Finset (Fin n4)).fold max ⊥ fun j => s (ix5 n b h p j) := by
  refine (congrFun (hostReduce_maximumf_eq_multiReduction s 0xFF800000#32 _ _ H (by decide) (by decide)) _).trans ?_
  refine (Ideal.multiReduction_maximumf_single _ _ _ _ _ _).trans ?_
  rw [show (FloatOps.ofBits .f32 0xFF800000#32 : Ideal .f32) = (⊥ : EReal) from ninf]
  exact congrArg (fun f : Fin n4 → EReal => (Finset.univ : Finset (Fin n4)).fold max ⊥ f) (funext fun j => congrArg s (lift5 H n b h p j))

/-- A reduction with the sum from zero, at a row. -/
theorem sum_row {n0 n1 n2 n3 n4 : ℕ} {u : Shape} (s : FVec Ideal ⟨5, ![n0, n1, n2, n3, n4]⟩ .f32)
    (H' : (⟨5, ![n0, n1, n2, n3, n4]⟩ : Shape).ReducesTo [4] ⟨4, ![n0, n1, n2, n3]⟩)
    (H : (⟨5, ![n0, n1, n2, n3, n4]⟩ : Shape).Reduces [4] ⟨4, ![n0, n1, n2, n3]⟩) (hu : 0 < u.numel)
    (n : Fin n0) (b : Fin n1) (h : Fin n2) (p : Fin n3) :
    Host.reduceAdd s (constant u .f32 0x00000000#32) H' hu (ix4 n b h p) = 0 + ∑ j : Fin n4, s (ix5 n b h p j) := by
  show Ideal.hostReduceAdd _ s (Ideal.ofBits .f32 0x00000000#32) (ix4 n b h p) = _
  rw [Ideal.hostReduceAdd_single _ H, Ideal.ofBits_zero_f32]
  exact congrArg (fun z => (0 : EReal) + z) (Finset.sum_congr rfl fun k _ => congrArg s (lift5 H n b h p k))

theorem maxS_apply (s : FVec Ideal S2x4x4x8320x8320 .f32) (n : Fin 2) (b h : Fin 4) (p : Fin 8320) :
    maxS s (ix4 n b h p) = max ⊥ ((Finset.univ : Finset (Fin 8320)).fold max ⊥ fun j => s (ix5 n b h p j)) := by
  unfold maxS
  rw [max_at, ninf, max_row s _ (by decide)]

/-- A row's value spread over the row. -/
def spread (x : FVec Ideal S2x4x4x8320 .f32) : FVec Ideal S2x4x4x8320x8320 .f32 :=
  broadcastInDim S2x4x4x8320x8320 ![0, 1, 2, 3, 4] bcast_S2x4x4x8320x1_S2x4x4x8320x8320_0_1_2_3_4
    (broadcastInDim S2x4x4x8320x1 ![0, 1, 2, 3] bcast_S2x4x4x8320_S2x4x4x8320x1_0_1_2_3 x)

theorem spread_apply (x : FVec Ideal S2x4x4x8320 .f32) (n : Fin 2) (b h : Fin 4) (p j : Fin 8320) : spread x (ix5 n b h p j) = x (ix4 n b h p) := by
  refine (broadcastInDim_apply _ _ _ _ (ix5 n b h p (0 : Fin 1)) ?_).trans (broadcastInDim_apply _ _ _ _ (ix4 n b h p) ?_)
  · intro a
    match a with
    | ⟨0, _⟩ => rfl
    | ⟨1, _⟩ => rfl
    | ⟨2, _⟩ => rfl
    | ⟨3, _⟩ => rfl
    | ⟨4, _⟩ => rfl
  · intro a
    match a with
    | ⟨0, _⟩ => rfl
    | ⟨1, _⟩ => rfl
    | ⟨2, _⟩ => rfl
    | ⟨3, _⟩ => rfl

/-- The exponentials of a row's scores less the largest. -/
def expS (s : FVec Ideal S2x4x4x8320x8320 .f32) : FVec Ideal S2x4x4x8320x8320 .f32 := Host.exp (subf s (spread (maxS s)))

/-- The softmax of the rows. -/
def probS (s : FVec Ideal S2x4x4x8320x8320 .f32) : FVec Ideal S2x4x4x8320x8320 .f32 :=
  Host.divf (expS s) (spread (Host.reduceAdd (expS s) (constant S_ .f32 0x00000000#32) reducesTo_S2x4x4x8320x8320_S2x4x4x8320_d4 h_S_))

theorem expS_apply (s : FVec Ideal S2x4x4x8320x8320 .f32) (n : Fin 2) (b h : Fin 4) (p j : Fin 8320) :
    expS s (ix5 n b h p j) = Ideal.exp (s (ix5 n b h p j) - max ⊥ ((Finset.univ : Finset (Fin 8320)).fold max ⊥ fun j => s (ix5 n b h p j))) := by
  unfold expS
  rw [exp_sub_at, spread_apply, maxS_apply]

theorem probS_apply (s : FVec Ideal S2x4x4x8320x8320 .f32) (n : Fin 2) (b h : Fin 4) (p j : Fin 8320) :
    probS s (ix5 n b h p j) = Ideal.div (expS s (ix5 n b h p j)) (0 + ∑ k : Fin 8320, expS s (ix5 n b h p k)) := by
  unfold probS
  rw [div_at, spread_apply, sum_row (expS s) _ (by decide)]

/-- **The two softmax maps of the reference**, at an entry. -/
theorem maps_apply {q k : FVec Ideal S4x8320x512 .f32} (hq : AllReal q) (hk : AllReal k) (n : Fin 2) (b h : Fin 4) (p j : Fin 8320) :
    probS (scoreS q k) (ix5 n b h p j)
      = (((if j.val ≤ p.val then ex (nat3 q b.val) (nat3 k b.val) (128 * h.val + 64 * n.val) p.val j.val
          / ∑ i ∈ Finset.range (p.val + 1), ex (nat3 q b.val) (nat3 k b.val) (128 * h.val + 64 * n.val) p.val i else 0) : ℝ) : EReal) := by
  rw [probS_apply]
  simp only [expS_apply]
  exact soft_row (fun j => scoreS q k (ix5 n b h p j)) (fun j => dotS (nat3 q b.val) (nat3 k b.val) (128 * h.val + 64 * n.val) p.val j / 8)
    p.val p.isLt (fun j => scoreS_apply hq hk n b h p j) j

end Cert.Attn
-- ==== Proof.RefValue.lean ====
/-
  THE REFERENCE'S RESULT: the difference of its two maps applied to the values, normalized, laid out by rows: at every entry
  it is `outE` of the arguments (`reference_value`).
-/
module

public import proofs.«01_k».proof.Proof.RefMaps
public import Idealize.ShloMosaic.Lib.ValueIdxRank1

@[expose] public section

set_option maxRecDepth 4096

noncomputable section

namespace Cert.Attn

open Idealize.ShloMosaic hiding ix1 ix2 ix3 ix4 ix5
open Idealize.ShloMosaic.ValueIdx Idealize.ShloMosaic.TcCoe Cert.ReferenceIdeal Cert.ReferenceIdeal.Gen
open scoped BigOperators

/-- The sum of the products of two rows of parameters, exponentiated. -/
def lamHalf (a b : FVec Ideal S1x64 .f32) : FVec Ideal S_ .f32 :=
  Host.exp (Host.reduceAdd (mulf (shapeCast S64 a shapeCasts_S1x64_S64) (shapeCast S64 b shapeCasts_S1x64_S64)) (constant S_ .f32 0x00000000#32) reducesTo_S64_S_d0 h_S_)

/-- `λ`. -/
def lamS (a b c d : FVec Ideal S1x64 .f32) : FVec Ideal S_ .f32 :=
  addf (subf (lamHalf a b) (lamHalf c d)) (constant S_ .f32 0x3E4CCCCD#32)

theorem row_flat (a : FVec Ideal S1x64 .f32) (x : Fin 64) : shapeCast S64 a shapeCasts_S1x64_S64 (ix1 x) = a (ix2 (0 : Fin 1) x) :=
  shapeCast_apply _ _ (ix1 x) (ix2 (0 : Fin 1) x) (by
    rw [Shape.rowMajor_val_one, Shape.rowMajor_val_two]; show 0 * 64 + x.val = x.val; omega)

/-- A sum of a vector from zero. -/
theorem sum_all {n : ℕ} {u : Shape} (s : FVec Ideal ⟨1, ![n]⟩ .f32) (H' : (⟨1, ![n]⟩ : Shape).ReducesTo [0] ⟨0, ![]⟩)
    (hu : 0 < u.numel) (i : (⟨0, ![]⟩ : Shape).Idx) :
    Host.reduceAdd s (constant u .f32 0x00000000#32) H' hu i = ∑ j : Fin n, s (ix1 j) := by
  show Ideal.hostReduceAdd _ s (Ideal.ofBits .f32 0x00000000#32) i = _
  unfold Ideal.hostReduceAdd
  rw [Ideal.ofBits_zero_f32, zero_add, Finset.filter_true_of_mem fun j _ => funext fun a => a.elim0]
  exact (Equiv.sum_comp (idxEquiv1 (n := n)).symm s).symm

theorem exp_at {s : Shape} (A : FVec Ideal s .f32) (i : s.Idx) : Host.exp A i = Ideal.exp (A i) := rfl
theorem mul_at {s : Shape} {φ : FTy} (A B : FVec Ideal s φ) (i : s.Idx) : mulf A B i = A i * B i := rfl
theorem sub_at {s : Shape} {φ : FTy} (A B : FVec Ideal s φ) (i : s.Idx) : subf A B i = A i - B i := rfl
theorem add_const_at {s : Shape} (c : BitVec 32) (A : FVec Ideal s .f32) (i : s.Idx) : addf A (constant s .f32 c) i = A i + Ideal.ofBits .f32 c := rfl

theorem lamHalf_apply (a b : FVec Ideal S1x64 .f32) (i : S_.Idx) : lamHalf a b i = Ideal.exp (∑ x, a (ix2 (0 : Fin 1) x) * b (ix2 (0 : Fin 1) x)) := by
  unfold lamHalf
  rw [exp_at, sum_all]
  refine congrArg Ideal.exp (Finset.sum_congr rfl fun x _ => ?_)
  rw [mul_at, row_flat, row_flat]

theorem lamS_apply {a b c d : FVec Ideal S1x64 .f32} (ha : AllReal a) (hb : AllReal b) (hc : AllReal c) (hd : AllReal d) (i : S_.Idx) :
    lamS a b c d i = ((lamR (row1 a) (row1 b) (row1 c) (row1 d) : ℝ) : EReal) := by
  unfold lamS
  rw [add_const_at, sub_at, lamHalf_apply, lamHalf_apply, ← lamE_real]
  unfold lamE
  simp only [row1_eq ha, row1_eq hb, row1_eq hc, row1_eq hd]

/-- Map `0` and map `1` of the softmax. -/
def map0 (P : FVec Ideal S2x4x4x8320x8320 .f32) : FVec Ideal S4x4x8320x8320 .f32 :=
  shapeCast _ (extractStridedSlice S1x4x4x8320x8320 ![0, 0, 0, 0, 0] P slices_S2x4x4x8320x8320_S1x4x4x8320x8320_0_0_0_0_0) shapeCasts_S1x4x4x8320x8320_S4x4x8320x8320
def map1 (P : FVec Ideal S2x4x4x8320x8320 .f32) : FVec Ideal S4x4x8320x8320 .f32 :=
  shapeCast _ (extractStridedSlice S1x4x4x8320x8320 ![1, 0, 0, 0, 0] P slices_S2x4x4x8320x8320_S1x4x4x8320x8320_1_0_0_0_0) shapeCasts_S1x4x4x8320x8320_S4x4x8320x8320

/-- Dropping a leading axis of one. -/
theorem drop_lead {n0 n1 n2 n3 : ℕ} (A : FVec Ideal ⟨5, ![1, n0, n1, n2, n3]⟩ .f32) (h : (⟨5, ![1, n0, n1, n2, n3]⟩ : Shape).ShapeCasts ⟨4, ![n0, n1, n2, n3]⟩)
    (b : Fin n0) (y : Fin n1) (p : Fin n2) (j : Fin n3) : shapeCast (⟨4, ![n0, n1, n2, n3]⟩ : Shape) A h (ix4 b y p j) = A (ix5 (0 : Fin 1) b y p j) := by
  refine shapeCast_apply _ _ _ _ ?_
  rw [Shape.rowMajor_val_four, Shape.rowMajor_val_five]
  show (((0 * n0 + b.val) * n1 + y.val) * n2 + p.val) * n3 + j.val = ((b.val * n1 + y.val) * n2 + p.val) * n3 + j.val
  rw [Nat.zero_mul, Nat.zero_add]

theorem map0_apply (P : FVec Ideal S2x4x4x8320x8320 .f32) (b h : Fin 4) (p j : Fin 8320) : map0 P (ix4 b h p j) = P (ix5 (0 : Fin 2) b h p j) := by
  refine (drop_lead _ _ b h p j).trans (extractStridedSlice_apply _ _ _ _ _ ?_)
  intro a
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

theorem map1_apply (P : FVec Ideal S2x4x4x8320x8320 .f32) (b h : Fin 4) (p j : Fin 8320) : map1 P (ix4 b h p j) = P (ix5 (1 : Fin 2) b h p j) := by
  refine (drop_lead _ _ b h p j).trans (extractStridedSlice_apply _ _ _ _ _ ?_)
  intro a
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- The difference of the two maps, applied to the values. -/
def attnS (lam : FVec Ideal S_ .f32) (P : FVec Ideal S2x4x4x8320x8320 .f32) (v : FVec Ideal S4x8320x512 .f32) : FVec Ideal S4x4x8320x128 .f32 :=
  Host.dotGeneral dot_S4x4x8320x8320_S4x4x8320x128_S4x4x8320x128_3_2_2_3_01_01 none
    (subf (map0 P) (mulf (broadcastInDim S4x4x8320x8320 ![] bcast_S_S4x4x8320x8320 lam) (map1 P))) (splitV v)

/-- A scalar spread over an array. -/
theorem scalar_at {s : Shape} {dims : Fin (⟨0, ![]⟩ : Shape).rank → Fin s.rank} (hb : (⟨0, ![]⟩ : Shape).BroadcastsInDim s dims)
    (x : FVec Ideal ⟨0, ![]⟩ .f32) (i : s.Idx) : broadcastInDim s dims hb x i = x ValueIdx.ix0 :=
  broadcastInDim_apply _ _ _ _ _ fun a => a.elim0

theorem attnS_apply {q k v : FVec Ideal S4x8320x512 .f32} {a b c d : FVec Ideal S1x64 .f32} (hq : AllReal q) (hk : AllReal k) (hv : AllReal v)
    (ha : AllReal a) (hb : AllReal b) (hc : AllReal c) (hd : AllReal d) (n h : Fin 4) (p : Fin 8320) (x : Fin 128) :
    attnS (lamS a b c d) (probS (scoreS q k)) v (ix4 n h p x)
      = ((diffO (nat3 q n.val) (nat3 k n.val) (nat3 v n.val) (lamR (row1 a) (row1 b) (row1 c) (row1 d)) h.val p.val x.val : ℝ) : EReal) := by
  unfold attnS
  rw [applied_apply]
  refine Eq.trans (Finset.sum_congr rfl fun j _ => ?_)
    (diff_row (nat3 q n.val) (nat3 k n.val) (nat3 v n.val) (lamR (row1 a) (row1 b) (row1 c) (row1 d)) h.val p.val x.val p.isLt
      (fun j => probS (scoreS q k) (ix5 (0 : Fin 2) n h p j)) (fun j => probS (scoreS q k) (ix5 (1 : Fin 2) n h p j)) (fun j => splitV v (ix4 n h j x))
      (fun j => maps_apply hq hk 0 n h p j) (fun j => maps_apply hq hk 1 n h p j) (fun j => ?_))
  · rw [sub_at, mul_at, scalar_at, lamS_apply ha hb hc hd, map0_apply, map1_apply]
  · rw [splitV_apply, nat3_eq hv]

/-- The normalization. -/
def normS (o : FVec Ideal S4x4x8320x128 .f32) (g : FVec Ideal S1x128 .f32) : FVec Ideal S4x4x8320x128 .f32 :=
  mulf (mulf (mulf o (broadcastInDim S4x4x8320x128 ![0, 1, 2, 3] bcast_S4x4x8320x1_S4x4x8320x128_0_1_2_3
      (Host.rsqrt (addf (Host.divf (broadcastInDim S4x4x8320x1 ![0, 1, 2] bcast_S4x4x8320_S4x4x8320x1_0_1_2
          (Host.reduceAdd (mulf o o) (constant S_ .f32 0x00000000#32) reducesTo_S4x4x8320x128_S4x4x8320_d3 h_S_))
        (broadcastInDim S4x4x8320x1 ![] bcast_S_S4x4x8320x1 (constant S_ .f32 0x43000000#32)))
        (broadcastInDim S4x4x8320x1 ![] bcast_S_S4x4x8320x1 (constant S_ .f32 0x358637BD#32))))))
    (broadcastInDim S4x4x8320x128 ![0, 1, 2, 3] bcast_S1x1x1x128_S4x4x8320x128_0_1_2_3
      (broadcastInDim S1x1x1x128 ![3] bcast_S128_S1x1x1x128_3 (shapeCast _ g shapeCasts_S1x128_S128))))
    (broadcastInDim S4x4x8320x128 ![] bcast_S_S4x4x8320x128 (constant S_ .f32 0x3F4CCCCD#32))

/-- A sum along the last of four axes from zero. -/
theorem sum_row4 {n0 n1 n2 n3 : ℕ} {u : Shape} (s : FVec Ideal ⟨4, ![n0, n1, n2, n3]⟩ .f32)
    (H' : (⟨4, ![n0, n1, n2, n3]⟩ : Shape).ReducesTo [3] ⟨3, ![n0, n1, n2]⟩)
    (H : (⟨4, ![n0, n1, n2, n3]⟩ : Shape).Reduces [3] ⟨3, ![n0, n1, n2]⟩) (hu : 0 < u.numel) (n : Fin n0) (b : Fin n1) (h : Fin n2) :
    Host.reduceAdd s (constant u .f32 0x00000000#32) H' hu (ix3 n b h) = ∑ j : Fin n3, s (ix4 n b h j) := by
  show Ideal.hostReduceAdd _ s (Ideal.ofBits .f32 0x00000000#32) (ix3 n b h) = _
  rw [Ideal.hostReduceAdd_single _ H, Ideal.ofBits_zero_f32, zero_add]
  refine Finset.sum_congr rfl fun k _ => congrArg s ?_
  funext a; apply Fin.ext
  match a with
  | ⟨0, _⟩ => rfl
  | ⟨1, _⟩ => rfl
  | ⟨2, _⟩ => rfl
  | ⟨3, _⟩ => rfl

theorem rsqrt_at {s : Shape} {d1 d2 : Fin (⟨0, ![]⟩ : Shape).rank → Fin s.rank} (h1 : (⟨0, ![]⟩ : Shape).BroadcastsInDim s d1)
    (h2 : (⟨0, ![]⟩ : Shape).BroadcastsInDim s d2) (c1 c2 : BitVec 32) (A : FVec Ideal s .f32) (i : s.Idx) :
    Host.rsqrt (addf (Host.divf A (broadcastInDim s d1 h1 (constant ⟨0, ![]⟩ .f32 c1))) (broadcastInDim s d2 h2 (constant ⟨0, ![]⟩ .f32 c2))) i
      = Ideal.rsqrt (Ideal.div (A i) (Ideal.ofBits .f32 c1) + Ideal.ofBits .f32 c2) := rfl

theorem mul_const_at {s : Shape} {d : Fin (⟨0, ![]⟩ : Shape).rank → Fin s.rank} (hb : (⟨0, ![]⟩ : Shape).BroadcastsInDim s d) (c : BitVec 32)
    (A : FVec Ideal s .f32) (i : s.Idx) : mulf A (broadcastInDim s d hb (constant ⟨0, ![]⟩ .f32 c)) i = A i * Ideal.ofBits .f32 c := rfl

theorem normS_apply (o : FVec Ideal S4x4x8320x128 .f32) (g : FVec Ideal S1x128 .f32) (n h : Fin 4) (p : Fin 8320) (x : Fin 128) :
    normS o g (ix4 n h p x) = fin (fun z => o (ix4 n h p z)) (fun z => g (ix2 (0 : Fin 1) z)) x := by
  unfold normS fin
  rw [mul_const_at, mul_at, mul_at]
  refine congrArg (· * _) (congrArg₂ (· * ·) (congrArg (o (ix4 n h p x) * ·) ?_) ?_)
  · refine (broadcastInDim_apply _ _ _ _ (ix4 n h p (0 : Fin 1)) ?_).trans ?_
    · intro a
      match a with
      | ⟨0, _⟩ => rfl
      | ⟨1, _⟩ => rfl
      | ⟨2, _⟩ => rfl
      | ⟨3, _⟩ => rfl
    · rw [rsqrt_at, broadcastInDim_apply _ _ _ _ (ix3 n h p) (fun a => by
        match a with
        | ⟨0, _⟩ => rfl
        | ⟨1, _⟩ => rfl
        | ⟨2, _⟩ => rfl), sum_row4 _ _ (by decide)]
      rfl
  · refine (broadcastInDim_apply _ _ _ _ (ix4 (0 : Fin 1) (0 : Fin 1) (0 : Fin 1) x) ?_).trans ((broadcastInDim_apply _ _ _ _ (ix1 x) ?_).trans ?_)
    · intro a
      match a with
      | ⟨0, _⟩ => rfl
      | ⟨1, _⟩ => rfl
      | ⟨2, _⟩ => rfl
      | ⟨3, _⟩ => rfl
    · intro a
      match a with
      | ⟨0, _⟩ => rfl
    · exact shapeCast_apply _ _ (ix1 x) (ix2 (0 : Fin 1) x) (by
        rw [Shape.rowMajor_val_one, Shape.rowMajor_val_two]; show 0 * 128 + x.val = x.val; omega)

/-- The layout of the result. -/
def flatS (o : FVec Ideal S4x4x8320x128 .f32) : FVec Ideal S33280x512 .bf16 :=
  truncf .bf16 (shapeCast _ (transpose S4x8320x4x128 [0, 2, 1, 3] o transposes_S4x4x8320x128_S4x8320x4x128_0_2_1_3) shapeCasts_S4x8320x4x128_S33280x512) bitsLt_bf16_f32

theorem flatS_apply (o : FVec Ideal S4x4x8320x128 .f32) (n h : Fin 4) (p : Fin 8320) (x : Fin 128) (i : S33280x512.Idx)
    (h0 : (i 0).val = 8320 * n.val + p.val) (h1 : (i 1).val = 128 * h.val + x.val) : flatS o i = o (ix4 n h p x) := by
  refine (shapeCast_apply _ _ i (ix4 n p h x) ?_).trans (transpose_apply _ _ _ _ (ix4 n h p x) ?_)
  · rw [Shape.rowMajor_val_two, Shape.rowMajor_val_four]
    show ((n.val * 8320 + p.val) * 4 + h.val) * 128 + x.val = (i 0).val * 512 + (i 1).val
    omega
  · intro a
    match a with
    | ⟨0, _⟩ => rfl
    | ⟨1, _⟩ => rfl
    | ⟨2, _⟩ => rfl
    | ⟨3, _⟩ => rfl

variable (m : (ℓ : Loc nD τ sig) → Buf (Elt Ideal) ℓ) (c : Dev nD)

/-- The reference's result is built of the stages above. -/
theorem result_eq : Cert.ReferenceIdeal.Value.res_out0 (F := Ideal) m c
    = flatS (normS (attnS (lamS (m ((c : Thread nD τ).loc main_arg3)) (m ((c : Thread nD τ).loc main_arg4)) (m ((c : Thread nD τ).loc main_arg5)) (m ((c : Thread nD τ).loc main_arg6)))
        (probS (scoreS (m ((c : Thread nD τ).loc main_arg0)) (m ((c : Thread nD τ).loc main_arg1)))) (m ((c : Thread nD τ).loc main_arg2))) (m ((c : Thread nD τ).loc main_arg7))) := by
  delta Cert.ReferenceIdeal.Value.res_out0 Cert.ReferenceIdeal.Value.res_main_v65 flatS normS attnS map0 map1 lamS lamHalf probS expS spread maxS scoreS maskS splitS splitV
  rfl

variable {m c}

/-- **The reference's result** is `outE` of its arguments. -/
theorem reference_value (hq : AllReal (m ((c : Thread nD τ).loc main_arg0) : S4x8320x512.Idx → EReal)) (hk : AllReal (m ((c : Thread nD τ).loc main_arg1) : S4x8320x512.Idx → EReal))
    (hv : AllReal (m ((c : Thread nD τ).loc main_arg2) : S4x8320x512.Idx → EReal)) (h3 : AllReal (m ((c : Thread nD τ).loc main_arg3) : S1x64.Idx → EReal))
    (h4 : AllReal (m ((c : Thread nD τ).loc main_arg4) : S1x64.Idx → EReal)) (h5 : AllReal (m ((c : Thread nD τ).loc main_arg5) : S1x64.Idx → EReal))
    (h6 : AllReal (m ((c : Thread nD τ).loc main_arg6) : S1x64.Idx → EReal)) (i : S33280x512.Idx) :
    Cert.ReferenceIdeal.Value.res_out0 (F := Ideal) m c i
      = outE (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) i := by
  have b0 : (i 0).val < 33280 := (i 0).isLt
  have b1 : (i 1).val < 512 := (i 1).isLt
  refine (congrFun (result_eq m c) i).trans ?_
  refine (flatS_apply _ (⟨(i 0).val / 8320, by omega⟩ : Fin 4) (⟨(i 1).val / 128, by omega⟩ : Fin 4) (⟨(i 0).val % 8320, by omega⟩ : Fin 8320)
    (⟨(i 1).val % 128, by omega⟩ : Fin 128) i (by show _ = 8320 * ((i 0).val / 8320) + (i 0).val % 8320; omega) (by show _ = 128 * ((i 1).val / 128) + (i 1).val % 128; omega)).trans ?_
  rw [normS_apply]
  unfold outE headE
  refine congrArg (fun o => fin o _ _) (funext fun z => ?_)
  exact attnS_apply hq hk hv h3 h4 h5 h6 _ _ _ z

end Cert.Attn
-- ==== Proof.Finite.lean ====
/-
  THE PRECONDITION: where `finite` is all ones, the queries, keys, values and the parameters of `λ` are real.
-/
module

public import proofs.«01_k».proof.Defs
public import proofs.«01_k».proof.Proof.RefValue
public import Idealize.ShloMosaic.Lib.ReduceAll

@[expose] public section

noncomputable section

namespace Cert.Attn

open Idealize.ShloMosaic hiding ix1 ix2 ix3 ix4 ix5
open Idealize.ShloMosaic.ValueIdx Cert.Pre_finite

/-- The side conditions of `finite`. -/
theorem finite_facts : Cert.Pre_finite.Facts where
  bcast_S_S4x8320x512 := by decide
  reducesTo_S4x8320x512_S_d0_1_2 := by decide
  h_S_ := by decide
  bcast_S_S1x64 := by decide
  reducesTo_S1x64_S_d0_1 := by decide

/-- The constant of the comparison. -/
theorem pinf : Ideal.ofBits .f32 0x7F800000#32 = ⊤ := by
  show Ideal.ieee 8 23 0x7F800000#32 = ⊤
  unfold Ideal.ieee
  dsimp only
  rw [if_pos (by decide), if_pos (by decide), if_neg (by decide)]

/-- A value of absolute value below infinity is real. -/
theorem real_of_abs (x : EReal) (h : Ideal.cmp .olt (max x (-x)) ⊤ = 1#1) : ∃ r : ℝ, x = (r : EReal) := by
  have h' : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  rw [max_lt_iff] at h'
  refine ⟨x.toReal, (EReal.coe_toReal h'.1.ne fun hb => ?_).symm⟩
  rw [hb] at h'
  exact h'.2.ne rfl

/-- A conjunction of two bits that is one. -/
theorem both_one {a b : IVec S_ 1} (h : andi a b = fun _ => 1#1) : a = (fun _ => 1#1) ∧ b = fun _ => 1#1 := by
  have key : ∀ x y : BitVec 1, IntOp.andi x y = 1#1 → x = 1#1 ∧ y = 1#1 := by decide
  exact ⟨funext fun i => (key _ _ (congrFun h i)).1, funext fun i => (key _ _ (congrFun h i)).2⟩

/-- An array all of whose entries pass the test is real. -/
theorem real_of_test {s : Shape} {axes : List (Fin s.rank)} (A : FVec Ideal s .f32) (hb : S_.BroadcastsInDim s (![] : Fin 0 → Fin s.rank))
    (hr : s.ReducesTo axes S_) (h0 : 0 < S_.numel)
    (h : Host.reduce IntOp.andi (cmpf .olt (Host.absf A) (broadcastInDim s ![] hb (constant S_ .f32 0x7F800000#32))) (constantI S_ 1 1#1) hr h0 = fun _ => 1#1) :
    AllReal A := fun i => by
  haveI : Subsingleton S_.Idx := ⟨fun a b => funext fun k => k.elim0⟩
  have h1 := Host.reduce_andi_all _ _ hr h0 (fun k => k.elim0) (congrFun h _) i
  refine real_of_abs (A i) ?_
  have h2 : Ideal.cmp .olt (max (A i) (-(A i))) (Ideal.ofBits .f32 0x7F800000#32) = 1#1 := h1
  rwa [pinf] at h2

/-- **What `finite` says.** -/
theorem real_of_finite [Facts] {q k v : FVec Ideal S4x8320x512 .f32} {a b c d : FVec Ideal S1x64 .f32} {g : FVec Ideal S1x128 .f32}
    (h : Cert.Pre_finite.fn (F := Ideal) q k v a b c d g = fun _ => 1#1) :
    AllReal q ∧ AllReal k ∧ AllReal v ∧ AllReal a ∧ AllReal b ∧ AllReal c ∧ AllReal d := by
  unfold Cert.Pre_finite.fn Cert.Pre_finite.fn_part1 at h
  dsimp only at h
  obtain ⟨h, hd⟩ := both_one h
  obtain ⟨h, hc⟩ := both_one h
  obtain ⟨h, hb⟩ := both_one h
  obtain ⟨h, ha⟩ := both_one h
  obtain ⟨h, hv⟩ := both_one h
  obtain ⟨hq, hk⟩ := both_one h
  exact ⟨real_of_test q _ _ _ hq, real_of_test k _ _ _ hk, real_of_test v _ _ _ hv, real_of_test a _ _ _ ha, real_of_test b _ _ _ hb,
    real_of_test c _ _ _ hc, real_of_test d _ _ _ hd⟩

end Cert.Attn
-- ==== Proof.Algebraic.lean ====
/-
  THE KERNEL AND THE REFERENCE AGREE: on real queries, keys, values and parameters of `λ`, both results are `outE` of the
  arguments.
-/
module

public import proofs.«01_k».proof.Proof.Finite

@[expose] public section

noncomputable section

namespace Cert.Attn

open Idealize.ShloMosaic Idealize.ShloMosaic.TcCoe Idealize.SL.Sem

/-- At the ideal values the kernel's result and the reference's are the same function of the arguments. -/
theorem algebraic [hPre : Cert.Pre_finite.Facts] : Cert.algebraic_KernelIdeal_ReferenceIdeal_pre_finite := by
  intro m g m' g' hpre hagree
  have hr : ∀ c, RealArgs m c := fun c => by
    obtain ⟨h0, h1, h2, h3, h4, h5, h6⟩ := real_of_finite (hpre c)
    exact ⟨h0, h1, h2, h3, h4, h5, h6⟩
  refine ⟨fun c => outE (qA m c) (kA m c) (vA m c) (l0A m c) (l1A m c) (l2A m c) (l3A m c) (gA m c), ?_, ?_⟩
  · exact (θ_run _ _ _).mono (fun r h c => ⟨result_array (hr c) r h.1, Cert.KernelIdeal.Hand.args_kept m c r h.1⟩) (Cert.KernelIdeal.Hand.run_main m g)
  · refine (θ_run _ _ _).mono (fun r h c => ⟨(h c).1.trans (funext fun i => ?_), (h c).2⟩) (Cert.ReferenceIdeal.Value.run m' g')
    obtain ⟨e0, e1, e2, e3, e4, e5, e6, e7⟩ := hagree c
    have hc := hr c
    refine (reference_value (m := m') (c := c) (by rw [e0]; exact hc.q) (by rw [e1]; exact hc.k) (by rw [e2]; exact hc.v) (by rw [e3]; exact hc.l0)
      (by rw [e4]; exact hc.l1) (by rw [e5]; exact hc.l2) (by rw [e6]; exact hc.l3) i).trans ?_
    rw [e0, e1, e2, e3, e4, e5, e6, e7]

end Cert.Attn
-- ==== Proof.OutRows.lean ====
/-
  THE OUTPUT PROJECTION'S ROWS: a row of the residual stream plus the product of a joined row with the weights; the
  root-mean-square normalization of a row; and the body's blocks of 640 rows read at an entry as those.
-/
module

public import proofs.«01_k».proof.Proof.Algebraic
public import proofs.«01_k».proof.Proof.Gen.Kernel2Ideal.Value
public import Idealize.ShloMosaic.Lib.Pipeline.ValueKit.Tiles

@[expose] public section

set_option maxRecDepth 4096

noncomputable section

namespace Cert.Out

open Idealize.ShloMosaic hiding ix1 ix2 ix3 ix4 ix5
open Idealize.ShloMosaic.ValueIdx Cert.Kernel2Ideal Cert.Kernel2Ideal.Gen
open scoped BigOperators

/-- Two half rows side by side. -/
def joined (y o : Fin 512 → EReal) (k : Fin 1024) : EReal :=
  if h : k.val < 512 then y ⟨k.val, h⟩ else o ⟨k.val - 512, by omega⟩

/-- A row of the residual stream, the projected joined row added. -/
def rowH (x : Fin 1024 → EReal) (y o : Fin 512 → EReal) (w : Fin 1024 → Fin 1024 → EReal) (n : Fin 1024) : EReal :=
  x n + ∑ k : Fin 1024, joined y o k * w k n

/-- A row divided by the root of its mean square (`1e-6` added under the root), times the gain. -/
def rowX (s g : Fin 1024 → EReal) (n : Fin 1024) : EReal :=
  s n * Ideal.rsqrt (Ideal.div (∑ k, s k * s k) (Ideal.ofBits .f32 0x44800000#32) + Ideal.ofBits .f32 0x358637BD#32) * g n

/-- Two blocks of half rows, joined along the row. -/
theorem joined_apply (y o : FVec Ideal S640x512 .bf16) (r : Fin 640) (k : Fin 1024) :
    concatenate S640x1024 1 [⟨S640x512, y⟩, ⟨S640x512, o⟩] concatenates_S640x512_S640x512_S640x1024_d1 (ix2 r k)
      = joined (fun x => y (ix2 r x)) (fun x => o (ix2 r x)) k := by
  have hk := k.isLt
  unfold joined
  by_cases h : k.val < 512
  · rw [dif_pos h]
    exact concatenate_pair_apply_left (1 : Fin S640x1024.rank) y o _ (ix2 r k) rfl (ix2 r (⟨k.val, h⟩ : Fin 512)) (by
      intro b; match b with | ⟨0, _⟩ => rfl | ⟨1, _⟩ => rfl)
  · rw [dif_neg h]
    exact concatenate_pair_apply_right (1 : Fin S640x1024.rank) y o _ (ix2 r k) rfl rfl (ix2 r (⟨k.val - 512, by omega⟩ : Fin 512)) (by
      intro b hb
      match b with
      | ⟨0, _⟩ => rfl
      | ⟨1, _⟩ => exact absurd rfl hb) (by show k.val - 512 + 512 = k.val; omega)

/-- The block of 640 rows of the new residual stream, read at an entry. -/
theorem stream_apply (y o : Vec Ideal S640x512 .bf16) (x : Vec Ideal S640x1024 .f32) (w : Vec Ideal S1024x1024 .bf16) (r : Fin 640) (n : Fin 1024) :
    k0_pay4 (F := Ideal) y o x w (ix2 r n) = rowH (fun k => x (ix2 r k)) (fun k => y (ix2 r k)) (fun k => o (ix2 r k)) (fun k n => w (ix2 k n)) n := by
  unfold k0_pay4 rowH
  dsimp only
  rw [shapeCast_self, shapeCast_self, shapeCast_self, shapeCast_self]
  show x (ix2 r n) + matmul (F := Ideal) (DotDims.plain 640 1024 1024) none _ w _ (ix2 r n) = _
  congr 1
  rw [show ∀ A B C, matmul (F := Ideal) (DotDims.plain 640 1024 1024) none A B C (ix2 r n) = _ from
    fun A B C => Ideal.matmul_plain_apply (φ₁ := .bf16) (φ₂ := .bf16) none A B C r n]
  rw [show constant (F := Ideal) S640x1024 .f32 0x00000000#32 (ix2 r n) = 0 from Ideal.ofBits_zero_f32, zero_add]
  exact Finset.sum_congr rfl fun k _ => congrArg (· * w (ix2 k n)) (joined_apply y o r k)

/-- The normalized block, over a block of the stream. -/
def normG (s : FVec Ideal S640x1024 .f32) (g : Vec Ideal S1x1024 .f32) : FVec Ideal S640x1024 .f32 :=
  mulf (mulf s (broadcastTo S640x1024 (rsqrt (addf (divf (shapeCast S640x1
    (multiReduction .add [1] S640 (mulf s s) 0x00000000#32 reduces_S640x1024_S640 (.inl rfl) rfl) shapeCasts_S640_S640x1)
    (broadcast S640x1 (Scalar.ofBits (F := Ideal) .f32 0x44800000#32))) (broadcast S640x1 (Scalar.ofBits (F := Ideal) .f32 0x358637BD#32)))) broadcasts_S640x1_S640x1024))
    (broadcastTo S640x1024 (shapeCast S1x1024 g shapeCasts_S1x1024_S1x1024) broadcasts_S1x1024_S640x1024)

theorem normG_apply (s : FVec Ideal S640x1024 .f32) (g : Vec Ideal S1x1024 .f32) (r : Fin 640) (n : Fin 1024) :
    normG s g (ix2 r n) = rowX (fun k => s (ix2 r k)) (fun k => g (ix2 (0 : Fin 1) k)) n := by
  have hs : shapeCast S640x1 (multiReduction .add [1] S640 (mulf s s) 0x00000000#32 reduces_S640x1024_S640 (.inl rfl) rfl) shapeCasts_S640_S640x1
      (ix2 r (0 : Fin 1)) = ∑ x : Fin 1024, s (ix2 r x) * s (ix2 r x) := by
    refine (shapeCast_apply _ shapeCasts_S640_S640x1 (ix2 r (0 : Fin 1)) (ix1 r) (by
      rw [Shape.rowMajor_val_one, Shape.rowMajor_val_two]; show r.val = r.val * 1 + 0; omega)).trans ?_
    refine (Ideal.multiReduction_add_single (a := (1 : Fin S640x1024.rank)) (mulf s s) 0x00000000#32 reduces_S640x1024_S640 (.inl rfl) rfl (ix1 r)).trans ?_
    show (∑ x : Fin 1024, _) = _
    refine Finset.sum_congr rfl fun x _ => ?_
    show (mulf s s) (reduces_S640x1024_S640.lift (ix1 r) x) = (mulf s s) (ix2 r x)
    congr 1
    funext a
    apply Fin.ext
    match a with
    | ⟨0, _⟩ => rfl
    | ⟨1, _⟩ => rfl
  unfold normG rowX
  rw [shapeCast_self]
  show s (ix2 r n) * broadcastTo S640x1024 _ broadcasts_S640x1_S640x1024 (ix2 r n) * broadcastTo S640x1024 g broadcasts_S1x1024_S640x1024 (ix2 r n) = _
  rw [broadcastTo_apply _ broadcasts_S640x1_S640x1024 (ix2 r n) (ix2 r (0 : Fin 1)) (by
    intro a; match a with | ⟨0, _⟩ => rfl | ⟨1, _⟩ => rfl),
    broadcastTo_apply _ broadcasts_S1x1024_S640x1024 (ix2 r n) (ix2 (0 : Fin 1) n) (by
    intro a; match a with | ⟨0, _⟩ => rfl | ⟨1, _⟩ => rfl)]
  show s (ix2 r n) * Ideal.rsqrt (Ideal.div (shapeCast S640x1 _ shapeCasts_S640_S640x1 (ix2 r (0 : Fin 1))) _ + _) * _ = _
  rw [hs]
  rfl

/-- A plane of a normalized block: 128 lanes of the left half's columns from `o` on in the even rows, of the right half's in the odd. -/
def planeG (X : FVec Ideal S640x1024 .f32) (o : ℕ) (h : S640x512.Slices ![0, o] S640x128) : Vec Ideal S1280x128 .bf16 :=
  interleaveRows S1280x128
    (extractStridedSlice S640x128 ![0, o] (truncf .bf16 (extractStridedSlice S640x512 ![0, 0] X slices_S640x1024_o0_0_S640x512) bitsLt_bf16_f32) h)
    (extractStridedSlice S640x128 ![0, o] (truncf .bf16 (extractStridedSlice S640x512 ![0, 512] X slices_S640x1024_o0_512_S640x512) bitsLt_bf16_f32) h)
    bitcasts_S1280x128_w16_S640x128_w32

theorem half_apply (X : FVec Ideal S640x1024 .f32) (o : ℕ) (h : S640x512.Slices ![0, o] S640x128) (q : ℕ) (h' : S640x1024.Slices ![0, q] S640x512)
    (i : S640x128.Idx) (r : Fin 640) (n : Fin 1024) (h0 : (i 0).val = r.val) (h1 : n.val = q + (o + (i 1).val)) :
    extractStridedSlice S640x128 ![0, o] (truncf .bf16 (extractStridedSlice S640x512 ![0, q] X h') bitsLt_bf16_f32) h i = X (ix2 r n) := by
  have ho : o + 128 ≤ 512 := h.2 1
  have h2 : (i 1).val < 128 := (i 1).isLt
  refine (extractStridedSlice_apply _ _ h i (ix2 r (⟨o + (i 1).val, by omega⟩ : Fin 512)) (by
    intro a; match a with | ⟨0, _⟩ => (show r.val = 0 + (i 0).val; omega) | ⟨1, _⟩ => rfl)).trans ?_
  exact extractStridedSlice_apply _ X h' _ (ix2 r n) (by
    intro a; match a with | ⟨0, _⟩ => (show r.val = 0 + r.val; omega) | ⟨1, _⟩ => exact h1)

theorem planeG_apply (X : FVec Ideal S640x1024 .f32) (o : ℕ) (h : S640x512.Slices ![0, o] S640x128) (R : Fin 1280) (l : Fin 128)
    (r : Fin 640) (n : Fin 1024) (hr : r.val = R.val / 2) (hn : n.val = 512 * (R.val % 2) + o + l.val) :
    planeG X o h (ix2 R l) = X (ix2 r n) := by
  unfold planeG
  rw [interleaveRows_apply]
  show (if R.val % 2 = 0 then _ else _) = _
  by_cases hp : R.val % 2 = 0
  · rw [if_pos hp]
    exact half_apply X o h 0 _ _ r n hr.symm (by show n.val = 0 + (o + l.val); omega)
  · rw [if_neg hp]
    exact half_apply X o h 512 _ _ r n hr.symm (by show n.val = 512 + (o + l.val); omega)

end Cert.Out
-- ==== Proof.OutInputs.lean ====
/-
  THE BLOCKS of the output projection's points, as entries of the program's arguments.
-/
module

public import proofs.«01_k».proof.Proof.OutRows
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 4096

noncomputable section

namespace Cert.Out

open Idealize.ShloMosaic hiding ix1 ix2 ix3 ix4 ix5
open Idealize.ShloMosaic.TcCoe Idealize.ShloMosaic.ValueIdx Cert.Kernel2Ideal Cert.Kernel2Ideal.Gen

/-- Every input window's block index at a point. -/
theorem indices : ∀ t : Fin cfg0.N, win0_0.index t = ![t.val, 0] ∧ win0_1.index t = ![t.val, 0] ∧ win0_2.index t = ![t.val, 0]
    ∧ win0_3.index t = ![0, 0] ∧ win0_4.index t = ![0, 0] :=
  (by decide +kernel : ∀ t : Fin grid0.N, _)

variable (m : (ℓ : Loc nD τ sig) → Buf (Elt Ideal) ℓ) (c : Dev nD)

/-- The residual stream; the two half rows; the weights; the gain. -/
abbrev hA : S4x8320x1024.Idx → EReal := m ((c : Thread nD τ).loc main_arg0)
abbrev yA : S4x8320x512.Idx → EReal := m ((c : Thread nD τ).loc main_arg1)
abbrev oA : S4x8320x512.Idx → EReal := m ((c : Thread nD τ).loc main_arg2)
abbrev wA : S1x1024x1024.Idx → EReal := m ((c : Thread nD τ).loc main_arg3)
abbrev gA : S1x1024.Idx → EReal := m ((c : Thread nD τ).loc main_arg4)

/-- An entry of the flattened stream. -/
theorem flat1024_apply (A : FVec Ideal S4x8320x1024 .f32) (h : S4x8320x1024.ShapeCasts S33280x1024) (i : S33280x1024.Idx) (b : Fin 4) (p : Fin 8320)
    (y : Fin 1024) (h0 : (i 0).val = 8320 * b.val + p.val) (h1 : (i 1).val = y.val) : shapeCast S33280x1024 A h i = A (ix3 b p y) := by
  refine shapeCast_apply _ h i (ix3 b p y) ?_
  rw [Shape.rowMajor_val_three, Shape.rowMajor_val_two]
  show (b.val * 8320 + p.val) * 1024 + y.val = (i 0).val * 1024 + (i 1).val
  omega

/-- An entry of a flattened array of half rows. -/
theorem flat512_apply (A : FVec Ideal S4x8320x512 .bf16) (h : S4x8320x512.ShapeCasts S33280x512) (i : S33280x512.Idx) (b : Fin 4) (p : Fin 8320)
    (y : Fin 512) (h0 : (i 0).val = 8320 * b.val + p.val) (h1 : (i 1).val = y.val) : shapeCast S33280x512 A h i = A (ix3 b p y) := by
  refine shapeCast_apply _ h i (ix3 b p y) ?_
  rw [Shape.rowMajor_val_three, Shape.rowMajor_val_two]
  show (b.val * 8320 + p.val) * 512 + y.val = (i 0).val * 512 + (i 1).val
  omega

theorem h_block (t : Fin cfg0.N) (r : Fin 1280) (n : Fin 1024) (b : Fin 4) (p : Fin 8320) (hb : 1280 * t.val + r.val = 8320 * b.val + p.val) :
    iblk m c 0 t (ix2 r n) = hA m c (ix3 b p n) := by
  have i0 := (indices t).1
  blk_simp [iblk]
  entry_read
  refine flat1024_apply _ _ _ b p n ?_ ?_
  · blk_simp [i0]
    show t.val * 1280 + r.val = _
    omega
  · blk_simp [i0]

theorem y_block (t : Fin cfg0.N) (r : Fin 1280) (n : Fin 512) (b : Fin 4) (p : Fin 8320) (hb : 1280 * t.val + r.val = 8320 * b.val + p.val) :
    iblk m c 1 t (ix2 r n) = yA m c (ix3 b p n) := by
  have i0 := (indices t).2.1
  blk_simp [iblk]
  entry_read
  refine (flat512_apply _ _ _ b p n ?_ ?_).trans ?_
  · blk_simp [i0]
    show t.val * 1280 + r.val = _
    omega
  · blk_simp [i0]
  · rfl

theorem o_block (t : Fin cfg0.N) (r : Fin 1280) (n : Fin 512) (b : Fin 4) (p : Fin 8320) (hb : 1280 * t.val + r.val = 8320 * b.val + p.val) :
    iblk m c 2 t (ix2 r n) = oA m c (ix3 b p n) := by
  have i0 := (indices t).2.2.1
  blk_simp [iblk]
  entry_read
  refine (flat512_apply _ _ _ b p n ?_ ?_).trans ?_
  · blk_simp [i0]
    show t.val * 1280 + r.val = _
    omega
  · blk_simp [i0]
  · rfl

/-- The weights without their leading axis. -/
theorem weights_apply (A : FVec Ideal S1x1024x1024 .f32) (h : S1x1024x1024.ShapeCasts S1024x1024) (k n : Fin 1024) :
    shapeCast S1024x1024 A h (ix2 k n) = A (ix3 (0 : Fin 1) k n) := by
  refine shapeCast_apply _ h (ix2 k n) (ix3 (0 : Fin 1) k n) ?_
  rw [Shape.rowMajor_val_three, Shape.rowMajor_val_two]
  show (0 * 1024 + k.val) * 1024 + n.val = k.val * 1024 + n.val
  omega

theorem w_block (t : Fin cfg0.N) (k n : Fin 1024) : iblk m c 3 t (ix2 k n) = wA m c (ix3 (0 : Fin 1) k n) := by
  have i3 := (indices t).2.2.2.1
  have e : (((cfg0.win 3).blk t).view.emb (ix2 k n) : S1024x1024.Idx) = ix2 k n := by
    blk_ext [i3]
  show V m c main_v26 (((cfg0.win 3).blk t).view.emb (ix2 k n)) = _
  refine (congrArg (V m c main_v26) e).trans ?_
  entry_read
  exact weights_apply _ _ k n

/-- The gain as the kernel is handed it. -/
theorem gain_row (A : FVec Ideal S1x1024 .f32) (h : S1x1024.ShapeCasts S1024) (h' : S1024.BroadcastsInDim S1x1024 ![1]) (x : Fin 1024) :
    broadcastInDim S1x1024 ![1] h' (shapeCast S1024 A h) (ix2 (0 : Fin 1) x) = A (ix2 (0 : Fin 1) x) := by
  refine (broadcastInDim_apply _ h' _ _ (ix1 x) ?_).trans ?_
  · intro a
    match a with
    | ⟨0, _⟩ => rfl
  · exact shapeCast_apply _ _ (ix1 x) (ix2 (0 : Fin 1) x) (by
      rw [Shape.rowMajor_val_one, Shape.rowMajor_val_two]; show 0 * 1024 + x.val = x.val; omega)

theorem g_block (t : Fin cfg0.N) (x : Fin 1024) : iblk m c 4 t (ix2 (0 : Fin 1) x) = gA m c (ix2 (0 : Fin 1) x) := by
  have i4 := (indices t).2.2.2.2
  have e : (((cfg0.win 4).blk t).view.emb (ix2 (0 : Fin 1) x) : S1x1024.Idx) = ix2 (0 : Fin 1) x := by
    blk_ext [i4]
  show V m c main_v28 (((cfg0.win 4).blk t).view.emb (ix2 (0 : Fin 1) x)) = _
  refine (congrArg (V m c main_v28) e).trans ?_
  unfold V
  after_reads_simp
  exact gain_row _ shapeCasts_S1x1024_S1024 bcast_S1024_S1x1024_1 x

end Cert.Out
-- ==== Proof.OutBlock.lean ====
/-
  WHAT A POINT of the output projection leaves in its blocks: the new residual stream's 1280 rows, and the four planes of
  their normalization, as functions of the program's arguments. A point works on its rows in two halves of 640.
-/
module

public import proofs.«01_k».proof.Proof.OutInputs

@[expose] public section

set_option maxRecDepth 16384
set_option maxHeartbeats 2000000

noncomputable section

namespace Cert.Out

open Idealize.ShloMosaic hiding ix1 ix2 ix3 ix4 ix5
open Idealize.ShloMosaic.TcCoe Idealize.ShloMosaic.ValueIdx Cert.Kernel2Ideal Cert.Kernel2Ideal.Gen

/-- The new residual stream at a position, from the arguments. -/
def streamE (h : S4x8320x1024.Idx → EReal) (y o : S4x8320x512.Idx → EReal) (w : S1x1024x1024.Idx → EReal) (b : Fin 4) (p : Fin 8320) : Fin 1024 → EReal :=
  rowH (fun n => h (ix3 b p n)) (fun k => y (ix3 b p k)) (fun k => o (ix3 b p k)) (fun k n => w (ix3 (0 : Fin 1) k n))

/-- Its normalization. -/
def normE (h : S4x8320x1024.Idx → EReal) (y o : S4x8320x512.Idx → EReal) (w : S1x1024x1024.Idx → EReal) (g : S1x1024.Idx → EReal)
    (b : Fin 4) (p : Fin 8320) : Fin 1024 → EReal :=
  rowX (streamE h y o w b p) (fun n => g (ix2 (0 : Fin 1) n))

variable (m : (ℓ : Loc nD τ sig) → Buf (Elt Ideal) ℓ) (c : Dev nD)

/-- The stream of the arguments found in memory. -/
abbrev streamM (b : Fin 4) (p : Fin 8320) : Fin 1024 → EReal := streamE (hA m c) (yA m c) (oA m c) (wA m c) b p

/-- The normalized stream of the arguments found in memory. -/
abbrev normM (b : Fin 4) (p : Fin 8320) : Fin 1024 → EReal := normE (hA m c) (yA m c) (oA m c) (wA m c) (gA m c) b p

/-- The 640 rows of the stream from row `q` of the point's block on. -/
abbrev halfH (t : Fin cfg0.N) (q : ℕ) (i1 : ∀ a, ![q, 0] a + ![640, 512] a ≤ S1280x512.size a) (i2 : ∀ a, ![q, 0] a + ![640, 1024] a ≤ S1280x1024.size a) :
    FVec Ideal S640x1024 .f32 :=
  k0_pay4 (F := Ideal) (View.ld (iblk m c 1 t) (Rect.unit ![q, 0] ![640, 512] i1)) (View.ld (iblk m c 2 t) (Rect.unit ![q, 0] ![640, 512] i1))
    (View.ld (iblk m c 0 t) (Rect.unit ![q, 0] ![640, 1024] i2)) (iblk m c 3 t)

theorem halfH_apply (t : Fin cfg0.N) (q : ℕ) (i1 : ∀ a, ![q, 0] a + ![640, 512] a ≤ S1280x512.size a) (i2 : ∀ a, ![q, 0] a + ![640, 1024] a ≤ S1280x1024.size a)
    (r : Fin 640) (n : Fin 1024) (b : Fin 4) (p : Fin 8320) (hb : 1280 * t.val + (q + r.val) = 8320 * b.val + p.val) :
    halfH m c t q i1 i2 (ix2 r n) = streamM m c b p n := by
  have hq : q + 640 ≤ 1280 := i1 0
  have hr := r.isLt
  have ey : ∀ (w : Fin S1280x512.rank → ℕ) (k : Fin 512), ∀ a, (ix2 (⟨q + r.val, by omega⟩ : Fin 1280) k a : ℕ) = ![q, 0] a + ix2 r k a := by
    intro w k a; match a with | ⟨0, _⟩ => rfl | ⟨1, _⟩ => exact (Nat.zero_add _).symm
  have ex : ∀ (k : Fin 1024), ∀ a, (ix2 (⟨q + r.val, by omega⟩ : Fin 1280) k a : ℕ) = ![q, 0] a + ix2 r k a := by
    intro k a; match a with | ⟨0, _⟩ => rfl | ⟨1, _⟩ => exact (Nat.zero_add _).symm
  refine (stream_apply _ _ _ _ r n).trans ?_
  have h0 : (fun k : Fin 1024 => (View.ld (iblk m c 0 t) (Rect.unit ![q, 0] ![640, 1024] i2) : Vec Ideal S640x1024 .f32) (ix2 r k)) = fun k => hA m c (ix3 b p k) :=
    funext fun k => (View.ld_unit_apply_of (iblk m c 0 t) ![q, 0] ![640, 1024] i2 (ix2 r k) (ix2 (⟨q + r.val, by omega⟩ : Fin 1280) k) (ex k)).trans
      (h_block m c t _ k b p hb)
  have h1 : (fun k : Fin 512 => (View.ld (iblk m c 1 t) (Rect.unit ![q, 0] ![640, 512] i1) : Vec Ideal S640x512 .bf16) (ix2 r k)) = fun k => yA m c (ix3 b p k) :=
    funext fun k => (View.ld_unit_apply_of (iblk m c 1 t) ![q, 0] ![640, 512] i1 (ix2 r k) (ix2 (⟨q + r.val, by omega⟩ : Fin 1280) k) (ey ![0, 0] k)).trans
      (y_block m c t _ k b p hb)
  have h2 : (fun k : Fin 512 => (View.ld (iblk m c 2 t) (Rect.unit ![q, 0] ![640, 512] i1) : Vec Ideal S640x512 .bf16) (ix2 r k)) = fun k => oA m c (ix3 b p k) :=
    funext fun k => (View.ld_unit_apply_of (iblk m c 2 t) ![q, 0] ![640, 512] i1 (ix2 r k) (ix2 (⟨q + r.val, by omega⟩ : Fin 1280) k) (ey ![0, 0] k)).trans
      (o_block m c t _ k b p hb)
  have h3 : (fun k n : Fin 1024 => (iblk m c 3 t : Vec Ideal S1024x1024 .bf16) (ix2 k n)) = fun k n => wA m c (ix3 (0 : Fin 1) k n) :=
    funext fun k => funext fun n => w_block m c t k n
  unfold streamM streamE
  rw [← h0, ← h1, ← h2, ← h3]

/-- An index of a block of 640 rows by its coordinates. -/
theorem halfH_at (t : Fin cfg0.N) (q : ℕ) (i1 : ∀ a, ![q, 0] a + ![640, 512] a ≤ S1280x512.size a) (i2 : ∀ a, ![q, 0] a + ![640, 1024] a ≤ S1280x1024.size a)
    (x : S640x1024.Idx) (n : Fin 1024) (b : Fin 4) (p : Fin 8320) (hb : 1280 * t.val + (q + (x 0).val) = 8320 * b.val + p.val) (hn : n.val = (x 1).val) :
    halfH m c t q i1 i2 x = streamM m c b p n := by
  have e : x = ix2 (⟨(x 0).val, (x 0).isLt⟩ : Fin 640) n := funext fun a => Fin.ext (by
    match a with | ⟨0, _⟩ => rfl | ⟨1, _⟩ => exact hn.symm)
  rw [e]
  exact halfH_apply m c t q i1 i2 _ n b p hb

/-- A plane of the normalized half, read at an index. -/
theorem plane_at (t : Fin cfg0.N) (q : ℕ) (i1 : ∀ a, ![q, 0] a + ![640, 512] a ≤ S1280x512.size a) (i2 : ∀ a, ![q, 0] a + ![640, 1024] a ≤ S1280x1024.size a)
    (o : ℕ) (h : S640x512.Slices ![0, o] S640x128) (x : S1280x128.Idx) (n : Fin 1024) (b : Fin 4) (p : Fin 8320)
    (hb : 1280 * t.val + (q + (x 0).val / 2) = 8320 * b.val + p.val) (hn : n.val = 512 * ((x 0).val % 2) + o + (x 1).val) :
    planeG (normG (halfH m c t q i1 i2) (iblk m c 4 t)) o h x = normM m c b p n := by
  have hx : (x 0).val < 1280 := (x 0).isLt
  have e : x = ix2 (⟨(x 0).val, (x 0).isLt⟩ : Fin 1280) (⟨(x 1).val, (x 1).isLt⟩ : Fin 128) := funext fun a => Fin.ext (by
    match a with | ⟨0, _⟩ => rfl | ⟨1, _⟩ => rfl)
  refine (congrArg _ e).trans ?_
  refine (planeG_apply _ o h _ _ (⟨(x 0).val / 2, by omega⟩ : Fin 640) n rfl hn).trans ?_
  refine (normG_apply _ _ _ n).trans ?_
  unfold normM normE
  have h0 : (fun k => halfH m c t q i1 i2 (ix2 (⟨(x 0).val / 2, by omega⟩ : Fin 640) k)) = streamM m c b p :=
    funext fun k => halfH_apply m c t q i1 i2 _ k b p hb
  have h1 : (fun k => (iblk m c 4 t : Vec Ideal S1x1024 .f32) (ix2 (0 : Fin 1) k)) = fun k => gA m c (ix2 (0 : Fin 1) k) :=
    funext fun k => g_block m c t k
  rw [h0, ← h1]

/-- The stream's block after a point. -/
theorem stream_block (t : Fin cfg0.N) (i : S1280x1024.Idx) (n : Fin 1024) (b : Fin 4) (p : Fin 8320)
    (hb : 1280 * t.val + (i 0).val = 8320 * b.val + p.val) (hn : n.val = (i 1).val) : (outsAt0 m c t.val t.isLt).1 i = streamM m c b p n := by
  by_cases h0 : t.val % 26 = 0
  · rw [outsAt0_A m c t h0]; frame_out
    canon_tiles x h
    · exact halfH_at m c t 640 _ _ x n b p (by omega) (by omega)
    · exact halfH_at m c t 0 _ _ x n b p (by omega) (by omega)
  · rw [outsAt0_B m c t h0]; frame_out
    canon_tiles x h
    · exact halfH_at m c t 640 _ _ x n b p (by omega) (by omega)
    · exact halfH_at m c t 0 _ _ x n b p (by omega) (by omega)

/-- The first plane's block after a point. -/
theorem plane0_block (t : Fin cfg0.N) (i : S2560x128.Idx) (n : Fin 1024) (b : Fin 4) (p : Fin 8320)
    (hb : 1280 * t.val + (i 0).val / 2 = 8320 * b.val + p.val) (hn : n.val = 512 * ((i 0).val % 2) + 0 + (i 1).val) :
    (outsAt0 m c t.val t.isLt).2.1 i = normM m c b p n := by
  by_cases h0 : t.val % 26 = 0
  · rw [outsAt0_A m c t h0]; frame_out
    canon_tiles x h
    · exact plane_at m c t 640 _ _ 0 slices_S640x512_o0_0_S640x128 x n b p (by omega) (by omega)
    · exact plane_at m c t 0 _ _ 0 slices_S640x512_o0_0_S640x128 x n b p (by omega) (by omega)
  · rw [outsAt0_B m c t h0]; frame_out
    canon_tiles x h
    · exact plane_at m c t 640 _ _ 0 slices_S640x512_o0_0_S640x128 x n b p (by omega) (by omega)
    · exact plane_at m c t 0 _ _ 0 slices_S640x512_o0_0_S640x128 x n b p (by omega) (by omega)

/-- The second plane's block after a point. -/
theorem plane1_block (t : Fin cfg0.N) (i : S2560x128.Idx) (n : Fin 1024) (b : Fin 4) (p : Fin 8320)
    (hb : 1280 * t.val + (i 0).val / 2 = 8320 * b.val + p.val) (hn : n.val = 512 * ((i 0).val % 2) + 128 + (i 1).val) :
    (outsAt0 m c t.val t.isLt).2.2.1 i = normM m c b p n := by
  by_cases h0 : t.val % 26 = 0
  · rw [outsAt0_A m c t h0]; frame_out
    canon_tiles x h
    · exact plane_at m c t 640 _ _ 128 slices_S640x512_o0_128_S640x128 x n b p (by omega) (by omega)
    · exact plane_at m c t 0 _ _ 128 slices_S640x512_o0_128_S640x128 x n b p (by omega) (by omega)
  · rw [outsAt0_B m c t h0]; frame_out
    canon_tiles x h
    · exact plane_at m c t 640 _ _ 128 slices_S640x512_o0_128_S640x128 x n b p (by omega) (by omega)
    · exact plane_at m c t 0 _ _ 128 slices_S640x512_o0_128_S640x128 x n b p (by omega) (by omega)

/-- The third plane's block after a point. -/
theorem plane2_block (t : Fin cfg0.N) (i : S2560x128.Idx) (n : Fin 1024) (b : Fin 4) (p : Fin 8320)
    (hb : 1280 * t.val + (i 0).val / 2 = 8320 * b.val + p.val) (hn : n.val = 512 * ((i 0).val % 2) + 256 + (i 1).val) :
    (outsAt0 m c t.val t.isLt).2.2.2.1 i = normM m c b p n := by
  by_cases h0 : t.val % 26 = 0
  · rw [outsAt0_A m c t h0]; frame_out
    canon_tiles x h
    · exact plane_at m c t 640 _ _ 256 slices_S640x512_o0_256_S640x128 x n b p (by omega) (by omega)
    · exact plane_at m c t 0 _ _ 256 slices_S640x512_o0_256_S640x128 x n b p (by omega) (by omega)
  · rw [outsAt0_B m c t h0]; frame_out
    canon_tiles x h
    · exact plane_at m c t 640 _ _ 256 slices_S640x512_o0_256_S640x128 x n b p (by omega) (by omega)
    · exact plane_at m c t 0 _ _ 256 slices_S640x512_o0_256_S640x128 x n b p (by omega) (by omega)

/-- The fourth plane's block after a point. -/
theorem plane3_block (t : Fin cfg0.N) (i : S2560x128.Idx) (n : Fin 1024) (b : Fin 4) (p : Fin 8320)
    (hb : 1280 * t.val + (i 0).val / 2 = 8320 * b.val + p.val) (hn : n.val = 512 * ((i 0).val % 2) + 384 + (i 1).val) :
    (outsAt0 m c t.val t.isLt).2.2.2.2.1 i = normM m c b p n := by
  by_cases h0 : t.val % 26 = 0
  · rw [outsAt0_A m c t h0]; frame_out
    canon_tiles x h
    · exact plane_at m c t 640 _ _ 384 slices_S640x512_o0_384_S640x128 x n b p (by omega) (by omega)
    · exact plane_at m c t 0 _ _ 384 slices_S640x512_o0_384_S640x128 x n b p (by omega) (by omega)
  · rw [outsAt0_B m c t h0]; frame_out
    canon_tiles x h
    · exact plane_at m c t 640 _ _ 384 slices_S640x512_o0_384_S640x128 x n b p (by omega) (by omega)
    · exact plane_at m c t 0 _ _ 384 slices_S640x512_o0_384_S640x128 x n b p (by omega) (by omega)

end Cert.Out
-- ==== Proof.OutArray.lean ====
/-
  THE ARRAYS the output projection ends with: every entry is the entry of the block of the point that wrote it.
-/
module

public import proofs.«01_k».proof.Proof.OutBlock

@[expose] public section

set_option maxRecDepth 4096

noncomputable section

namespace Cert.Out

open Idealize.ShloMosaic hiding ix1 ix2 ix3 ix4 ix5
open Idealize.ShloMosaic.TcCoe Idealize.ShloMosaic.ValueIdx Cert.Kernel2Ideal Cert.Kernel2Ideal.Gen Cert.Kernel2Ideal.Value

/-- The flattened stream, as a function of the arguments. -/
def streamV (h : S4x8320x1024.Idx → EReal) (y o : S4x8320x512.Idx → EReal) (w : S1x1024x1024.Idx → EReal) (i : S33280x1024.Idx) : EReal :=
  streamE h y o w (⟨(i 0).val / 8320, by have h0 : (i 0).val < 33280 := (i 0).isLt; omega⟩ : Fin 4) (⟨(i 0).val % 8320, Nat.mod_lt _ (by decide)⟩ : Fin 8320)
    (⟨(i 1).val, (i 1).isLt⟩ : Fin 1024)

/-- Plane `j` of the normalized stream: row `2 n + s` holds 128 entries of position `n`'s row, from entry `512 s + 128 j` on. -/
def planeV (j : Fin 4) (h : S4x8320x1024.Idx → EReal) (y o : S4x8320x512.Idx → EReal) (w : S1x1024x1024.Idx → EReal) (g : S1x1024.Idx → EReal)
    (i : S66560x128.Idx) : EReal :=
  normE h y o w g (⟨(i 0).val / 2 / 8320, by have h0 : (i 0).val < 66560 := (i 0).isLt; omega⟩ : Fin 4) (⟨(i 0).val / 2 % 8320, Nat.mod_lt _ (by decide)⟩ : Fin 8320)
    (⟨512 * ((i 0).val % 2) + 128 * j.val + (i 1).val, by have h1 : (i 1).val < 128 := (i 1).isLt; have := j.isLt; omega⟩ : Fin 1024)

variable (m : (ℓ : Loc nD τ sig) → Buf (Elt Ideal) ℓ) (c : Dev nD)

theorem npts : cfg0.N = 26 := by decide

/-- The stream's array. -/
theorem stream_array : G9 m c = streamV (hA m c) (yA m c) (oA m c) (wA m c) := by
  funext i
  have h0 : (i 0).val < 33280 := (i 0).isLt
  have h1 : (i 1).val < 1024 := (i 1).isLt
  have hp : pt9Of i = (i 0).val / 1280 := by show 1 * ((i 0).val / 1280 - 0) + 1 * ((i 1).val / 1024 - 0) = _; omega
  have hN : pt9Of i < cfg0.N := by rw [npts, hp]; omega
  unfold G9
  rw [dif_pos hN]
  refine (congrArg (fun s => s.1 (loc9Of i)) (outsAt0_sweep m c (pt9Of i) hN).symm).trans ?_
  refine stream_block m c ⟨pt9Of i, hN⟩ (loc9Of i) _ _ _ ?_ ?_
  · show 1280 * pt9Of i + (i 0).val % 1280 = 8320 * ((i 0).val / 8320) + (i 0).val % 8320
    rw [hp]; omega
  · show (i 1).val = (i 1).val % 1024
    omega

/-- The first plane's array. -/
theorem plane0_array : G10 m c = planeV 0 (hA m c) (yA m c) (oA m c) (wA m c) (gA m c) := by
  funext i
  have h0 : (i 0).val < 66560 := (i 0).isLt
  have h1 : (i 1).val < 128 := (i 1).isLt
  have hp : pt10Of i = (i 0).val / 2560 := by show 1 * ((i 0).val / 2560 - 0) + 1 * ((i 1).val / 128 - 0) = _; omega
  have hN : pt10Of i < cfg0.N := by rw [npts, hp]; omega
  unfold G10
  rw [dif_pos hN]
  refine (congrArg (fun s => s.2.1 (loc10Of i)) (outsAt0_sweep m c (pt10Of i) hN).symm).trans ?_
  refine plane0_block m c ⟨pt10Of i, hN⟩ (loc10Of i) _ _ _ ?_ ?_
  · show 1280 * pt10Of i + (i 0).val % 2560 / 2 = 8320 * ((i 0).val / 2 / 8320) + (i 0).val / 2 % 8320
    rw [hp]; omega
  · show 512 * ((i 0).val % 2) + 0 + (i 1).val = 512 * ((i 0).val % 2560 % 2) + 0 + (i 1).val % 128
    omega

/-- The second plane's array. -/
theorem plane1_array : G11 m c = planeV 1 (hA m c) (yA m c) (oA m c) (wA m c) (gA m c) := by
  funext i
  have h0 : (i 0).val < 66560 := (i 0).isLt
  have h1 : (i 1).val < 128 := (i 1).isLt
  have hp : pt11Of i = (i 0).val / 2560 := by show 1 * ((i 0).val / 2560 - 0) + 1 * ((i 1).val / 128 - 0) = _; omega
  have hN : pt11Of i < cfg0.N := by rw [npts, hp]; omega
  unfold G11
  rw [dif_pos hN]
  refine (congrArg (fun s => s.2.2.1 (loc11Of i)) (outsAt0_sweep m c (pt11Of i) hN).symm).trans ?_
  refine plane1_block m c ⟨pt11Of i, hN⟩ (loc11Of i) _ _ _ ?_ ?_
  · show 1280 * pt11Of i + (i 0).val % 2560 / 2 = 8320 * ((i 0).val / 2 / 8320) + (i 0).val / 2 % 8320
    rw [hp]; omega
  · show 512 * ((i 0).val % 2) + 128 + (i 1).val = 512 * ((i 0).val % 2560 % 2) + 128 + (i 1).val % 128
    omega

/-- The third plane's array. -/
theorem plane2_array : G12 m c = planeV 2 (hA m c) (yA m c) (oA m c) (wA m c) (gA m c) := by
  funext i
  have h0 : (i 0).val < 66560 := (i 0).isLt
  have h1 : (i 1).val < 128 := (i 1).isLt
  have hp : pt12Of i = (i 0).val / 2560 := by show 1 * ((i 0).val / 2560 - 0) + 1 * ((i 1).val / 128 - 0) = _; omega
  have hN : pt12Of i < cfg0.N := by rw [npts, hp]; omega
  unfold G12
  rw [dif_pos hN]
  refine (congrArg (fun s => s.2.2.2.1 (loc12Of i)) (outsAt0_sweep m c (pt12Of i) hN).symm).trans ?_
  refine plane2_block m c ⟨pt12Of i, hN⟩ (loc12Of i) _ _ _ ?_ ?_
  · show 1280 * pt12Of i + (i 0).val % 2560 / 2 = 8320 * ((i 0).val / 2 / 8320) + (i 0).val / 2 % 8320
    rw [hp]; omega
  · show 512 * ((i 0).val % 2) + 256 + (i 1).val = 512 * ((i 0).val % 2560 % 2) + 256 + (i 1).val % 128
    omega

/-- The fourth plane's array. -/
theorem plane3_array : G13 m c = planeV 3 (hA m c) (yA m c) (oA m c) (wA m c) (gA m c) := by
  funext i
  have h0 : (i 0).val < 66560 := (i 0).isLt
  have h1 : (i 1).val < 128 := (i 1).isLt
  have hp : pt13Of i = (i 0).val / 2560 := by show 1 * ((i 0).val / 2560 - 0) + 1 * ((i 1).val / 128 - 0) = _; omega
  have hN : pt13Of i < cfg0.N := by rw [npts, hp]; omega
  unfold G13
  rw [dif_pos hN]
  refine (congrArg (fun s => s.2.2.2.2.1 (loc13Of i)) (outsAt0_sweep m c (pt13Of i) hN).symm).trans ?_
  refine plane3_block m c ⟨pt13Of i, hN⟩ (loc13Of i) _ _ _ ?_ ?_
  · show 1280 * pt13Of i + (i 0).val % 2560 / 2 = 8320 * ((i 0).val / 2 / 8320) + (i 0).val / 2 % 8320
    rw [hp]; omega
  · show 512 * ((i 0).val % 2) + 384 + (i 1).val = 512 * ((i 0).val % 2560 % 2) + 384 + (i 1).val % 128
    omega

end Cert.Out
-- ==== Proof.OutRef.lean ====
/-
  THE REFERENCE of the output projection, read operation by operation: the same rows of the same arguments.
-/
module

public import proofs.«01_k».proof.Proof.OutArray
public import proofs.«01_k».proof.Proof.Gen.Reference2Ideal.Read

@[expose] public section

set_option maxRecDepth 4096

noncomputable section

namespace Cert.Out

open Idealize.ShloMosaic hiding ix1 ix2 ix3 ix4 ix5
open Idealize.ShloMosaic.TcCoe Idealize.ShloMosaic.ValueIdx Cert.Reference2Ideal Cert.Reference2Ideal.Gen Cert.Reference2Ideal.Read
open scoped BigOperators

variable (x0 : FVec Ideal S4x8320x1024 .f32) (x1 x2 : FVec Ideal S4x8320x512 .f32) (x3 : FVec Ideal S1x1024x1024 .f32) (x4 : FVec Ideal S1x1024 .f32)

/-- The joined half rows of the reference. -/
theorem ref_joined (b : Fin 4) (p : Fin 8320) (k : Fin 1024) :
    val_main_v0 (F := Ideal) x1 x2 (ix3 b p k) = joined (fun x => x1 (ix3 b p x)) (fun x => x2 (ix3 b p x)) k := by
  have hk := k.isLt
  unfold val_main_v0 joined
  by_cases h : k.val < 512
  · rw [dif_pos h]
    exact concatenate_pair_apply_left (2 : Fin S4x8320x1024.rank) x1 x2 _ (ix3 b p k) rfl (ix3 b p (⟨k.val, h⟩ : Fin 512)) (by
      intro a; match a with | ⟨0, _⟩ => rfl | ⟨1, _⟩ => rfl | ⟨2, _⟩ => rfl)
  · rw [dif_neg h]
    exact concatenate_pair_apply_right (2 : Fin S4x8320x1024.rank) x1 x2 _ (ix3 b p k) rfl rfl (ix3 b p (⟨k.val - 512, by omega⟩ : Fin 512)) (by
      intro a ha
      match a with
      | ⟨0, _⟩ => rfl
      | ⟨1, _⟩ => rfl
      | ⟨2, _⟩ => exact absurd rfl ha) (by show k.val - 512 + 512 = k.val; omega)

/-- The stream of the reference at a position. -/
theorem ref_stream (b : Fin 4) (p : Fin 8320) (n : Fin 1024) : val_main_v3 (F := Ideal) x0 x1 x2 x3 (ix3 b p n) = streamE x0 x1 x2 x3 b p n := by
  rw [val_main_v3_apply, val_main_v2_apply]
  show x0 (ix3 b p n) + _ = x0 (ix3 b p n) + _
  congr 1
  refine Finset.sum_congr rfl fun k _ => ?_
  have hk := k.isLt
  have hn := n.isLt
  have el : lidx_main_v2 (ix3 b p n) k = ix3 b p k := funext fun a => Fin.ext (by
    match a with | ⟨0, _⟩ => rfl | ⟨1, _⟩ => rfl | ⟨2, _⟩ => rfl)
  rw [el, ref_joined, val_main_v1_apply]
  refine congrArg (_ * x3 ·) ?_
  funext a
  apply Fin.ext
  match a with
  | ⟨0, _⟩ => rfl
  | ⟨1, _⟩ => show (k.val * 1024 + n.val) / 1024 % 1024 = k.val; omega
  | ⟨2, _⟩ => show (k.val * 1024 + n.val) % 1024 = n.val; omega

/-- The mean square's root of the reference, at a position. -/
theorem ref_root (b : Fin 4) (p : Fin 8320) : val_main_v12 (F := Ideal) x0 x1 x2 x3 (ix3 b p (0 : Fin 1))
    = Ideal.rsqrt (Ideal.div (∑ k, streamE x0 x1 x2 x3 b p k * streamE x0 x1 x2 x3 b p k) (Ideal.ofBits .f32 0x44800000#32) + Ideal.ofBits .f32 0x358637BD#32) := by
  have hs : val_main_v7 (F := Ideal) x0 x1 x2 x3 (ix3 b p (0 : Fin 1)) = ∑ k, streamE x0 x1 x2 x3 b p k * streamE x0 x1 x2 x3 b p k := by
    rw [val_main_v7_apply, val_main_v6_apply]
    rw [show val_main_cst (F := Ideal) (Shape.Idx.first h_S_) = 0 from Ideal.ofBits_zero_f32, zero_add]
    refine Finset.sum_congr rfl fun k _ => ?_
    have e : idx_main_v6 (idx_main_v7 (ix3 b p (0 : Fin 1))) k = ix3 b p k := funext fun a => Fin.ext (by
      match a with | ⟨0, _⟩ => rfl | ⟨1, _⟩ => rfl | ⟨2, _⟩ => rfl)
    rw [e, val_main_v5_apply]
    exact congrArg (fun z : EReal => z * z) (ref_stream x0 x1 x2 x3 b p k)
  rw [val_main_v12_apply, val_main_v11_apply, val_main_v9_apply, val_main_v10_apply, val_main_v8_apply, hs]
  rfl

/-- The normalized stream of the reference, at a position. -/
theorem ref_norm (b : Fin 4) (p : Fin 8320) (n : Fin 1024) :
    val_main_v18 (F := Ideal) x0 x1 x2 x3 x4 (ix3 b p n) = normE x0 x1 x2 x3 x4 b p n := by
  have hn := n.isLt
  rw [val_main_v18_apply, val_main_v17_apply, val_main_v14_apply, val_main_v13_apply, val_main_v16_apply, val_main_v15_apply, val_main_v4_apply, ref_stream]
  have e : idx_main_v13 (ix3 b p n) = ix3 b p (0 : Fin 1) := funext fun a => Fin.ext (by
    match a with | ⟨0, _⟩ => rfl | ⟨1, _⟩ => rfl | ⟨2, _⟩ => rfl)
  have eg : idx_main_v4 (idx_main_v15 (idx_main_v16 (ix3 b p n))) = ix2 (0 : Fin 1) n := funext fun a => Fin.ext (by
    match a with
    | ⟨0, _⟩ => rfl
    | ⟨1, _⟩ => show n.val % 1024 = n.val; omega)
  rw [e, eg, ref_root]
  rfl

/-- The reference's stream. -/
theorem ref_stream_array : val_main_v20 (F := Ideal) x0 x1 x2 x3 = streamV x0 x1 x2 x3 := by
  funext i
  have h0 : (i 0).val < 33280 := (i 0).isLt
  have h1 : (i 1).val < 1024 := (i 1).isLt
  rw [val_main_v20_apply]
  unfold streamV
  rw [← ref_stream]
  refine congrArg (val_main_v3 (F := Ideal) x0 x1 x2 x3) ?_
  funext a
  apply Fin.ext
  match a with
  | ⟨0, _⟩ => show ((i 0).val * 1024 + (i 1).val) / 8519680 = (i 0).val / 8320; omega
  | ⟨1, _⟩ => show ((i 0).val * 1024 + (i 1).val) / 1024 % 8320 = (i 0).val % 8320; omega
  | ⟨2, _⟩ => show ((i 0).val * 1024 + (i 1).val) % 1024 = (i 1).val; omega

/-- The reference's rows in pieces of 128 entries. -/
theorem ref_pieces (N : Fin 33280) (s : Fin 2) (j : Fin 4) (l : Fin 128) (i : S33280x2x4x128.Idx) (h0 : (i 0).val = N.val) (h1 : (i 1).val = s.val)
    (h2 : (i 2).val = j.val) (h3 : (i 3).val = l.val) (b : Fin 4) (p : Fin 8320) (n : Fin 1024) (hN : N.val = 8320 * b.val + p.val)
    (hn : n.val = 512 * s.val + 128 * j.val + l.val) :
    val_main_v19 (F := Ideal) x0 x1 x2 x3 x4 i = normE x0 x1 x2 x3 x4 b p n := by
  have hb := b.isLt
  have hp := p.isLt
  have hs := s.isLt
  have hj := j.isLt
  have hl := l.isLt
  rw [val_main_v19_apply, ← ref_norm]
  refine congrArg (val_main_v18 (F := Ideal) x0 x1 x2 x3 x4) ?_
  funext a
  apply Fin.ext
  match a with
  | ⟨0, _⟩ => show ((((i 0).val * 2 + (i 1).val) * 4 + (i 2).val) * 128 + (i 3).val) / 8519680 = b.val; omega
  | ⟨1, _⟩ => show ((((i 0).val * 2 + (i 1).val) * 4 + (i 2).val) * 128 + (i 3).val) / 1024 % 8320 = p.val; omega
  | ⟨2, _⟩ => show ((((i 0).val * 2 + (i 1).val) * 4 + (i 2).val) * 128 + (i 3).val) % 1024 = n.val; omega

/-- The reference's first plane. -/
theorem ref_plane0 : val_main_v23 (F := Ideal) x0 x1 x2 x3 x4 = planeV 0 x0 x1 x2 x3 x4 := by
  funext i
  have h0 : (i 0).val < 66560 := (i 0).isLt
  have h1 : (i 1).val < 128 := (i 1).isLt
  rw [val_main_v23_apply, val_main_v22_apply, val_main_v21_apply]
  refine ref_pieces x0 x1 x2 x3 x4 (⟨(i 0).val / 2, by omega⟩ : Fin 33280) (⟨(i 0).val % 2, by omega⟩ : Fin 2) (0 : Fin 4) (⟨(i 1).val, h1⟩ : Fin 128) _ ?_ ?_ ?_ ?_ _ _ _ ?_ ?_
  · show (((((i 0).val * 128 + (i 1).val) / 256) * 2 + (((i 0).val * 128 + (i 1).val) / 128 % 2)) * 128 + (((i 0).val * 128 + (i 1).val) % 128)) / 256 = (i 0).val / 2
    omega
  · show (((((i 0).val * 128 + (i 1).val) / 256) * 2 + (((i 0).val * 128 + (i 1).val) / 128 % 2)) * 128 + (((i 0).val * 128 + (i 1).val) % 128)) / 128 % 2 = (i 0).val % 2
    omega
  · show 0 = 0
    rfl
  · show (((((i 0).val * 128 + (i 1).val) / 256) * 2 + (((i 0).val * 128 + (i 1).val) / 128 % 2)) * 128 + (((i 0).val * 128 + (i 1).val) % 128)) % 128 = (i 1).val
    omega
  · show (i 0).val / 2 = 8320 * ((i 0).val / 2 / 8320) + (i 0).val / 2 % 8320
    omega
  · rfl

/-- The reference's second plane. -/
theorem ref_plane1 : val_main_v26 (F := Ideal) x0 x1 x2 x3 x4 = planeV 1 x0 x1 x2 x3 x4 := by
  funext i
  have h0 : (i 0).val < 66560 := (i 0).isLt
  have h1 : (i 1).val < 128 := (i 1).isLt
  rw [val_main_v26_apply, val_main_v25_apply, val_main_v24_apply]
  refine ref_pieces x0 x1 x2 x3 x4 (⟨(i 0).val / 2, by omega⟩ : Fin 33280) (⟨(i 0).val % 2, by omega⟩ : Fin 2) (1 : Fin 4) (⟨(i 1).val, h1⟩ : Fin 128) _ ?_ ?_ ?_ ?_ _ _ _ ?_ ?_
  · show (((((i 0).val * 128 + (i 1).val) / 256) * 2 + (((i 0).val * 128 + (i 1).val) / 128 % 2)) * 128 + (((i 0).val * 128 + (i 1).val) % 128)) / 256 = (i 0).val / 2
    omega
  · show (((((i 0).val * 128 + (i 1).val) / 256) * 2 + (((i 0).val * 128 + (i 1).val) / 128 % 2)) * 128 + (((i 0).val * 128 + (i 1).val) % 128)) / 128 % 2 = (i 0).val % 2
    omega
  · show 1 + 0 = 1
    rfl
  · show (((((i 0).val * 128 + (i 1).val) / 256) * 2 + (((i 0).val * 128 + (i 1).val) / 128 % 2)) * 128 + (((i 0).val * 128 + (i 1).val) % 128)) % 128 = (i 1).val
    omega
  · show (i 0).val / 2 = 8320 * ((i 0).val / 2 / 8320) + (i 0).val / 2 % 8320
    omega
  · rfl

/-- The reference's third plane. -/
theorem ref_plane2 : val_main_v29 (F := Ideal) x0 x1 x2 x3 x4 = planeV 2 x0 x1 x2 x3 x4 := by
  funext i
  have h0 : (i 0).val < 66560 := (i 0).isLt
  have h1 : (i 1).val < 128 := (i 1).isLt
  rw [val_main_v29_apply, val_main_v28_apply, val_main_v27_apply]
  refine ref_pieces x0 x1 x2 x3 x4 (⟨(i 0).val / 2, by omega⟩ : Fin 33280) (⟨(i 0).val % 2, by omega⟩ : Fin 2) (2 : Fin 4) (⟨(i 1).val, h1⟩ : Fin 128) _ ?_ ?_ ?_ ?_ _ _ _ ?_ ?_
  · show (((((i 0).val * 128 + (i 1).val) / 256) * 2 + (((i 0).val * 128 + (i 1).val) / 128 % 2)) * 128 + (((i 0).val * 128 + (i 1).val) % 128)) / 256 = (i 0).val / 2
    omega
  · show (((((i 0).val * 128 + (i 1).val) / 256) * 2 + (((i 0).val * 128 + (i 1).val) / 128 % 2)) * 128 + (((i 0).val * 128 + (i 1).val) % 128)) / 128 % 2 = (i 0).val % 2
    omega
  · show 2 + 0 = 2
    rfl
  · show (((((i 0).val * 128 + (i 1).val) / 256) * 2 + (((i 0).val * 128 + (i 1).val) / 128 % 2)) * 128 + (((i 0).val * 128 + (i 1).val) % 128)) % 128 = (i 1).val
    omega
  · show (i 0).val / 2 = 8320 * ((i 0).val / 2 / 8320) + (i 0).val / 2 % 8320
    omega
  · rfl

/-- The reference's fourth plane. -/
theorem ref_plane3 : val_main_v32 (F := Ideal) x0 x1 x2 x3 x4 = planeV 3 x0 x1 x2 x3 x4 := by
  funext i
  have h0 : (i 0).val < 66560 := (i 0).isLt
  have h1 : (i 1).val < 128 := (i 1).isLt
  rw [val_main_v32_apply, val_main_v31_apply, val_main_v30_apply]
  refine ref_pieces x0 x1 x2 x3 x4 (⟨(i 0).val / 2, by omega⟩ : Fin 33280) (⟨(i 0).val % 2, by omega⟩ : Fin 2) (3 : Fin 4) (⟨(i 1).val, h1⟩ : Fin 128) _ ?_ ?_ ?_ ?_ _ _ _ ?_ ?_
  · show (((((i 0).val * 128 + (i 1).val) / 256) * 2 + (((i 0).val * 128 + (i 1).val) / 128 % 2)) * 128 + (((i 0).val * 128 + (i 1).val) % 128)) / 256 = (i 0).val / 2
    omega
  · show (((((i 0).val * 128 + (i 1).val) / 256) * 2 + (((i 0).val * 128 + (i 1).val) / 128 % 2)) * 128 + (((i 0).val * 128 + (i 1).val) % 128)) / 128 % 2 = (i 0).val % 2
    omega
  · show 3 + 0 = 3
    rfl
  · show (((((i 0).val * 128 + (i 1).val) / 256) * 2 + (((i 0).val * 128 + (i 1).val) / 128 % 2)) * 128 + (((i 0).val * 128 + (i 1).val) % 128)) % 128 = (i 1).val
    omega
  · show (i 0).val / 2 = 8320 * ((i 0).val / 2 / 8320) + (i 0).val / 2 % 8320
    omega
  · rfl

end Cert.Out
-- ==== Proof.OutAlgebraic.lean ====
/-
  THE OUTPUT PROJECTION AND ITS REFERENCE AGREE: both end with the stream `streamV` and the planes `planeV` of the arguments.
-/
module

public import proofs.«01_k».proof.Proof.OutRef
public import Idealize.ShloMosaic.Lib.Bf16Pair

@[expose] public section

noncomputable section

namespace Cert.Out

open Idealize.ShloMosaic Idealize.ShloMosaic.TcCoe Idealize.SL.Sem

/-- Each rewrite of the words that pack two rows keeps the bits. -/
theorem pairs : Cert.preserves_Kernel2_Kernel2Ideal :=
  ⟨IdealRules.bf16_pair.packStatement _, IdealRules.bf16_pair.statement _ _⟩

/-- At the ideal values the five results of the output projection and of its reference are the same functions of the arguments. -/
theorem algebraic : Cert.algebraic_Kernel2Ideal_Reference2Ideal := by
  intro m g m' g' hpre hagree
  refine ⟨fun c => streamV (hA m c) (yA m c) (oA m c) (wA m c), fun c => planeV 0 (hA m c) (yA m c) (oA m c) (wA m c) (gA m c),
    fun c => planeV 1 (hA m c) (yA m c) (oA m c) (wA m c) (gA m c), fun c => planeV 2 (hA m c) (yA m c) (oA m c) (wA m c) (gA m c),
    fun c => planeV 3 (hA m c) (yA m c) (oA m c) (wA m c) (gA m c), ?_, ?_⟩
  · refine (θ_run _ _ _).mono (fun r h c => ?_) (Cert.Kernel2Ideal.Value.run m g)
    obtain ⟨h0, h1, h2, h3, h4, h5, h6, hk⟩ := h c
    exact ⟨h0.trans (stream_array m c), h1.trans (plane0_array m c), h2.trans (plane1_array m c), h3.trans (plane2_array m c),
      h4.trans (plane3_array m c), hk⟩
  · refine (θ_run _ _ _).mono (fun r h c => ?_) (Cert.Reference2Ideal.Value.run m' g')
    obtain ⟨h0, h1, h2, h3, h4, hk⟩ := h c
    obtain ⟨e0, e1, e2, e3, e4, -⟩ := hagree c
    refine ⟨h0.trans ?_, h1.trans ?_, h2.trans ?_, h3.trans ?_, h4.trans ?_, hk⟩
    · refine (Cert.Reference2Ideal.Read.val_main_v20_eq _ _ _ _).trans ((ref_stream_array _ _ _ _).trans ?_)
      rw [e0, e1, e2, e3]
    · refine (Cert.Reference2Ideal.Read.val_main_v23_eq _ _ _ _ _).trans ((ref_plane0 _ _ _ _ _).trans ?_)
      rw [e0, e1, e2, e3, e4]
    · refine (Cert.Reference2Ideal.Read.val_main_v26_eq _ _ _ _ _).trans ((ref_plane1 _ _ _ _ _).trans ?_)
      rw [e0, e1, e2, e3, e4]
    · refine (Cert.Reference2Ideal.Read.val_main_v29_eq _ _ _ _ _).trans ((ref_plane2 _ _ _ _ _).trans ?_)
      rw [e0, e1, e2, e3, e4]
    · refine (Cert.Reference2Ideal.Read.val_main_v32_eq _ _ _ _ _).trans ((ref_plane3 _ _ _ _ _).trans ?_)
      rw [e0, e1, e2, e3, e4]

end Cert.Out
-- ==== Proof.CombRows.lean ====
/-
  THE COMBINATION'S ROWS: a row of an expert's output is put together from the even and the odd rows of four planes, and the
  two rows a position was sent to are summed with their gates as weights. The body's block of 1024 rows, read at an entry.
-/
module

public import proofs.«01_k».proof.Proof.OutAlgebraic
public import proofs.«01_k».proof.Proof.Gen.Kernel3Ideal.Value
public import Idealize.ShloMosaic.Lib.Pipeline.ValueKit.Tiles
public import Idealize.ShloMosaic.Lib.ValueLayout

@[expose] public section

set_option maxRecDepth 4096

noncomputable section

namespace Cert.Comb

open Idealize.ShloMosaic hiding ix1 ix2 ix3 ix4 ix5
open Idealize.ShloMosaic.ValueIdx Cert.Kernel3Ideal Cert.Kernel3Ideal.Gen

/-- Four pieces of 128 lanes side by side. -/
def four (p0 p1 p2 p3 : Fin 128 → EReal) (x : Fin 512) : EReal :=
  if h0 : x.val < 128 then p0 ⟨x.val, h0⟩
  else if h1 : x.val < 256 then p1 ⟨x.val - 128, by omega⟩
  else if h2 : x.val < 384 then p2 ⟨x.val - 256, by omega⟩
  else p3 ⟨x.val - 384, by omega⟩

/-- Two half rows side by side. -/
def halves (lo hi : Fin 512 → EReal) (n : Fin 1024) : EReal :=
  if h : n.val < 512 then lo ⟨n.val, h⟩ else hi ⟨n.val - 512, by omega⟩

/-- A row held in four planes: the left half's lanes in the row's first line of each plane, the right half's in its second. -/
def planeRow (p0 p1 p2 p3 : Fin 2 → Fin 128 → EReal) (n : Fin 1024) : EReal :=
  halves (four (p0 0) (p1 0) (p2 0) (p3 0)) (four (p0 1) (p1 1) (p2 1) (p3 1)) n

/-- Four blocks of 128 lanes joined along the row. -/
theorem four_apply (v0 v1 v2 v3 : FVec Ideal S1024x128 .bf16) (r : Fin 1024) (x : Fin 512) :
    concatenate S1024x512 1 [⟨S1024x128, v0⟩, ⟨S1024x128, v1⟩, ⟨S1024x128, v2⟩, ⟨S1024x128, v3⟩]
        concatenates_S1024x128_S1024x128_S1024x128_S1024x128_S1024x512_d1 (ix2 r x)
      = four (fun l => v0 (ix2 r l)) (fun l => v1 (ix2 r l)) (fun l => v2 (ix2 r l)) (fun l => v3 (ix2 r l)) x := by
  have hx := x.isLt
  have off : ∀ (l : Fin 128) (b : Fin S1024x128.rank), b.cast (rfl : S1024x128.rank = S1024x512.rank) ≠ (1 : Fin S1024x512.rank) →
      ((ix2 r l : S1024x128.Idx) b).val = ((ix2 r x : S1024x512.Idx) (b.cast rfl)).val := by
    intro l b hb
    match b with
    | ⟨0, _⟩ => rfl
    | ⟨1, _⟩ => exact absurd rfl hb
  unfold four
  by_cases h0 : x.val < 128
  · rw [dif_pos h0]
    exact concatenate_apply_piece (1 : Fin S1024x512.rank) _ _ (ix2 r x) 0 (by simp) S1024x128 v0 rfl rfl 0 rfl
      (ix2 r (⟨x.val, h0⟩ : Fin 128)) (off _) (by show 0 + x.val = x.val; omega)
  rw [dif_neg h0]
  by_cases h1 : x.val < 256
  · rw [dif_pos h1]
    exact concatenate_apply_piece (1 : Fin S1024x512.rank) _ _ (ix2 r x) 1 (by simp) S1024x128 v1 rfl rfl 128 rfl
      (ix2 r (⟨x.val - 128, by omega⟩ : Fin 128)) (off _) (by show 128 + (x.val - 128) = x.val; omega)
  rw [dif_neg h1]
  by_cases h2 : x.val < 384
  · rw [dif_pos h2]
    exact concatenate_apply_piece (1 : Fin S1024x512.rank) _ _ (ix2 r x) 2 (by simp) S1024x128 v2 rfl rfl 256 rfl
      (ix2 r (⟨x.val - 256, by omega⟩ : Fin 128)) (off _) (by show 256 + (x.val - 256) = x.val; omega)
  · rw [dif_neg h2]
    exact concatenate_apply_piece (1 : Fin S1024x512.rank) _ _ (ix2 r x) 3 (by simp) S1024x128 v3 rfl rfl 384 rfl
      (ix2 r (⟨x.val - 384, by omega⟩ : Fin 128)) (off _) (by show 384 + (x.val - 384) = x.val; omega)

/-- Two half blocks joined along the row. -/
theorem halves_apply (lo hi : FVec Ideal S1024x512 .f32) (r : Fin 1024) (n : Fin 1024) :
    concatenate S1024x1024 1 [⟨S1024x512, lo⟩, ⟨S1024x512, hi⟩] concatenates_S1024x512_S1024x512_S1024x1024_d1 (ix2 r n)
      = halves (fun x => lo (ix2 r x)) (fun x => hi (ix2 r x)) n := by
  have hk := n.isLt
  unfold halves
  by_cases h : n.val < 512
  · rw [dif_pos h]
    exact concatenate_pair_apply_left (1 : Fin S1024x1024.rank) lo hi _ (ix2 r n) rfl (ix2 r (⟨n.val, h⟩ : Fin 512)) (by
      intro b; match b with | ⟨0, _⟩ => rfl | ⟨1, _⟩ => rfl)
  · rw [dif_neg h]
    exact concatenate_pair_apply_right (1 : Fin S1024x1024.rank) lo hi _ (ix2 r n) rfl rfl (ix2 r (⟨n.val - 512, by omega⟩ : Fin 512)) (by
      intro b hb
      match b with
      | ⟨0, _⟩ => rfl
      | ⟨1, _⟩ => exact absurd rfl hb) (by show n.val - 512 + 512 = n.val; omega)

/-- The row of a block of a plane where line `p` of row `r` stands. -/
def line (r : Fin 1024) (p : Fin 2) : Fin 2048 := ⟨2 * r.val + p.val, by omega⟩

/-- The rows of one parity of a plane's block. -/
theorem parity_apply (p : Fin 2) (x : Vec Ideal S2048x128 .bf16) (r : Fin 1024) (l : Fin 128) :
    rowsOfParity p S1024x128 x bitcasts_S2048x128_w16_S1024x128_w32 (ix2 r l) = x (ix2 (line r p) l) := by
  rw [rowsOfParity_apply]
  congr 1
  funext a
  apply Fin.ext
  match a with
  | ⟨0, _⟩ => rfl
  | ⟨1, _⟩ => rfl

/-- A row of the block that four planes' blocks hold. -/
abbrev blockRow (x0 x1 x2 x3 : Vec Ideal S2048x128 .bf16) (r : Fin 1024) : Fin 1024 → EReal :=
  planeRow (fun p l => x0 (ix2 (line r p) l)) (fun p l => x1 (ix2 (line r p) l)) (fun p l => x2 (ix2 (line r p) l)) (fun p l => x3 (ix2 (line r p) l))

/-- The left half of the rows. -/
theorem lo_apply (x0 x1 x2 x3 : Vec Ideal S2048x128 .bf16) (r : Fin 1024) (x : Fin 512) :
    k0_pay3 (F := Ideal) x0 x1 x2 x3 (ix2 r x)
      = four (fun l => x0 (ix2 (line r 0) l)) (fun l => x1 (ix2 (line r 0) l)) (fun l => x2 (ix2 (line r 0) l)) (fun l => x3 (ix2 (line r 0) l)) x := by
  unfold k0_pay3
  refine (four_apply _ _ _ _ r x).trans ?_
  congr 1 <;> exact funext fun l => parity_apply 0 _ r l

/-- The right half of the rows. -/
theorem hi_apply (x0 x1 x2 x3 : Vec Ideal S2048x128 .bf16) (r : Fin 1024) (x : Fin 512) :
    k0_pay2 (F := Ideal) x0 x1 x2 x3 (ix2 r x)
      = four (fun l => x0 (ix2 (line r 1) l)) (fun l => x1 (ix2 (line r 1) l)) (fun l => x2 (ix2 (line r 1) l)) (fun l => x3 (ix2 (line r 1) l)) x := by
  unfold k0_pay2
  refine (four_apply _ _ _ _ r x).trans ?_
  congr 1 <;> exact funext fun l => parity_apply 1 _ r l

/-- The routing block, its eight rows repeated sixteen times: rows below eight are the block's own. -/
theorem repeated_apply (g : FVec Ideal S8x1024 .f32) (k : Fin 128) (q : Fin 8) (r : Fin 1024) (hk : k.val = q.val) :
    concatenate S128x1024 0 [⟨S8x1024, g⟩, ⟨S8x1024, g⟩, ⟨S8x1024, g⟩, ⟨S8x1024, g⟩, ⟨S8x1024, g⟩, ⟨S8x1024, g⟩, ⟨S8x1024, g⟩, ⟨S8x1024, g⟩,
        ⟨S8x1024, g⟩, ⟨S8x1024, g⟩, ⟨S8x1024, g⟩, ⟨S8x1024, g⟩, ⟨S8x1024, g⟩, ⟨S8x1024, g⟩, ⟨S8x1024, g⟩, ⟨S8x1024, g⟩]
        concatenates_S8x1024_S8x1024_S8x1024_S8x1024_S8x1024_S8x1024_S8x1024_S8x1024_S8x1024_S8x1024_S8x1024_S8x1024_S8x1024_S8x1024_S8x1024_S8x1024_S128x1024_d0
        (ix2 k r) = g (ix2 q r) :=
  concatenate_apply_piece (0 : Fin S128x1024.rank) _ _ (ix2 k r) 0 (by simp) S8x1024 g rfl rfl 0 rfl (ix2 q r) (by
    intro b hb
    match b with
    | ⟨0, _⟩ => exact absurd rfl hb
    | ⟨1, _⟩ => rfl) (by show 0 + q.val = k.val; omega)

/-- A row of the routing block turned into a column and spread over the lanes. -/
theorem gate_apply (T : FVec Ideal S128x1024 .f32) (o : ℕ) (k : Fin 128) (hk : k.val = o) (h : S1024x128.Slices ![0, o] S1024x1) (r n : Fin 1024) :
    broadcastTo S1024x1024 (extractStridedSlice S1024x1 ![0, o] (transpose S1024x128 [1, 0] T transposes_S128x1024_p1_0_S1024x128) h)
      broadcasts_S1024x1_S1024x1024 (ix2 r n) = T (ix2 k r) := by
  refine (broadcastTo_apply _ broadcasts_S1024x1_S1024x1024 (ix2 r n) (ix2 r (0 : Fin 1)) (by
    intro a; match a with | ⟨0, _⟩ => rfl | ⟨1, _⟩ => rfl)).trans ?_
  refine (extractStridedSlice_apply _ _ h _ (ix2 r k) (by
    intro a; match a with | ⟨0, _⟩ => (show r.val = 0 + r.val; omega) | ⟨1, _⟩ => (show k.val = o + 0; omega))).trans ?_
  exact transpose_ix2_apply T transposes_S128x1024_p1_0_S1024x128 r k

/-- The two experts' rows of a block summed with the gates, at an entry. -/
theorem mix_apply (a0 a1 a2 a3 b0 b1 b2 b3 : Vec Ideal S2048x128 .bf16) (g : Vec Ideal S8x1024 .f32) (r n : Fin 1024) :
    k0_pay4 (F := Ideal) (k0_pay2 a0 a1 a2 a3) (k0_pay3 a0 a1 a2 a3) b0 b1 b2 b3 g (ix2 r n)
      = g (ix2 (2 : Fin 8) r) * blockRow a0 a1 a2 a3 r n + g (ix2 (3 : Fin 8) r) * blockRow b0 b1 b2 b3 r n := by
  unfold k0_pay4
  dsimp only
  rw [shapeCast_self]
  show broadcastTo S1024x1024 _ broadcasts_S1024x1_S1024x1024 (ix2 r n)
      * concatenate S1024x1024 1 [⟨S1024x512, _⟩, ⟨S1024x512, _⟩] concatenates_S1024x512_S1024x512_S1024x1024_d1 (ix2 r n)
    + broadcastTo S1024x1024 _ broadcasts_S1024x1_S1024x1024 (ix2 r n)
      * concatenate S1024x1024 1 [⟨S1024x512, _⟩, ⟨S1024x512, _⟩] concatenates_S1024x512_S1024x512_S1024x1024_d1 (ix2 r n) = _
  rw [gate_apply _ 2 2 rfl, gate_apply _ 3 3 rfl, repeated_apply g 2 2 r rfl, repeated_apply g 3 3 r rfl]
  congr 2
  · refine (halves_apply _ _ r n).trans ?_
    unfold blockRow planeRow
    congr 1
    · exact funext fun x => lo_apply a0 a1 a2 a3 r x
    · exact funext fun x => hi_apply a0 a1 a2 a3 r x
  · refine (halves_apply _ _ r n).trans ?_
    unfold blockRow planeRow
    congr 1
    · exact funext fun x => lo_apply b0 b1 b2 b3 r x
    · exact funext fun x => hi_apply b0 b1 b2 b3 r x

/-- The block a point stores, at an entry: the residual stream's entry plus the mixed one. -/
theorem stored_apply (M : FVec Ideal S1024x1024 .f32) (s : Vec Ideal S1x1024x1024 .f32) (r n : Fin 1024) :
    k0_pay1 (F := Ideal) (k0_pay5 M s) (ix3 (0 : Fin 1) r n) = s (ix3 (0 : Fin 1) r n) + M (ix2 r n) := by
  unfold k0_pay1 k0_pay5
  refine (shapeCast_apply _ shapeCasts_S1024x1024_S1x1024x1024 (ix3 (0 : Fin 1) r n) (ix2 r n) (by
    rw [Shape.rowMajor_val_three, Shape.rowMajor_val_two]; show r.val * 1024 + n.val = (0 * 1024 + r.val) * 1024 + n.val; omega)).trans ?_
  show shapeCast S1024x1024 s shapeCasts_S1x1024x1024_S1024x1024 (ix2 r n) + _ = _
  rw [shapeCast_apply s shapeCasts_S1x1024x1024_S1024x1024 (ix2 r n) (ix3 (0 : Fin 1) r n) (by
    rw [Shape.rowMajor_val_three, Shape.rowMajor_val_two]; show (0 * 1024 + r.val) * 1024 + n.val = r.val * 1024 + n.val; omega)]

end Cert.Comb
-- ==== Proof.CombInputs.lean ====
/-
  THE BLOCKS of the combination's points, as entries of the program's arguments.
-/
module

public import proofs.«01_k».proof.Proof.CombRows
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 4096

noncomputable section

namespace Cert.Comb

open Idealize.ShloMosaic hiding ix1 ix2 ix3 ix4 ix5
open Idealize.ShloMosaic.TcCoe Idealize.ShloMosaic.ValueIdx Cert.Kernel3Ideal Cert.Kernel3Ideal.Gen

/-- Every input window's block index at a point. -/
theorem indices : ∀ t : Fin cfg0.N, win0_0.index t = ![0, t.val] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The residual stream; the routing rows; the four planes of the first choice's rows, and of the second's. -/
abbrev hA : S4x8320x1024.Idx → EReal := m ((c : Thread nD τ).loc main_arg0)
abbrev rA : S8x33280.Idx → EReal := m ((c : Thread nD τ).loc main_arg1)
abbrev a0 : S65536x128.Idx → EReal := m ((c : Thread nD τ).loc main_arg2)
abbrev a1 : S65536x128.Idx → EReal := m ((c : Thread nD τ).loc main_arg3)
abbrev a2 : S65536x128.Idx → EReal := m ((c : Thread nD τ).loc main_arg4)
abbrev a3 : S65536x128.Idx → EReal := m ((c : Thread nD τ).loc main_arg5)
abbrev b0 : S65536x128.Idx → EReal := m ((c : Thread nD τ).loc main_arg6)
abbrev b1 : S65536x128.Idx → EReal := m ((c : Thread nD τ).loc main_arg7)
abbrev b2 : S65536x128.Idx → EReal := m ((c : Thread nD τ).loc main_arg8)
abbrev b3 : S65536x128.Idx → EReal := m ((c : Thread nD τ).loc main_arg9)

/-- The routing rows by sequence, the sixteen leading positions of each dropped, and laid end to end again. -/
theorem routes_apply (A : FVec Ideal S8x33280 .f32) (h1 : S8x33280.ShapeCasts S8x4x8320) (h2 : S8x4x8320.Slices ![0, 0, 16] S8x4x8192)
    (h3 : S8x4x8192.ShapeCasts S8x32768) (i : S8x32768.Idx) (k : Fin 8) (b : Fin 4) (s : Fin 8192) (P : Fin 33280)
    (h0 : (i 0).val = k.val) (hi : (i 1).val = 8192 * b.val + s.val) (hP : P.val = 8320 * b.val + (16 + s.val)) :
    shapeCast S8x32768 (extractStridedSlice S8x4x8192 ![0, 0, 16] (shapeCast S8x4x8320 A h1) h2) h3 i = A (ix2 k P) := by
  have hs := s.isLt
  refine (shapeCast_apply _ h3 i (ix3 k b s) ?_).trans ?_
  · rw [Shape.rowMajor_val_three, Shape.rowMajor_val_two]
    show (k.val * 4 + b.val) * 8192 + s.val = (i 0).val * 32768 + (i 1).val
    omega
  refine (extractStridedSlice_apply _ _ h2 _ (ix3 k b (⟨16 + s.val, by omega⟩ : Fin 8320)) ?_).trans ?_
  · intro a
    match a with
    | ⟨0, _⟩ => exact (Nat.zero_add _).symm
    | ⟨1, _⟩ => exact (Nat.zero_add _).symm
    | ⟨2, _⟩ => rfl
  refine shapeCast_apply _ h1 _ (ix2 k P) ?_
  rw [Shape.rowMajor_val_three, Shape.rowMajor_val_two]
  show k.val * 33280 + P.val = (k.val * 4 + b.val) * 8320 + (16 + s.val)
  omega

theorem route_block (t : Fin cfg0.N) (k : Fin 8) (r : Fin 1024) (b : Fin 4) (s : Fin 8192) (P : Fin 33280)
    (hb : 1024 * t.val + r.val = 8192 * b.val + s.val) (hP : P.val = 8320 * b.val + (16 + s.val)) :
    iblk m c 0 t (ix2 k r) = rA m c (ix2 k P) := by
  have i0 := (indices t).1
  blk_simp [iblk]
  entry_read
  refine routes_apply _ _ _ _ _ k b s P ?_ ?_ hP
  · blk_simp [i0]
  · blk_simp [i0]
    show t.val * 1024 + r.val = _
    omega

/-- A row of a plane, from its block. -/
abbrev planeAt (t : Fin cfg0.N) (R : Fin 2048) : Fin 65536 :=
  ⟨2048 * t.val + R.val, by have := t.isLt; have e : cfg0.N = 32 := N_0; omega⟩

theorem a0_block (t : Fin cfg0.N) (R : Fin 2048) (l : Fin 128) : iblk m c 1 t (ix2 R l) = a0 m c (ix2 (planeAt t R) l) := by
  have i0 := (indices t).2.1
  have e : (((cfg0.win 1).blk t).view.emb (ix2 R l) : S65536x128.Idx) = ix2 (planeAt t R) l := by
    blk_ext [i0]
    change t.val * 2048 + R.val = 2048 * t.val + R.val
    omega
  show V m c main_arg2 (((cfg0.win 1).blk t).view.emb (ix2 R l)) = _
  exact (congrArg (V m c main_arg2) e).trans (congrFun (V_main_arg2 m c) _)

theorem a1_block (t : Fin cfg0.N) (R : Fin 2048) (l : Fin 128) : iblk m c 2 t (ix2 R l) = a1 m c (ix2 (planeAt t R) l) := by
  have i0 := (indices t).2.2.1
  have e : (((cfg0.win 2).blk t).view.emb (ix2 R l) : S65536x128.Idx) = ix2 (planeAt t R) l := by
    blk_ext [i0]
    change t.val * 2048 + R.val = 2048 * t.val + R.val
    omega
  show V m c main_arg3 (((cfg0.win 2).blk t).view.emb (ix2 R l)) = _
  exact (congrArg (V m c main_arg3) e).trans (congrFun (V_main_arg3 m c) _)

theorem a2_block (t : Fin cfg0.N) (R : Fin 2048) (l : Fin 128) : iblk m c 3 t (ix2 R l) = a2 m c (ix2 (planeAt t R) l) := by
  have i0 := (indices t).2.2.2.1
  have e : (((cfg0.win 3).blk t).view.emb (ix2 R l) : S65536x128.Idx) = ix2 (planeAt t R) l := by
    blk_ext [i0]
    change t.val * 2048 + R.val = 2048 * t.val + R.val
    omega
  show V m c main_arg4 (((cfg0.win 3).blk t).view.emb (ix2 R l)) = _
  exact (congrArg (V m c main_arg4) e).trans (congrFun (V_main_arg4 m c) _)

theorem a3_block (t : Fin cfg0.N) (R : Fin 2048) (l : Fin 128) : iblk m c 4 t (ix2 R l) = a3 m c (ix2 (planeAt t R) l) := by
  have i0 := (indices t).2.2.2.2.1
  have e : (((cfg0.win 4).blk t).view.emb (ix2 R l) : S65536x128.Idx) = ix2 (planeAt t R) l := by
    blk_ext [i0]
    change t.val * 2048 + R.val = 2048 * t.val + R.val
    omega
  show V m c main_arg5 (((cfg0.win 4).blk t).view.emb (ix2 R l)) = _
  exact (congrArg (V m c main_arg5) e).trans (congrFun (V_main_arg5 m c) _)

theorem b0_block (t : Fin cfg0.N) (R : Fin 2048) (l : Fin 128) : iblk m c 5 t (ix2 R l) = b0 m c (ix2 (planeAt t R) l) := by
  have i0 := (indices t).2.2.2.2.2.1
  have e : (((cfg0.win 5).blk t).view.emb (ix2 R l) : S65536x128.Idx) = ix2 (planeAt t R) l := by
    blk_ext [i0]
    change t.val * 2048 + R.val = 2048 * t.val + R.val
    omega
  show V m c main_arg6 (((cfg0.win 5).blk t).view.emb (ix2 R l)) = _
  exact (congrArg (V m c main_arg6) e).trans (congrFun (V_main_arg6 m c) _)

theorem b1_block (t : Fin cfg0.N) (R : Fin 2048) (l : Fin 128) : iblk m c 6 t (ix2 R l) = b1 m c (ix2 (planeAt t R) l) := by
  have i0 := (indices t).2.2.2.2.2.2.1
  have e : (((cfg0.win 6).blk t).view.emb (ix2 R l) : S65536x128.Idx) = ix2 (planeAt t R) l := by
    blk_ext [i0]
    change t.val * 2048 + R.val = 2048 * t.val + R.val
    omega
  show V m c main_arg7 (((cfg0.win 6).blk t).view.emb (ix2 R l)) = _
  exact (congrArg (V m c main_arg7) e).trans (congrFun (V_main_arg7 m c) _)

theorem b2_block (t : Fin cfg0.N) (R : Fin 2048) (l : Fin 128) : iblk m c 7 t (ix2 R l) = b2 m c (ix2 (planeAt t R) l) := by
  have i0 := (indices t).2.2.2.2.2.2.2.1
  have e : (((cfg0.win 7).blk t).view.emb (ix2 R l) : S65536x128.Idx) = ix2 (planeAt t R) l := by
    blk_ext [i0]
    change t.val * 2048 + R.val = 2048 * t.val + R.val
    omega
  show V m c main_arg8 (((cfg0.win 7).blk t).view.emb (ix2 R l)) = _
  exact (congrArg (V m c main_arg8) e).trans (congrFun (V_main_arg8 m c) _)

theorem b3_block (t : Fin cfg0.N) (R : Fin 2048) (l : Fin 128) : iblk m c 8 t (ix2 R l) = b3 m c (ix2 (planeAt t R) l) := by
  have i0 := (indices t).2.2.2.2.2.2.2.2
  have e : (((cfg0.win 8).blk t).view.emb (ix2 R l) : S65536x128.Idx) = ix2 (planeAt t R) l := by
    blk_ext [i0]
    change t.val * 2048 + R.val = 2048 * t.val + R.val
    omega
  show V m c main_arg9 (((cfg0.win 8).blk t).view.emb (ix2 R l)) = _
  exact (congrArg (V m c main_arg9) e).trans (congrFun (V_main_arg9 m c) _)

end Cert.Comb
-- ==== Proof.CombSlot.lean ====
/-
  THE RING of the combination: what a point loads from its slot is its block of the residual stream, past the sixteen leading
  positions.
-/
module

public import proofs.«01_k».proof.Proof.CombInputs

@[expose] public section

set_option maxRecDepth 16384

noncomputable section

namespace Cert.Comb

open Idealize.ShloMosaic hiding ix1 ix2 ix3 ix4 ix5
open Idealize.ShloMosaic.TcCoe Idealize.ShloMosaic.ValueIdx Cert.Kernel3Ideal Cert.Kernel3Ideal.Gen

/-- A block of one matrix has the matrix's elements. -/
theorem one_block : S1x1024x1024.ShapeCasts S1024x1024 := by decide

/-- A block of the stream seen as a matrix: row `r` of block `q` is the stream's row `16 + r` places past the block's start. -/
theorem source_apply (W : Vec Ideal S4x8320x1024 .f32) (q : Fin 32) (r n : Fin 1024) (b : Fin 4) (p : Fin 8320)
    (hb : b.val = q.val / 8) (hp : p.val = 1024 * (q.val % 8) + 16 + r.val) :
    (srcB0_0 q).view.read (Elt Ideal) W (ix2 r n) = W (ix3 b p n) := by
  have e : (srcB0_0 q).view.read (Elt Ideal) W = shapeCast S1024x1024
      (hbM0_0.view.readAt (Elt Ideal) (Rect.unit (s := S4x8320x1024) ![(q.val / 8), 1024 * (q.val % 8) + 16, 0] S1x1024x1024.size (inb_src0_0 q)).toLoadRect W)
      one_block :=
    Memref.read_squeeze_slice hbM0_0 _ (fun _ => rfl) squeezes_S1x1024x1024_S1024x1024 _ W
  rw [e]
  refine (shapeCast_apply _ _ (ix2 r n) (ix3 (0 : Fin 1) r n) ?_).trans ?_
  · rw [Shape.rowMajor_val_three, Shape.rowMajor_val_two]
    show (0 * 1024 + r.val) * 1024 + n.val = r.val * 1024 + n.val
    omega
  refine (View.readAt_apply _ _ _).trans ?_
  show W _ = W _
  congr 1
  funext a
  apply Fin.ext
  match a with
  | ⟨0, _⟩ => show q.val / 8 + 1 * 0 = b.val; omega
  | ⟨1, _⟩ => show 1024 * (q.val % 8) + 16 + 1 * r.val = p.val; omega
  | ⟨2, _⟩ => show 0 + 1 * n.val = n.val; omega

/-- A load of a slot through the whole ring, seen as a matrix, reads the slot's contents. -/
theorem slot_apply (s : Fin 2) (off : Fin 3 → ℕ) (ho : off = ![s.val, 0, 0]) (inb : ∀ a, off a + ![1, 1024, 1024] a ≤ S2x1024x1024.size a)
    (f : Vec Ideal S2x1024x1024 .f32) (X : Vec Ideal S1024x1024 .f32) (hX : (rslot0_0 s).view.read (Elt Ideal) f = X) (r n : Fin 1024) :
    (View.readAt (Elt Ideal) (View.whole cc0_scratch0) (Rect.unit (s := S2x1024x1024) off ![1, 1024, 1024] inb).toLoadRect f : Vec Ideal S1x1024x1024 .f32)
        (ix3 (0 : Fin 1) r n) = X (ix2 r n) := by
  subst ho
  have e : (rslot0_0 s).view.read (Elt Ideal) f = shapeCast S1024x1024
      (scM0_0.view.readAt (Elt Ideal) (Rect.unit (s := S2x1024x1024) ![s.val, 0, 0] S1x1024x1024.size (inb_slot0_0 s)).toLoadRect f) one_block :=
    Memref.read_squeeze_slice scM0_0 _ (fun _ => rfl) squeezes_S1x1024x1024_S1024x1024 _ f
  rw [← hX, e]
  refine (shapeCast_apply _ _ (ix2 r n) (ix3 (0 : Fin 1) r n) ?_).symm
  rw [Shape.rowMajor_val_three, Shape.rowMajor_val_two]
  show (0 * 1024 + r.val) * 1024 + n.val = r.val * 1024 + n.val
  omega

variable (m : (ℓ : Loc nD τ sig) → Buf (Elt Ideal) ℓ) (c : Dev nD)

/-- What point `t` loads from its slot, once its block has landed there. -/
theorem loaded_apply (t : Fin cfg0.N) (inb : ∀ a, k0_off10 (grid0.coords t) a + ![1, 1024, 1024] a ≤ S2x1024x1024.size a) (f : Vec Ideal S2x1024x1024 .f32)
    (r n : Fin 1024) (b : Fin 4) (s : Fin 8192) (p : Fin 8320) (hs : 1024 * t.val + r.val = 8192 * b.val + s.val) (hp : p.val = 16 + s.val) :
    (View.readAt (Elt Ideal) (View.whole cc0_scratch0) (Rect.unit (s := S2x1024x1024) (k0_off10 (grid0.coords t)) ![1, 1024, 1024] inb).toLoadRect
        ((rslot0_0 (Fin.ofNat 2 t.val)).view.writes (Elt Ideal) f
          [⟨Rect.whole S1024x1024, ReadAs.same.apply (View.read (Elt Ideal) (srcB0_0 (Ring.bk 32 t.val)).view (V m c main_arg0))⟩]) : Vec Ideal S1x1024x1024 .f32)
        (ix3 (0 : Fin 1) r n) = hA m c (ix3 b p n) := by
  have ht : t.val < 32 := by have := t.isLt; have e : cfg0.N = 32 := N_0; omega
  have hq : (Ring.bk 32 t.val).val = t.val := Nat.mod_eq_of_lt ht
  have hs' := s.isLt
  have hr := r.isLt
  refine (slot_apply (Fin.ofNat 2 t.val) _ (coff0_0_10 t) inb _ _ (View.read_writes_whole _ _ _) r n).trans ?_
  refine (source_apply (V m c main_arg0) (Ring.bk 32 t.val) r n b p (by omega) (by omega)).trans ?_
  exact congrFun (V_main_arg0 m c) _

end Cert.Comb
-- ==== Proof.CombBlock.lean ====
/-
  WHAT A POINT of the combination leaves in its block of the output, as a function of the program's arguments.
-/
module

public import proofs.«01_k».proof.Proof.CombSlot

@[expose] public section

set_option maxRecDepth 16384
set_option maxHeartbeats 2000000

noncomputable section

namespace Cert.Comb

open Idealize.ShloMosaic hiding ix1 ix2 ix3 ix4 ix5
open Idealize.ShloMosaic.TcCoe Idealize.ShloMosaic.ValueIdx Cert.Kernel3Ideal Cert.Kernel3Ideal.Gen

/-- The two lines of a plane that hold lanes of row `N`. -/
def pairLine (N : Fin 32768) (p : Fin 2) : Fin 65536 := ⟨2 * N.val + p.val, by omega⟩

/-- Row `N` of the array that four planes hold. -/
def rowAt (x0 x1 x2 x3 : S65536x128.Idx → EReal) (N : Fin 32768) : Fin 1024 → EReal :=
  planeRow (fun p l => x0 (ix2 (pairLine N p) l)) (fun p l => x1 (ix2 (pairLine N p) l)) (fun p l => x2 (ix2 (pairLine N p) l))
    (fun p l => x3 (ix2 (pairLine N p) l))

/-- The layer's output at position `s` of sequence `b`: the stream past the sixteen leading positions, plus the rows of the
    position's two experts weighted with its two gates. -/
def combE (h : S4x8320x1024.Idx → EReal) (g : S8x33280.Idx → EReal) (x0 x1 x2 x3 y0 y1 y2 y3 : S65536x128.Idx → EReal)
    (b : Fin 4) (s : Fin 8192) (n : Fin 1024) : EReal :=
  h (ix3 b (⟨16 + s.val, by omega⟩ : Fin 8320) n)
    + (g (ix2 (2 : Fin 8) (⟨8320 * b.val + (16 + s.val), by omega⟩ : Fin 33280)) * rowAt x0 x1 x2 x3 (⟨8192 * b.val + s.val, by omega⟩ : Fin 32768) n
      + g (ix2 (3 : Fin 8) (⟨8320 * b.val + (16 + s.val), by omega⟩ : Fin 33280)) * rowAt y0 y1 y2 y3 (⟨8192 * b.val + s.val, by omega⟩ : Fin 32768) n)

variable (m : (ℓ : Loc nD τ sig) → Buf (Elt Ideal) ℓ) (c : Dev nD)

/-- Line `p` of a block's row is line `p` of the row's own pair. -/
theorem planeAt_line (t : Fin cfg0.N) (r : Fin 1024) (N : Fin 32768) (hN : 1024 * t.val + r.val = N.val) (p : Fin 2) :
    planeAt t (line r p) = pairLine N p :=
  Fin.ext (by show 2048 * t.val + (2 * r.val + p.val) = 2 * N.val + p.val; omega)

/-- A row of the first choice's blocks. -/
theorem a_rows (t : Fin cfg0.N) (r : Fin 1024) (N : Fin 32768) (hN : 1024 * t.val + r.val = N.val) :
    blockRow (iblk m c 1 t) (iblk m c 2 t) (iblk m c 3 t) (iblk m c 4 t) r = rowAt (a0 m c) (a1 m c) (a2 m c) (a3 m c) N := by
  unfold rowAt blockRow
  congr 1
  · exact funext fun p => funext fun l => (a0_block m c t _ l).trans (by rw [planeAt_line t r N hN])
  · exact funext fun p => funext fun l => (a1_block m c t _ l).trans (by rw [planeAt_line t r N hN])
  · exact funext fun p => funext fun l => (a2_block m c t _ l).trans (by rw [planeAt_line t r N hN])
  · exact funext fun p => funext fun l => (a3_block m c t _ l).trans (by rw [planeAt_line t r N hN])

/-- A row of the second choice's blocks. -/
theorem b_rows (t : Fin cfg0.N) (r : Fin 1024) (N : Fin 32768) (hN : 1024 * t.val + r.val = N.val) :
    blockRow (iblk m c 5 t) (iblk m c 6 t) (iblk m c 7 t) (iblk m c 8 t) r = rowAt (b0 m c) (b1 m c) (b2 m c) (b3 m c) N := by
  unfold rowAt blockRow
  congr 1
  · exact funext fun p => funext fun l => (b0_block m c t _ l).trans (by rw [planeAt_line t r N hN])
  · exact funext fun p => funext fun l => (b1_block m c t _ l).trans (by rw [planeAt_line t r N hN])
  · exact funext fun p => funext fun l => (b2_block m c t _ l).trans (by rw [planeAt_line t r N hN])
  · exact funext fun p => funext fun l => (b3_block m c t _ l).trans (by rw [planeAt_line t r N hN])

/-- The output of the arguments found in memory. -/
abbrev combM (b : Fin 4) (s : Fin 8192) (n : Fin 1024) : EReal :=
  combE (hA m c) (rA m c) (a0 m c) (a1 m c) (a2 m c) (a3 m c) (b0 m c) (b1 m c) (b2 m c) (b3 m c) b s n

/-- The block a point stores, from a loaded slot that holds the stream's rows. -/
theorem stored_block (t : Fin cfg0.N) (S : Vec Ideal S1x1024x1024 .f32) (r n : Fin 1024) (b : Fin 4) (s : Fin 8192)
    (hs : 1024 * t.val + r.val = 8192 * b.val + s.val) (hS : S (ix3 (0 : Fin 1) r n) = hA m c (ix3 b (⟨16 + s.val, by omega⟩ : Fin 8320) n)) :
    k0_pay1 (F := Ideal) (k0_pay5 (k0_pay4 (k0_pay2 (iblk m c 1 t) (iblk m c 2 t) (iblk m c 3 t) (iblk m c 4 t))
        (k0_pay3 (iblk m c 1 t) (iblk m c 2 t) (iblk m c 3 t) (iblk m c 4 t)) (iblk m c 5 t) (iblk m c 6 t) (iblk m c 7 t) (iblk m c 8 t) (iblk m c 0 t)) S)
      (ix3 (0 : Fin 1) r n) = combM m c b s n := by
  refine (stored_apply _ S r n).trans ?_
  refine (congrArg₂ (fun x y : EReal => x + y) hS (mix_apply _ _ _ _ _ _ _ _ _ r n)).trans ?_
  unfold combM combE
  rw [a_rows m c t r ⟨8192 * b.val + s.val, by omega⟩ hs, b_rows m c t r ⟨8192 * b.val + s.val, by omega⟩ hs]
  have e2 := route_block m c t (2 : Fin 8) r b s ⟨8320 * b.val + (16 + s.val), by omega⟩ hs rfl
  have e3 := route_block m c t (3 : Fin 8) r b s ⟨8320 * b.val + (16 + s.val), by omega⟩ hs rfl
  exact congrArg₂ (fun x y : EReal => _ + (x * _ + y * _)) e2 e3

/-- The output's block after a point. -/
theorem out_block (t : Fin cfg0.N) (r n : Fin 1024) (b : Fin 4) (s : Fin 8192) (hs : 1024 * t.val + r.val = 8192 * b.val + s.val) :
    outsAt0 m c t.val t.isLt (ix3 (0 : Fin 1) r n) = combM m c b s n := by
  by_cases h0 : t.val % 32 = 0
  · have h1 : t.val < 31 := by have := t.isLt; have e : cfg0.N = 32 := N_0; omega
    rw [outsAt0_A m c t h0 h1]; frame_out
    exact stored_block m c t _ r n b s hs (loaded_apply m c t _ _ r n b s _ hs rfl)
  · by_cases h1 : t.val < 31
    · rw [outsAt0_B m c t h0 h1]; frame_out
      exact stored_block m c t _ r n b s hs (loaded_apply m c t _ _ r n b s _ hs rfl)
    · rw [outsAt0_C m c t h0 h1]; frame_out
      exact stored_block m c t _ r n b s hs (loaded_apply m c t _ _ r n b s _ hs rfl)

end Cert.Comb
-- ==== Proof.CombArray.lean ====
/-
  THE ARRAY the combination ends with: every entry is the entry of the block of the point that wrote it.
-/
module

public import proofs.«01_k».proof.Proof.CombBlock

@[expose] public section

set_option maxRecDepth 4096

noncomputable section

namespace Cert.Comb

open Idealize.ShloMosaic hiding ix1 ix2 ix3 ix4 ix5
open Idealize.ShloMosaic.TcCoe Idealize.ShloMosaic.ValueIdx Cert.Kernel3Ideal Cert.Kernel3Ideal.Gen Cert.Kernel3Ideal.Value

/-- The layer's output, as a function of the arguments. -/
def combV (h : S4x8320x1024.Idx → EReal) (g : S8x33280.Idx → EReal) (x0 x1 x2 x3 y0 y1 y2 y3 : S65536x128.Idx → EReal) (i : S4x8192x1024.Idx) : EReal :=
  combE h g x0 x1 x2 x3 y0 y1 y2 y3 (⟨(i 0).val, (i 0).isLt⟩ : Fin 4) (⟨(i 1).val, (i 1).isLt⟩ : Fin 8192) (⟨(i 2).val, (i 2).isLt⟩ : Fin 1024)

/-- The output window's block index at a point. -/
theorem out_index : ∀ t : Fin cfg0.N, win0_9.index t = ![t.val / 8, t.val % 8, 0] :=
  (by decide +kernel : ∀ t : Fin grid0.N, _)

variable (m : (ℓ : Loc nD τ sig) → Buf (Elt Ideal) ℓ) (c : Dev nD)

/-- The output's array. -/
theorem out_array : (dats m 0 c).arrAt 9 cfg0.N
    = combV (hA m c) (rA m c) (a0 m c) (a1 m c) (a2 m c) (a3 m c) (b0 m c) (b1 m c) (b2 m c) (b3 m c) := by
  funext i
  have h0 : (i 0).val < 4 := (i 0).isLt
  have h1 : (i 1).val < 8192 := (i 1).isLt
  have h2 : (i 2).val < 1024 := (i 2).isLt
  have hN : cfg0.N = 32 := N_0
  let t : Fin cfg0.N := ⟨8 * (i 0).val + (i 1).val / 1024, by omega⟩
  let r : Fin 1024 := ⟨(i 1).val % 1024, Nat.mod_lt _ (by decide)⟩
  let n : Fin 1024 := ⟨(i 2).val, h2⟩
  have ht : t.val = 8 * (i 0).val + (i 1).val / 1024 := rfl
  have i9 := out_index t
  have e : (((cfg0.win 9).blk t).view.emb (ix3 (0 : Fin 1) r n) : S4x8192x1024.Idx) = i := by
    blk_ext [i9]
    · show t.val % 8 * 1024 + (i 1).val % 1024 = (i 1).val
      omega
    · rfl
  have hb := congrFun ((blocks9 m c t (flush0_9 t)).trans (flushed9 m c t)) (ix3 (0 : Fin 1) r n)
  refine (congrArg ((dats m 0 c).arrAt 9 cfg0.N) e).symm.trans (hb.trans ?_)
  exact out_block m c t r n _ _ (by
    show 1024 * (8 * (i 0).val + (i 1).val / 1024) + (i 1).val % 1024 = 8192 * (i 0).val + (i 1).val
    omega)

end Cert.Comb
-- ==== Proof.CombRef.lean ====
/-
  THE REFERENCE of the combination, read operation by operation: the same rows of the same arguments.
-/
module

public import proofs.«01_k».proof.Proof.CombArray
public import proofs.«01_k».proof.Proof.Gen.Reference3Ideal.Read

@[expose] public section

set_option maxRecDepth 4096

noncomputable section

namespace Cert.Comb

open Idealize.ShloMosaic hiding ix1 ix2 ix3 ix4 ix5
open Idealize.ShloMosaic.TcCoe Idealize.ShloMosaic.ValueIdx Cert.Reference3Ideal Cert.Reference3Ideal.Gen Cert.Reference3Ideal.Read

/-- The four planes' pieces stacked between the row's half and its lanes. -/
theorem stacked_apply (v0 v1 v2 v3 : FVec Ideal S32768x2x1x128 .bf16) (i : S32768x2x4x128.Idx) (N : Fin 32768) (p : Fin 2) (l : Fin 128)
    (h0 : (i 0).val = N.val) (h1 : (i 1).val = p.val) (h3 : (i 3).val = l.val) :
    concatenate S32768x2x4x128 2 [⟨S32768x2x1x128, v0⟩, ⟨S32768x2x1x128, v1⟩, ⟨S32768x2x1x128, v2⟩, ⟨S32768x2x1x128, v3⟩]
        concatenates_S32768x2x1x128_S32768x2x1x128_S32768x2x1x128_S32768x2x1x128_S32768x2x4x128_d2 i
      = (if (i 2).val = 0 then v0 (ix4 N p (0 : Fin 1) l) else if (i 2).val = 1 then v1 (ix4 N p (0 : Fin 1) l)
          else if (i 2).val = 2 then v2 (ix4 N p (0 : Fin 1) l) else v3 (ix4 N p (0 : Fin 1) l)) := by
  have h2 : (i 2).val < 4 := (i 2).isLt
  have off : ∀ (b : Fin S32768x2x1x128.rank), b.cast (rfl : S32768x2x1x128.rank = S32768x2x4x128.rank) ≠ (2 : Fin S32768x2x4x128.rank) →
      ((ix4 N p (0 : Fin 1) l : S32768x2x1x128.Idx) b).val = (i (b.cast rfl)).val := by
    intro b hb
    match b with
    | ⟨0, _⟩ => exact h0.symm
    | ⟨1, _⟩ => exact h1.symm
    | ⟨2, _⟩ => exact absurd rfl hb
    | ⟨3, _⟩ => exact h3.symm
  by_cases e0 : (i 2).val = 0
  · rw [if_pos e0]
    exact concatenate_apply_piece (2 : Fin S32768x2x4x128.rank) _ _ i 0 (by simp) S32768x2x1x128 v0 rfl rfl 0 rfl _ off e0.symm
  rw [if_neg e0]
  by_cases e1 : (i 2).val = 1
  · rw [if_pos e1]
    exact concatenate_apply_piece (2 : Fin S32768x2x4x128.rank) _ _ i 1 (by simp) S32768x2x1x128 v1 rfl rfl 1 rfl _ off e1.symm
  rw [if_neg e1]
  by_cases e2 : (i 2).val = 2
  · rw [if_pos e2]
    exact concatenate_apply_piece (2 : Fin S32768x2x4x128.rank) _ _ i 2 (by simp) S32768x2x1x128 v2 rfl rfl 2 rfl _ off e2.symm
  · rw [if_neg e2]
    exact concatenate_apply_piece (2 : Fin S32768x2x4x128.rank) _ _ i 3 (by simp) S32768x2x1x128 v3 rfl rfl 3 rfl _ off (by
      show 3 + 0 = (i 2).val; omega)

/-- An entry of a row held in four planes: its half names the line, its place in the half the plane and the lane. -/
theorem planeRow_apply (p0 p1 p2 p3 : Fin 2 → Fin 128 → EReal) (n : Fin 1024) (p : Fin 2) (l : Fin 128) (j : ℕ) (hp : p.val = n.val / 512)
    (hj : j = n.val / 128 % 4) (hl : l.val = n.val % 128) :
    planeRow p0 p1 p2 p3 n = (if j = 0 then p0 p l else if j = 1 then p1 p l else if j = 2 then p2 p l else p3 p l) := by
  have hn := n.isLt
  have key : ∀ (q0 q1 q2 q3 : Fin 128 → EReal) (x : Fin 512), j = x.val / 128 → l.val = x.val % 128 →
      four q0 q1 q2 q3 x = (if j = 0 then q0 l else if j = 1 then q1 l else if j = 2 then q2 l else q3 l) := by
    intro q0 q1 q2 q3 x hj hl
    have hx := x.isLt
    unfold four
    by_cases h0 : x.val < 128
    · rw [dif_pos h0, if_pos (by omega)]
      exact congrArg q0 (Fin.ext (by show x.val = l.val; omega))
    rw [dif_neg h0, if_neg (by omega)]
    by_cases h1 : x.val < 256
    · rw [dif_pos h1, if_pos (by omega)]
      exact congrArg q1 (Fin.ext (by show x.val - 128 = l.val; omega))
    rw [dif_neg h1, if_neg (by omega)]
    by_cases h2 : x.val < 384
    · rw [dif_pos h2, if_pos (by omega)]
      exact congrArg q2 (Fin.ext (by show x.val - 256 = l.val; omega))
    · rw [dif_neg h2, if_neg (by omega)]
      exact congrArg q3 (Fin.ext (by show x.val - 384 = l.val; omega))
  unfold planeRow halves
  by_cases h : n.val < 512
  · have e : p = 0 := Fin.ext (by show p.val = 0; omega)
    rw [dif_pos h, e]
    exact key _ _ _ _ ⟨n.val, h⟩ (by show j = n.val / 128; omega) (by show l.val = n.val % 128; omega)
  · have e : p = 1 := Fin.ext (by show p.val = 1; omega)
    rw [dif_neg h, e]
    exact key _ _ _ _ ⟨n.val - 512, by omega⟩ (by show j = (n.val - 512) / 128; omega) (by show l.val = (n.val - 512) % 128; omega)

variable (x0 : FVec Ideal S4x8320x1024 .f32) (x1 : FVec Ideal S8x33280 .f32) (x2 x3 x4 x5 x6 x7 x8 x9 : FVec Ideal S65536x128 .bf16)

/-- The stacked planes seen as rows: entry `n` of row `N = 8192 b + s`. -/
theorem rows_apply (v0 v1 v2 v3 : FVec Ideal S32768x2x1x128 .bf16)
    (hv0 : ∀ N p l, v0 (ix4 N p (0 : Fin 1) l) = x2 (ix2 (pairLine N p) l)) (hv1 : ∀ N p l, v1 (ix4 N p (0 : Fin 1) l) = x3 (ix2 (pairLine N p) l))
    (hv2 : ∀ N p l, v2 (ix4 N p (0 : Fin 1) l) = x4 (ix2 (pairLine N p) l)) (hv3 : ∀ N p l, v3 (ix4 N p (0 : Fin 1) l) = x5 (ix2 (pairLine N p) l))
    (b : Fin 4) (s : Fin 8192) (n : Fin 1024) :
    concatenate S32768x2x4x128 2 [⟨S32768x2x1x128, v0⟩, ⟨S32768x2x1x128, v1⟩, ⟨S32768x2x1x128, v2⟩, ⟨S32768x2x1x128, v3⟩]
        concatenates_S32768x2x1x128_S32768x2x1x128_S32768x2x1x128_S32768x2x1x128_S32768x2x4x128_d2 (idx_main_v14 (ix3 b s n))
      = rowAt x2 x3 x4 x5 (⟨8192 * b.val + s.val, by omega⟩ : Fin 32768) n := by
  have hb := b.isLt
  have hs := s.isLt
  have hn := n.isLt
  refine (stacked_apply v0 v1 v2 v3 _ (⟨8192 * b.val + s.val, by omega⟩ : Fin 32768) (⟨n.val / 512, by omega⟩ : Fin 2) (⟨n.val % 128, by omega⟩ : Fin 128)
    ?_ ?_ ?_).trans ?_
  · show ((b.val * 8192 + s.val) * 1024 + n.val) / 1024 = 8192 * b.val + s.val
    omega
  · show ((b.val * 8192 + s.val) * 1024 + n.val) / 512 % 2 = n.val / 512
    omega
  · show ((b.val * 8192 + s.val) * 1024 + n.val) % 128 = n.val % 128
    omega
  rw [hv0, hv1, hv2, hv3]
  unfold rowAt
  exact (planeRow_apply (fun p l => x2 (ix2 (pairLine (⟨8192 * b.val + s.val, by omega⟩ : Fin 32768) p) l))
    (fun p l => x3 (ix2 (pairLine (⟨8192 * b.val + s.val, by omega⟩ : Fin 32768) p) l))
    (fun p l => x4 (ix2 (pairLine (⟨8192 * b.val + s.val, by omega⟩ : Fin 32768) p) l))
    (fun p l => x5 (ix2 (pairLine (⟨8192 * b.val + s.val, by omega⟩ : Fin 32768) p) l)) n (⟨n.val / 512, by omega⟩ : Fin 2)
    (⟨n.val % 128, by omega⟩ : Fin 128) (((b.val * 8192 + s.val) * 1024 + n.val) / 128 % 4) rfl (by omega) rfl).symm

/-- A plane, each of its row pairs taken apart: line `p` of row `N`. -/
theorem lines_apply (x : FVec Ideal S65536x128 .bf16) (N : Fin 32768) (p : Fin 2) (l : Fin 128) :
    val_main_v9 (F := Ideal) x (ix4 N p (0 : Fin 1) l) = x (ix2 (pairLine N p) l) := by
  have hN := N.isLt
  have hp := p.isLt
  have hl := l.isLt
  rw [val_main_v9_apply, val_main_v5_apply]
  congr 1
  funext a
  apply Fin.ext
  match a with
  | ⟨0, _⟩ => show ((N.val * 2 + p.val) * 128 + l.val) / 128 = 2 * N.val + p.val; omega
  | ⟨1, _⟩ => show ((N.val * 2 + p.val) * 128 + l.val) % 128 = l.val; omega

/-- The rows of the first choice. -/
theorem ref_a (b : Fin 4) (s : Fin 8192) (n : Fin 1024) :
    val_main_v15 (F := Ideal) x2 x3 x4 x5 (ix3 b s n) = rowAt x2 x3 x4 x5 (⟨8192 * b.val + s.val, by omega⟩ : Fin 32768) n := by
  rw [val_main_v15_apply, val_main_v14_apply]
  unfold val_main_v13
  exact rows_apply x2 x3 x4 x5 _ _ _ _ (lines_apply x2) (lines_apply x3) (lines_apply x4) (lines_apply x5) b s n

/-- The rows of the second choice. -/
theorem ref_b (b : Fin 4) (s : Fin 8192) (n : Fin 1024) :
    val_main_v31 (F := Ideal) x6 x7 x8 x9 (ix3 b s n) = rowAt x6 x7 x8 x9 (⟨8192 * b.val + s.val, by omega⟩ : Fin 32768) n := by
  rw [val_main_v31_apply, val_main_v30_apply]
  unfold val_main_v29
  exact rows_apply x6 x7 x8 x9 _ _ _ _ (lines_apply x6) (lines_apply x7) (lines_apply x8) (lines_apply x9) b s n

/-- The two routing rows that hold the gates, by sequence and position. -/
theorem ref_gates (k : Fin 2) (q : Fin 8) (hq : q.val = 2 + k.val) (b : Fin 4) (s : Fin 8192) :
    val_main_v1 (F := Ideal) x1 (ix3 k b s) = x1 (ix2 q (⟨8320 * b.val + (16 + s.val), by omega⟩ : Fin 33280)) := by
  have hb := b.isLt
  have hs := s.isLt
  rw [val_main_v1_apply, val_main_v0_apply]
  congr 1
  funext a
  apply Fin.ext
  match a with
  | ⟨0, _⟩ => show (((2 + k.val) * 4 + b.val) * 8320 + (16 + s.val)) / 33280 = q.val; omega
  | ⟨1, _⟩ => show (((2 + k.val) * 4 + b.val) * 8320 + (16 + s.val)) % 33280 = 8320 * b.val + (16 + s.val); omega

/-- The first gate of a position, spread over the lanes. -/
theorem ref_gate_a (b : Fin 4) (s : Fin 8192) (n : Fin 1024) :
    val_main_v16 (F := Ideal) x1 (ix3 b s n) = x1 (ix2 (2 : Fin 8) (⟨8320 * b.val + (16 + s.val), by omega⟩ : Fin 33280)) := by
  have hb := b.isLt
  have hs := s.isLt
  rw [val_main_v16_apply, val_main_v4_apply, val_main_v3_apply, val_main_v2_apply]
  refine Eq.trans (congrArg (val_main_v1 (F := Ideal) x1) ?_) (ref_gates x1 (0 : Fin 2) (2 : Fin 8) rfl b s)
  funext a
  apply Fin.ext
  match a with
  | ⟨0, _⟩ => rfl
  | ⟨1, _⟩ => show (b.val * 8192 + s.val) / 8192 % 4 = b.val; omega
  | ⟨2, _⟩ => show (b.val * 8192 + s.val) % 8192 = s.val; omega

/-- The second gate of a position, spread over the lanes. -/
theorem ref_gate_b (b : Fin 4) (s : Fin 8192) (n : Fin 1024) :
    val_main_v32 (F := Ideal) x1 (ix3 b s n) = x1 (ix2 (3 : Fin 8) (⟨8320 * b.val + (16 + s.val), by omega⟩ : Fin 33280)) := by
  have hb := b.isLt
  have hs := s.isLt
  rw [val_main_v32_apply, val_main_v20_apply, val_main_v19_apply, val_main_v18_apply]
  refine Eq.trans (congrArg (val_main_v1 (F := Ideal) x1) ?_) (ref_gates x1 (1 : Fin 2) (3 : Fin 8) rfl b s)
  funext a
  apply Fin.ext
  match a with
  | ⟨0, _⟩ => rfl
  | ⟨1, _⟩ => show (b.val * 8192 + s.val) / 8192 % 4 = b.val; omega
  | ⟨2, _⟩ => show (b.val * 8192 + s.val) % 8192 = s.val; omega

/-- The reference's result is the layer's output. -/
theorem ref_array : val_main_v36 (F := Ideal) x0 x1 x2 x3 x4 x5 x6 x7 x8 x9 = combV x0 x1 x2 x3 x4 x5 x6 x7 x8 x9 := by
  funext i
  obtain ⟨b, s, n, rfl⟩ : ∃ (b : Fin 4) (s : Fin 8192) (n : Fin 1024), i = ix3 b s n :=
    ⟨⟨(i 0).val, (i 0).isLt⟩, ⟨(i 1).val, (i 1).isLt⟩, ⟨(i 2).val, (i 2).isLt⟩, funext fun a => by
      match a with | ⟨0, _⟩ => rfl | ⟨1, _⟩ => rfl | ⟨2, _⟩ => rfl⟩
  rw [val_main_v36_apply, val_main_v34_apply, val_main_v17_apply, val_main_v33_apply, val_main_v35_apply, ref_a, ref_b, ref_gate_a, ref_gate_b]
  unfold combV combE
  refine congrArg (fun z : EReal => z + _) (congrArg x0 ?_)
  funext a
  apply Fin.ext
  match a with
  | ⟨0, _⟩ => rfl
  | ⟨1, _⟩ => rfl
  | ⟨2, _⟩ => rfl

end Cert.Comb
-- ==== Proof.CombAlgebraic.lean ====
/-
  THE COMBINATION AND ITS REFERENCE AGREE: both end with the output `combV` of the arguments.
-/
module

public import proofs.«01_k».proof.Proof.CombRef
public import proofs.«01_k».proof.Proof.Gen.Reference3Ideal.Run
public import Idealize.ShloMosaic.Lib.Bf16Pair

@[expose] public section

noncomputable section

namespace Cert.Comb

open Idealize.ShloMosaic Idealize.ShloMosaic.TcCoe Idealize.SL.Sem

/-- Each rewrite of the words that hold two rows keeps the bits. -/
theorem pairs : Cert.preserves_Kernel3_Kernel3Ideal :=
  ⟨IdealRules.bf16_pair.statement _ _, IdealRules.bf16_pair.statement _ _⟩

/-- At the ideal values the result of the combination and of its reference is the same function of the arguments. -/
theorem algebraic : Cert.algebraic_Kernel3Ideal_Reference3Ideal := by
  intro m g m' g' hpre hagree
  refine ⟨fun c => combV (hA m c) (rA m c) (a0 m c) (a1 m c) (a2 m c) (a3 m c) (b0 m c) (b1 m c) (b2 m c) (b3 m c), ?_, ?_⟩
  · refine (θ_run _ _ _).mono (fun r h c => ?_) (Cert.Kernel3Ideal.Value.run_blocks m g)
    obtain ⟨h0, hk⟩ := h c
    exact ⟨h0.trans (out_array m c), hk⟩
  · refine (θ_run _ _ _).mono (fun r h c => ?_) (Cert.Reference3Ideal.Value.run m' g')
    obtain ⟨h0, hk⟩ := h c
    obtain ⟨e0, e1, e2, e3, e4, e5, e6, e7, e8, e9⟩ := hagree c
    refine ⟨h0.trans ?_, hk⟩
    refine (Cert.Reference3Ideal.Read.val_main_v36_eq _ _ _ _ _ _ _ _ _ _).trans ((ref_array _ _ _ _ _ _ _ _ _ _).trans ?_)
    rw [e0, e1, e2, e3, e4, e5, e6, e7, e8, e9]

end Cert.Comb
-- ==== Proof.SlotsLookup.lean ====
/-
  LOOKING A WORD UP IN A TABLE of thirty-two by its number: as a chain of choices, one per entry, and as the sum of the
  entries each kept where its number matches and zero elsewhere. The two agree, also for a number that names no entry,
  where both are zero.
-/
module

public import proofs.«01_k».proof.Proof.CombAlgebraic

@[expose] public section

noncomputable section

namespace Cert.Slots

open Idealize.ShloMosaic

/-- The chain of choices over the first `n` entries: the last one asked is the outermost. -/
def look (t : ℕ → BitVec 32) (x : BitVec 32) : ℕ → BitVec 32
  | 0 => 0#32
  | n + 1 => Scalar.select (IntOp.cmpi .eq x (BitVec.ofNat 32 n)) (t n) (look t x n)

/-- A choice by an equality of words. -/
theorem select_eq {α : Type} (x y : BitVec 32) (a b : α) : Scalar.select (IntOp.cmpi .eq x y) a b = if x = y then a else b := by
  by_cases h : x = y
  · subst h; simp [Scalar.select, IntOp.cmpi]
  · have e : (x == y) = false := by simpa using h
    simp [Scalar.select, IntOp.cmpi, h, e]

/-- Past the entries that are asked for, the chain is zero. -/
theorem look_ge (t : ℕ → BitVec 32) (x : BitVec 32) (n : ℕ) (hx : n ≤ x.toNat) (hn : n ≤ 32) : look t x n = 0#32 := by
  induction n with
  | zero => rfl
  | succ n ih =>
    have ne : x ≠ BitVec.ofNat 32 n := by
      intro e
      have := congrArg BitVec.toNat e
      rw [BitVec.toNat_ofNat, Nat.mod_eq_of_lt (by omega)] at this
      omega
    show Scalar.select _ _ _ = _
    rw [select_eq, if_neg ne, ih (by omega) (by omega)]

/-- One more entry: the chain grows by that entry where its number matches, else by zero. -/
theorem look_succ (t : ℕ → BitVec 32) (x : BitVec 32) (n : ℕ) (hn : n < 32) :
    look t x (n + 1) = (if x = BitVec.ofNat 32 n then t n else 0#32) + look t x n := by
  show Scalar.select _ _ _ = _
  rw [select_eq]
  by_cases e : x = BitVec.ofNat 32 n
  · have hx : n ≤ x.toNat := by rw [e, BitVec.toNat_ofNat, Nat.mod_eq_of_lt (by omega)]
    rw [if_pos e, if_pos e, look_ge t x n hx (by omega), BitVec.add_zero]
  · rw [if_neg e, if_neg e, BitVec.zero_add]

/-- The chain is the fold by addition of the entries kept where their number matches. -/
theorem fold_look (t : ℕ → BitVec 32) (x : BitVec 32) (n : ℕ) (hn : n ≤ 32) :
    (Finset.range n).fold IntOp.addi 0#32 (fun e => if x = BitVec.ofNat 32 e then t e else 0#32) = look t x n := by
  induction n with
  | zero => rfl
  | succ n ih =>
    rw [Finset.range_add_one, Finset.fold_insert Finset.notMem_range_self, ih (by omega), look_succ t x n (by omega)]
    rfl

/-- The same over the thirty-two numbers as a finite type. -/
theorem fold_fin (t : ℕ → BitVec 32) (x : BitVec 32) (g : Fin 32 → BitVec 32)
    (hg : ∀ e : Fin 32, g e = if x = BitVec.ofNat 32 e.val then t e.val else 0#32) :
    (Finset.univ : Finset (Fin 32)).fold IntOp.addi 0#32 g = look t x 32 := by
  have e : Finset.range 32 = (Finset.univ : Finset (Fin 32)).map Fin.valEmbedding := by decide
  rw [← fold_look t x 32 (le_refl _), e, Finset.fold_map]
  exact congrArg (fun f => (Finset.univ : Finset (Fin 32)).fold IntOp.addi 0#32 f) (funext hg)

end Cert.Slots
-- ==== Proof.SlotsBlock.lean ====
/-
  WHAT A POINT of the destinations' kernel leaves in its block: at a real position and one of its two choices, the start of
  the chosen expert's rows plus the position's rank among the expert's.
-/
module

public import proofs.«01_k».proof.Proof.SlotsLookup
public import proofs.«01_k».proof.Proof.Gen.Kernel4Ideal.Frame
public import Idealize.ShloMosaic.Lib.Pipeline.Value
public import Idealize.ShloMosaic.Lib.Pipeline.ValueKit
public import Idealize.ShloMosaic.Lib.Claim
public import Idealize.ShloMosaic.Lib.Pointwise
public import Idealize.ShloMosaic.Lib.KernelVsHost

@[expose] public section

set_option maxRecDepth 16384
set_option maxHeartbeats 2000000

noncomputable section

namespace Cert.Slots

open Idealize.ShloMosaic hiding ix1 ix2 ix3 ix4 ix5
open Idealize.ShloMosaic.TcCoe Idealize.ShloMosaic.ValueIdx Cert.Kernel4Ideal Cert.Kernel4Ideal.Gen

variable {F : FTy → Type} [FloatOps F]

variable (m : (ℓ : Loc nD τ sig) → Buf (Elt F) ℓ) (c : Dev nD)

/-- No window reads the table for its index, so nothing is asked of the table. -/
theorem ok : Ok m := trivial

/-- An entry of the table by its number. -/
def entry (T : S32.Idx → BitVec 32) (n : ℕ) : BitVec 32 := if h : n < 32 then T (ix1 (⟨n, h⟩ : Fin 32)) else 0#32

/-- A number held as a float, as a word. -/
def word (x : F .f32) : BitVec 32 := FloatOps.fptosi 32 x

/-- A word the kernel loads from the table. -/
theorem loaded_word (T : S32.Idx → BitVec 32) (n : ℕ) (h : ∀ a, (![n] : Fin 1 → ℕ) a + (![1] : Fin 1 → ℕ) a ≤ S32.size a)
    (i : (⟨1, ![1]⟩ : Shape).Idx) :
    View.ld (View.read (Elt F) (View.whole main_v8) T) (Rect.unit (s := S32) ![n] ![1] h) i = entry T n := by
  have hn : n < 32 := by
    have h0 := h 0
    have e : (![1] : Fin 1 → ℕ) 0 = 1 := rfl
    have e' : S32.size 0 = 32 := rfl
    have e'' : (![n] : Fin 1 → ℕ) 0 = n := rfl
    omega
  have hi : (i 0).val < 1 := (i 0).isLt
  unfold entry
  rw [dif_pos hn]
  refine congrArg T ?_
  funext a
  apply Fin.ext
  match a with
  | ⟨0, _⟩ => show n + 1 * (i 0).val = n; omega

/-- The kernel's choices are the chain of choices. -/
theorem chain_apply (v : Vec F S8x8320 .f32) (w : ℕ → BitVec 32) (i : S8x8320.Idx) :
    k0_pay8 (F := F) (k0_pay2 (F := F) v)
      (k0_pay6 (F := F) (k0_pay2 (F := F) v)
        (k0_pay5 (F := F) (k0_pay2 (F := F) v) (k0_pay3 (F := F) v (w 0) (w 1) (w 2) (w 3) (w 4) (w 5) (w 6)) (k0_pay4 (F := F) v) (w 7) (w 8) (w 9) (w 10) (w 11) (w 12) (w 13) (w 14) (w 15))
        16#32 (w 16) (w 17) (w 18) (w 19) (w 20) (w 21) (w 22) (w 23))
      (k0_pay7 (k0_pay2 (F := F) v)) (w 24) (w 25) (w 26) (w 27) (w 28) (w 29) (w 30) (w 31) i
      = look w (word (v i)) 32 := by
  simp only [look]
  rfl

/-- The block rolled by four rows: a row below the fourth holds the one four rows on. -/
theorem rank_apply (v : Vec F S8x8320 .f32) (k : Fin 8) (p : Fin 8320) (hk : k.val < 2) :
    k0_pay9 (F := F) v (ix2 k p) = word (v (ix2 (⟨k.val + 4, by omega⟩ : Fin 8) p)) := by
  refine congrArg word (dynamicRotate_apply (0 : Fin S8x8320.rank) 4#32 v rotates_S8x8320_d0 (ix2 k p) (ix2 (⟨k.val + 4, by omega⟩ : Fin 8) p) ?_)
  intro b
  match b with
  | ⟨0, _⟩ =>
    show k.val + 4 = (k.val + 8 - 4 % 8) % 8
    omega
  | ⟨1, _⟩ => rfl

/-- At a real position the kernel stores the start plus the rank. -/
theorem stored_apply (v162 v164 : IVec S8x8320 32) (v167 : BitVec 32) (v168 : IVec S8x8320 32) (k : Fin 8) (p : Fin 8320) (hp : p.val < 8208) :
    k0_pay1 v162 v164 (iota Kind.tc S8x8320 32 [0] iota_S8x8320_d0_w32) (iota Kind.tc S8x8320 32 [1] iota_S8x8320_d1_w32) v167 v168 (ix2 k p)
      = IntOp.addi (v162 (ix2 k p)) (v164 (ix2 k p)) := by
  show Scalar.select (IntOp.cmpi .slt (iota Kind.tc S8x8320 32 [1] iota_S8x8320_d1_w32 (ix2 k p)) 8208#32) _ _ = _
  have e : iota Kind.tc S8x8320 32 [1] iota_S8x8320_d1_w32 (ix2 k p) = BitVec.ofNat 32 p.val := iota_single_apply _ _ _ _ _ _
  rw [e]
  have h : IntOp.cmpi .slt (BitVec.ofNat 32 p.val) 8208#32 = 1#1 :=
    (WordCmp.cmpi_slt_ofNat_eq_one_iff (by omega) (by decide)).mpr hp
  rw [h]
  rfl

/-- What the body stores, from a block and a table. -/
theorem body_apply (i : grid0.Coords) (arg2 : Memref sig .tc .vmem S8x8320 .f32) (harg2 : arg2.IsWhole) (arg3 : Memref sig .tc .vmem S8x8320 .i32)
    (harg3 : arg3.IsWhole) (x : Vec F S8x8320 .f32) (T : TbBuf0 (F := F) c tbM0_0) (k : Fin 8) (p : Fin 8320) (hk : k.val < 2)
    (hp : p.val < 8208) :
    out0_A_1 c i arg2 harg2 arg3 harg3 x T (ix2 k p)
      = IntOp.addi (look (entry T) (word (x (ix2 k p))) 32) (word (x (ix2 (⟨k.val + 4, by omega⟩ : Fin 8) p))) := by
  frame_out
  refine (stored_apply _ _ _ _ k p hp).trans ?_
  rw [rank_apply _ k p hk]
  refine congrArg (fun z => IntOp.addi z _) ?_
  refine Eq.trans ?_ (chain_apply x (entry T) (ix2 k p))
  simp only [loaded_word]

/-- The destinations' block after a point. -/
theorem out_block (t : Fin (cfgM m (ok m)).N) (k : Fin 8) (p : Fin 8320) (hk : k.val < 2) (hp : p.val < 8208) :
    outsAt0 m (ok m) c t (ix2 k p)
      = IntOp.addi (look (entry (tbl m 0)) (word (iblk m (ok m) c 0 t (ix2 k p))) 32)
          (word (iblk m (ok m) c 0 t (ix2 (⟨k.val + 4, by omega⟩ : Fin 8) p))) :=
  body_apply c _ _ _ _ _ _ _ k p hk hp

end Cert.Slots
-- ==== Proof.SlotsArray.lean ====
/-
  THE ARRAY of destinations: every entry is the entry of the block of the point that wrote it, and the result is cut out
  of it.
-/
module

public import proofs.«01_k».proof.Proof.SlotsBlock

@[expose] public section

set_option maxRecDepth 16384

noncomputable section

namespace Cert.Slots

open Idealize.ShloMosaic hiding ix1 ix2 ix3 ix4 ix5
open Idealize.ShloMosaic.TcCoe Idealize.ShloMosaic.ValueIdx Cert.Kernel4Ideal Cert.Kernel4Ideal.Gen

variable {F : FTy → Type} [FloatOps F]

/-- The destination of choice `k` of position `s` of sequence `b`, from the table of starts and the routing rows. -/
def destE (T : S32.Idx → BitVec 32) (R : S8x33280.Idx → F .f32) (k : Fin 2) (b : Fin 4) (s : Fin 8208) : BitVec 32 :=
  IntOp.addi (look (entry T) (word (R (ix2 (⟨k.val, by omega⟩ : Fin 8) (⟨8320 * b.val + s.val, by omega⟩ : Fin 33280)))) 32)
    (word (R (ix2 (⟨k.val + 4, by omega⟩ : Fin 8) (⟨8320 * b.val + s.val, by omega⟩ : Fin 33280))))

/-- The block indices at a point. -/
theorem in_index : ∀ t : Fin grid0.N, cc0_transform_0 (grid0.coords t) = ![0, t.val] :=
  (by decide +kernel : ∀ t : Fin grid0.N, _)
theorem out_index : ∀ t : Fin grid0.N, cc0_transform_1 (grid0.coords t) = ![0, t.val] :=
  (by decide +kernel : ∀ t : Fin grid0.N, _)

variable (m : (ℓ : Loc nD τ sig) → Buf (Elt F) ℓ) (c : Dev nD)

/-- The routing rows. -/
abbrev rA : S8x33280.Idx → F .f32 := m ((c : Thread nD τ).loc main_arg1)

/-- What a point writes back. -/
theorem flushed (t : Fin (cfgM m (ok m)).N) :
    (dats m (ok m) 0 c).flushed 1 t = ((cfgM m (ok m)).win 1).cut (grid0.coords t) (outsAt0 m (ok m) c t) := by
  show ((cfgM m (ok m)).win 1).cut (grid0.coords t) ((dats m (ok m) 0 c).after 1 t) = _
  rw [after0_1]

/-- Distinct points have distinct block indices. -/
theorem idx_inj (t t' : Fin (cfgM m (ok m)).N) (h : ((cfgM m (ok m)).win 1).index t = ((cfgM m (ok m)).win 1).index t') : t = t' := by
  have e : (![0, t.val] : Fin 2 → ℕ) = ![0, t'.val] := (out_index t).symm.trans (Eq.trans h (out_index t'))
  exact Fin.ext (congrFun e 1)

/-- Two points' blocks share no entry. -/
theorem disjoint (t t' : Fin (cfgM m (ok m)).N) (h : ((cfgM m (ok m)).win 1).flush t = true) (h' : ((cfgM m (ok m)).win 1).flush t' = true)
    (hne : t ≠ t') : Disjoint (((cfgM m (ok m)).win 1).blk t).view.set (((cfgM m (ok m)).win 1).blk t').view.set :=
  ((cfgM m (ok m)).win 1).disjoint_blk fun h => hne (idx_inj m t t' h)

/-- A point's block of the final array is what the point wrote. -/
theorem blocks (t : Fin (cfgM m (ok m)).N) :
    (((cfgM m (ok m)).win 1).blk t).view.read (Elt F) ((dats m (ok m) 0 c).arrAt 1 (cfgM m (ok m)).N) = (dats m (ok m) 0 c).flushed 1 t :=
  (dats m (ok m) 0 c).read_blk_arrAt_eq_flushed 1 (disjoint m) (cfgM m (ok m)).N t t.isLt (flush0_1 _ t)

/-- An entry of a block of the routing rows. -/
theorem route_block (t : Fin (cfgM m (ok m)).N) (k : Fin 8) (p : Fin 8320) (q : Fin 33280) (hq : q.val = 8320 * t.val + p.val) :
    iblk m (ok m) c 0 t (ix2 k p) = rA m c (ix2 k q) := by
  have i0 : ((cfgM m (ok m)).win 0).index t = ![0, t.val] := in_index t
  have e : ((((cfgM m (ok m)).win 0).blk t).view.emb (ix2 k p) : S8x33280.Idx) = ix2 k q := by
    blk_ext [i0]
    show t.val * 8320 + p.val = q.val
    omega
  show V m c main_arg1 ((((cfgM m (ok m)).win 0).blk t).view.emb (ix2 k p)) = _
  refine (congrArg (V m c main_arg1) e).trans ?_
  exact congrFun (V_main_arg1 m c) _

/-- An array read through a point's block. -/
theorem read_entry (t : Fin (cfgM m (ok m)).N) (k : Fin 8) (p : Fin 8320) (f : Buf (Elt F) ((((cfgM m (ok m)).win 1).blk t).view.loc (c : Thread nD τ))) :
    (((cfgM m (ok m)).win 1).blk t).view.read (Elt F) f (ix2 k p) = f ((((cfgM m (ok m)).win 1).blk t).view.emb (ix2 k p)) := rfl

/-- An entry of the final array, at a real position. -/
theorem out_entry (t : Fin (cfgM m (ok m)).N) (k : Fin 8) (p : Fin 8320) (q : Fin 33280) (hq : q.val = 8320 * t.val + p.val) (hk : k.val < 2)
    (hp : p.val < 8208) :
    (dats m (ok m) 0 c).arrAt 1 (cfgM m (ok m)).N (ix2 k q)
      = IntOp.addi (look (entry (tbl m 0)) (word (rA m c (ix2 k q))) 32) (word (rA m c (ix2 (⟨k.val + 4, by omega⟩ : Fin 8) q))) := by
  have i1 : ((cfgM m (ok m)).win 1).index t = ![0, t.val] := out_index t
  have e : ((((cfgM m (ok m)).win 1).blk t).view.emb (ix2 k p) : S8x33280.Idx) = ix2 k q := by
    blk_ext [i1]
    show t.val * 8320 + p.val = q.val
    omega
  have hb := congrFun ((blocks m c t).trans (flushed m c t)) (ix2 k p)
  have ho : ((cfgM m (ok m)).win 1).cut (grid0.coords t) (outsAt0 m (ok m) c t) (ix2 k p) = outsAt0 m (ok m) c t (ix2 k p) := rfl
  have hr := read_entry m c t k p ((dats m (ok m) 0 c).arrAt 1 (cfgM m (ok m)).N)
  have ha := congrArg ((dats m (ok m) 0 c).arrAt 1 (cfgM m (ok m)).N) e
  refine ha.symm.trans ((hr.symm.trans hb).trans (ho.trans ?_))
  refine (out_block m c t k p hk hp).trans ?_
  rw [route_block m c t k p q hq, route_block m c t (⟨k.val + 4, by omega⟩ : Fin 8) p q hq]

/-- The same by choice, sequence and position. -/
theorem out_array (k : Fin 2) (b : Fin 4) (s : Fin 8208) :
    (dats m (ok m) 0 c).arrAt 1 (cfgM m (ok m)).N
        (ix2 (⟨k.val, by omega⟩ : Fin 8) (⟨8320 * b.val + s.val, by omega⟩ : Fin 33280))
      = destE (tbl m 0) (rA m c) k b s :=
  out_entry m c ⟨b.val, show b.val < grid0.N from lt_of_lt_of_eq b.isLt N_0.symm⟩ _ ⟨s.val, by omega⟩ _ rfl k.isLt s.isLt

end Cert.Slots
-- ==== Proof.SlotsRef.lean ====
/-
  THE REFERENCE of the destinations, read operation by operation: the same starts looked up, the same ranks added.
-/
module

public import proofs.«01_k».proof.Proof.SlotsArray
public import proofs.«01_k».proof.Proof.Gen.Reference4Ideal.Run
public import proofs.«01_k».proof.Proof.Gen.Reference4Ideal.Read

@[expose] public section

set_option maxRecDepth 4096

noncomputable section

namespace Cert.Slots

open Idealize.ShloMosaic hiding ix1 ix2 ix3 ix4 ix5
open Idealize.ShloMosaic.TcCoe Idealize.ShloMosaic.ValueIdx Cert.Reference4Ideal Cert.Reference4Ideal.Gen Cert.Reference4Ideal.Read

variable {F : FTy → Type} [FloatOps F]

/-- The destinations, as a function of the table of starts and the routing rows. -/
def destV (T : S32.Idx → BitVec 32) (R : S8x33280.Idx → F .f32) (i : S2x4x8208.Idx) : BitVec 32 :=
  destE T R (⟨(i 0).val, (i 0).isLt⟩ : Fin 2) (⟨(i 1).val, (i 1).isLt⟩ : Fin 4) (⟨(i 2).val, (i 2).isLt⟩ : Fin 8208)

variable (x0 : S32.Idx → BitVec 32) (x1 : FVec F S8x33280 .f32)

/-- A routing row, by sequence and real position. -/
theorem ref_row (q : Fin 8) (b : Fin 4) (s : Fin 8208) :
    val_main_v1 (F := F) x1 (ix3 q b s) = x1 (ix2 q (⟨8320 * b.val + s.val, by omega⟩ : Fin 33280)) := by
  have hq := q.isLt
  have hb := b.isLt
  have hs := s.isLt
  rw [val_main_v1_apply, val_main_v0_apply]
  congr 1
  funext a
  apply Fin.ext
  match a with
  | ⟨0, _⟩ => show ((q.val * 4 + b.val) * 8320 + s.val) / 33280 = q.val; omega
  | ⟨1, _⟩ => show ((q.val * 4 + b.val) * 8320 + s.val) % 33280 = 8320 * b.val + s.val; omega

/-- The chosen expert of a choice. -/
theorem ref_id (k : Fin 2) (b : Fin 4) (s : Fin 8208) :
    val_main_v3 (F := F) x1 (ix3 k b s) = word (x1 (ix2 (⟨k.val, by omega⟩ : Fin 8) (⟨8320 * b.val + s.val, by omega⟩ : Fin 33280))) := by
  rw [val_main_v3_apply, val_main_v2_apply]
  refine congrArg word (Eq.trans (congrArg (val_main_v1 (F := F) x1) ?_) (ref_row x1 (⟨k.val, by omega⟩ : Fin 8) b s))
  funext a
  apply Fin.ext
  match a with
  | ⟨0, _⟩ => rfl
  | ⟨1, _⟩ => rfl
  | ⟨2, _⟩ => rfl

/-- The rank of a choice. -/
theorem ref_rank (k : Fin 2) (b : Fin 4) (s : Fin 8208) :
    val_main_v5 (F := F) x1 (ix3 k b s)
      = word (x1 (ix2 (⟨k.val + 4, by omega⟩ : Fin 8) (⟨8320 * b.val + s.val, by omega⟩ : Fin 33280))) := by
  rw [val_main_v5_apply, val_main_v4_apply]
  refine congrArg word (Eq.trans (congrArg (val_main_v1 (F := F) x1) ?_) (ref_row x1 (⟨k.val + 4, by omega⟩ : Fin 8) b s))
  funext a
  apply Fin.ext
  match a with
  | ⟨0, _⟩ => show 4 + k.val = k.val + 4; omega
  | ⟨1, _⟩ => rfl
  | ⟨2, _⟩ => rfl

/-- One term of the sum that looks the start up: the start of expert `e` where it is the chosen one, else zero. -/
theorem ref_term (k : Fin 2) (b : Fin 4) (s : Fin 8208) (e : Fin 32) :
    val_main_v21 (F := F) x0 x1 (ix4 k b s e)
      = if val_main_v3 (F := F) x1 (ix3 k b s) = BitVec.ofNat 32 e.val then val_main_v14 (F := F) x0 (ix1 e) else 0#32 := by
  rw [val_main_v21_apply, val_main_v20_apply, select_eq, val_main_v18_apply, val_main_v15_apply, val_main_v19_apply, val_main_v17_apply,
    val_main_v16_apply, val_main_call2_v1_apply, val_main_call2_v2_apply, val_main_call2_v0_apply, val_main_c_3_apply]
  have e0 : idx_main_v15 (idx_main_v18 (ix4 k b s e)) = ix3 k b s := by
    funext a
    match a with
    | ⟨0, _⟩ => rfl
    | ⟨1, _⟩ => rfl
    | ⟨2, _⟩ => rfl
  have e1 : idx_main_call2_v1 (ix4 k b s e) = ix1 e := by
    funext a
    match a with
    | ⟨0, _⟩ => rfl
  rw [e0, e1]

/-- The start of a choice's expert. -/
theorem ref_start (k : Fin 2) (b : Fin 4) (s : Fin 8208) :
    val_main_v22 (F := F) x0 x1 (ix3 k b s) = look (entry (val_main_v14 (F := F) x0)) (val_main_v3 (F := F) x1 (ix3 k b s)) 32 := by
  unfold val_main_v22
  rw [Host.reduce_eq_fold_single IntOp.addi _ _ _ (by decide : S2x4x8208x32.Reduces [3] S2x4x8208)]
  refine fold_fin _ _ _ fun e => ?_
  refine Eq.trans (congrArg (val_main_v21 (F := F) x0 x1) ?_) ((ref_term x0 x1 k b s e).trans ?_)
  · funext a
    apply Fin.ext
    match a with
    | ⟨0, _⟩ => rfl
    | ⟨1, _⟩ => rfl
    | ⟨2, _⟩ => rfl
    | ⟨3, _⟩ => rfl
  · unfold entry
    rw [dif_pos e.isLt]

/-- The reference's result is the destinations. -/
theorem ref_array : val_main_v23 (F := F) x0 x1 = destV (val_main_v14 (F := F) x0) x1 := by
  funext i
  obtain ⟨k, b, s, rfl⟩ : ∃ (k : Fin 2) (b : Fin 4) (s : Fin 8208), i = ix3 k b s :=
    ⟨⟨(i 0).val, (i 0).isLt⟩, ⟨(i 1).val, (i 1).isLt⟩, ⟨(i 2).val, (i 2).isLt⟩, funext fun a => by
      match a with | ⟨0, _⟩ => rfl | ⟨1, _⟩ => rfl | ⟨2, _⟩ => rfl⟩
  rw [val_main_v23_apply, ref_start, ref_id, ref_rank]
  rfl

end Cert.Slots
-- ==== Proof.SlotsAlgebraic.lean ====
/-
  THE DESTINATIONS AND THEIR REFERENCE AGREE: both end with `destV` of the starts that the counts give and of the routing
  rows.
-/
module

public import proofs.«01_k».proof.Proof.SlotsRef
public import Idealize.ShloMosaic.Lib.StableHlo.RunRead

@[expose] public section

set_option maxRecDepth 16384

noncomputable section

namespace Cert.Slots

open Idealize.ShloMosaic hiding ix1 ix2 ix3 ix4 ix5
open Idealize.ShloMosaic.TcCoe Idealize.ShloMosaic.ValueIdx Cert.Kernel4Ideal Cert.Kernel4Ideal.Gen Idealize.SL.Sem

variable {F : FTy → Type} [FloatOps F]

variable (m : (ℓ : Loc nD τ sig) → Buf (Elt F) ℓ) (c : Dev nD)

/-- The starts of the experts' rows, from the counts. -/
abbrev starts (x0 : S32.Idx → BitVec 32) : S32.Idx → BitVec 32 := Cert.Reference4Ideal.Read.val_main_v14 (F := F) x0

/-- The table the kernel is handed is the starts. -/
theorem table_eq : tbl m 0 = starts (F := F) (m (((0 : Dev nD) : Thread nD τ).loc main_arg0)) := by
  show V m (0 : Dev nD) main_v8 = _
  entry_read
  simp only [hostOps0, hostOps0_1, hostOps0_2, hostOps0_3, hostOps0_4, List.flatten_cons, List.flatten_nil, List.append_nil, List.cons_append, List.nil_append]
  after_results_simp
  have e3 : ∀ x : S32.Idx → BitVec 32, (StableHlo.TRef.of (T := ⟨S32, .i32⟩) main_v3).ofBuf (Val := Elt F) x = x := fun _ => rfl
  have e1 : ∀ x : S_.Idx → BitVec 32, (StableHlo.TRef.of (T := ⟨S_, .i32⟩) main_c_1).ofBuf (Val := Elt F) x = x := fun _ => rfl
  have e4 : ∀ x : S32.Idx → BitVec 32, (StableHlo.TRef.of (T := ⟨S32, .i32⟩) main_v4).toBuf (Val := Elt F) x = x := fun _ => rfl
  simp only [StableHlo.TRef.ofBuf_toBuf, id, e3, e1, e4]
  simp only [starts, id, Cert.Reference4Ideal.Read.val_main_v0, Cert.Reference4Ideal.Read.val_main_v1, Cert.Reference4Ideal.Read.val_main_v2, Cert.Reference4Ideal.Read.val_main_v3, Cert.Reference4Ideal.Read.val_main_v4, Cert.Reference4Ideal.Read.val_main_v5, Cert.Reference4Ideal.Read.val_main_c, Cert.Reference4Ideal.Read.val_main_v6, Cert.Reference4Ideal.Read.val_main_v7, Cert.Reference4Ideal.Read.val_main_c_0, Cert.Reference4Ideal.Read.val_main_v8, Cert.Reference4Ideal.Read.val_main_v9, Cert.Reference4Ideal.Read.val_main_c_1, Cert.Reference4Ideal.Read.val_main_call0_v0, Cert.Reference4Ideal.Read.val_main_call0_v1, Cert.Reference4Ideal.Read.val_main_call0_v2, Cert.Reference4Ideal.Read.val_main_call0_v3, Cert.Reference4Ideal.Read.val_main_call0_v4, Cert.Reference4Ideal.Read.val_main_call0_v5, Cert.Reference4Ideal.Read.val_main_call0_v6, Cert.Reference4Ideal.Read.val_main_call0_v7, Cert.Reference4Ideal.Read.val_main_call0_v8, Cert.Reference4Ideal.Read.val_main_call0_c, Cert.Reference4Ideal.Read.val_main_call0_v9, Cert.Reference4Ideal.Read.val_main_call0_v10, Cert.Reference4Ideal.Read.val_main_call0_v11, Cert.Reference4Ideal.Read.val_main_call0_c_0, Cert.Reference4Ideal.Read.val_main_call0_v12, Cert.Reference4Ideal.Read.val_main_call0_v13, Cert.Reference4Ideal.Read.val_main_v10, Cert.Reference4Ideal.Read.val_main_c_2, Cert.Reference4Ideal.Read.val_main_v11, Cert.Reference4Ideal.Read.val_main_v12, Cert.Reference4Ideal.Read.val_main_call1_call0_c, Cert.Reference4Ideal.Read.val_main_call1_call0_v0, Cert.Reference4Ideal.Read.val_main_v13, Cert.Reference4Ideal.Read.val_main_v14]

/-- The destinations cut out of the array: rows by sequence, its first two rows, the real positions. -/
theorem cut_apply (A : S8x33280.Idx → BitVec 32) (T : S32.Idx → BitVec 32) (R : S8x33280.Idx → F .f32)
    (hA : ∀ (k : Fin 2) (b : Fin 4) (s : Fin 8208),
      A (ix2 (⟨k.val, by omega⟩ : Fin 8) (⟨8320 * b.val + s.val, by omega⟩ : Fin 33280)) = destE T R k b s) :
    extractStridedSlice S2x4x8208 ![0, 0, 0] (shapeCast S8x4x8320 A shapeCasts_S8x33280_S8x4x8320) slices_S8x4x8320_S2x4x8208_0_0_0
      = destV T R := by
  funext i
  obtain ⟨k, b, s, rfl⟩ : ∃ (k : Fin 2) (b : Fin 4) (s : Fin 8208), i = ix3 k b s :=
    ⟨⟨(i 0).val, (i 0).isLt⟩, ⟨(i 1).val, (i 1).isLt⟩, ⟨(i 2).val, (i 2).isLt⟩, funext fun a => by
      match a with | ⟨0, _⟩ => rfl | ⟨1, _⟩ => rfl | ⟨2, _⟩ => rfl⟩
  refine (extractStridedSlice_apply ![0, 0, 0] _ slices_S8x4x8320_S2x4x8208_0_0_0 (ix3 k b s)
    (ix3 (⟨k.val, by omega⟩ : Fin 8) b (⟨s.val, by omega⟩ : Fin 8320)) ?_).trans ?_
  · intro a
    match a with
    | ⟨0, _⟩ => show k.val = 0 + k.val; omega
    | ⟨1, _⟩ => show b.val = 0 + b.val; omega
    | ⟨2, _⟩ => show s.val = 0 + s.val; omega
  · refine (shapeCast_apply A shapeCasts_S8x33280_S8x4x8320 _
      (ix2 (⟨k.val, by omega⟩ : Fin 8) (⟨8320 * b.val + s.val, by omega⟩ : Fin 33280)) ?_).trans (hA k b s)
    rw [Shape.rowMajor_val_two, Shape.rowMajor_val_three]
    show k.val * 33280 + (8320 * b.val + s.val) = (k.val * 4 + b.val) * 8320 + s.val
    omega

/-- The result buffer at the end. -/
theorem tail_eq : Pipeline.afterTail pcfgs (fun _ => adm m (ok m)) (dats m (ok m)) 0 (V0 m) [hostOps1] c main_v11
    = destV (tbl m 0) (rA m c) := by
  refine Eq.trans ?_ (cut_apply _ _ _ (out_array m c))
  unfold Pipeline.afterTail
  simp only [hostOps1, List.flatten_cons, List.flatten_nil, List.append_nil]
  after_results_simp
  have hw := Pipeline.withArrays_arr (τ := τ) spec0 (launch0 (F := F)).win.arr_inj c (V0 m c)
    (fun w => (dats m (ok m) 0 c).arrAt w (cfgM m (ok m)).N) 1
  refine congrArg (fun A : S8x4x8320.Idx → BitVec 32 => extractStridedSlice S2x4x8208 ![0, 0, 0] A slices_S8x4x8320_S2x4x8208_0_0_0) ?_
  refine congrArg (fun A : S8x33280.Idx → BitVec 32 => shapeCast S8x4x8320 A shapeCasts_S8x33280_S8x4x8320) ?_
  exact hw

/-- Over any floats: from memories agreeing on the arguments, both end with the same destinations, arguments unchanged. -/
theorem agree (m : (ℓ : Loc nD τ sig) → Buf (Elt F) ℓ) (g : Dev nD → PrngReg)
    (m' : (ℓ : Loc Cert.Reference4Ideal.nD Cert.Reference4Ideal.τ Cert.Reference4Ideal.sig) → Buf (Elt F) ℓ) (g' : Dev Cert.Reference4Ideal.nD → PrngReg)
    (hagree : ∀ c : Dev nD,
      m' ((c.tc : Thread Cert.Reference4Ideal.nD Cert.Reference4Ideal.τ).loc Cert.Reference4Ideal.main_arg0) = m ((c.tc : Thread nD τ).loc main_arg0)
      ∧ m' ((c.tc : Thread Cert.Reference4Ideal.nD Cert.Reference4Ideal.τ).loc Cert.Reference4Ideal.main_arg1) = m ((c.tc : Thread nD τ).loc main_arg1)) :
    ∃ (v0 : (c : Dev nD) → Buf (Elt F) ((c.tc : Thread nD τ).loc main_v11)),
      θ_run (Cert.Kernel4Ideal.defs (F := F)) (onTc (τ := τ) (Cert.Kernel4Ideal.main (F := F))) ⟨m, fun _ => 0, g⟩ (fun r => ∀ c : Dev nD,
          r.2.mem ((c.tc : Thread nD τ).loc main_v11) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.Reference4Ideal.defs (F := F)) (onTc (τ := Cert.Reference4Ideal.τ) (Cert.Reference4Ideal.main (F := F))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)) := by
  refine ⟨fun c => destV (F := F) (starts (F := F) (m ((c.tc : Thread nD τ).loc main_arg0))) (m ((c.tc : Thread nD τ).loc main_arg1)), ?_, ?_⟩
  · refine (θ_run _ _ _).mono (fun r h c => ⟨?_, h.2 c⟩) (θ_run_and (run_main m g (ok m)) (unchanged m g (ok m)))
    obtain rfl : c = 0 := Subsingleton.elim _ _
    refine ((h.1 0).2 main_v11 (by exact (by decide : main_v11 ∈ Pipeline.restRefs sig spec0))).trans ((tail_eq m 0).trans ?_)
    rw [table_eq (F := F)]
  · refine (θ_run _ _ _).mono (fun r h c => ?_) (Cert.Reference4Ideal.Value.run m' g')
    obtain ⟨h0, hk⟩ := h c
    obtain ⟨e0, e1⟩ := hagree c
    refine ⟨h0.trans ?_, hk⟩
    refine (Cert.Reference4Ideal.Read.val_main_v23_eq _ _).trans ((ref_array _ _).trans ?_)
    rw [e0, e1]

/-- At the ideal values the result of the destinations' call and of its reference is the same function of the arguments. -/
theorem algebraic : Cert.algebraic_Kernel4Ideal_Reference4Ideal :=
  fun m g m' g' _ hagree => agree (F := Ideal) m g m' g' hagree

end Cert.Slots
-- ==== Proof.SlotsBits.lean ====
/-
  THE DESTINATIONS AND THEIR REFERENCE AGREE BIT FOR BIT: the programs at the machine's floats have the text of the
  idealized ones, and these agree over any floats.
-/
module

public import proofs.«01_k».proof.Proof.SlotsAlgebraic
public import proofs.«01_k».proof.Proof.Gen.Kernel4
public import proofs.«01_k».proof.Proof.Gen.Reference4

@[expose] public section

set_option maxRecDepth 16384
set_option maxHeartbeats 4000000

noncomputable section

namespace Cert.Slots

open Idealize.ShloMosaic Idealize.ShloMosaic.TcCoe Idealize.SL.Sem

/-- The two texts of the call have the same body. -/
theorem body_eq : Cert.Kernel4.defs₀ (F := Bits) = Cert.Kernel4Ideal.defs₀ (F := Bits) := by
  refine congrArg Defs.onTc ?_
  funext l x
  rcases l with ⟨_ | n, h⟩
  · rfl
  · exact absurd h (Nat.not_lt.2 (Nat.le_add_left _ _))

/-- The two texts of the call are launched alike. -/
theorem defs_eq : Cert.Kernel4.defs (F := Bits) = Cert.Kernel4Ideal.defs (F := Bits) :=
  congrArg (Pipeline.defs (Cert.Kernel4Ideal.pcfgs (F := Bits))) body_eq

/-- The two texts of the program around the call are the same. -/
theorem main_eq : Cert.Kernel4.main (F := Bits) = Cert.Kernel4Ideal.main (F := Bits) := rfl

/-- The two texts of the reference are the same. -/
theorem ref_main_eq : Cert.Reference4.main (F := Bits) = Cert.Reference4Ideal.main (F := Bits) := rfl

/-- At the machine's floats the call and its reference give the same destinations. -/
theorem bitexact : Cert.bitexact_Kernel4_Reference4 := by
  intro m g m' g' _ hagree
  obtain ⟨v, hk, hr⟩ := agree (F := Bits) m g m' g' hagree
  refine ⟨v, ?_, ?_⟩
  · rw [defs_eq, main_eq]
    exact hk
  · rw [ref_main_eq]
    exact hr

end Cert.Slots
-- ==== Proof.lean ====
/-
  The proof of `Cert.Claim`. For the attention: the frames and the named constants (Proof/Frames), and that the kernel
  and the reference agree (Proof/Algebraic). For the output projection: its frames, that its rewritten words keep their
  bits, and that it and its reference agree (Proof/OutAlgebraic). For the combination of the experts' rows: the same
  (Proof/CombAlgebraic). For the destinations of the positions among the experts' rows: the same (Proof/SlotsAlgebraic); no
  operation of theirs is rewritten, and they agree bit for bit too (Proof/SlotsBits).
-/
module

public import proofs.«01_k».proof.Defs
public import proofs.«01_k».proof.Proof.Frames
public import proofs.«01_k».proof.Proof.Algebraic
public import proofs.«01_k».proof.Proof.CombAlgebraic
public import proofs.«01_k».proof.Proof.SlotsAlgebraic
public import proofs.«01_k».proof.Proof.SlotsBits
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4
public import proofs.«01_k».proof.Proof.Gen.Reference4.Run
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The output projection's reference has no counters, and it writes none of its arguments. -/
theorem frame_reference2 : quiescent_Reference2Ideal := fun m g _ =>
  (θ_run _ _ _).mono (fun r h => ⟨fun c => (h c).2.2.2.2.2, sem_eq_zero_of_no_sems rfl r.2⟩) (Cert.Reference2Ideal.Value.run m g)

/-- The combination's reference has no counters, and it writes none of its arguments. -/
theorem frame_reference3 : quiescent_Reference3Ideal := fun m g _ =>
  (θ_run _ _ _).mono (fun r h => ⟨fun c => (h c).2, sem_eq_zero_of_no_sems rfl r.2⟩) (Cert.Reference3Ideal.Value.run m g)

/-- The destinations' reference has no counters, and it writes none of its arguments. -/
theorem frame_reference4 : quiescent_Reference4Ideal := fun m g _ =>
  (θ_run _ _ _).mono (fun r h => ⟨fun c => (h c).2, sem_eq_zero_of_no_sems rfl r.2⟩) (Cert.Reference4Ideal.Value.run m g)

/-- The same at the machine's floats. -/
theorem frame_reference4_bits : quiescent_Reference4 := fun m g _ =>
  (θ_run _ _ _).mono (fun r h => ⟨fun c => (h c).2, sem_eq_zero_of_no_sems rfl r.2⟩) (Cert.Reference4.Value.run m g)

/-- Every claim. Where a claim has the precondition, only the attention's agreement uses it. -/
theorem claim : Cert.Claim :=
  haveI := Cert.Attn.finite_facts
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Reference4.Gen.facts, Cert.Attn.finite_facts,
    frame_kernel, frame_kernelIdeal, fun m g _ => frame_kernelIdeal m g trivial, frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g trivial, fun m g _ => Cert.Kernel4Ideal.Gen.frame m g trivial, frame_reference4, frame_reference4_bits,
    named, Cert.Attn.algebraic, Cert.Out.pairs, Cert.Out.algebraic, Cert.Comb.pairs, Cert.Comb.algebraic,
    trivial, Cert.Slots.bitexact, Cert.Slots.algebraic⟩

end Cert.Proof

end
